-- ==== Defs.lean ====
def Pre_Kernel [hPre_pre : Cert.Pre_pre.Facts] (m : (ℓ : Loc Cert.Kernel.nD Cert.Kernel.τ Cert.Kernel.sig) → Buf (Elt Bits) ℓ) : Prop :=
  ∀ c : Dev Cert.Kernel.nD,
    (Cert.Pre_pre.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Sort [hPre_pre_sort : Cert.Pre_pre_sort.Facts] (m : (ℓ : Loc Cert.Sort.nD Cert.Sort.τ Cert.Sort.sig) → Buf (Elt Bits) ℓ) : Prop :=
  ∀ c : Dev Cert.Sort.nD,
    (Cert.Pre_pre_sort.fn (F := Bits) (m ((c.tc : Thread Cert.Sort.nD Cert.Sort.τ).loc Cert.Sort.main_arg0)) (m ((c.tc : Thread Cert.Sort.nD Cert.Sort.τ).loc Cert.Sort.main_arg1))) = (fun _ => 1#1)

def Pre_SortIdeal [hPre_pre_sort : Cert.Pre_pre_sort.Facts] (m : (ℓ : Loc Cert.SortIdeal.nD Cert.SortIdeal.τ Cert.SortIdeal.sig) → Buf (Elt Ideal) ℓ) : Prop :=
  ∀ c : Dev Cert.SortIdeal.nD,
    (Cert.Pre_pre_sort.fn (F := Ideal) (m ((c.tc : Thread Cert.SortIdeal.nD Cert.SortIdeal.τ).loc Cert.SortIdeal.main_arg0)) (m ((c.tc : Thread Cert.SortIdeal.nD Cert.SortIdeal.τ).loc Cert.SortIdeal.main_arg1))) = (fun _ => 1#1)

def Pre_SortReferenceIdeal [hPre_pre_sort : Cert.Pre_pre_sort.Facts] (m : (ℓ : Loc Cert.SortReferenceIdeal.nD Cert.SortReferenceIdeal.τ Cert.SortReferenceIdeal.sig) → Buf (Elt Ideal) ℓ) : Prop :=
  ∀ c : Dev Cert.SortReferenceIdeal.nD,
    (Cert.Pre_pre_sort.fn (F := Ideal) (m ((c.tc : Thread Cert.SortReferenceIdeal.nD Cert.SortReferenceIdeal.τ).loc Cert.SortReferenceIdeal.main_arg0)) (m ((c.tc : Thread Cert.SortReferenceIdeal.nD Cert.SortReferenceIdeal.τ).loc Cert.SortReferenceIdeal.main_arg1))) = (fun _ => 1#1)

def Pre_Select [hPre_pre_select : Cert.Pre_pre_select.Facts] (m : (ℓ : Loc Cert.Select.nD Cert.Select.τ Cert.Select.sig) → Buf (Elt Bits) ℓ) : Prop :=
  ∀ c : Dev Cert.Select.nD,
    (Cert.Pre_pre_select.fn (F := Bits) (m ((c.tc : Thread Cert.Select.nD Cert.Select.τ).loc Cert.Select.main_arg0))) = (fun _ => 1#1)

def Pre_SelectIdeal [hPre_pre_select : Cert.Pre_pre_select.Facts] (m : (ℓ : Loc Cert.SelectIdeal.nD Cert.SelectIdeal.τ Cert.SelectIdeal.sig) → Buf (Elt Ideal) ℓ) : Prop :=
  ∀ c : Dev Cert.SelectIdeal.nD,
    (Cert.Pre_pre_select.fn (F := Ideal) (m ((c.tc : Thread Cert.SelectIdeal.nD Cert.SelectIdeal.τ).loc Cert.SelectIdeal.main_arg0))) = (fun _ => 1#1)

def Pre_SelectReferenceIdeal [hPre_pre_select : Cert.Pre_pre_select.Facts] (m : (ℓ : Loc Cert.SelectReferenceIdeal.nD Cert.SelectReferenceIdeal.τ Cert.SelectReferenceIdeal.sig) → Buf (Elt Ideal) ℓ) : Prop :=
  ∀ c : Dev Cert.SelectReferenceIdeal.nD,
    (Cert.Pre_pre_select.fn (F := Ideal) (m ((c.tc : Thread Cert.SelectReferenceIdeal.nD Cert.SelectReferenceIdeal.τ).loc Cert.SelectReferenceIdeal.main_arg0))) = (fun _ => 1#1)

def Pre_Rank [hPre_pre_rank : Cert.Pre_pre_rank.Facts] (m : (ℓ : Loc Cert.Rank.nD Cert.Rank.τ Cert.Rank.sig) → Buf (Elt Bits) ℓ) : Prop :=
  ∀ c : Dev Cert.Rank.nD,
    (Cert.Pre_pre_rank.fn (F := Bits) (m ((c.tc : Thread Cert.Rank.nD Cert.Rank.τ).loc Cert.Rank.main_arg0))) = (fun _ => 1#1)

def Pre_RankIdeal [hPre_pre_rank : Cert.Pre_pre_rank.Facts] (m : (ℓ : Loc Cert.RankIdeal.nD Cert.RankIdeal.τ Cert.RankIdeal.sig) → Buf (Elt Ideal) ℓ) : Prop :=
  ∀ c : Dev Cert.RankIdeal.nD,
    (Cert.Pre_pre_rank.fn (F := Ideal) (m ((c.tc : Thread Cert.RankIdeal.nD Cert.RankIdeal.τ).loc Cert.RankIdeal.main_arg0))) = (fun _ => 1#1)

def Pre_RankReferenceIdeal [hPre_pre_rank : Cert.Pre_pre_rank.Facts] (m : (ℓ : Loc Cert.RankReferenceIdeal.nD Cert.RankReferenceIdeal.τ Cert.RankReferenceIdeal.sig) → Buf (Elt Ideal) ℓ) : Prop :=
  ∀ c : Dev Cert.RankReferenceIdeal.nD,
    (Cert.Pre_pre_rank.fn (F := Ideal) (m ((c.tc : Thread Cert.RankReferenceIdeal.nD Cert.RankReferenceIdeal.τ).loc Cert.RankReferenceIdeal.main_arg0))) = (fun _ => 1#1)

def Pre_NmsIdeal [hPre_pre_nms : Cert.Pre_pre_nms.Facts] (m : (ℓ : Loc Cert.NmsIdeal.nD Cert.NmsIdeal.τ Cert.NmsIdeal.sig) → Buf (Elt Ideal) ℓ) : Prop :=
  ∀ c : Dev Cert.NmsIdeal.nD,
    (Cert.Pre_pre_nms.fn (F := Ideal) (m ((c.tc : Thread Cert.NmsIdeal.nD Cert.NmsIdeal.τ).loc Cert.NmsIdeal.main_arg0)) (m ((c.tc : Thread Cert.NmsIdeal.nD Cert.NmsIdeal.τ).loc Cert.NmsIdeal.main_arg1))) = (fun _ => 1#1)

def Pre_NmsReferenceIdeal [hPre_pre_nms : Cert.Pre_pre_nms.Facts] (m : (ℓ : Loc Cert.NmsReferenceIdeal.nD Cert.NmsReferenceIdeal.τ Cert.NmsReferenceIdeal.sig) → Buf (Elt Ideal) ℓ) : Prop :=
  ∀ c : Dev Cert.NmsReferenceIdeal.nD,
    (Cert.Pre_pre_nms.fn (F := Ideal) (m ((c.tc : Thread Cert.NmsReferenceIdeal.nD Cert.NmsReferenceIdeal.τ).loc Cert.NmsReferenceIdeal.main_arg0)) (m ((c.tc : Thread Cert.NmsReferenceIdeal.nD Cert.NmsReferenceIdeal.τ).loc Cert.NmsReferenceIdeal.main_arg1))) = (fun _ => 1#1)

def quiescent_Kernel [hKernel : Cert.Kernel.Facts] [hPre_pre : Cert.Pre_pre.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Sort [hSort : Cert.Sort.Facts] [hPre_pre_sort : Cert.Pre_pre_sort.Facts] : Prop :=
  ∀ (m : (ℓ : Loc Cert.Sort.nD Cert.Sort.τ Cert.Sort.sig) → Buf (Elt Bits) ℓ) (g : Dev Cert.Sort.nD → PrngReg), Pre_Sort m →
    θ_run (Cert.Sort.defs (F := Bits)) (Cert.Sort.threads (F := Bits)) ⟨m, fun _ => 0, g⟩ (fun r => (∀ c : Dev Cert.Sort.nD,
      r.2.mem ((c.tc : Thread Cert.Sort.nD Cert.Sort.τ).loc Cert.Sort.main_arg0) = m ((c.tc : Thread Cert.Sort.nD Cert.Sort.τ).loc Cert.Sort.main_arg0)
      ∧ r.2.mem ((c.tc : Thread Cert.Sort.nD Cert.Sort.τ).loc Cert.Sort.main_arg1) = m ((c.tc : Thread Cert.Sort.nD Cert.Sort.τ).loc Cert.Sort.main_arg1))
      ∧ r.2.sem = fun _ => 0)

def quiescent_SortIdeal [hSortIdeal : Cert.SortIdeal.Facts] [hPre_pre_sort : Cert.Pre_pre_sort.Facts] : Prop :=
  ∀ (m : (ℓ : Loc Cert.SortIdeal.nD Cert.SortIdeal.τ Cert.SortIdeal.sig) → Buf (Elt Ideal) ℓ) (g : Dev Cert.SortIdeal.nD → PrngReg), Pre_SortIdeal m →
    θ_run (Cert.SortIdeal.defs (F := Ideal)) (Cert.SortIdeal.threads (F := Ideal)) ⟨m, fun _ => 0, g⟩ (fun r => (∀ c : Dev Cert.SortIdeal.nD,
      r.2.mem ((c.tc : Thread Cert.SortIdeal.nD Cert.SortIdeal.τ).loc Cert.SortIdeal.main_arg0) = m ((c.tc : Thread Cert.SortIdeal.nD Cert.SortIdeal.τ).loc Cert.SortIdeal.main_arg0)
      ∧ r.2.mem ((c.tc : Thread Cert.SortIdeal.nD Cert.SortIdeal.τ).loc Cert.SortIdeal.main_arg1) = m ((c.tc : Thread Cert.SortIdeal.nD Cert.SortIdeal.τ).loc Cert.SortIdeal.main_arg1))
      ∧ r.2.sem = fun _ => 0)

def quiescent_SortReferenceIdeal [hSortReferenceIdeal : Cert.SortReferenceIdeal.Facts] [hPre_pre_sort : Cert.Pre_pre_sort.Facts] : Prop :=
  ∀ (m : (ℓ : Loc Cert.SortReferenceIdeal.nD Cert.SortReferenceIdeal.τ Cert.SortReferenceIdeal.sig) → Buf (Elt Ideal) ℓ) (g : Dev Cert.SortReferenceIdeal.nD → PrngReg), Pre_SortReferenceIdeal m →
    θ_run (Cert.SortReferenceIdeal.defs (F := Ideal)) (onTc (τ := Cert.SortReferenceIdeal.τ) (Cert.SortReferenceIdeal.main (F := Ideal))) ⟨m, fun _ => 0, g⟩ (fun r => (∀ c : Dev Cert.SortReferenceIdeal.nD,
      r.2.mem ((c.tc : Thread Cert.SortReferenceIdeal.nD Cert.SortReferenceIdeal.τ).loc Cert.SortReferenceIdeal.main_arg0) = m ((c.tc : Thread Cert.SortReferenceIdeal.nD Cert.SortReferenceIdeal.τ).loc Cert.SortReferenceIdeal.main_arg0)
      ∧ r.2.mem ((c.tc : Thread Cert.SortReferenceIdeal.nD Cert.SortReferenceIdeal.τ).loc Cert.SortReferenceIdeal.main_arg1) = m ((c.tc : Thread Cert.SortReferenceIdeal.nD Cert.SortReferenceIdeal.τ).loc Cert.SortReferenceIdeal.main_arg1))
      ∧ r.2.sem = fun _ => 0)

def quiescent_Select [hSelect : Cert.Select.Facts] [hPre_pre_select : Cert.Pre_pre_select.Facts] : Prop :=
  ∀ (m : (ℓ : Loc Cert.Select.nD Cert.Select.τ Cert.Select.sig) → Buf (Elt Bits) ℓ) (g : Dev Cert.Select.nD → PrngReg), Pre_Select m →
    θ_run (Cert.Select.defs (F := Bits)) (onTc (τ := Cert.Select.τ) (Cert.Select.main (F := Bits))) ⟨m, fun _ => 0, g⟩ (fun r => (∀ c : Dev Cert.Select.nD,
      r.2.mem ((c.tc : Thread Cert.Select.nD Cert.Select.τ).loc Cert.Select.main_arg0) = m ((c.tc : Thread Cert.Select.nD Cert.Select.τ).loc Cert.Select.main_arg0))
      ∧ r.2.sem = fun _ => 0)

def quiescent_SelectIdeal [hSelectIdeal : Cert.SelectIdeal.Facts] [hPre_pre_select : Cert.Pre_pre_select.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0))
      ∧ r.2.sem = fun _ => 0)

def quiescent_SelectReferenceIdeal [hSelectReferenceIdeal : Cert.SelectReferenceIdeal.Facts] [hPre_pre_select : Cert.Pre_pre_select.Facts] : Prop :=
  ∀ (m : (ℓ : Loc Cert.SelectReferenceIdeal.nD Cert.SelectReferenceIdeal.τ Cert.SelectReferenceIdeal.sig) → Buf (Elt Ideal) ℓ) (g : Dev Cert.SelectReferenceIdeal.nD → PrngReg), Pre_SelectReferenceIdeal m →
    θ_run (Cert.SelectReferenceIdeal.defs (F := Ideal)) (onTc (τ := Cert.SelectReferenceIdeal.τ) (Cert.SelectReferenceIdeal.main (F := Ideal))) ⟨m, fun _ => 0, g⟩ (fun r => (∀ c : Dev Cert.SelectReferenceIdeal.nD,
      r.2.mem ((c.tc : Thread Cert.SelectReferenceIdeal.nD Cert.SelectReferenceIdeal.τ).loc Cert.SelectReferenceIdeal.main_arg0) = m ((c.tc : Thread Cert.SelectReferenceIdeal.nD Cert.SelectReferenceIdeal.τ).loc Cert.SelectReferenceIdeal.main_arg0))
      ∧ r.2.sem = fun _ => 0)

def quiescent_Rank [hRank : Cert.Rank.Facts] [hPre_pre_rank : Cert.Pre_pre_rank.Facts] : Prop :=
  ∀ (m : (ℓ : Loc Cert.Rank.nD Cert.Rank.τ Cert.Rank.sig) → Buf (Elt Bits) ℓ) (g : Dev Cert.Rank.nD → PrngReg), Pre_Rank m →
    θ_run (Cert.Rank.defs (F := Bits)) (onTc (τ := Cert.Rank.τ) (Cert.Rank.main (F := Bits))) ⟨m, fun _ => 0, g⟩ (fun r => (∀ c : Dev Cert.Rank.nD,
      r.2.mem ((c.tc : Thread Cert.Rank.nD Cert.Rank.τ).loc Cert.Rank.main_arg0) = m ((c.tc : Thread Cert.Rank.nD Cert.Rank.τ).loc Cert.Rank.main_arg0))
      ∧ r.2.sem = fun _ => 0)

def quiescent_RankIdeal [hRankIdeal : Cert.RankIdeal.Facts] [hPre_pre_rank : Cert.Pre_pre_rank.Facts] : Prop :=
  ∀ (m : (ℓ : Loc Cert.RankIdeal.nD Cert.RankIdeal.τ Cert.RankIdeal.sig) → Buf (Elt Ideal) ℓ) (g : Dev Cert.RankIdeal.nD → PrngReg), Pre_RankIdeal m →
    θ_run (Cert.RankIdeal.defs (F := Ideal)) (onTc (τ := Cert.RankIdeal.τ) (Cert.RankIdeal.main (F := Ideal))) ⟨m, fun _ => 0, g⟩ (fun r => (∀ c : Dev Cert.RankIdeal.nD,
      r.2.mem ((c.tc : Thread Cert.RankIdeal.nD Cert.RankIdeal.τ).loc Cert.RankIdeal.main_arg0) = m ((c.tc : Thread Cert.RankIdeal.nD Cert.RankIdeal.τ).loc Cert.RankIdeal.main_arg0))
      ∧ r.2.sem = fun _ => 0)

def quiescent_RankReferenceIdeal [hRankReferenceIdeal : Cert.RankReferenceIdeal.Facts] [hPre_pre_rank : Cert.Pre_pre_rank.Facts] : Prop :=
  ∀ (m : (ℓ : Loc Cert.RankReferenceIdeal.nD Cert.RankReferenceIdeal.τ Cert.RankReferenceIdeal.sig) → Buf (Elt Ideal) ℓ) (g : Dev Cert.RankReferenceIdeal.nD → PrngReg), Pre_RankReferenceIdeal m →
    θ_run (Cert.RankReferenceIdeal.defs (F := Ideal)) (onTc (τ := Cert.RankReferenceIdeal.τ) (Cert.RankReferenceIdeal.main (F := Ideal))) ⟨m, fun _ => 0, g⟩ (fun r => (∀ c : Dev Cert.RankReferenceIdeal.nD,
      r.2.mem ((c.tc : Thread Cert.RankReferenceIdeal.nD Cert.RankReferenceIdeal.τ).loc Cert.RankReferenceIdeal.main_arg0) = m ((c.tc : Thread Cert.RankReferenceIdeal.nD Cert.RankReferenceIdeal.τ).loc Cert.RankReferenceIdeal.main_arg0))
      ∧ r.2.sem = fun _ => 0)

def quiescent_NmsIdeal [hNmsIdeal : Cert.NmsIdeal.Facts] [hPre_pre_nms : Cert.Pre_pre_nms.Facts] : Prop :=
  ∀ (m : (ℓ : Loc Cert.NmsIdeal.nD Cert.NmsIdeal.τ Cert.NmsIdeal.sig) → Buf (Elt Ideal) ℓ) (g : Dev Cert.NmsIdeal.nD → PrngReg), Pre_NmsIdeal m →
    θ_run (Cert.NmsIdeal.defs (F := Ideal)) (onTc (τ := Cert.NmsIdeal.τ) (Cert.NmsIdeal.main (F := Ideal))) ⟨m, fun _ => 0, g⟩ (fun r => (∀ c : Dev Cert.NmsIdeal.nD,
      r.2.mem ((c.tc : Thread Cert.NmsIdeal.nD Cert.NmsIdeal.τ).loc Cert.NmsIdeal.main_arg0) = m ((c.tc : Thread Cert.NmsIdeal.nD Cert.NmsIdeal.τ).loc Cert.NmsIdeal.main_arg0)
      ∧ r.2.mem ((c.tc : Thread Cert.NmsIdeal.nD Cert.NmsIdeal.τ).loc Cert.NmsIdeal.main_arg1) = m ((c.tc : Thread Cert.NmsIdeal.nD Cert.NmsIdeal.τ).loc Cert.NmsIdeal.main_arg1))
      ∧ r.2.sem = fun _ => 0)

def quiescent_NmsReferenceIdeal [hNmsReferenceIdeal : Cert.NmsReferenceIdeal.Facts] [hPre_pre_nms : Cert.Pre_pre_nms.Facts] : Prop :=
  ∀ (m : (ℓ : Loc Cert.NmsReferenceIdeal.nD Cert.NmsReferenceIdeal.τ Cert.NmsReferenceIdeal.sig) → Buf (Elt Ideal) ℓ) (g : Dev Cert.NmsReferenceIdeal.nD → PrngReg), Pre_NmsReferenceIdeal m →
    θ_run (Cert.NmsReferenceIdeal.defs (F := Ideal)) (onTc (τ := Cert.NmsReferenceIdeal.τ) (Cert.NmsReferenceIdeal.main (F := Ideal))) ⟨m, fun _ => 0, g⟩ (fun r => (∀ c : Dev Cert.NmsReferenceIdeal.nD,
      r.2.mem ((c.tc : Thread Cert.NmsReferenceIdeal.nD Cert.NmsReferenceIdeal.τ).loc Cert.NmsReferenceIdeal.main_arg0) = m ((c.tc : Thread Cert.NmsReferenceIdeal.nD Cert.NmsReferenceIdeal.τ).loc Cert.NmsReferenceIdeal.main_arg0)
      ∧ r.2.mem ((c.tc : Thread Cert.NmsReferenceIdeal.nD Cert.NmsReferenceIdeal.τ).loc Cert.NmsReferenceIdeal.main_arg1) = m ((c.tc : Thread Cert.NmsReferenceIdeal.nD Cert.NmsReferenceIdeal.τ).loc Cert.NmsReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Sort_SortIdeal : Prop :=
  True

def algebraic_SortIdeal_SortReferenceIdeal [hSortIdeal : Cert.SortIdeal.Facts] [hSortReferenceIdeal : Cert.SortReferenceIdeal.Facts] [hPre_pre_sort : Cert.Pre_pre_sort.Facts] : Prop :=
  ∀ (m : (ℓ : Loc Cert.SortIdeal.nD Cert.SortIdeal.τ Cert.SortIdeal.sig) → Buf (Elt Ideal) ℓ) (g : Dev Cert.SortIdeal.nD → PrngReg)
    (m' : (ℓ : Loc Cert.SortReferenceIdeal.nD Cert.SortReferenceIdeal.τ Cert.SortReferenceIdeal.sig) → Buf (Elt Ideal) ℓ) (g' : Dev Cert.SortReferenceIdeal.nD → PrngReg), Pre_SortIdeal m →
    (∀ c : Dev Cert.SortIdeal.nD,
      m' ((c.tc : Thread Cert.SortReferenceIdeal.nD Cert.SortReferenceIdeal.τ).loc Cert.SortReferenceIdeal.main_arg0) = m ((c.tc : Thread Cert.SortIdeal.nD Cert.SortIdeal.τ).loc Cert.SortIdeal.main_arg0)
      ∧ m' ((c.tc : Thread Cert.SortReferenceIdeal.nD Cert.SortReferenceIdeal.τ).loc Cert.SortReferenceIdeal.main_arg1) = m ((c.tc : Thread Cert.SortIdeal.nD Cert.SortIdeal.τ).loc Cert.SortIdeal.main_arg1)) →
    ∃ (v0 : (c : Dev Cert.SortIdeal.nD) → Buf (Elt Ideal) ((c.tc : Thread Cert.SortIdeal.nD Cert.SortIdeal.τ).loc Cert.SortIdeal.main_v2)) (v1 : (c : Dev Cert.SortIdeal.nD) → Buf (Elt Ideal) ((c.tc : Thread Cert.SortIdeal.nD Cert.SortIdeal.τ).loc Cert.SortIdeal.main_v4)),
      θ_run (Cert.SortIdeal.defs (F := Ideal)) (Cert.SortIdeal.threads (F := Ideal)) ⟨m, fun _ => 0, g⟩ (fun r => ∀ c : Dev Cert.SortIdeal.nD,
          r.2.mem ((c.tc : Thread Cert.SortIdeal.nD Cert.SortIdeal.τ).loc Cert.SortIdeal.main_v2) = v0 c
          ∧ r.2.mem ((c.tc : Thread Cert.SortIdeal.nD Cert.SortIdeal.τ).loc Cert.SortIdeal.main_v4) = v1 c
          ∧ r.2.mem ((c.tc : Thread Cert.SortIdeal.nD Cert.SortIdeal.τ).loc Cert.SortIdeal.main_arg0) = m ((c.tc : Thread Cert.SortIdeal.nD Cert.SortIdeal.τ).loc Cert.SortIdeal.main_arg0)
          ∧ r.2.mem ((c.tc : Thread Cert.SortIdeal.nD Cert.SortIdeal.τ).loc Cert.SortIdeal.main_arg1) = m ((c.tc : Thread Cert.SortIdeal.nD Cert.SortIdeal.τ).loc Cert.SortIdeal.main_arg1))
      ∧ θ_run (Cert.SortReferenceIdeal.defs (F := Ideal)) (onTc (τ := Cert.SortReferenceIdeal.τ) (Cert.SortReferenceIdeal.main (F := Ideal))) ⟨m', fun _ => 0, g'⟩ (fun r => ∀ c : Dev Cert.SortReferenceIdeal.nD,
          r.2.mem ((c.tc : Thread Cert.SortReferenceIdeal.nD Cert.SortReferenceIdeal.τ).loc Cert.SortReferenceIdeal.main_v3) = v0 c
          ∧ r.2.mem ((c.tc : Thread Cert.SortReferenceIdeal.nD Cert.SortReferenceIdeal.τ).loc Cert.SortReferenceIdeal.main_v4) = v1 c
          ∧ r.2.mem ((c.tc : Thread Cert.SortReferenceIdeal.nD Cert.SortReferenceIdeal.τ).loc Cert.SortReferenceIdeal.main_arg0) = m' ((c.tc : Thread Cert.SortReferenceIdeal.nD Cert.SortReferenceIdeal.τ).loc Cert.SortReferenceIdeal.main_arg0)
          ∧ r.2.mem ((c.tc : Thread Cert.SortReferenceIdeal.nD Cert.SortReferenceIdeal.τ).loc Cert.SortReferenceIdeal.main_arg1) = m' ((c.tc : Thread Cert.SortReferenceIdeal.nD Cert.SortReferenceIdeal.τ).loc Cert.SortReferenceIdeal.main_arg1))

def preserves_Select_SelectIdeal : Prop :=
  True

def algebraic_SelectIdeal_SelectReferenceIdeal [hSelectIdeal : Cert.SelectIdeal.Facts] [hSelectReferenceIdeal : Cert.SelectReferenceIdeal.Facts] [hPre_pre_select : Cert.Pre_pre_select.Facts] : Prop :=
  ∀ (m : (ℓ : Loc Cert.SelectIdeal.nD Cert.SelectIdeal.τ Cert.SelectIdeal.sig) → Buf (Elt Ideal) ℓ) (g : Dev Cert.SelectIdeal.nD → PrngReg)
    (m' : (ℓ : Loc Cert.SelectReferenceIdeal.nD Cert.SelectReferenceIdeal.τ Cert.SelectReferenceIdeal.sig) → Buf (Elt Ideal) ℓ) (g' : Dev Cert.SelectReferenceIdeal.nD → PrngReg), Pre_SelectIdeal m →
    (∀ c : Dev Cert.SelectIdeal.nD,
      m' ((c.tc : Thread Cert.SelectReferenceIdeal.nD Cert.SelectReferenceIdeal.τ).loc Cert.SelectReferenceIdeal.main_arg0) = m ((c.tc : Thread Cert.SelectIdeal.nD Cert.SelectIdeal.τ).loc Cert.SelectIdeal.main_arg0)) →
    ∃ (v0 : (c : Dev Cert.SelectIdeal.nD) → Buf (Elt Ideal) ((c.tc : Thread Cert.SelectIdeal.nD Cert.SelectIdeal.τ).loc Cert.SelectIdeal.main_v1)),
      θ_run (Cert.SelectIdeal.defs (F := Ideal)) (onTc (τ := Cert.SelectIdeal.τ) (Cert.SelectIdeal.main (F := Ideal))) ⟨m, fun _ => 0, g⟩ (fun r => ∀ c : Dev Cert.SelectIdeal.nD,
          r.2.mem ((c.tc : Thread Cert.SelectIdeal.nD Cert.SelectIdeal.τ).loc Cert.SelectIdeal.main_v1) = v0 c
          ∧ r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0))
      ∧ θ_run (Cert.SelectReferenceIdeal.defs (F := Ideal)) (onTc (τ := Cert.SelectReferenceIdeal.τ) (Cert.SelectReferenceIdeal.main (F := Ideal))) ⟨m', fun _ => 0, g'⟩ (fun r => ∀ c : Dev Cert.SelectReferenceIdeal.nD,
          r.2.mem ((c.tc : Thread Cert.SelectReferenceIdeal.nD Cert.SelectReferenceIdeal.τ).loc Cert.SelectReferenceIdeal.main_v12) = v0 c
          ∧ r.2.mem ((c.tc : Thread Cert.SelectReferenceIdeal.nD Cert.SelectReferenceIdeal.τ).loc Cert.SelectReferenceIdeal.main_arg0) = m' ((c.tc : Thread Cert.SelectReferenceIdeal.nD Cert.SelectReferenceIdeal.τ).loc Cert.SelectReferenceIdeal.main_arg0))

def preserves_Rank_RankIdeal : Prop :=
  True

def algebraic_RankIdeal_RankReferenceIdeal [hRankIdeal : Cert.RankIdeal.Facts] [hRankReferenceIdeal : Cert.RankReferenceIdeal.Facts] [hPre_pre_rank : Cert.Pre_pre_rank.Facts] : Prop :=
  ∀ (m : (ℓ : Loc Cert.RankIdeal.nD Cert.RankIdeal.τ Cert.RankIdeal.sig) → Buf (Elt Ideal) ℓ) (g : Dev Cert.RankIdeal.nD → PrngReg)
    (m' : (ℓ : Loc Cert.RankReferenceIdeal.nD Cert.RankReferenceIdeal.τ Cert.RankReferenceIdeal.sig) → Buf (Elt Ideal) ℓ) (g' : Dev Cert.RankReferenceIdeal.nD → PrngReg), Pre_RankIdeal m →
    (∀ c : Dev Cert.RankIdeal.nD,
      m' ((c.tc : Thread Cert.RankReferenceIdeal.nD Cert.RankReferenceIdeal.τ).loc Cert.RankReferenceIdeal.main_arg0) = m ((c.tc : Thread Cert.RankIdeal.nD Cert.RankIdeal.τ).loc Cert.RankIdeal.main_arg0)) →
    ∃ (v0 : (c : Dev Cert.RankIdeal.nD) → Buf (Elt Ideal) ((c.tc : Thread Cert.RankIdeal.nD Cert.RankIdeal.τ).loc Cert.RankIdeal.main_v1)),
      θ_run (Cert.RankIdeal.defs (F := Ideal)) (onTc (τ := Cert.RankIdeal.τ) (Cert.RankIdeal.main (F := Ideal))) ⟨m, fun _ => 0, g⟩ (fun r => ∀ c : Dev Cert.RankIdeal.nD,
          r.2.mem ((c.tc : Thread Cert.RankIdeal.nD Cert.RankIdeal.τ).loc Cert.RankIdeal.main_v1) = v0 c
          ∧ r.2.mem ((c.tc : Thread Cert.RankIdeal.nD Cert.RankIdeal.τ).loc Cert.RankIdeal.main_arg0) = m ((c.tc : Thread Cert.RankIdeal.nD Cert.RankIdeal.τ).loc Cert.RankIdeal.main_arg0))
      ∧ θ_run (Cert.RankReferenceIdeal.defs (F := Ideal)) (onTc (τ := Cert.RankReferenceIdeal.τ) (Cert.RankReferenceIdeal.main (F := Ideal))) ⟨m', fun _ => 0, g'⟩ (fun r => ∀ c : Dev Cert.RankReferenceIdeal.nD,
          r.2.mem ((c.tc : Thread Cert.RankReferenceIdeal.nD Cert.RankReferenceIdeal.τ).loc Cert.RankReferenceIdeal.main_v3) = v0 c
          ∧ r.2.mem ((c.tc : Thread Cert.RankReferenceIdeal.nD Cert.RankReferenceIdeal.τ).loc Cert.RankReferenceIdeal.main_arg0) = m' ((c.tc : Thread Cert.RankReferenceIdeal.nD Cert.RankReferenceIdeal.τ).loc Cert.RankReferenceIdeal.main_arg0))

def algebraic_NmsIdeal_NmsReferenceIdeal [hNmsIdeal : Cert.NmsIdeal.Facts] [hNmsReferenceIdeal : Cert.NmsReferenceIdeal.Facts] [hPre_pre_nms : Cert.Pre_pre_nms.Facts] : Prop :=
  ∀ (m : (ℓ : Loc Cert.NmsIdeal.nD Cert.NmsIdeal.τ Cert.NmsIdeal.sig) → Buf (Elt Ideal) ℓ) (g : Dev Cert.NmsIdeal.nD → PrngReg)
    (m' : (ℓ : Loc Cert.NmsReferenceIdeal.nD Cert.NmsReferenceIdeal.τ Cert.NmsReferenceIdeal.sig) → Buf (Elt Ideal) ℓ) (g' : Dev Cert.NmsReferenceIdeal.nD → PrngReg), Pre_NmsIdeal m →
    (∀ c : Dev Cert.NmsIdeal.nD,
      m' ((c.tc : Thread Cert.NmsReferenceIdeal.nD Cert.NmsReferenceIdeal.τ).loc Cert.NmsReferenceIdeal.main_arg0) = m ((c.tc : Thread Cert.NmsIdeal.nD Cert.NmsIdeal.τ).loc Cert.NmsIdeal.main_arg0)
      ∧ m' ((c.tc : Thread Cert.NmsReferenceIdeal.nD Cert.NmsReferenceIdeal.τ).loc Cert.NmsReferenceIdeal.main_arg1) = m ((c.tc : Thread Cert.NmsIdeal.nD Cert.NmsIdeal.τ).loc Cert.NmsIdeal.main_arg1)) →
    ∃ (v0 : (c : Dev Cert.NmsIdeal.nD) → Buf (Elt Ideal) ((c.tc : Thread Cert.NmsIdeal.nD Cert.NmsIdeal.τ).loc Cert.NmsIdeal.main_v0)),
      θ_run (Cert.NmsIdeal.defs (F := Ideal)) (onTc (τ := Cert.NmsIdeal.τ) (Cert.NmsIdeal.main (F := Ideal))) ⟨m, fun _ => 0, g⟩ (fun r => ∀ c : Dev Cert.NmsIdeal.nD,
          r.2.mem ((c.tc : Thread Cert.NmsIdeal.nD Cert.NmsIdeal.τ).loc Cert.NmsIdeal.main_v0) = v0 c
          ∧ r.2.mem ((c.tc : Thread Cert.NmsIdeal.nD Cert.NmsIdeal.τ).loc Cert.NmsIdeal.main_arg0) = m ((c.tc : Thread Cert.NmsIdeal.nD Cert.NmsIdeal.τ).loc Cert.NmsIdeal.main_arg0)
          ∧ r.2.mem ((c.tc : Thread Cert.NmsIdeal.nD Cert.NmsIdeal.τ).loc Cert.NmsIdeal.main_arg1) = m ((c.tc : Thread Cert.NmsIdeal.nD Cert.NmsIdeal.τ).loc Cert.NmsIdeal.main_arg1))
      ∧ θ_run (Cert.NmsReferenceIdeal.defs (F := Ideal)) (onTc (τ := Cert.NmsReferenceIdeal.τ) (Cert.NmsReferenceIdeal.main (F := Ideal))) ⟨m', fun _ => 0, g'⟩ (fun r => ∀ c : Dev Cert.NmsReferenceIdeal.nD,
          r.2.mem ((c.tc : Thread Cert.NmsReferenceIdeal.nD Cert.NmsReferenceIdeal.τ).loc Cert.NmsReferenceIdeal.main_v76) = v0 c
          ∧ r.2.mem ((c.tc : Thread Cert.NmsReferenceIdeal.nD Cert.NmsReferenceIdeal.τ).loc Cert.NmsReferenceIdeal.main_arg0) = m' ((c.tc : Thread Cert.NmsReferenceIdeal.nD Cert.NmsReferenceIdeal.τ).loc Cert.NmsReferenceIdeal.main_arg0)
          ∧ r.2.mem ((c.tc : Thread Cert.NmsReferenceIdeal.nD Cert.NmsReferenceIdeal.τ).loc Cert.NmsReferenceIdeal.main_arg1) = m' ((c.tc : Thread Cert.NmsReferenceIdeal.nD Cert.NmsReferenceIdeal.τ).loc Cert.NmsReferenceIdeal.main_arg1))

def Claim : Prop :=
  ∃ (hKernel : Cert.Kernel.Facts) (hKernelIdeal : Cert.KernelIdeal.Facts) (hReferenceIdeal : Cert.ReferenceIdeal.Facts) (hSort : Cert.Sort.Facts) (hSortIdeal : Cert.SortIdeal.Facts) (hSortReferenceIdeal : Cert.SortReferenceIdeal.Facts) (hSelect : Cert.Select.Facts) (hSelectIdeal : Cert.SelectIdeal.Facts) (hSelectReferenceIdeal : Cert.SelectReferenceIdeal.Facts) (hRank : Cert.Rank.Facts) (hRankIdeal : Cert.RankIdeal.Facts) (hRankReferenceIdeal : Cert.RankReferenceIdeal.Facts) (hNmsIdeal : Cert.NmsIdeal.Facts) (hNmsReferenceIdeal : Cert.NmsReferenceIdeal.Facts) (hPre_pre : Cert.Pre_pre.Facts) (hPre_pre_sort : Cert.Pre_pre_sort.Facts) (hPre_pre_select : Cert.Pre_pre_select.Facts) (hPre_pre_rank : Cert.Pre_pre_rank.Facts) (hPre_pre_nms : Cert.Pre_pre_nms.Facts),
    quiescent_Kernel (hKernel := hKernel) (hPre_pre := hPre_pre)
    ∧ quiescent_KernelIdeal (hKernelIdeal := hKernelIdeal) (hPre_pre := hPre_pre)
    ∧ quiescent_ReferenceIdeal (hReferenceIdeal := hReferenceIdeal) (hPre_pre := hPre_pre)
    ∧ quiescent_Sort (hSort := hSort) (hPre_pre_sort := hPre_pre_sort)
    ∧ quiescent_SortIdeal (hSortIdeal := hSortIdeal) (hPre_pre_sort := hPre_pre_sort)
    ∧ quiescent_SortReferenceIdeal (hSortReferenceIdeal := hSortReferenceIdeal) (hPre_pre_sort := hPre_pre_sort)
    ∧ quiescent_Select (hSelect := hSelect) (hPre_pre_select := hPre_pre_select)
    ∧ quiescent_SelectIdeal (hSelectIdeal := hSelectIdeal) (hPre_pre_select := hPre_pre_select)
    ∧ quiescent_SelectReferenceIdeal (hSelectReferenceIdeal := hSelectReferenceIdeal) (hPre_pre_select := hPre_pre_select)
    ∧ quiescent_Rank (hRank := hRank) (hPre_pre_rank := hPre_pre_rank)
    ∧ quiescent_RankIdeal (hRankIdeal := hRankIdeal) (hPre_pre_rank := hPre_pre_rank)
    ∧ quiescent_RankReferenceIdeal (hRankReferenceIdeal := hRankReferenceIdeal) (hPre_pre_rank := hPre_pre_rank)
    ∧ quiescent_NmsIdeal (hNmsIdeal := hNmsIdeal) (hPre_pre_nms := hPre_pre_nms)
    ∧ quiescent_NmsReferenceIdeal (hNmsReferenceIdeal := hNmsReferenceIdeal) (hPre_pre_nms := hPre_pre_nms)
    ∧ preserves_Kernel_KernelIdeal
    ∧ algebraic_KernelIdeal_ReferenceIdeal (hKernelIdeal := hKernelIdeal) (hReferenceIdeal := hReferenceIdeal) (hPre_pre := hPre_pre)
    ∧ preserves_Sort_SortIdeal
    ∧ algebraic_SortIdeal_SortReferenceIdeal (hSortIdeal := hSortIdeal) (hSortReferenceIdeal := hSortReferenceIdeal) (hPre_pre_sort := hPre_pre_sort)
    ∧ preserves_Select_SelectIdeal
    ∧ algebraic_SelectIdeal_SelectReferenceIdeal (hSelectIdeal := hSelectIdeal) (hSelectReferenceIdeal := hSelectReferenceIdeal) (hPre_pre_select := hPre_pre_select)
    ∧ preserves_Rank_RankIdeal
    ∧ algebraic_RankIdeal_RankReferenceIdeal (hRankIdeal := hRankIdeal) (hRankReferenceIdeal := hRankReferenceIdeal) (hPre_pre_rank := hPre_pre_rank)
    ∧ algebraic_NmsIdeal_NmsReferenceIdeal (hNmsIdeal := hNmsIdeal) (hNmsReferenceIdeal := hNmsReferenceIdeal) (hPre_pre_nms := hPre_pre_nms)
-- ==== Pre_pre.lean ====
abbrev S20x5120 : Shape := ⟨2, ![20, 5120]⟩
abbrev S20x5x5120 : Shape := ⟨3, ![20, 5, 5120]⟩
abbrev S20 : Shape := ⟨1, ![20]⟩
abbrev S20x1 : Shape := ⟨2, ![20, 1]⟩
abbrev S_ : Shape := ⟨0, ![]⟩

class Facts : Prop where
  bcast_S20_S20x1_0 : S20.BroadcastsInDim S20x1 (![0] : Fin 1 → Fin S20x1.rank)
  bcast_S20x1_S20x5120_0_1 : S20x1.BroadcastsInDim S20x5120 (![0, 1] : Fin 2 → Fin S20x5120.rank)
  natLt_1_32 : 1 < 32
  reducesTo_S20x5120_S20_d1 : S20x5120.ReducesTo [1] S20
  h_S_ : 0 < S_.numel
  bcast_S_S20x5120 : S_.BroadcastsInDim S20x5120 (![] : Fin 0 → Fin S20x5120.rank)
  bcast_S_S20 : S_.BroadcastsInDim S20 (![] : Fin 0 → Fin S20.rank)
  reducesTo_S20x5120_S_d0_1 : S20x5120.ReducesTo [0, 1] S_

variable [Facts]

def fn_part1 {F : FTy → Type} [FloatOps F] (main_arg3 : IVec S20 32) (main_v9 : IVec S20 32) (main_v17 : IVec S20x5120 1) (main_v18 : IVec S20 32) : IVec S_ 1 :=
  let main_v19 : IVec S20 1 := cmpi .sge main_arg3 main_v18
  let main_v20 : IVec S20x1 1 := broadcastInDim S20x1 ![0] bcast_S20_S20x1_0 main_v19
  let main_v21 : IVec S20x5120 1 := broadcastInDim S20x5120 ![0, 1] bcast_S20x1_S20x5120_0_1 main_v20
  let main_v22 : IVec S20x5120 1 := andi main_v17 main_v21
  let main_v23 : IVec S20 1 := cmpi .sle main_arg3 main_v9
  let main_v24 : IVec S20x1 1 := broadcastInDim S20x1 ![0] bcast_S20_S20x1_0 main_v23
  let main_v25 : IVec S20x5120 1 := broadcastInDim S20x5120 ![0, 1] bcast_S20x1_S20x5120_0_1 main_v24
  let main_v26 : IVec S20x5120 1 := andi main_v22 main_v25
  let main_c_4 : IVec S_ 1 := constantI S_ 1 1#1
  let main_v27 : IVec S_ 1 := (fun x v => Host.reduce IntOp.andi x v reducesTo_S20x5120_S_d0_1 h_S_) main_v26 main_c_4
  main_v27

def fn {F : FTy → Type} [FloatOps F] (main_arg0 : IVec S20x5120 32) (main_arg1 : FVec F S20x5x5120 .f32) (main_arg2 : IVec S20 32) (main_arg3 : IVec S20 32) : IVec S_ 1 :=
  let main_v0 : IVec S20x1 32 := broadcastInDim S20x1 ![0] bcast_S20_S20x1_0 main_arg2
  let main_v1 : IVec S20x5120 32 := broadcastInDim S20x5120 ![0, 1] bcast_S20x1_S20x5120_0_1 main_v0
  let main_v2 : IVec S20x5120 1 := cmpi .sgt main_arg0 main_v1
  let main_v3 : IVec S20x5120 32 := (extui 32 · natLt_1_32) main_v2
  let main_c : IVec S_ 32 := constantI S_ 32 0#32
  let main_v4 : IVec S20 32 := (fun x v => Host.reduce IntOp.addi x v reducesTo_S20x5120_S20_d1 h_S_) main_v3 main_c
  let main_v5 : IVec S20x1 32 := broadcastInDim S20x1 ![0] bcast_S20_S20x1_0 main_arg2
  let main_v6 : IVec S20x5120 32 := broadcastInDim S20x5120 ![0, 1] bcast_S20x1_S20x5120_0_1 main_v5
  let main_v7 : IVec S20x5120 1 := cmpi .eq main_arg0 main_v6
  let main_v8 : IVec S20x5120 32 := (extui 32 · natLt_1_32) main_v7
  let main_c_0 : IVec S_ 32 := constantI S_ 32 0#32
  let main_v9 : IVec S20 32 := (fun x v => Host.reduce IntOp.addi x v reducesTo_S20x5120_S20_d1 h_S_) main_v8 main_c_0
  let main_c_1 : IVec S_ 32 := constantI S_ 32 2147483648#32
  let main_v10 : IVec S20x5120 32 := broadcastInDim S20x5120 ![] bcast_S_S20x5120 main_c_1
  let main_v11 : IVec S20x5120 1 := cmpi .sgt main_arg0 main_v10
  let main_v12 : IVec S20 32 := addi main_v4 main_arg3
  let main_c_2 : IVec S_ 32 := constantI S_ 32 1024#32
  let main_v13 : IVec S20 32 := broadcastInDim S20 ![] bcast_S_S20 main_c_2
  let main_v14 : IVec S20 1 := cmpi .eq main_v12 main_v13
  let main_v15 : IVec S20x1 1 := broadcastInDim S20x1 ![0] bcast_S20_S20x1_0 main_v14
  let main_v16 : IVec S20x5120 1 := broadcastInDim S20x5120 ![0, 1] bcast_S20x1_S20x5120_0_1 main_v15
  let main_v17 : IVec S20x5120 1 := andi main_v11 main_v16
  let main_c_3 : IVec S_ 32 := constantI S_ 32 0#32
  let main_v18 : IVec S20 32 := broadcastInDim S20 ![] bcast_S_S20 main_c_3
  fn_part1 (F := F) main_arg3 main_v9 main_v17 main_v18
-- ==== Pre_pre_nms.lean ====
abbrev S20x8x1024 : Shape := ⟨3, ![20, 8, 1024]⟩
abbrev S20x1024x8 : Shape := ⟨3, ![20, 1024, 8]⟩
abbrev S20x1024x4 : Shape := ⟨3, ![20, 1024, 4]⟩
abbrev S_ : Shape := ⟨0, ![]⟩

class Facts : Prop where
  slices_S20x1024x8_S20x1024x4_0_0_0 : S20x1024x8.Slices ![0, 0, 0] S20x1024x4
  transposes_S20x8x1024_S20x1024x8_0_2_1 : S20x8x1024.Transposes [0, 2, 1] S20x1024x8
  reducesTo_S20x1024x4_S_d0_1_2 : S20x1024x4.ReducesTo [0, 1, 2] S_
  h_S_ : 0 < S_.numel

variable [Facts]

def fn {F : FTy → Type} [FloatOps F] (main_arg0 : FVec F S20x8x1024 .f32) (main_arg1 : FVec F S20x1024x8 .f32) : IVec S_ 1 :=
  let main_v0 : FVec F S20x1024x4 .f32 := (extractStridedSlice S20x1024x4 ![0, 0, 0] · slices_S20x1024x8_S20x1024x4_0_0_0) main_arg1
  let main_v1 : FVec F S20x1024x8 .f32 := (transpose S20x1024x8 [0, 2, 1] · transposes_S20x8x1024_S20x1024x8_0_2_1) main_arg0
  let main_v2 : FVec F S20x1024x4 .f32 := (extractStridedSlice S20x1024x4 ![0, 0, 0] · slices_S20x1024x8_S20x1024x4_0_0_0) main_v1
  let main_v3 : IVec S20x1024x4 1 := cmpf .oeq main_v0 main_v2
  let main_c : IVec S_ 1 := constantI S_ 1 1#1
  let main_v4 : IVec S_ 1 := (fun x v => Host.reduce IntOp.andi x v reducesTo_S20x1024x4_S_d0_1_2 h_S_) main_v3 main_c
  main_v4
-- ==== Pre_pre_rank.lean ====
abbrev S20x1024 : Shape := ⟨2, ![20, 1024]⟩
abbrev S_ : Shape := ⟨0, ![]⟩

class Facts : Prop where
  bcast_S_S20x1024 : S_.BroadcastsInDim S20x1024 (![] : Fin 0 → Fin S20x1024.rank)
  reducesTo_S20x1024_S_d0_1 : S20x1024.ReducesTo [0, 1] S_
  h_S_ : 0 < S_.numel

variable [Facts]

def fn {F : FTy → Type} [FloatOps F] (main_arg0 : IVec S20x1024 32) : IVec S_ 1 :=
  let main_c : IVec S_ 32 := constantI S_ 32 2147483648#32
  let main_v0 : IVec S20x1024 32 := broadcastInDim S20x1024 ![] bcast_S_S20x1024 main_c
  let main_v1 : IVec S20x1024 1 := cmpi .sgt main_arg0 main_v0
  let main_c_0 : IVec S_ 1 := constantI S_ 1 1#1
  let main_v2 : IVec S_ 1 := (fun x v => Host.reduce IntOp.andi x v reducesTo_S20x1024_S_d0_1 h_S_) main_v1 main_c_0
  main_v2
-- ==== Pre_pre_select.lean ====
abbrev S20x5120 : Shape := ⟨2, ![20, 5120]⟩
abbrev S_ : Shape := ⟨0, ![]⟩

class Facts : Prop where
  bcast_S_S20x5120 : S_.BroadcastsInDim S20x5120 (![] : Fin 0 → Fin S20x5120.rank)
  reducesTo_S20x5120_S_d0_1 : S20x5120.ReducesTo [0, 1] S_
  h_S_ : 0 < S_.numel

variable [Facts]

def fn {F : FTy → Type} [FloatOps F] (main_arg0 : IVec S20x5120 32) : IVec S_ 1 :=
  let main_c : IVec S_ 32 := constantI S_ 32 0#32
  let main_v0 : IVec S20x5120 32 := broadcastInDim S20x5120 ![] bcast_S_S20x5120 main_c
  let main_v1 : IVec S20x5120 1 := cmpi .sge main_arg0 main_v0
  let main_c_0 : IVec S_ 1 := constantI S_ 1 1#1
  let main_v2 : IVec S_ 1 := (fun x v => Host.reduce IntOp.andi x v reducesTo_S20x5120_S_d0_1 h_S_) main_v1 main_c_0
  main_v2
-- ==== Pre_pre_sort.lean ====
abbrev S20x1024 : Shape := ⟨2, ![20, 1024]⟩
abbrev S20x5120 : Shape := ⟨2, ![20, 5120]⟩
abbrev S_ : Shape := ⟨0, ![]⟩

class Facts : Prop where
  reducesTo_S20x1024_S_d0_1 : S20x1024.ReducesTo [0, 1] S_
  h_S_ : 0 < S_.numel

variable [Facts]

def comparator_i32_d1 : BitVec 32 → BitVec 32 → BitVec 1 :=
  fun l r =>
    let v1 := IntOp.cmpi .slt l r
    v1
def fn_sort {F : FTy → Type} [FloatOps F] (arg0 : IVec S20x1024 32) : IVec S20x1024 32 :=
  let v0 : IVec S20x1024 32 := (fun x => Host.sort S20x1024 1 comparator_i32_d1 x) arg0
  v0

def fn {F : FTy → Type} [FloatOps F] (main_arg0 : IVec S20x1024 32) (main_arg1 : FVec F S20x5120 .f32) : IVec S_ 1 :=
  let main_v0 : IVec S20x1024 32 := fn_sort (F := F) main_arg0
  let main_v1 : IVec S20x1024 32 := iotaInDim S20x1024 32 1
  let main_v2 : IVec S20x1024 1 := cmpi .eq main_v0 main_v1
  let main_c : IVec S_ 1 := constantI S_ 1 1#1
  let main_v3 : IVec S_ 1 := (fun x v => Host.reduce IntOp.andi x v reducesTo_S20x1024_S_d0_1 h_S_) main_v2 main_c
  main_v3
-- ==== Kernel.lean ====
abbrev S20x5120 : Shape := ⟨2, ![20, 5120]⟩
abbrev S20x5x5120 : Shape := ⟨3, ![20, 5, 5120]⟩
abbrev S20 : Shape := ⟨1, ![20]⟩
abbrev S20x1 : Shape := ⟨2, ![20, 1]⟩
abbrev S20x2 : Shape := ⟨2, ![20, 2]⟩
abbrev S20x2x1 : Shape := ⟨3, ![20, 2, 1]⟩
abbrev S20x2x16 : Shape := ⟨3, ![20, 2, 16]⟩
abbrev S20x32 : Shape := ⟨2, ![20, 32]⟩
abbrev S_ : Shape := ⟨0, ![]⟩
abbrev S20x128 : Shape := ⟨2, ![20, 128]⟩
abbrev S20x1024 : Shape := ⟨2, ![20, 1024]⟩
abbrev S5120 : Shape := ⟨1, ![5120]⟩
abbrev S5x5120 : Shape := ⟨2, ![5, 5120]⟩
abbrev S128 : Shape := ⟨1, ![128]⟩
abbrev S1024 : Shape := ⟨1, ![1024]⟩
abbrev S1x5120 : Shape := ⟨2, ![1, 5120]⟩
abbrev S1x5x5120 : Shape := ⟨3, ![1, 5, 5120]⟩
abbrev S1x128 : Shape := ⟨2, ![1, 128]⟩
abbrev S16 : Shape := ⟨1, ![16]⟩
abbrev S1x16 : Shape := ⟨2, ![1, 16]⟩
abbrev S1x1024 : Shape := ⟨2, ![1, 1024]⟩

abbrev nBuf : Table → Nat
  | .hbm => 15
  | .local .scVector .vmem => 5
  | _ => 0

abbrev bufTy : (tb : Table) → Fin (nBuf tb) → BufTy
  | .hbm, ⟨0, _⟩ => ⟨S20x5120, .i32⟩
  | .hbm, ⟨1, _⟩ => ⟨S20x5x5120, .f32⟩
  | .hbm, ⟨2, _⟩ => ⟨S20, .i32⟩
  | .hbm, ⟨3, _⟩ => ⟨S20, .i32⟩
  | .hbm, ⟨4, _⟩ => ⟨S20x1, .i32⟩
  | .hbm, ⟨5, _⟩ => ⟨S20x1, .i32⟩
  | .hbm, ⟨6, _⟩ => ⟨S20x2, .i32⟩
  | .hbm, ⟨7, _⟩ => ⟨S20x2x1, .i32⟩
  | .hbm, ⟨8, _⟩ => ⟨S20x2x16, .i32⟩
  | .hbm, ⟨9, _⟩ => ⟨S20x32, .i32⟩
  | .hbm, ⟨10, _⟩ => ⟨S_, .i32⟩
  | .hbm, ⟨11, _⟩ => ⟨S_, .i32⟩
  | .hbm, ⟨12, _⟩ => ⟨S20x128, .i32⟩
  | .hbm, ⟨13, _⟩ => ⟨S20x1024, .i32⟩
  | .hbm, ⟨14, _⟩ => ⟨S20x5120, .f32⟩
  | .local .scVector .vmem, ⟨0, _⟩ => ⟨S5120, .i32⟩
  | .local .scVector .vmem, ⟨1, _⟩ => ⟨S5x5120, .f32⟩
  | .local .scVector .vmem, ⟨2, _⟩ => ⟨S128, .i32⟩
  | .local .scVector .vmem, ⟨3, _⟩ => ⟨S1024, .i32⟩
  | .local .scVector .vmem, ⟨4, _⟩ => ⟨S5120, .f32⟩
  | _, _ => ⟨S20x5120, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_arg0_scv : Ref sig .scVector := ⟨.hbm, 0, rfl⟩
abbrev main_arg1_scv : Ref sig .scVector := ⟨.hbm, 1, rfl⟩
abbrev main_v6_scv : Ref sig .scVector := ⟨.hbm, 12, rfl⟩
abbrev main_v7_0_scv : Ref sig .scVector := ⟨.hbm, 13, rfl⟩
abbrev main_v7_1_scv : Ref sig .scVector := ⟨.hbm, 14, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20_i32 : BitVec 32 := 20#32
  let v2 : BitVec 1 := Scalar.cmpi .slt v1 c20_i32
  let v3 : BitVec 32 := Scalar.extui v2
  let c0_i32 : BitVec 32 := 0#32
  let v4 : BitVec 1 := Scalar.cmpi .ne v3 c0_i32
  v4

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4_r0 : BitVec 32 := 0#32
  ![v1.toNat, 0]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4_r1 : BitVec 32 := 0#32
  let c0_i32_5_r1 : BitVec 32 := 0#32
  ![v1.toNat, 0, 0]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4_r2 : BitVec 32 := 0#32
  ![v1.toNat, 0]
@[reducible] def k0_t1_loop : Scf.Loop 32 :=
  let c0_i32_2 : BitVec 32 := 0#32
  let c320_i32 : BitVec 32 := 320#32
  let v9 : BitVec 32 := Scalar.addi c0_i32_2 c320_i32
  let c1_i32 : BitVec 32 := 1#32
  ⟨c0_i32_2, v9, c1_i32⟩
def k0_off4 (k0_t1 : Fin k0_t1_loop.trips) : Fin 1 → Nat :=
  let c0_i32_2 : BitVec 32 := 0#32
  let c1_i32 : BitVec 32 := 1#32
  let arg12 : BitVec 32 := Scf.iv c0_i32_2 c1_i32 k0_t1
  let c16_i32 : BitVec 32 := 16#32
  let v11 : BitVec 32 := Scalar.muli arg12 c16_i32
  let v12 : Index := Scalar.indexCast v11
  ![v12.toNat]

def k0_chk1 (i : grid0.Coords) (v32 : IVec S16 32) : Prop :=
  (∀ (k0_h1 : k0_cond1 i = 1#1), ∀ a x, ((![v32] : Fin 1 → IVec S16 32) a x).toNat < S1024.size a)
theorem k0_idx1_inb : ∀ (i : grid0.Coords) (v32 : IVec S16 32) (k0_hw1 : k0_chk1 i v32), ∀ (k0_h1 : k0_cond1 i = 1#1), ∀ a x, ((![v32] : Fin 1 → IVec S16 32) a x).toNat < S1024.size a := fun i v32 k0_hw1 k0_h1 => k0_hw1 k0_h1
def k0_off5 (k0_t1 : Fin k0_t1_loop.trips) : Fin 2 → Nat :=
  let c0_i32_8 : BitVec 32 := 0#32
  let v34 : Index := Scalar.indexCast c0_i32_8
  let c0_i32_2 : BitVec 32 := 0#32
  let c1_i32 : BitVec 32 := 1#32
  let arg12 : BitVec 32 := Scf.iv c0_i32_2 c1_i32 k0_t1
  let c16_i32_7 : BitVec 32 := 16#32
  let v33 : BitVec 32 := Scalar.muli arg12 c16_i32_7
  let v35 : Index := Scalar.indexCast v33
  ![0, v35.toNat]

def k0_chk2 (i : grid0.Coords) (v38 : IVec S16 32) : Prop :=
  (∀ (k0_h1 : k0_cond1 i = 1#1), ∀ a x, ((![v38] : Fin 1 → IVec S16 32) a x).toNat < S5120.size a)
theorem k0_idx2_inb : ∀ (i : grid0.Coords) (v38 : IVec S16 32) (k0_hw2 : k0_chk2 i v38), ∀ (k0_h1 : k0_cond1 i = 1#1), ∀ a x, ((![v38] : Fin 1 → IVec S16 32) a x).toNat < S5120.size a := fun i v38 k0_hw2 k0_h1 => k0_hw2 k0_h1
def k0_off6 (k0_t1 : Fin k0_t1_loop.trips) : Fin 2 → Nat :=
  let c1_i32_11 : BitVec 32 := 1#32
  let v40 : Index := Scalar.indexCast c1_i32_11
  let c0_i32_2 : BitVec 32 := 0#32
  let c1_i32 : BitVec 32 := 1#32
  let arg12 : BitVec 32 := Scf.iv c0_i32_2 c1_i32 k0_t1
  let c16_i32_10 : BitVec 32 := 16#32
  let v39 : BitVec 32 := Scalar.muli arg12 c16_i32_10
  let v41 : Index := Scalar.indexCast v39
  ![1, v41.toNat]

def k0_chk3 (i : grid0.Coords) (v44 : IVec S16 32) : Prop :=
  (∀ (k0_h1 : k0_cond1 i = 1#1), ∀ a x, ((![v44] : Fin 1 → IVec S16 32) a x).toNat < S5120.size a)
theorem k0_idx3_inb : ∀ (i : grid0.Coords) (v44 : IVec S16 32) (k0_hw3 : k0_chk3 i v44), ∀ (k0_h1 : k0_cond1 i = 1#1), ∀ a x, ((![v44] : Fin 1 → IVec S16 32) a x).toNat < S5120.size a := fun i v44 k0_hw3 k0_h1 => k0_hw3 k0_h1
def k0_off7 (k0_t1 : Fin k0_t1_loop.trips) : Fin 2 → Nat :=
  let c2_i32_13 : BitVec 32 := 2#32
  let v46 : Index := Scalar.indexCast c2_i32_13
  let c0_i32_2 : BitVec 32 := 0#32
  let c1_i32 : BitVec 32 := 1#32
  let arg12 : BitVec 32 := Scf.iv c0_i32_2 c1_i32 k0_t1
  let c16_i32_12 : BitVec 32 := 16#32
  let v45 : BitVec 32 := Scalar.muli arg12 c16_i32_12
  let v47 : Index := Scalar.indexCast v45
  ![2, v47.toNat]

def k0_chk4 (i : grid0.Coords) (v50 : IVec S16 32) : Prop :=
  (∀ (k0_h1 : k0_cond1 i = 1#1), ∀ a x, ((![v50] : Fin 1 → IVec S16 32) a x).toNat < S5120.size a)
theorem k0_idx4_inb : ∀ (i : grid0.Coords) (v50 : IVec S16 32) (k0_hw4 : k0_chk4 i v50), ∀ (k0_h1 : k0_cond1 i = 1#1), ∀ a x, ((![v50] : Fin 1 → IVec S16 32) a x).toNat < S5120.size a := fun i v50 k0_hw4 k0_h1 => k0_hw4 k0_h1
def k0_off8 (k0_t1 : Fin k0_t1_loop.trips) : Fin 2 → Nat :=
  let c3_i32 : BitVec 32 := 3#32
  let v52 : Index := Scalar.indexCast c3_i32
  let c0_i32_2 : BitVec 32 := 0#32
  let c1_i32 : BitVec 32 := 1#32
  let arg12 : BitVec 32 := Scf.iv c0_i32_2 c1_i32 k0_t1
  let c16_i32_14 : BitVec 32 := 16#32
  let v51 : BitVec 32 := Scalar.muli arg12 c16_i32_14
  let v53 : Index := Scalar.indexCast v51
  ![3, v53.toNat]

def k0_chk5 (i : grid0.Coords) (v56 : IVec S16 32) : Prop :=
  (∀ (k0_h1 : k0_cond1 i = 1#1), ∀ a x, ((![v56] : Fin 1 → IVec S16 32) a x).toNat < S5120.size a)
theorem k0_idx5_inb : ∀ (i : grid0.Coords) (v56 : IVec S16 32) (k0_hw5 : k0_chk5 i v56), ∀ (k0_h1 : k0_cond1 i = 1#1), ∀ a x, ((![v56] : Fin 1 → IVec S16 32) a x).toNat < S5120.size a := fun i v56 k0_hw5 k0_h1 => k0_hw5 k0_h1
def k0_off9 (k0_t1 : Fin k0_t1_loop.trips) : Fin 2 → Nat :=
  let c4_i32 : BitVec 32 := 4#32
  let v58 : Index := Scalar.indexCast c4_i32
  let c0_i32_2 : BitVec 32 := 0#32
  let c1_i32 : BitVec 32 := 1#32
  let arg12 : BitVec 32 := Scf.iv c0_i32_2 c1_i32 k0_t1
  let c16_i32_15 : BitVec 32 := 16#32
  let v57 : BitVec 32 := Scalar.muli arg12 c16_i32_15
  let v59 : Index := Scalar.indexCast v57
  ![4, v59.toNat]

def k0_chk6 (i : grid0.Coords) (v62 : IVec S16 32) : Prop :=
  (∀ (k0_h1 : k0_cond1 i = 1#1), ∀ a x, ((![v62] : Fin 1 → IVec S16 32) a x).toNat < S5120.size a)
theorem k0_idx6_inb : ∀ (i : grid0.Coords) (v62 : IVec S16 32) (k0_hw6 : k0_chk6 i v62), ∀ (k0_h1 : k0_cond1 i = 1#1), ∀ a x, ((![v62] : Fin 1 → IVec S16 32) a x).toNat < S5120.size a := fun i v62 k0_hw6 k0_h1 => k0_hw6 k0_h1
def k0_off10 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4_r3 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S20x5120 : Shape := ⟨2, ![20, 5120]⟩
abbrev S20x5x5120 : Shape := ⟨3, ![20, 5, 5120]⟩
abbrev S20 : Shape := ⟨1, ![20]⟩
abbrev S20x1024 : Shape := ⟨2, ![20, 1024]⟩
abbrev S_ : Shape := ⟨0, ![]⟩
abbrev S20x1024x1 : Shape := ⟨3, ![20, 1024, 1]⟩
abbrev S1 : Shape := ⟨1, ![1]⟩
abbrev S1x1x1 : Shape := ⟨3, ![1, 1, 1]⟩
abbrev S20x1x1024 : Shape := ⟨3, ![20, 1, 1024]⟩
abbrev S20x5x1024 : Shape := ⟨3, ![20, 5, 1024]⟩

abbrev nBuf : Space → Nat
  | .hbm => 57
  | .vmem => 0
  | .smem => 0
  | _ => 0

abbrev bufTy : (tb : Table) → Fin (tcTables nBuf tb) → BufTy
  | .hbm, ⟨0, _⟩ => ⟨S20x5120, .i32⟩
  | .hbm, ⟨1, _⟩ => ⟨S20x5x5120, .f32⟩
  | .hbm, ⟨2, _⟩ => ⟨S20, .i32⟩
  | .hbm, ⟨3, _⟩ => ⟨S20, .i32⟩
  | .hbm, ⟨4, _⟩ => ⟨S20x5120, .i32⟩
  | .hbm, ⟨5, _⟩ => ⟨S20x5120, .i32⟩
  | .hbm, ⟨6, _⟩ => ⟨S20x5120, .i32⟩
  | .hbm, ⟨7, _⟩ => ⟨S20x5120, .i32⟩
  | .hbm, ⟨8, _⟩ => ⟨S20x1024, .i32⟩
  | .hbm, ⟨9, _⟩ => ⟨S20x1024, .i32⟩
  | .hbm, ⟨10, _⟩ => ⟨S_, .i32⟩
  | .hbm, ⟨11, _⟩ => ⟨S20x1024, .i32⟩
  | .hbm, ⟨12, _⟩ => ⟨S20x1024, .i1⟩
  | .hbm, ⟨13, _⟩ => ⟨S_, .i32⟩
  | .hbm, ⟨14, _⟩ => ⟨S20x1024, .i32⟩
  | .hbm, ⟨15, _⟩ => ⟨S20x1024, .i32⟩
  | .hbm, ⟨16, _⟩ => ⟨S20x1024, .i32⟩
  | .hbm, ⟨17, _⟩ => ⟨S20x1024x1, .i32⟩
  | .hbm, ⟨18, _⟩ => ⟨S1, .i32⟩
  | .hbm, ⟨19, _⟩ => ⟨S_, .i32⟩
  | .hbm, ⟨20, _⟩ => ⟨S20x1024x1, .i32⟩
  | .hbm, ⟨21, _⟩ => ⟨S20x1024x1, .i1⟩
  | .hbm, ⟨22, _⟩ => ⟨S1x1x1, .i32⟩
  | .hbm, ⟨23, _⟩ => ⟨S20x1024x1, .i32⟩
  | .hbm, ⟨24, _⟩ => ⟨S20x1024x1, .i1⟩
  | .hbm, ⟨25, _⟩ => ⟨S20x1024x1, .i1⟩
  | .hbm, ⟨26, _⟩ => ⟨S_, .i1⟩
  | .hbm, ⟨27, _⟩ => ⟨S20x1024, .i1⟩
  | .hbm, ⟨28, _⟩ => ⟨S20x1024, .i32⟩
  | .hbm, ⟨29, _⟩ => ⟨S_, .i32⟩
  | .hbm, ⟨30, _⟩ => ⟨S20x1024, .i32⟩
  | .hbm, ⟨31, _⟩ => ⟨S20x1024, .i32⟩
  | .hbm, ⟨32, _⟩ => ⟨S20x1x1024, .i32⟩
  | .hbm, ⟨33, _⟩ => ⟨S_, .i32⟩
  | .hbm, ⟨34, _⟩ => ⟨S20x1x1024, .i32⟩
  | .hbm, ⟨35, _⟩ => ⟨S20x1x1024, .i1⟩
  | .hbm, ⟨36, _⟩ => ⟨S_, .i32⟩
  | .hbm, ⟨37, _⟩ => ⟨S20x1x1024, .i32⟩
  | .hbm, ⟨38, _⟩ => ⟨S20x1x1024, .i32⟩
  | .hbm, ⟨39, _⟩ => ⟨S20x1x1024, .i32⟩
  | .hbm, ⟨40, _⟩ => ⟨S20x1024x1, .i32⟩
  | .hbm, ⟨41, _⟩ => ⟨S1, .i32⟩
  | .hbm, ⟨42, _⟩ => ⟨S_, .i32⟩
  | .hbm, ⟨43, _⟩ => ⟨S20x1024x1, .i32⟩
  | .hbm, ⟨44, _⟩ => ⟨S20x1024x1, .i1⟩
  | .hbm, ⟨45, _⟩ => ⟨S1x1x1, .i32⟩
  | .hbm, ⟨46, _⟩ => ⟨S20x1024x1, .i32⟩
  | .hbm, ⟨47, _⟩ => ⟨S20x1024x1, .i1⟩
  | .hbm, ⟨48, _⟩ => ⟨S20x1024x1, .i1⟩
  | .hbm, ⟨49, _⟩ => ⟨S_, .i1⟩
  | .hbm, ⟨50, _⟩ => ⟨S20x1024, .i1⟩
  | .hbm, ⟨51, _⟩ => ⟨S20x5x1024, .f32⟩
  | .hbm, ⟨52, _⟩ => ⟨S20x5x1024, .i1⟩
  | .hbm, ⟨53, _⟩ => ⟨S_, .f32⟩
  | .hbm, ⟨54, _⟩ => ⟨S20x5x1024, .f32⟩
  | .hbm, ⟨55, _⟩ => ⟨S20x5x1024, .f32⟩
  | .hbm, ⟨56, _⟩ => ⟨S20x5120, .f32⟩
  | _, _ => ⟨S20x5120, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call2_c : Ref sig .tc := ⟨.hbm, 10, rfl⟩
abbrev main_call2_v0 : Ref sig .tc := ⟨.hbm, 11, rfl⟩
abbrev main_call2_v1 : Ref sig .tc := ⟨.hbm, 12, rfl⟩
abbrev main_call2_c_0 : Ref sig .tc := ⟨.hbm, 13, rfl⟩
abbrev main_call2_v2 : Ref sig .tc := ⟨.hbm, 14, rfl⟩
abbrev main_call2_v3 : Ref sig .tc := ⟨.hbm, 15, rfl⟩
abbrev main_call2_v4 : Ref sig .tc := ⟨.hbm, 16, rfl⟩
abbrev main_call2_v5 : Ref sig .tc := ⟨.hbm, 17, rfl⟩
abbrev main_call2_c_1 : Ref sig .tc := ⟨.hbm, 18, rfl⟩
abbrev main_call2_c_2 : Ref sig .tc := ⟨.hbm, 19, rfl⟩
abbrev main_call2_v6 : Ref sig .tc := ⟨.hbm, 20, rfl⟩
abbrev main_call2_v7 : Ref sig .tc := ⟨.hbm, 21, rfl⟩
abbrev main_call2_v8 : Ref sig .tc := ⟨.hbm, 22, rfl⟩
abbrev main_call2_v9 : Ref sig .tc := ⟨.hbm, 23, rfl⟩
abbrev main_call2_v10 : Ref sig .tc := ⟨.hbm, 24, rfl⟩
abbrev main_call2_v11 : Ref sig .tc := ⟨.hbm, 25, rfl⟩
abbrev main_call2_c_3 : Ref sig .tc := ⟨.hbm, 26, rfl⟩
abbrev main_call2_v12 : Ref sig .tc := ⟨.hbm, 27, rfl⟩
abbrev main_call2_v13 : Ref sig .tc := ⟨.hbm, 28, rfl⟩
abbrev main_call2_c_4 : Ref sig .tc := ⟨.hbm, 29, rfl⟩
abbrev main_call2_v14 : Ref sig .tc := ⟨.hbm, 30, rfl⟩
abbrev main_v4 : Ref sig .tc := ⟨.hbm, 31, rfl⟩
abbrev main_v5 : Ref sig .tc := ⟨.hbm, 32, rfl⟩
abbrev main_call3_c : Ref sig .tc := ⟨.hbm, 33, rfl⟩
abbrev main_call3_v0 : Ref sig .tc := ⟨.hbm, 34, rfl⟩
abbrev main_call3_v1 : Ref sig .tc := ⟨.hbm, 35, rfl⟩
abbrev main_call3_c_0 : Ref sig .tc := ⟨.hbm, 36, rfl⟩
abbrev main_call3_v2 : Ref sig .tc := ⟨.hbm, 37, rfl⟩
abbrev main_call3_v3 : Ref sig .tc := ⟨.hbm, 38, rfl⟩
abbrev main_call3_v4 : Ref sig .tc := ⟨.hbm, 39, rfl⟩
abbrev main_call3_v5 : Ref sig .tc := ⟨.hbm, 40, rfl⟩
abbrev main_call3_c_1 : Ref sig .tc := ⟨.hbm, 41, rfl⟩
abbrev main_call3_c_2 : Ref sig .tc := ⟨.hbm, 42, rfl⟩
abbrev main_call3_v6 : Ref sig .tc := ⟨.hbm, 43, rfl⟩
abbrev main_call3_v7 : Ref sig .tc := ⟨.hbm, 44, rfl⟩
abbrev main_call3_v8 : Ref sig .tc := ⟨.hbm, 45, rfl⟩
abbrev main_call3_v9 : Ref sig .tc := ⟨.hbm, 46, rfl⟩
abbrev main_call3_v10 : Ref sig .tc := ⟨.hbm, 47, rfl⟩
abbrev main_call3_v11 : Ref sig .tc := ⟨.hbm, 48, rfl⟩
abbrev main_call3_c_3 : Ref sig .tc := ⟨.hbm, 49, rfl⟩
abbrev main_call3_v12 : Ref sig .tc := ⟨.hbm, 50, rfl⟩
abbrev main_call3_v13 : Ref sig .tc := ⟨.hbm, 51, rfl⟩
abbrev main_call3_v14 : Ref sig .tc := ⟨.hbm, 52, rfl⟩
abbrev main_call3_cst : Ref sig .tc := ⟨.hbm, 53, rfl⟩
abbrev main_call3_v15 : Ref sig .tc := ⟨.hbm, 54, rfl⟩
abbrev main_v6 : Ref sig .tc := ⟨.hbm, 55, rfl⟩
abbrev main_v7 : Ref sig .tc := ⟨.hbm, 56, rfl⟩

abbrev nD : Nat := 1
abbrev τ : Topo := Topo.v7x

variable {F : FTy → Type} [FloatOps F]
-- ==== Sort.lean ====
abbrev S20x1024 : Shape := ⟨2, ![20, 1024]⟩
abbrev S20x5120 : Shape := ⟨2, ![20, 5120]⟩
abbrev S20x8192 : Shape := ⟨2, ![20, 8192]⟩
abbrev S1024 : Shape := ⟨1, ![1024]⟩
abbrev S5120 : Shape := ⟨1, ![5120]⟩
abbrev S8192 : Shape := ⟨1, ![8192]⟩
abbrev S_ : Shape := ⟨0, ![]⟩
abbrev S1x1024 : Shape := ⟨2, ![1, 1024]⟩
abbrev S1x5120 : Shape := ⟨2, ![1, 5120]⟩
abbrev S16 : Shape := ⟨1, ![16]⟩
abbrev S1x8192 : Shape := ⟨2, ![1, 8192]⟩
abbrev S20x8x1024 : Shape := ⟨3, ![20, 8, 1024]⟩
abbrev S20x5x1024 : Shape := ⟨3, ![20, 5, 1024]⟩
abbrev S20x1024x8 : Shape := ⟨3, ![20, 1024, 8]⟩
abbrev S20x1024x5 : Shape := ⟨3, ![20, 1024, 5]⟩

abbrev nBuf : Table → Nat
  | .hbm => 8
  | .local .scVector .vmem => 4
  | _ => 0

abbrev bufTy : (tb : Table) → Fin (nBuf tb) → BufTy
  | .hbm, ⟨0, _⟩ => ⟨S20x1024, .i32⟩
  | .hbm, ⟨1, _⟩ => ⟨S20x5120, .f32⟩
  | .hbm, ⟨2, _⟩ => ⟨S20x8192, .f32⟩
  | .hbm, ⟨3, _⟩ => ⟨S20x8192, .f32⟩
  | .hbm, ⟨4, _⟩ => ⟨S20x8x1024, .f32⟩
  | .hbm, ⟨5, _⟩ => ⟨S20x5x1024, .f32⟩
  | .hbm, ⟨6, _⟩ => ⟨S20x1024x8, .f32⟩
  | .hbm, ⟨7, _⟩ => ⟨S20x1024x5, .f32⟩
  | .local .scVector .vmem, ⟨0, _⟩ => ⟨S1024, .i32⟩
  | .local .scVector .vmem, ⟨1, _⟩ => ⟨S5120, .f32⟩
  | .local .scVector .vmem, ⟨2, _⟩ => ⟨S8192, .f32⟩
  | .local .scVector .vmem, ⟨3, _⟩ => ⟨S8192, .f32⟩
  | _, _ => ⟨S20x1024, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_arg0_scv : Ref sig .scVector := ⟨.hbm, 0, rfl⟩
abbrev main_arg1_scv : Ref sig .scVector := ⟨.hbm, 1, rfl⟩
abbrev main_v0_0_scv : Ref sig .scVector := ⟨.hbm, 2, rfl⟩
abbrev main_v0_1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20_i32 : BitVec 32 := 20#32
  let v2 : BitVec 1 := Scalar.cmpi .slt v1 c20_i32
  let v3 : BitVec 32 := Scalar.extui v2
  let c0_i32 : BitVec 32 := 0#32
  let v4 : BitVec 1 := Scalar.cmpi .ne v3 c0_i32
  v4

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3_r0 : BitVec 32 := 0#32
  ![v1.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3_r1 : BitVec 32 := 0#32
  ![v1.toNat, 0]
@[reducible] def k0_t1_loop : Scf.Loop 32 :=
  let c0_i32_1 : BitVec 32 := 0#32
  let c64_i32 : BitVec 32 := 64#32
  let v5 : BitVec 32 := Scalar.addi c0_i32_1 c64_i32
  let c1_i32 : BitVec 32 := 1#32
  ⟨c0_i32_1, v5, c1_i32⟩
def k0_off3 (k0_t1 : Fin k0_t1_loop.trips) : Fin 1 → Nat :=
  let c0_i32_1 : BitVec 32 := 0#32
  let c1_i32 : BitVec 32 := 1#32
  let arg10 : BitVec 32 := Scf.iv c0_i32_1 c1_i32 k0_t1
  let c16_i32 : BitVec 32 := 16#32
  let v6 : BitVec 32 := Scalar.muli arg10 c16_i32
  let v7 : Index := Scalar.indexCast v6
  ![v7.toNat]
def k0_off4 (k0_t1 : Fin k0_t1_loop.trips) : Fin 1 → Nat :=
  let c0_i32_5 : BitVec 32 := 0#32
  let c0_i32_1 : BitVec 32 := 0#32
  let c1_i32 : BitVec 32 := 1#32
  let arg10 : BitVec 32 := Scf.iv c0_i32_1 c1_i32 k0_t1
  let c16_i32_4 : BitVec 32 := 16#32
  let v13 : BitVec 32 := Scalar.muli arg10 c16_i32_4
  let v14 : BitVec 32 := Scalar.addi c0_i32_5 v13
  let v15 : Index := Scalar.indexCast v14
  ![v15.toNat]

def k0_chk1 (i : grid0.Coords) (v18 : IVec S16 32) : Prop :=
  (∀ (k0_h1 : k0_cond1 i = 1#1), ∀ a x, ((![v18] : Fin 1 → IVec S16 32) a x).toNat < S8192.size a)
theorem k0_idx1_inb : ∀ (i : grid0.Coords) (v18 : IVec S16 32) (k0_hw1 : k0_chk1 i v18), ∀ (k0_h1 : k0_cond1 i = 1#1), ∀ a x, ((![v18] : Fin 1 → IVec S16 32) a x).toNat < S8192.size a := fun i v18 k0_hw1 k0_h1 => k0_hw1 k0_h1

def k0_chk2 (i : grid0.Coords) (v22 : IVec S16 32) : Prop :=
  (∀ (k0_h1 : k0_cond1 i = 1#1), ∀ a x, ((![v22] : Fin 1 → IVec S16 32) a x).toNat < S8192.size a)
theorem k0_idx2_inb : ∀ (i : grid0.Coords) (v22 : IVec S16 32) (k0_hw2 : k0_chk2 i v22), ∀ (k0_h1 : k0_cond1 i = 1#1), ∀ a x, ((![v22] : Fin 1 → IVec S16 32) a x).toNat < S8192.size a := fun i v22 k0_hw2 k0_h1 => k0_hw2 k0_h1
def k0_off5 (k0_t1 : Fin k0_t1_loop.trips) : Fin 1 → Nat :=
  let c1024_i32_9 : BitVec 32 := 1024#32
  let c0_i32_1 : BitVec 32 := 0#32
  let c1_i32 : BitVec 32 := 1#32
  let arg10 : BitVec 32 := Scf.iv c0_i32_1 c1_i32 k0_t1
  let c16_i32_8 : BitVec 32 := 16#32
  let v23 : BitVec 32 := Scalar.muli arg10 c16_i32_8
  let v24 : BitVec 32 := Scalar.addi c1024_i32_9 v23
  let v25 : Index := Scalar.indexCast v24
  ![v25.toNat]

def k0_chk3 (i : grid0.Coords) (v28 : IVec S16 32) : Prop :=
  (∀ (k0_h1 : k0_cond1 i = 1#1), ∀ a x, ((![v28] : Fin 1 → IVec S16 32) a x).toNat < S8192.size a)
theorem k0_idx3_inb : ∀ (i : grid0.Coords) (v28 : IVec S16 32) (k0_hw3 : k0_chk3 i v28), ∀ (k0_h1 : k0_cond1 i = 1#1), ∀ a x, ((![v28] : Fin 1 → IVec S16 32) a x).toNat < S8192.size a := fun i v28 k0_hw3 k0_h1 => k0_hw3 k0_h1

def k0_chk4 (i : grid0.Coords) (v32 : IVec S16 32) : Prop :=
  (∀ (k0_h1 : k0_cond1 i = 1#1), ∀ a x, ((![v32] : Fin 1 → IVec S16 32) a x).toNat < S8192.size a)
theorem k0_idx4_inb : ∀ (i : grid0.Coords) (v32 : IVec S16 32) (k0_hw4 : k0_chk4 i v32), ∀ (k0_h1 : k0_cond1 i = 1#1), ∀ a x, ((![v32] : Fin 1 → IVec S16 32) a x).toNat < S8192.size a := fun i v32 k0_hw4 k0_h1 => k0_hw4 k0_h1
def k0_off6 (k0_t1 : Fin k0_t1_loop.trips) : Fin 1 → Nat :=
  let c2048_i32 : BitVec 32 := 2048#32
  let c0_i32_1 : BitVec 32 := 0#32
  let c1_i32 : BitVec 32 := 1#32
  let arg10 : BitVec 32 := Scf.iv c0_i32_1 c1_i32 k0_t1
  let c16_i32_13 : BitVec 32 := 16#32
  let v33 : BitVec 32 := Scalar.muli arg10 c16_i32_13
  let v34 : BitVec 32 := Scalar.addi c2048_i32 v33
  let v35 : Index := Scalar.indexCast v34
  ![v35.toNat]

def k0_chk5 (i : grid0.Coords) (v38 : IVec S16 32) : Prop :=
  (∀ (k0_h1 : k0_cond1 i = 1#1), ∀ a x, ((![v38] : Fin 1 → IVec S16 32) a x).toNat < S8192.size a)
theorem k0_idx5_inb : ∀ (i : grid0.Coords) (v38 : IVec S16 32) (k0_hw5 : k0_chk5 i v38), ∀ (k0_h1 : k0_cond1 i = 1#1), ∀ a x, ((![v38] : Fin 1 → IVec S16 32) a x).toNat < S8192.size a := fun i v38 k0_hw5 k0_h1 => k0_hw5 k0_h1

def k0_chk6 (i : grid0.Coords) (v42 : IVec S16 32) : Prop :=
  (∀ (k0_h1 : k0_cond1 i = 1#1), ∀ a x, ((![v42] : Fin 1 → IVec S16 32) a x).toNat < S8192.size a)
theorem k0_idx6_inb : ∀ (i : grid0.Coords) (v42 : IVec S16 32) (k0_hw6 : k0_chk6 i v42), ∀ (k0_h1 : k0_cond1 i = 1#1), ∀ a x, ((![v42] : Fin 1 → IVec S16 32) a x).toNat < S8192.size a := fun i v42 k0_hw6 k0_h1 => k0_hw6 k0_h1
def k0_off7 (k0_t1 : Fin k0_t1_loop.trips) : Fin 1 → Nat :=
  let c3072_i32 : BitVec 32 := 3072#32
  let c0_i32_1 : BitVec 32 := 0#32
  let c1_i32 : BitVec 32 := 1#32
  let arg10 : BitVec 32 := Scf.iv c0_i32_1 c1_i32 k0_t1
  let c16_i32_17 : BitVec 32 := 16#32
  let v43 : BitVec 32 := Scalar.muli arg10 c16_i32_17
  let v44 : BitVec 32 := Scalar.addi c3072_i32 v43
  let v45 : Index := Scalar.indexCast v44
  ![v45.toNat]

def k0_chk7 (i : grid0.Coords) (v48 : IVec S16 32) : Prop :=
  (∀ (k0_h1 : k0_cond1 i = 1#1), ∀ a x, ((![v48] : Fin 1 → IVec S16 32) a x).toNat < S8192.size a)
theorem k0_idx7_inb : ∀ (i : grid0.Coords) (v48 : IVec S16 32) (k0_hw7 : k0_chk7 i v48), ∀ (k0_h1 : k0_cond1 i = 1#1), ∀ a x, ((![v48] : Fin 1 → IVec S16 32) a x).toNat < S8192.size a := fun i v48 k0_hw7 k0_h1 => k0_hw7 k0_h1

def k0_chk8 (i : grid0.Coords) (v52 : IVec S16 32) : Prop :=
  (∀ (k0_h1 : k0_cond1 i = 1#1), ∀ a x, ((![v52] : Fin 1 → IVec S16 32) a x).toNat < S8192.size a)
theorem k0_idx8_inb : ∀ (i : grid0.Coords) (v52 : IVec S16 32) (k0_hw8 : k0_chk8 i v52), ∀ (k0_h1 : k0_cond1 i = 1#1), ∀ a x, ((![v52] : Fin 1 → IVec S16 32) a x).toNat < S8192.size a := fun i v52 k0_hw8 k0_h1 => k0_hw8 k0_h1
def k0_off8 (k0_t1 : Fin k0_t1_loop.trips) : Fin 1 → Nat :=
  let c4096_i32 : BitVec 32 := 4096#32
  let c0_i32_1 : BitVec 32 := 0#32
  let c1_i32 : BitVec 32 := 1#32
  let arg10 : BitVec 32 := Scf.iv c0_i32_1 c1_i32 k0_t1
  let c16_i32_20 : BitVec 32 := 16#32
  let v53 : BitVec 32 := Scalar.muli arg10 c16_i32_20
  let v54 : BitVec 32 := Scalar.addi c4096_i32 v53
  let v55 : Index := Scalar.indexCast v54
  ![v55.toNat]

def k0_chk9 (i : grid0.Coords) (v58 : IVec S16 32) : Prop :=
  (∀ (k0_h1 : k0_cond1 i = 1#1), ∀ a x, ((![v58] : Fin 1 → IVec S16 32) a x).toNat < S8192.size a)
theorem k0_idx9_inb : ∀ (i : grid0.Coords) (v58 : IVec S16 32) (k0_hw9 : k0_chk9 i v58), ∀ (k0_h1 : k0_cond1 i = 1#1), ∀ a x, ((![v58] : Fin 1 → IVec S16 32) a x).toNat < S8192.size a := fun i v58 k0_hw9 k0_h1 => k0_hw9 k0_h1

def k0_chk10 (i : grid0.Coords) (v62 : IVec S16 32) : Prop :=
  (∀ (k0_h1 : k0_cond1 i = 1#1), ∀ a x, ((![v62] : Fin 1 → IVec S16 32) a x).toNat < S8192.size a)
theorem k0_idx10_inb : ∀ (i : grid0.Coords) (v62 : IVec S16 32) (k0_hw10 : k0_chk10 i v62), ∀ (k0_h1 : k0_cond1 i = 1#1), ∀ a x, ((![v62] : Fin 1 → IVec S16 32) a x).toNat < S8192.size a := fun i v62 k0_hw10 k0_h1 => k0_hw10 k0_h1
def k0_off9 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3_r2 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== SortReferenceIdeal.lean ====
abbrev S20x1024 : Shape := ⟨2, ![20, 1024]⟩
abbrev S20x5120 : Shape := ⟨2, ![20, 5120]⟩
abbrev S20x5x1024 : Shape := ⟨3, ![20, 5, 1024]⟩
abbrev S20x1x1024 : Shape := ⟨3, ![20, 1, 1024]⟩
abbrev S_ : Shape := ⟨0, ![]⟩
abbrev S20x1024x1 : Shape := ⟨3, ![20, 1024, 1]⟩
abbrev S1 : Shape := ⟨1, ![1]⟩
abbrev S1x1x1 : Shape := ⟨3, ![1, 1, 1]⟩
abbrev S20x1024x5 : Shape := ⟨3, ![20, 1024, 5]⟩

abbrev nBuf : Space → Nat
  | .hbm => 31
  | .vmem => 0
  | .smem => 0
  | _ => 0

abbrev bufTy : (tb : Table) → Fin (tcTables nBuf tb) → BufTy
  | .hbm, ⟨0, _⟩ => ⟨S20x1024, .i32⟩
  | .hbm, ⟨1, _⟩ => ⟨S20x5120, .f32⟩
  | .hbm, ⟨2, _⟩ => ⟨S20x1024, .i32⟩
  | .hbm, ⟨3, _⟩ => ⟨S20x1024, .i32⟩
  | .hbm, ⟨4, _⟩ => ⟨S20x1024, .i32⟩
  | .hbm, ⟨5, _⟩ => ⟨S20x5x1024, .f32⟩
  | .hbm, ⟨6, _⟩ => ⟨S20x1x1024, .i32⟩
  | .hbm, ⟨7, _⟩ => ⟨S_, .i32⟩
  | .hbm, ⟨8, _⟩ => ⟨S20x1x1024, .i32⟩
  | .hbm, ⟨9, _⟩ => ⟨S20x1x1024, .i1⟩
  | .hbm, ⟨10, _⟩ => ⟨S_, .i32⟩
  | .hbm, ⟨11, _⟩ => ⟨S20x1x1024, .i32⟩
  | .hbm, ⟨12, _⟩ => ⟨S20x1x1024, .i32⟩
  | .hbm, ⟨13, _⟩ => ⟨S20x1x1024, .i32⟩
  | .hbm, ⟨14, _⟩ => ⟨S20x1024x1, .i32⟩
  | .hbm, ⟨15, _⟩ => ⟨S1, .i32⟩
  | .hbm, ⟨16, _⟩ => ⟨S_, .i32⟩
  | .hbm, ⟨17, _⟩ => ⟨S20x1024x1, .i32⟩
  | .hbm, ⟨18, _⟩ => ⟨S20x1024x1, .i1⟩
  | .hbm, ⟨19, _⟩ => ⟨S1x1x1, .i32⟩
  | .hbm, ⟨20, _⟩ => ⟨S20x1024x1, .i32⟩
  | .hbm, ⟨21, _⟩ => ⟨S20x1024x1, .i1⟩
  | .hbm, ⟨22, _⟩ => ⟨S20x1024x1, .i1⟩
  | .hbm, ⟨23, _⟩ => ⟨S_, .i1⟩
  | .hbm, ⟨24, _⟩ => ⟨S20x1024, .i1⟩
  | .hbm, ⟨25, _⟩ => ⟨S20x5x1024, .f32⟩
  | .hbm, ⟨26, _⟩ => ⟨S20x5x1024, .i1⟩
  | .hbm, ⟨27, _⟩ => ⟨S_, .f32⟩
  | .hbm, ⟨28, _⟩ => ⟨S20x5x1024, .f32⟩
  | .hbm, ⟨29, _⟩ => ⟨S20x5x1024, .f32⟩
  | .hbm, ⟨30, _⟩ => ⟨S20x1024x5, .f32⟩
  | _, _ => ⟨S20x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call1_c : Ref sig .tc := ⟨.hbm, 7, rfl⟩
abbrev main_call1_v0 : Ref sig .tc := ⟨.hbm, 8, rfl⟩
abbrev main_call1_v1 : Ref sig .tc := ⟨.hbm, 9, rfl⟩
abbrev main_call1_c_0 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_call1_v5 : Ref sig .tc := ⟨.hbm, 14, rfl⟩
abbrev main_call1_c_1 : Ref sig .tc := ⟨.hbm, 15, rfl⟩
abbrev main_call1_c_2 : Ref sig .tc := ⟨.hbm, 16, rfl⟩
abbrev main_call1_v6 : Ref sig .tc := ⟨.hbm, 17, rfl⟩
abbrev main_call1_v7 : Ref sig .tc := ⟨.hbm, 18, rfl⟩
abbrev main_call1_v8 : Ref sig .tc := ⟨.hbm, 19, rfl⟩
abbrev main_call1_v9 : Ref sig .tc := ⟨.hbm, 20, rfl⟩
abbrev main_call1_v10 : Ref sig .tc := ⟨.hbm, 21, rfl⟩
abbrev main_call1_v11 : Ref sig .tc := ⟨.hbm, 22, rfl⟩
abbrev main_call1_c_3 : Ref sig .tc := ⟨.hbm, 23, rfl⟩
abbrev main_call1_v12 : Ref sig .tc := ⟨.hbm, 24, rfl⟩
abbrev main_call1_v13 : Ref sig .tc := ⟨.hbm, 25, rfl⟩
abbrev main_call1_v14 : Ref sig .tc := ⟨.hbm, 26, rfl⟩
abbrev main_call1_cst : Ref sig .tc := ⟨.hbm, 27, rfl⟩
abbrev main_call1_v15 : Ref sig .tc := ⟨.hbm, 28, rfl⟩
abbrev main_v3 : Ref sig .tc := ⟨.hbm, 29, rfl⟩
abbrev main_v4 : Ref sig .tc := ⟨.hbm, 30, rfl⟩

abbrev nD : Nat := 1
abbrev τ : Topo := Topo.v7x

variable {F : FTy → Type} [FloatOps F]
-- ==== Select.lean ====
abbrev S20x5120 : Shape := ⟨2, ![20, 5120]⟩
abbrev S20x1x5120 : Shape := ⟨3, ![20, 1, 5120]⟩
abbrev S20x1x128 : Shape := ⟨3, ![20, 1, 128]⟩
abbrev S1x1x5120 : Shape := ⟨3, ![1, 1, 5120]⟩
abbrev S1x1x128 : Shape := ⟨3, ![1, 1, 128]⟩
abbrev S128x128 : Shape := ⟨2, ![128, 128]⟩
abbrev S128 : Shape := ⟨1, ![128]⟩
abbrev S1x128 : Shape := ⟨2, ![1, 128]⟩
abbrev S128x1 : Shape := ⟨2, ![128, 1]⟩
abbrev S1x128x1 : Shape := ⟨3, ![1, 128, 1]⟩
abbrev S1 : Shape := ⟨1, ![1]⟩
abbrev S1x1x1 : Shape := ⟨3, ![1, 1, 1]⟩
abbrev S16x128 : Shape := ⟨2, ![16, 128]⟩
abbrev S16 : Shape := ⟨1, ![16]⟩
abbrev S16x1 : Shape := ⟨2, ![16, 1]⟩
abbrev S16x16 : Shape := ⟨2, ![16, 16]⟩
abbrev S1x16 : Shape := ⟨2, ![1, 16]⟩
abbrev S1x16x1 : Shape := ⟨3, ![1, 16, 1]⟩

abbrev nBuf : Space → Nat
  | .hbm => 3
  | .vmem => 4
  | .smem => 0
  | _ => 0

abbrev bufTy : (tb : Table) → Fin (tcTables nBuf tb) → BufTy
  | .hbm, ⟨0, _⟩ => ⟨S20x5120, .i32⟩
  | .hbm, ⟨1, _⟩ => ⟨S20x1x5120, .i32⟩
  | .hbm, ⟨2, _⟩ => ⟨S20x1x128, .i32⟩
  | .local _ .vmem, ⟨0, _⟩ => ⟨S1x1x5120, .i32⟩
  | .local _ .vmem, ⟨1, _⟩ => ⟨S1x1x5120, .i32⟩
  | .local _ .vmem, ⟨2, _⟩ => ⟨S1x1x128, .i32⟩
  | .local _ .vmem, ⟨3, _⟩ => ⟨S1x1x128, .i32⟩
  | _, _ => ⟨S20x5120, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![20], ![false]⟩

@[reducible] def k0_t1_loop : Scf.Loop 32 :=
  let c0_i32_0 : BitVec 32 := 0#32
  let c40_i32 : BitVec 32 := 40#32
  let v2 : BitVec 32 := Scalar.addi c0_i32_0 c40_i32
  let c1_i32 : BitVec 32 := 1#32
  ⟨c0_i32_0, v2, c1_i32⟩
def k0_off1 (k0_t1 : Fin k0_t1_loop.trips) : Fin 3 → Nat :=
  let c0_58 : Index := 0#32
  let c0_59 : Index := 0#32
  let c0_i32_0 : BitVec 32 := 0#32
  let c1_i32 : BitVec 32 := 1#32
  let arg3 : BitVec 32 := Scf.iv c0_i32_0 c1_i32 k0_t1
  let c128_i32 : BitVec 32 := 128#32
  let v203 : BitVec 32 := Scalar.muli arg3 c128_i32
  let v204 : Index := Scalar.indexCast v203
  ![0, 0, v204.toNat]
@[reducible] def k0_t2_loop : Scf.Loop 32 :=
  let c0_i32_11 : BitVec 32 := 0#32
  let c40_i32_12 : BitVec 32 := 40#32
  let v40 : BitVec 32 := Scalar.addi c0_i32_11 c40_i32_12
  let c1_i32_13 : BitVec 32 := 1#32
  ⟨c0_i32_11, v40, c1_i32_13⟩
def k0_off2 (k0_t2 : Fin k0_t2_loop.trips) : Fin 3 → Nat :=
  let c0_58 : Index := 0#32
  let c0_59 : Index := 0#32
  let c0_i32_11 : BitVec 32 := 0#32
  let c1_i32_13 : BitVec 32 := 1#32
  let arg3 : BitVec 32 := Scf.iv c0_i32_11 c1_i32_13 k0_t2
  let c128_i32 : BitVec 32 := 128#32
  let v203 : BitVec 32 := Scalar.muli arg3 c128_i32
  let v204 : Index := Scalar.indexCast v203
  ![0, 0, v204.toNat]
@[reducible] def k0_t3_loop : Scf.Loop 32 :=
  let c0_i32_22 : BitVec 32 := 0#32
  let c40_i32_23 : BitVec 32 := 40#32
  let v78 : BitVec 32 := Scalar.addi c0_i32_22 c40_i32_23
  let c1_i32_24 : BitVec 32 := 1#32
  ⟨c0_i32_22, v78, c1_i32_24⟩
def k0_off3 (k0_t3 : Fin k0_t3_loop.trips) : Fin 3 → Nat :=
  let c0_58 : Index := 0#32
  let c0_59 : Index := 0#32
  let c0_i32_22 : BitVec 32 := 0#32
  let c1_i32_24 : BitVec 32 := 1#32
  let arg3 : BitVec 32 := Scf.iv c0_i32_22 c1_i32_24 k0_t3
  let c128_i32 : BitVec 32 := 128#32
  let v203 : BitVec 32 := Scalar.muli arg3 c128_i32
  let v204 : Index := Scalar.indexCast v203
  ![0, 0, v204.toNat]
@[reducible] def k0_t4_loop : Scf.Loop 32 :=
  let c0_i32_33 : BitVec 32 := 0#32
  let c40_i32_34 : BitVec 32 := 40#32
  let v116 : BitVec 32 := Scalar.addi c0_i32_33 c40_i32_34
  let c1_i32_35 : BitVec 32 := 1#32
  ⟨c0_i32_33, v116, c1_i32_35⟩
def k0_off4 (k0_t4 : Fin k0_t4_loop.trips) : Fin 3 → Nat :=
  let c0_58 : Index := 0#32
  let c0_59 : Index := 0#32
  let c0_i32_33 : BitVec 32 := 0#32
  let c1_i32_35 : BitVec 32 := 1#32
  let arg3 : BitVec 32 := Scf.iv c0_i32_33 c1_i32_35 k0_t4
  let c128_i32 : BitVec 32 := 128#32
  let v203 : BitVec 32 := Scalar.muli arg3 c128_i32
  let v204 : Index := Scalar.indexCast v203
  ![0, 0, v204.toNat]
@[reducible] def k0_t5_loop : Scf.Loop 32 :=
  let c0_i32_44 : BitVec 32 := 0#32
  let c40_i32_45 : BitVec 32 := 40#32
  let v154 : BitVec 32 := Scalar.addi c0_i32_44 c40_i32_45
  let c1_i32_46 : BitVec 32 := 1#32
  ⟨c0_i32_44, v154, c1_i32_46⟩
def k0_off5 (k0_t5 : Fin k0_t5_loop.trips) : Fin 3 → Nat :=
  let c0_58 : Index := 0#32
  let c0_59 : Index := 0#32
  let c0_i32_44 : BitVec 32 := 0#32
  let c1_i32_46 : BitVec 32 := 1#32
  let arg3 : BitVec 32 := Scf.iv c0_i32_44 c1_i32_46 k0_t5
  let c128_i32 : BitVec 32 := 128#32
  let v203 : BitVec 32 := Scalar.muli arg3 c128_i32
  let v204 : Index := Scalar.indexCast v203
  ![0, 0, v204.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x5120 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SelectReferenceIdeal.lean ====
abbrev S20x5120 : Shape := ⟨2, ![20, 5120]⟩
abbrev S20x1 : Shape := ⟨2, ![20, 1]⟩
abbrev S20 : Shape := ⟨1, ![20]⟩
abbrev S_ : Shape := ⟨0, ![]⟩
abbrev S20x2 : Shape := ⟨2, ![20, 2]⟩
abbrev S20x128 : Shape := ⟨2, ![20, 128]⟩
abbrev S20x1x128 : Shape := ⟨3, ![20, 1, 128]⟩

abbrev nBuf : Space → Nat
  | .hbm => 17
  | .vmem => 0
  | .smem => 0
  | _ => 0

abbrev bufTy : (tb : Table) → Fin (tcTables nBuf tb) → BufTy
  | .hbm, ⟨0, _⟩ => ⟨S20x5120, .i32⟩
  | .hbm, ⟨1, _⟩ => ⟨S20x5120, .i32⟩
  | .hbm, ⟨2, _⟩ => ⟨S20x1, .i32⟩
  | .hbm, ⟨3, _⟩ => ⟨S20, .i32⟩
  | .hbm, ⟨4, _⟩ => ⟨S20x1, .i32⟩
  | .hbm, ⟨5, _⟩ => ⟨S20x5120, .i32⟩
  | .hbm, ⟨6, _⟩ => ⟨S20x5120, .i1⟩
  | .hbm, ⟨7, _⟩ => ⟨S20x5120, .i32⟩
  | .hbm, ⟨8, _⟩ => ⟨S_, .i32⟩
  | .hbm, ⟨9, _⟩ => ⟨S20, .i32⟩
  | .hbm, ⟨10, _⟩ => ⟨S20x1, .i32⟩
  | .hbm, ⟨11, _⟩ => ⟨S20x1, .i32⟩
  | .hbm, ⟨12, _⟩ => ⟨S20x2, .i32⟩
  | .hbm, ⟨13, _⟩ => ⟨S_, .i32⟩
  | .hbm, ⟨14, _⟩ => ⟨S_, .i32⟩
  | .hbm, ⟨15, _⟩ => ⟨S20x128, .i32⟩
  | .hbm, ⟨16, _⟩ => ⟨S20x1x128, .i32⟩
  | _, _ => ⟨S20x5120, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_c : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c_0 : Ref sig .tc := ⟨.hbm, 13, rfl⟩
abbrev main_call1_v0 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Rank.lean ====
abbrev S20x1024 : Shape := ⟨2, ![20, 1024]⟩
abbrev S20x1x1024 : Shape := ⟨3, ![20, 1, 1024]⟩
abbrev S20x8x128 : Shape := ⟨3, ![20, 8, 128]⟩
abbrev S1x1x1024 : Shape := ⟨3, ![1, 1, 1024]⟩
abbrev S1x8x128 : Shape := ⟨3, ![1, 8, 128]⟩
abbrev S1x1x128 : Shape := ⟨3, ![1, 1, 128]⟩
abbrev S128 : Shape := ⟨1, ![128]⟩
abbrev S128x1 : Shape := ⟨2, ![128, 1]⟩
abbrev S128x128 : Shape := ⟨2, ![128, 128]⟩
abbrev S1x128 : Shape := ⟨2, ![1, 128]⟩

abbrev nBuf : Space → Nat
  | .hbm => 3
  | .vmem => 4
  | .smem => 0
  | _ => 0

abbrev bufTy : (tb : Table) → Fin (tcTables nBuf tb) → BufTy
  | .hbm, ⟨0, _⟩ => ⟨S20x1024, .i32⟩
  | .hbm, ⟨1, _⟩ => ⟨S20x1x1024, .i32⟩
  | .hbm, ⟨2, _⟩ => ⟨S20x8x128, .i32⟩
  | .local _ .vmem, ⟨0, _⟩ => ⟨S1x1x1024, .i32⟩
  | .local _ .vmem, ⟨1, _⟩ => ⟨S1x1x1024, .i32⟩
  | .local _ .vmem, ⟨2, _⟩ => ⟨S1x8x128, .i32⟩
  | .local _ .vmem, ⟨3, _⟩ => ⟨S1x8x128, .i32⟩
  | _, _ => ⟨S20x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![20, 1], ![false, false]⟩

def k0_off1 (i : grid0.Coords) (c0_i32 : BitVec 32) : Fin 3 → Nat :=
  let c0 : Index := 0#32
  let c0_0 : Index := 0#32
  let arg1 : BitVec 32 := BitVec.ofNat 32 (i 1).val
  let c8_i32 : BitVec 32 := 8#32
  let v0 : BitVec 32 := Scalar.muli arg1 c8_i32
  let v1 : BitVec 32 := Scalar.addi v0 c0_i32
  let c128_i32 : BitVec 32 := 128#32
  let v2 : BitVec 32 := Scalar.muli v1 c128_i32
  let v3 : Index := Scalar.indexCast v2
  ![0, 0, v3.toNat]
@[reducible] def k0_t1_loop (i : grid0.Coords) : Scf.Loop 32 :=
  let c0_i32_1 : BitVec 32 := 0#32
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let v12 : BitVec 32 := Scalar.subi v1 c0_i32_1
  let c1_i32_2 : BitVec 32 := 1#32
  let v14 : BitVec 32 := Scalar.divsi v12 c1_i32_2
  let v15 : BitVec 32 := Scalar.muli v14 c1_i32_2
  let v16 : BitVec 32 := Scalar.addi c0_i32_1 v15
  let c1_i32_3 : BitVec 32 := 1#32
  ⟨c0_i32_1, v16, c1_i32_3⟩
def k0_off2 (i : grid0.Coords) (k0_t1 : Fin (k0_t1_loop i).trips) : Fin 3 → Nat :=
  let c0_150 : Index := 0#32
  let c0_151 : Index := 0#32
  let c0_i32_1 : BitVec 32 := 0#32
  let c1_i32_3 : BitVec 32 := 1#32
  let arg4 : BitVec 32 := Scf.iv c0_i32_1 c1_i32_3 k0_t1
  let c128_i32_149 : BitVec 32 := 128#32
  let v360 : BitVec 32 := Scalar.muli arg4 c128_i32_149
  let v361 : Index := Scalar.indexCast v360
  ![0, 0, v361.toNat]
@[reducible] def k0_t2_loop (i : grid0.Coords) : Scf.Loop 32 :=
  let c0_i32_1 : BitVec 32 := 0#32
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let v12 : BitVec 32 := Scalar.subi v1 c0_i32_1
  let c1_i32_2 : BitVec 32 := 1#32
  let v14 : BitVec 32 := Scalar.divsi v12 c1_i32_2
  let v15 : BitVec 32 := Scalar.muli v14 c1_i32_2
  let v16 : BitVec 32 := Scalar.addi c0_i32_1 v15
  let v13 : BitVec 32 := Scalar.addi c0_i32_1 v12
  let c1_i32_4 : BitVec 32 := 1#32
  ⟨v16, v13, c1_i32_4⟩
def k0_off3 (i : grid0.Coords) (k0_t2 : Fin (k0_t2_loop i).trips) : Fin 3 → Nat :=
  let c0_150 : Index := 0#32
  let c0_151 : Index := 0#32
  let c0_i32_1 : BitVec 32 := 0#32
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let v12 : BitVec 32 := Scalar.subi v1 c0_i32_1
  let c1_i32_2 : BitVec 32 := 1#32
  let v14 : BitVec 32 := Scalar.divsi v12 c1_i32_2
  let v15 : BitVec 32 := Scalar.muli v14 c1_i32_2
  let v16 : BitVec 32 := Scalar.addi c0_i32_1 v15
  let c1_i32_4 : BitVec 32 := 1#32
  let arg4 : BitVec 32 := Scf.iv v16 c1_i32_4 k0_t2
  let c128_i32_149 : BitVec 32 := 128#32
  let v360 : BitVec 32 := Scalar.muli arg4 c128_i32_149
  let v361 : Index := Scalar.indexCast v360
  ![0, 0, v361.toNat]
@[reducible] def k0_t3_loop (i : grid0.Coords) : Scf.Loop 32 :=
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let c8_i32_5 : BitVec 32 := 8#32
  let v19 : BitVec 32 := Scalar.subi c8_i32_5 v1
  let c1_i32_6 : BitVec 32 := 1#32
  let v21 : BitVec 32 := Scalar.divsi v19 c1_i32_6
  let v22 : BitVec 32 := Scalar.muli v21 c1_i32_6
  let v23 : BitVec 32 := Scalar.addi v1 v22
  let c1_i32_7 : BitVec 32 := 1#32
  ⟨v1, v23, c1_i32_7⟩
def k0_off4 (i : grid0.Coords) (k0_t3 : Fin (k0_t3_loop i).trips) : Fin 3 → Nat :=
  let c0_150 : Index := 0#32
  let c0_151 : Index := 0#32
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let c1_i32_7 : BitVec 32 := 1#32
  let arg4 : BitVec 32 := Scf.iv v1 c1_i32_7 k0_t3
  let c128_i32_149 : BitVec 32 := 128#32
  let v360 : BitVec 32 := Scalar.muli arg4 c128_i32_149
  let v361 : Index := Scalar.indexCast v360
  ![0, 0, v361.toNat]
@[reducible] def k0_t4_loop (i : grid0.Coords) : Scf.Loop 32 :=
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let c8_i32_5 : BitVec 32 := 8#32
  let v19 : BitVec 32 := Scalar.subi c8_i32_5 v1
  let c1_i32_6 : BitVec 32 := 1#32
  let v21 : BitVec 32 := Scalar.divsi v19 c1_i32_6
  let v22 : BitVec 32 := Scalar.muli v21 c1_i32_6
  let v23 : BitVec 32 := Scalar.addi v1 v22
  let v20 : BitVec 32 := Scalar.addi v1 v19
  let c1_i32_8 : BitVec 32 := 1#32
  ⟨v23, v20, c1_i32_8⟩
def k0_off5 (i : grid0.Coords) (k0_t4 : Fin (k0_t4_loop i).trips) : Fin 3 → Nat :=
  let c0_150 : Index := 0#32
  let c0_151 : Index := 0#32
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let c8_i32_5 : BitVec 32 := 8#32
  let v19 : BitVec 32 := Scalar.subi c8_i32_5 v1
  let c1_i32_6 : BitVec 32 := 1#32
  let v21 : BitVec 32 := Scalar.divsi v19 c1_i32_6
  let v22 : BitVec 32 := Scalar.muli v21 c1_i32_6
  let v23 : BitVec 32 := Scalar.addi v1 v22
  let c1_i32_8 : BitVec 32 := 1#32
  let arg4 : BitVec 32 := Scf.iv v23 c1_i32_8 k0_t4
  let c128_i32_149 : BitVec 32 := 128#32
  let v360 : BitVec 32 := Scalar.muli arg4 c128_i32_149
  let v361 : Index := Scalar.indexCast v360
  ![0, 0, v361.toNat]
@[reducible] def k0_t5_loop (i : grid0.Coords) : Scf.Loop 32 :=
  let c0_i32_22 : BitVec 32 := 0#32
  let arg1 : BitVec 32 := BitVec.ofNat 32 (i 1).val
  let c8_i32_15 : BitVec 32 := 8#32
  let v45 : BitVec 32 := Scalar.muli arg1 c8_i32_15
  let c1_i32_16 : BitVec 32 := 1#32
  let v46 : BitVec 32 := Scalar.addi v45 c1_i32_16
  let v57 : BitVec 32 := Scalar.subi v46 c0_i32_22
  let c1_i32_23 : BitVec 32 := 1#32
  let v59 : BitVec 32 := Scalar.divsi v57 c1_i32_23
  let v60 : BitVec 32 := Scalar.muli v59 c1_i32_23
  let v61 : BitVec 32 := Scalar.addi c0_i32_22 v60
  let c1_i32_24 : BitVec 32 := 1#32
  ⟨c0_i32_22, v61, c1_i32_24⟩
def k0_off6 (i : grid0.Coords) (k0_t5 : Fin (k0_t5_loop i).trips) : Fin 3 → Nat :=
  let c0_150 : Index := 0#32
  let c0_151 : Index := 0#32
  let c0_i32_22 : BitVec 32 := 0#32
  let c1_i32_24 : BitVec 32 := 1#32
  let arg4 : BitVec 32 := Scf.iv c0_i32_22 c1_i32_24 k0_t5
  let c128_i32_149 : BitVec 32 := 128#32
  let v360 : BitVec 32 := Scalar.muli arg4 c128_i32_149
  let v361 : Index := Scalar.indexCast v360
  ![0, 0, v361.toNat]
@[reducible] def k0_t6_loop (i : grid0.Coords) : Scf.Loop 32 :=
  let c0_i32_22 : BitVec 32 := 0#32
  let arg1 : BitVec 32 := BitVec.ofNat 32 (i 1).val
  let c8_i32_15 : BitVec 32 := 8#32
  let v45 : BitVec 32 := Scalar.muli arg1 c8_i32_15
  let c1_i32_16 : BitVec 32 := 1#32
  let v46 : BitVec 32 := Scalar.addi v45 c1_i32_16
  let v57 : BitVec 32 := Scalar.subi v46 c0_i32_22
  let c1_i32_23 : BitVec 32 := 1#32
  let v59 : BitVec 32 := Scalar.divsi v57 c1_i32_23
  let v60 : BitVec 32 := Scalar.muli v59 c1_i32_23
  let v61 : BitVec 32 := Scalar.addi c0_i32_22 v60
  let v58 : BitVec 32 := Scalar.addi c0_i32_22 v57
  let c1_i32_25 : BitVec 32 := 1#32
  ⟨v61, v58, c1_i32_25⟩
def k0_off7 (i : grid0.Coords) (k0_t6 : Fin (k0_t6_loop i).trips) : Fin 3 → Nat :=
  let c0_150 : Index := 0#32
  let c0_151 : Index := 0#32
  let c0_i32_22 : BitVec 32 := 0#32
  let arg1 : BitVec 32 := BitVec.ofNat 32 (i 1).val
  let c8_i32_15 : BitVec 32 := 8#32
  let v45 : BitVec 32 := Scalar.muli arg1 c8_i32_15
  let c1_i32_16 : BitVec 32 := 1#32
  let v46 : BitVec 32 := Scalar.addi v45 c1_i32_16
  let v57 : BitVec 32 := Scalar.subi v46 c0_i32_22
  let c1_i32_23 : BitVec 32 := 1#32
  let v59 : BitVec 32 := Scalar.divsi v57 c1_i32_23
  let v60 : BitVec 32 := Scalar.muli v59 c1_i32_23
  let v61 : BitVec 32 := Scalar.addi c0_i32_22 v60
  let c1_i32_25 : BitVec 32 := 1#32
  let arg4 : BitVec 32 := Scf.iv v61 c1_i32_25 k0_t6
  let c128_i32_149 : BitVec 32 := 128#32
  let v360 : BitVec 32 := Scalar.muli arg4 c128_i32_149
  let v361 : Index := Scalar.indexCast v360
  ![0, 0, v361.toNat]
@[reducible] def k0_t7_loop (i : grid0.Coords) : Scf.Loop 32 :=
  let arg1 : BitVec 32 := BitVec.ofNat 32 (i 1).val
  let c8_i32_15 : BitVec 32 := 8#32
  let v45 : BitVec 32 := Scalar.muli arg1 c8_i32_15
  let c1_i32_16 : BitVec 32 := 1#32
  let v46 : BitVec 32 := Scalar.addi v45 c1_i32_16
  let c8_i32_26 : BitVec 32 := 8#32
  let v64 : BitVec 32 := Scalar.subi c8_i32_26 v46
  let c1_i32_27 : BitVec 32 := 1#32
  let v66 : BitVec 32 := Scalar.divsi v64 c1_i32_27
  let v67 : BitVec 32 := Scalar.muli v66 c1_i32_27
  let v68 : BitVec 32 := Scalar.addi v46 v67
  let c1_i32_28 : BitVec 32 := 1#32
  ⟨v46, v68, c1_i32_28⟩
def k0_off8 (i : grid0.Coords) (k0_t7 : Fin (k0_t7_loop i).trips) : Fin 3 → Nat :=
  let c0_150 : Index := 0#32
  let c0_151 : Index := 0#32
  let arg1 : BitVec 32 := BitVec.ofNat 32 (i 1).val
  let c8_i32_15 : BitVec 32 := 8#32
  let v45 : BitVec 32 := Scalar.muli arg1 c8_i32_15
  let c1_i32_16 : BitVec 32 := 1#32
  let v46 : BitVec 32 := Scalar.addi v45 c1_i32_16
  let c1_i32_28 : BitVec 32 := 1#32
  let arg4 : BitVec 32 := Scf.iv v46 c1_i32_28 k0_t7
  let c128_i32_149 : BitVec 32 := 128#32
  let v360 : BitVec 32 := Scalar.muli arg4 c128_i32_149
  let v361 : Index := Scalar.indexCast v360
  ![0, 0, v361.toNat]
@[reducible] def k0_t8_loop (i : grid0.Coords) : Scf.Loop 32 :=
  let arg1 : BitVec 32 := BitVec.ofNat 32 (i 1).val
  let c8_i32_15 : BitVec 32 := 8#32
  let v45 : BitVec 32 := Scalar.muli arg1 c8_i32_15
  let c1_i32_16 : BitVec 32 := 1#32
  let v46 : BitVec 32 := Scalar.addi v45 c1_i32_16
  let c8_i32_26 : BitVec 32 := 8#32
  let v64 : BitVec 32 := Scalar.subi c8_i32_26 v46
  let c1_i32_27 : BitVec 32 := 1#32
  let v66 : BitVec 32 := Scalar.divsi v64 c1_i32_27
  let v67 : BitVec 32 := Scalar.muli v66 c1_i32_27
  let v68 : BitVec 32 := Scalar.addi v46 v67
  let v65 : BitVec 32 := Scalar.addi v46 v64
  let c1_i32_29 : BitVec 32 := 1#32
  ⟨v68, v65, c1_i32_29⟩
def k0_off9 (i : grid0.Coords) (k0_t8 : Fin (k0_t8_loop i).trips) : Fin 3 → Nat :=
  let c0_150 : Index := 0#32
  let c0_151 : Index := 0#32
  let arg1 : BitVec 32 := BitVec.ofNat 32 (i 1).val
  let c8_i32_15 : BitVec 32 := 8#32
  let v45 : BitVec 32 := Scalar.muli arg1 c8_i32_15
  let c1_i32_16 : BitVec 32 := 1#32
  let v46 : BitVec 32 := Scalar.addi v45 c1_i32_16
  let c8_i32_26 : BitVec 32 := 8#32
  let v64 : BitVec 32 := Scalar.subi c8_i32_26 v46
  let c1_i32_27 : BitVec 32 := 1#32
  let v66 : BitVec 32 := Scalar.divsi v64 c1_i32_27
  let v67 : BitVec 32 := Scalar.muli v66 c1_i32_27
  let v68 : BitVec 32 := Scalar.addi v46 v67
  let c1_i32_29 : BitVec 32 := 1#32
  let arg4 : BitVec 32 := Scf.iv v68 c1_i32_29 k0_t8
  let c128_i32_149 : BitVec 32 := 128#32
  let v360 : BitVec 32 := Scalar.muli arg4 c128_i32_149
  let v361 : Index := Scalar.indexCast v360
  ![0, 0, v361.toNat]
@[reducible] def k0_t9_loop (i : grid0.Coords) : Scf.Loop 32 :=
  let c0_i32_41 : BitVec 32 := 0#32
  let arg1 : BitVec 32 := BitVec.ofNat 32 (i 1).val
  let c8_i32_35 : BitVec 32 := 8#32
  let v90 : BitVec 32 := Scalar.muli arg1 c8_i32_35
  let c2_i32 : BitVec 32 := 2#32
  let v91 : BitVec 32 := Scalar.addi v90 c2_i32
  let v102 : BitVec 32 := Scalar.subi v91 c0_i32_41
  let c1_i32_42 : BitVec 32 := 1#32
  let v104 : BitVec 32 := Scalar.divsi v102 c1_i32_42
  let v105 : BitVec 32 := Scalar.muli v104 c1_i32_42
  let v106 : BitVec 32 := Scalar.addi c0_i32_41 v105
  let c1_i32_43 : BitVec 32 := 1#32
  ⟨c0_i32_41, v106, c1_i32_43⟩
def k0_off10 (i : grid0.Coords) (k0_t9 : Fin (k0_t9_loop i).trips) : Fin 3 → Nat :=
  let c0_150 : Index := 0#32
  let c0_151 : Index := 0#32
  let c0_i32_41 : BitVec 32 := 0#32
  let c1_i32_43 : BitVec 32 := 1#32
  let arg4 : BitVec 32 := Scf.iv c0_i32_41 c1_i32_43 k0_t9
  let c128_i32_149 : BitVec 32 := 128#32
  let v360 : BitVec 32 := Scalar.muli arg4 c128_i32_149
  let v361 : Index := Scalar.indexCast v360
  ![0, 0, v361.toNat]
@[reducible] def k0_t10_loop (i : grid0.Coords) : Scf.Loop 32 :=
  let c0_i32_41 : BitVec 32 := 0#32
  let arg1 : BitVec 32 := BitVec.ofNat 32 (i 1).val
  let c8_i32_35 : BitVec 32 := 8#32
  let v90 : BitVec 32 := Scalar.muli arg1 c8_i32_35
  let c2_i32 : BitVec 32 := 2#32
  let v91 : BitVec 32 := Scalar.addi v90 c2_i32
  let v102 : BitVec 32 := Scalar.subi v91 c0_i32_41
  let c1_i32_42 : BitVec 32 := 1#32
  let v104 : BitVec 32 := Scalar.divsi v102 c1_i32_42
  let v105 : BitVec 32 := Scalar.muli v104 c1_i32_42
  let v106 : BitVec 32 := Scalar.addi c0_i32_41 v105
  let v103 : BitVec 32 := Scalar.addi c0_i32_41 v102
  let c1_i32_44 : BitVec 32 := 1#32
  ⟨v106, v103, c1_i32_44⟩
def k0_off11 (i : grid0.Coords) (k0_t10 : Fin (k0_t10_loop i).trips) : Fin 3 → Nat :=
  let c0_150 : Index := 0#32
  let c0_151 : Index := 0#32
  let c0_i32_41 : BitVec 32 := 0#32
  let arg1 : BitVec 32 := BitVec.ofNat 32 (i 1).val
  let c8_i32_35 : BitVec 32 := 8#32
  let v90 : BitVec 32 := Scalar.muli arg1 c8_i32_35
  let c2_i32 : BitVec 32 := 2#32
  let v91 : BitVec 32 := Scalar.addi v90 c2_i32
  let v102 : BitVec 32 := Scalar.subi v91 c0_i32_41
  let c1_i32_42 : BitVec 32 := 1#32
  let v104 : BitVec 32 := Scalar.divsi v102 c1_i32_42
  let v105 : BitVec 32 := Scalar.muli v104 c1_i32_42
  let v106 : BitVec 32 := Scalar.addi c0_i32_41 v105
  let c1_i32_44 : BitVec 32 := 1#32
  let arg4 : BitVec 32 := Scf.iv v106 c1_i32_44 k0_t10
  let c128_i32_149 : BitVec 32 := 128#32
  let v360 : BitVec 32 := Scalar.muli arg4 c128_i32_149
  let v361 : Index := Scalar.indexCast v360
  ![0, 0, v361.toNat]
@[reducible] def k0_t11_loop (i : grid0.Coords) : Scf.Loop 32 :=
  let arg1 : BitVec 32 := BitVec.ofNat 32 (i 1).val
  let c8_i32_35 : BitVec 32 := 8#32
  let v90 : BitVec 32 := Scalar.muli arg1 c8_i32_35
  let c2_i32 : BitVec 32 := 2#32
  let v91 : BitVec 32 := Scalar.addi v90 c2_i32
  let c8_i32_45 : BitVec 32 := 8#32
  let v109 : BitVec 32 := Scalar.subi c8_i32_45 v91
  let c1_i32_46 : BitVec 32 := 1#32
  let v111 : BitVec 32 := Scalar.divsi v109 c1_i32_46
  let v112 : BitVec 32 := Scalar.muli v111 c1_i32_46
  let v113 : BitVec 32 := Scalar.addi v91 v112
  let c1_i32_47 : BitVec 32 := 1#32
  ⟨v91, v113, c1_i32_47⟩
def k0_off12 (i : grid0.Coords) (k0_t11 : Fin (k0_t11_loop i).trips) : Fin 3 → Nat :=
  let c0_150 : Index := 0#32
  let c0_151 : Index := 0#32
  let arg1 : BitVec 32 := BitVec.ofNat 32 (i 1).val
  let c8_i32_35 : BitVec 32 := 8#32
  let v90 : BitVec 32 := Scalar.muli arg1 c8_i32_35
  let c2_i32 : BitVec 32 := 2#32
  let v91 : BitVec 32 := Scalar.addi v90 c2_i32
  let c1_i32_47 : BitVec 32 := 1#32
  let arg4 : BitVec 32 := Scf.iv v91 c1_i32_47 k0_t11
  let c128_i32_149 : BitVec 32 := 128#32
  let v360 : BitVec 32 := Scalar.muli arg4 c128_i32_149
  let v361 : Index := Scalar.indexCast v360
  ![0, 0, v361.toNat]
@[reducible] def k0_t12_loop (i : grid0.Coords) : Scf.Loop 32 :=
  let arg1 : BitVec 32 := BitVec.ofNat 32 (i 1).val
  let c8_i32_35 : BitVec 32 := 8#32
  let v90 : BitVec 32 := Scalar.muli arg1 c8_i32_35
  let c2_i32 : BitVec 32 := 2#32
  let v91 : BitVec 32 := Scalar.addi v90 c2_i32
  let c8_i32_45 : BitVec 32 := 8#32
  let v109 : BitVec 32 := Scalar.subi c8_i32_45 v91
  let c1_i32_46 : BitVec 32 := 1#32
  let v111 : BitVec 32 := Scalar.divsi v109 c1_i32_46
  let v112 : BitVec 32 := Scalar.muli v111 c1_i32_46
  let v113 : BitVec 32 := Scalar.addi v91 v112
  let v110 : BitVec 32 := Scalar.addi v91 v109
  let c1_i32_48 : BitVec 32 := 1#32
  ⟨v113, v110, c1_i32_48⟩
def k0_off13 (i : grid0.Coords) (k0_t12 : Fin (k0_t12_loop i).trips) : Fin 3 → Nat :=
  let c0_150 : Index := 0#32
  let c0_151 : Index := 0#32
  let arg1 : BitVec 32 := BitVec.ofNat 32 (i 1).val
  let c8_i32_35 : BitVec 32 := 8#32
  let v90 : BitVec 32 := Scalar.muli arg1 c8_i32_35
  let c2_i32 : BitVec 32 := 2#32
  let v91 : BitVec 32 := Scalar.addi v90 c2_i32
  let c8_i32_45 : BitVec 32 := 8#32
  let v109 : BitVec 32 := Scalar.subi c8_i32_45 v91
  let c1_i32_46 : BitVec 32 := 1#32
  let v111 : BitVec 32 := Scalar.divsi v109 c1_i32_46
  let v112 : BitVec 32 := Scalar.muli v111 c1_i32_46
  let v113 : BitVec 32 := Scalar.addi v91 v112
  let c1_i32_48 : BitVec 32 := 1#32
  let arg4 : BitVec 32 := Scf.iv v113 c1_i32_48 k0_t12
  let c128_i32_149 : BitVec 32 := 128#32
  let v360 : BitVec 32 := Scalar.muli arg4 c128_i32_149
  let v361 : Index := Scalar.indexCast v360
  ![0, 0, v361.toNat]
@[reducible] def k0_t13_loop (i : grid0.Coords) : Scf.Loop 32 :=
  let c0_i32_60 : BitVec 32 := 0#32
  let arg1 : BitVec 32 := BitVec.ofNat 32 (i 1).val
  let c8_i32_54 : BitVec 32 := 8#32
  let v135 : BitVec 32 := Scalar.muli arg1 c8_i32_54
  let c3_i32 : BitVec 32 := 3#32
  let v136 : BitVec 32 := Scalar.addi v135 c3_i32
  let v147 : BitVec 32 := Scalar.subi v136 c0_i32_60
  let c1_i32_61 : BitVec 32 := 1#32
  let v149 : BitVec 32 := Scalar.divsi v147 c1_i32_61
  let v150 : BitVec 32 := Scalar.muli v149 c1_i32_61
  let v151 : BitVec 32 := Scalar.addi c0_i32_60 v150
  let c1_i32_62 : BitVec 32 := 1#32
  ⟨c0_i32_60, v151, c1_i32_62⟩
def k0_off14 (i : grid0.Coords) (k0_t13 : Fin (k0_t13_loop i).trips) : Fin 3 → Nat :=
  let c0_150 : Index := 0#32
  let c0_151 : Index := 0#32
  let c0_i32_60 : BitVec 32 := 0#32
  let c1_i32_62 : BitVec 32 := 1#32
  let arg4 : BitVec 32 := Scf.iv c0_i32_60 c1_i32_62 k0_t13
  let c128_i32_149 : BitVec 32 := 128#32
  let v360 : BitVec 32 := Scalar.muli arg4 c128_i32_149
  let v361 : Index := Scalar.indexCast v360
  ![0, 0, v361.toNat]
@[reducible] def k0_t14_loop (i : grid0.Coords) : Scf.Loop 32 :=
  let c0_i32_60 : BitVec 32 := 0#32
  let arg1 : BitVec 32 := BitVec.ofNat 32 (i 1).val
  let c8_i32_54 : BitVec 32 := 8#32
  let v135 : BitVec 32 := Scalar.muli arg1 c8_i32_54
  let c3_i32 : BitVec 32 := 3#32
  let v136 : BitVec 32 := Scalar.addi v135 c3_i32
  let v147 : BitVec 32 := Scalar.subi v136 c0_i32_60
  let c1_i32_61 : BitVec 32 := 1#32
  let v149 : BitVec 32 := Scalar.divsi v147 c1_i32_61
  let v150 : BitVec 32 := Scalar.muli v149 c1_i32_61
  let v151 : BitVec 32 := Scalar.addi c0_i32_60 v150
  let v148 : BitVec 32 := Scalar.addi c0_i32_60 v147
  let c1_i32_63 : BitVec 32 := 1#32
  ⟨v151, v148, c1_i32_63⟩
def k0_off15 (i : grid0.Coords) (k0_t14 : Fin (k0_t14_loop i).trips) : Fin 3 → Nat :=
  let c0_150 : Index := 0#32
  let c0_151 : Index := 0#32
  let c0_i32_60 : BitVec 32 := 0#32
  let arg1 : BitVec 32 := BitVec.ofNat 32 (i 1).val
  let c8_i32_54 : BitVec 32 := 8#32
  let v135 : BitVec 32 := Scalar.muli arg1 c8_i32_54
  let c3_i32 : BitVec 32 := 3#32
  let v136 : BitVec 32 := Scalar.addi v135 c3_i32
  let v147 : BitVec 32 := Scalar.subi v136 c0_i32_60
  let c1_i32_61 : BitVec 32 := 1#32
  let v149 : BitVec 32 := Scalar.divsi v147 c1_i32_61
  let v150 : BitVec 32 := Scalar.muli v149 c1_i32_61
  let v151 : BitVec 32 := Scalar.addi c0_i32_60 v150
  let c1_i32_63 : BitVec 32 := 1#32
  let arg4 : BitVec 32 := Scf.iv v151 c1_i32_63 k0_t14
  let c128_i32_149 : BitVec 32 := 128#32
  let v360 : BitVec 32 := Scalar.muli arg4 c128_i32_149
  let v361 : Index := Scalar.indexCast v360
  ![0, 0, v361.toNat]
@[reducible] def k0_t15_loop (i : grid0.Coords) : Scf.Loop 32 :=
  let arg1 : BitVec 32 := BitVec.ofNat 32 (i 1).val
  let c8_i32_54 : BitVec 32 := 8#32
  let v135 : BitVec 32 := Scalar.muli arg1 c8_i32_54
  let c3_i32 : BitVec 32 := 3#32
  let v136 : BitVec 32 := Scalar.addi v135 c3_i32
  let c8_i32_64 : BitVec 32 := 8#32
  let v154 : BitVec 32 := Scalar.subi c8_i32_64 v136
  let c1_i32_65 : BitVec 32 := 1#32
  let v156 : BitVec 32 := Scalar.divsi v154 c1_i32_65
  let v157 : BitVec 32 := Scalar.muli v156 c1_i32_65
  let v158 : BitVec 32 := Scalar.addi v136 v157
  let c1_i32_66 : BitVec 32 := 1#32
  ⟨v136, v158, c1_i32_66⟩
def k0_off16 (i : grid0.Coords) (k0_t15 : Fin (k0_t15_loop i).trips) : Fin 3 → Nat :=
  let c0_150 : Index := 0#32
  let c0_151 : Index := 0#32
  let arg1 : BitVec 32 := BitVec.ofNat 32 (i 1).val
  let c8_i32_54 : BitVec 32 := 8#32
  let v135 : BitVec 32 := Scalar.muli arg1 c8_i32_54
  let c3_i32 : BitVec 32 := 3#32
  let v136 : BitVec 32 := Scalar.addi v135 c3_i32
  let c1_i32_66 : BitVec 32 := 1#32
  let arg4 : BitVec 32 := Scf.iv v136 c1_i32_66 k0_t15
  let c128_i32_149 : BitVec 32 := 128#32
  let v360 : BitVec 32 := Scalar.muli arg4 c128_i32_149
  let v361 : Index := Scalar.indexCast v360
  ![0, 0, v361.toNat]
@[reducible] def k0_t16_loop (i : grid0.Coords) : Scf.Loop 32 :=
  let arg1 : BitVec 32 := BitVec.ofNat 32 (i 1).val
  let c8_i32_54 : BitVec 32 := 8#32
  let v135 : BitVec 32 := Scalar.muli arg1 c8_i32_54
  let c3_i32 : BitVec 32 := 3#32
  let v136 : BitVec 32 := Scalar.addi v135 c3_i32
  let c8_i32_64 : BitVec 32 := 8#32
  let v154 : BitVec 32 := Scalar.subi c8_i32_64 v136
  let c1_i32_65 : BitVec 32 := 1#32
  let v156 : BitVec 32 := Scalar.divsi v154 c1_i32_65
  let v157 : BitVec 32 := Scalar.muli v156 c1_i32_65
  let v158 : BitVec 32 := Scalar.addi v136 v157
  let v155 : BitVec 32 := Scalar.addi v136 v154
  let c1_i32_67 : BitVec 32 := 1#32
  ⟨v158, v155, c1_i32_67⟩
def k0_off17 (i : grid0.Coords) (k0_t16 : Fin (k0_t16_loop i).trips) : Fin 3 → Nat :=
  let c0_150 : Index := 0#32
  let c0_151 : Index := 0#32
  let arg1 : BitVec 32 := BitVec.ofNat 32 (i 1).val
  let c8_i32_54 : BitVec 32 := 8#32
  let v135 : BitVec 32 := Scalar.muli arg1 c8_i32_54
  let c3_i32 : BitVec 32 := 3#32
  let v136 : BitVec 32 := Scalar.addi v135 c3_i32
  let c8_i32_64 : BitVec 32 := 8#32
  let v154 : BitVec 32 := Scalar.subi c8_i32_64 v136
  let c1_i32_65 : BitVec 32 := 1#32
  let v156 : BitVec 32 := Scalar.divsi v154 c1_i32_65
  let v157 : BitVec 32 := Scalar.muli v156 c1_i32_65
  let v158 : BitVec 32 := Scalar.addi v136 v157
  let c1_i32_67 : BitVec 32 := 1#32
  let arg4 : BitVec 32 := Scf.iv v158 c1_i32_67 k0_t16
  let c128_i32_149 : BitVec 32 := 128#32
  let v360 : BitVec 32 := Scalar.muli arg4 c128_i32_149
  let v361 : Index := Scalar.indexCast v360
  ![0, 0, v361.toNat]
@[reducible] def k0_t17_loop (i : grid0.Coords) : Scf.Loop 32 :=
  let c0_i32_79 : BitVec 32 := 0#32
  let arg1 : BitVec 32 := BitVec.ofNat 32 (i 1).val
  let c8_i32_73 : BitVec 32 := 8#32
  let v180 : BitVec 32 := Scalar.muli arg1 c8_i32_73
  let c4_i32 : BitVec 32 := 4#32
  let v181 : BitVec 32 := Scalar.addi v180 c4_i32
  let v192 : BitVec 32 := Scalar.subi v181 c0_i32_79
  let c1_i32_80 : BitVec 32 := 1#32
  let v194 : BitVec 32 := Scalar.divsi v192 c1_i32_80
  let v195 : BitVec 32 := Scalar.muli v194 c1_i32_80
  let v196 : BitVec 32 := Scalar.addi c0_i32_79 v195
  let c1_i32_81 : BitVec 32 := 1#32
  ⟨c0_i32_79, v196, c1_i32_81⟩
def k0_off18 (i : grid0.Coords) (k0_t17 : Fin (k0_t17_loop i).trips) : Fin 3 → Nat :=
  let c0_150 : Index := 0#32
  let c0_151 : Index := 0#32
  let c0_i32_79 : BitVec 32 := 0#32
  let c1_i32_81 : BitVec 32 := 1#32
  let arg4 : BitVec 32 := Scf.iv c0_i32_79 c1_i32_81 k0_t17
  let c128_i32_149 : BitVec 32 := 128#32
  let v360 : BitVec 32 := Scalar.muli arg4 c128_i32_149
  let v361 : Index := Scalar.indexCast v360
  ![0, 0, v361.toNat]
@[reducible] def k0_t18_loop (i : grid0.Coords) : Scf.Loop 32 :=
  let c0_i32_79 : BitVec 32 := 0#32
  let arg1 : BitVec 32 := BitVec.ofNat 32 (i 1).val
  let c8_i32_73 : BitVec 32 := 8#32
  let v180 : BitVec 32 := Scalar.muli arg1 c8_i32_73
  let c4_i32 : BitVec 32 := 4#32
  let v181 : BitVec 32 := Scalar.addi v180 c4_i32
  let v192 : BitVec 32 := Scalar.subi v181 c0_i32_79
  let c1_i32_80 : BitVec 32 := 1#32
  let v194 : BitVec 32 := Scalar.divsi v192 c1_i32_80
  let v195 : BitVec 32 := Scalar.muli v194 c1_i32_80
  let v196 : BitVec 32 := Scalar.addi c0_i32_79 v195
  let v193 : BitVec 32 := Scalar.addi c0_i32_79 v192
  let c1_i32_82 : BitVec 32 := 1#32
  ⟨v196, v193, c1_i32_82⟩
def k0_off19 (i : grid0.Coords) (k0_t18 : Fin (k0_t18_loop i).trips) : Fin 3 → Nat :=
  let c0_150 : Index := 0#32
  let c0_151 : Index := 0#32
  let c0_i32_79 : BitVec 32 := 0#32
  let arg1 : BitVec 32 := BitVec.ofNat 32 (i 1).val
  let c8_i32_73 : BitVec 32 := 8#32
  let v180 : BitVec 32 := Scalar.muli arg1 c8_i32_73
  let c4_i32 : BitVec 32 := 4#32
  let v181 : BitVec 32 := Scalar.addi v180 c4_i32
  let v192 : BitVec 32 := Scalar.subi v181 c0_i32_79
  let c1_i32_80 : BitVec 32 := 1#32
  let v194 : BitVec 32 := Scalar.divsi v192 c1_i32_80
  let v195 : BitVec 32 := Scalar.muli v194 c1_i32_80
  let v196 : BitVec 32 := Scalar.addi c0_i32_79 v195
  let c1_i32_82 : BitVec 32 := 1#32
  let arg4 : BitVec 32 := Scf.iv v196 c1_i32_82 k0_t18
  let c128_i32_149 : BitVec 32 := 128#32
  let v360 : BitVec 32 := Scalar.muli arg4 c128_i32_149
  let v361 : Index := Scalar.indexCast v360
  ![0, 0, v361.toNat]
@[reducible] def k0_t19_loop (i : grid0.Coords) : Scf.Loop 32 :=
  let arg1 : BitVec 32 := BitVec.ofNat 32 (i 1).val
  let c8_i32_73 : BitVec 32 := 8#32
  let v180 : BitVec 32 := Scalar.muli arg1 c8_i32_73
  let c4_i32 : BitVec 32 := 4#32
  let v181 : BitVec 32 := Scalar.addi v180 c4_i32
  let c8_i32_83 : BitVec 32 := 8#32
  let v199 : BitVec 32 := Scalar.subi c8_i32_83 v181
  let c1_i32_84 : BitVec 32 := 1#32
  let v201 : BitVec 32 := Scalar.divsi v199 c1_i32_84
  let v202 : BitVec 32 := Scalar.muli v201 c1_i32_84
  let v203 : BitVec 32 := Scalar.addi v181 v202
  let c1_i32_85 : BitVec 32 := 1#32
  ⟨v181, v203, c1_i32_85⟩
def k0_off20 (i : grid0.Coords) (k0_t19 : Fin (k0_t19_loop i).trips) : Fin 3 → Nat :=
  let c0_150 : Index := 0#32
  let c0_151 : Index := 0#32
  let arg1 : BitVec 32 := BitVec.ofNat 32 (i 1).val
  let c8_i32_73 : BitVec 32 := 8#32
  let v180 : BitVec 32 := Scalar.muli arg1 c8_i32_73
  let c4_i32 : BitVec 32 := 4#32
  let v181 : BitVec 32 := Scalar.addi v180 c4_i32
  let c1_i32_85 : BitVec 32 := 1#32
  let arg4 : BitVec 32 := Scf.iv v181 c1_i32_85 k0_t19
  let c128_i32_149 : BitVec 32 := 128#32
  let v360 : BitVec 32 := Scalar.muli arg4 c128_i32_149
  let v361 : Index := Scalar.indexCast v360
  ![0, 0, v361.toNat]
@[reducible] def k0_t20_loop (i : grid0.Coords) : Scf.Loop 32 :=
  let arg1 : BitVec 32 := BitVec.ofNat 32 (i 1).val
  let c8_i32_73 : BitVec 32 := 8#32
  let v180 : BitVec 32 := Scalar.muli arg1 c8_i32_73
  let c4_i32 : BitVec 32 := 4#32
  let v181 : BitVec 32 := Scalar.addi v180 c4_i32
  let c8_i32_83 : BitVec 32 := 8#32
  let v199 : BitVec 32 := Scalar.subi c8_i32_83 v181
  let c1_i32_84 : BitVec 32 := 1#32
  let v201 : BitVec 32 := Scalar.divsi v199 c1_i32_84
  let v202 : BitVec 32 := Scalar.muli v201 c1_i32_84
  let v203 : BitVec 32 := Scalar.addi v181 v202
  let v200 : BitVec 32 := Scalar.addi v181 v199
  let c1_i32_86 : BitVec 32 := 1#32
  ⟨v203, v200, c1_i32_86⟩
def k0_off21 (i : grid0.Coords) (k0_t20 : Fin (k0_t20_loop i).trips) : Fin 3 → Nat :=
  let c0_150 : Index := 0#32
  let c0_151 : Index := 0#32
  let arg1 : BitVec 32 := BitVec.ofNat 32 (i 1).val
  let c8_i32_73 : BitVec 32 := 8#32
  let v180 : BitVec 32 := Scalar.muli arg1 c8_i32_73
  let c4_i32 : BitVec 32 := 4#32
  let v181 : BitVec 32 := Scalar.addi v180 c4_i32
  let c8_i32_83 : BitVec 32 := 8#32
  let v199 : BitVec 32 := Scalar.subi c8_i32_83 v181
  let c1_i32_84 : BitVec 32 := 1#32
  let v201 : BitVec 32 := Scalar.divsi v199 c1_i32_84
  let v202 : BitVec 32 := Scalar.muli v201 c1_i32_84
  let v203 : BitVec 32 := Scalar.addi v181 v202
  let c1_i32_86 : BitVec 32 := 1#32
  let arg4 : BitVec 32 := Scf.iv v203 c1_i32_86 k0_t20
  let c128_i32_149 : BitVec 32 := 128#32
  let v360 : BitVec 32 := Scalar.muli arg4 c128_i32_149
  let v361 : Index := Scalar.indexCast v360
  ![0, 0, v361.toNat]
@[reducible] def k0_t21_loop (i : grid0.Coords) : Scf.Loop 32 :=
  let c0_i32_98 : BitVec 32 := 0#32
  let arg1 : BitVec 32 := BitVec.ofNat 32 (i 1).val
  let c8_i32_92 : BitVec 32 := 8#32
  let v225 : BitVec 32 := Scalar.muli arg1 c8_i32_92
  let c5_i32 : BitVec 32 := 5#32
  let v226 : BitVec 32 := Scalar.addi v225 c5_i32
  let v237 : BitVec 32 := Scalar.subi v226 c0_i32_98
  let c1_i32_99 : BitVec 32 := 1#32
  let v239 : BitVec 32 := Scalar.divsi v237 c1_i32_99
  let v240 : BitVec 32 := Scalar.muli v239 c1_i32_99
  let v241 : BitVec 32 := Scalar.addi c0_i32_98 v240
  let c1_i32_100 : BitVec 32 := 1#32
  ⟨c0_i32_98, v241, c1_i32_100⟩
def k0_off22 (i : grid0.Coords) (k0_t21 : Fin (k0_t21_loop i).trips) : Fin 3 → Nat :=
  let c0_150 : Index := 0#32
  let c0_151 : Index := 0#32
  let c0_i32_98 : BitVec 32 := 0#32
  let c1_i32_100 : BitVec 32 := 1#32
  let arg4 : BitVec 32 := Scf.iv c0_i32_98 c1_i32_100 k0_t21
  let c128_i32_149 : BitVec 32 := 128#32
  let v360 : BitVec 32 := Scalar.muli arg4 c128_i32_149
  let v361 : Index := Scalar.indexCast v360
  ![0, 0, v361.toNat]
@[reducible] def k0_t22_loop (i : grid0.Coords) : Scf.Loop 32 :=
  let c0_i32_98 : BitVec 32 := 0#32
  let arg1 : BitVec 32 := BitVec.ofNat 32 (i 1).val
  let c8_i32_92 : BitVec 32 := 8#32
  let v225 : BitVec 32 := Scalar.muli arg1 c8_i32_92
  let c5_i32 : BitVec 32 := 5#32
  let v226 : BitVec 32 := Scalar.addi v225 c5_i32
  let v237 : BitVec 32 := Scalar.subi v226 c0_i32_98
  let c1_i32_99 : BitVec 32 := 1#32
  let v239 : BitVec 32 := Scalar.divsi v237 c1_i32_99
  let v240 : BitVec 32 := Scalar.muli v239 c1_i32_99
  let v241 : BitVec 32 := Scalar.addi c0_i32_98 v240
  let v238 : BitVec 32 := Scalar.addi c0_i32_98 v237
  let c1_i32_101 : BitVec 32 := 1#32
  ⟨v241, v238, c1_i32_101⟩
def k0_off23 (i : grid0.Coords) (k0_t22 : Fin (k0_t22_loop i).trips) : Fin 3 → Nat :=
  let c0_150 : Index := 0#32
  let c0_151 : Index := 0#32
  let c0_i32_98 : BitVec 32 := 0#32
  let arg1 : BitVec 32 := BitVec.ofNat 32 (i 1).val
  let c8_i32_92 : BitVec 32 := 8#32
  let v225 : BitVec 32 := Scalar.muli arg1 c8_i32_92
  let c5_i32 : BitVec 32 := 5#32
  let v226 : BitVec 32 := Scalar.addi v225 c5_i32
  let v237 : BitVec 32 := Scalar.subi v226 c0_i32_98
  let c1_i32_99 : BitVec 32 := 1#32
  let v239 : BitVec 32 := Scalar.divsi v237 c1_i32_99
  let v240 : BitVec 32 := Scalar.muli v239 c1_i32_99
  let v241 : BitVec 32 := Scalar.addi c0_i32_98 v240
  let c1_i32_101 : BitVec 32 := 1#32
  let arg4 : BitVec 32 := Scf.iv v241 c1_i32_101 k0_t22
  let c128_i32_149 : BitVec 32 := 128#32
  let v360 : BitVec 32 := Scalar.muli arg4 c128_i32_149
  let v361 : Index := Scalar.indexCast v360
  ![0, 0, v361.toNat]
@[reducible] def k0_t23_loop (i : grid0.Coords) : Scf.Loop 32 :=
  let arg1 : BitVec 32 := BitVec.ofNat 32 (i 1).val
  let c8_i32_92 : BitVec 32 := 8#32
  let v225 : BitVec 32 := Scalar.muli arg1 c8_i32_92
  let c5_i32 : BitVec 32 := 5#32
  let v226 : BitVec 32 := Scalar.addi v225 c5_i32
  let c8_i32_102 : BitVec 32 := 8#32
  let v244 : BitVec 32 := Scalar.subi c8_i32_102 v226
  let c1_i32_103 : BitVec 32 := 1#32
  let v246 : BitVec 32 := Scalar.divsi v244 c1_i32_103
  let v247 : BitVec 32 := Scalar.muli v246 c1_i32_103
  let v248 : BitVec 32 := Scalar.addi v226 v247
  let c1_i32_104 : BitVec 32 := 1#32
  ⟨v226, v248, c1_i32_104⟩
def k0_off24 (i : grid0.Coords) (k0_t23 : Fin (k0_t23_loop i).trips) : Fin 3 → Nat :=
  let c0_150 : Index := 0#32
  let c0_151 : Index := 0#32
  let arg1 : BitVec 32 := BitVec.ofNat 32 (i 1).val
  let c8_i32_92 : BitVec 32 := 8#32
  let v225 : BitVec 32 := Scalar.muli arg1 c8_i32_92
  let c5_i32 : BitVec 32 := 5#32
  let v226 : BitVec 32 := Scalar.addi v225 c5_i32
  let c1_i32_104 : BitVec 32 := 1#32
  let arg4 : BitVec 32 := Scf.iv v226 c1_i32_104 k0_t23
  let c128_i32_149 : BitVec 32 := 128#32
  let v360 : BitVec 32 := Scalar.muli arg4 c128_i32_149
  let v361 : Index := Scalar.indexCast v360
  ![0, 0, v361.toNat]
@[reducible] def k0_t24_loop (i : grid0.Coords) : Scf.Loop 32 :=
  let arg1 : BitVec 32 := BitVec.ofNat 32 (i 1).val
  let c8_i32_92 : BitVec 32 := 8#32
  let v225 : BitVec 32 := Scalar.muli arg1 c8_i32_92
  let c5_i32 : BitVec 32 := 5#32
  let v226 : BitVec 32 := Scalar.addi v225 c5_i32
  let c8_i32_102 : BitVec 32 := 8#32
  let v244 : BitVec 32 := Scalar.subi c8_i32_102 v226
  let c1_i32_103 : BitVec 32 := 1#32
  let v246 : BitVec 32 := Scalar.divsi v244 c1_i32_103
  let v247 : BitVec 32 := Scalar.muli v246 c1_i32_103
  let v248 : BitVec 32 := Scalar.addi v226 v247
  let v245 : BitVec 32 := Scalar.addi v226 v244
  let c1_i32_105 : BitVec 32 := 1#32
  ⟨v248, v245, c1_i32_105⟩
def k0_off25 (i : grid0.Coords) (k0_t24 : Fin (k0_t24_loop i).trips) : Fin 3 → Nat :=
  let c0_150 : Index := 0#32
  let c0_151 : Index := 0#32
  let arg1 : BitVec 32 := BitVec.ofNat 32 (i 1).val
  let c8_i32_92 : BitVec 32 := 8#32
  let v225 : BitVec 32 := Scalar.muli arg1 c8_i32_92
  let c5_i32 : BitVec 32 := 5#32
  let v226 : BitVec 32 := Scalar.addi v225 c5_i32
  let c8_i32_102 : BitVec 32 := 8#32
  let v244 : BitVec 32 := Scalar.subi c8_i32_102 v226
  let c1_i32_103 : BitVec 32 := 1#32
  let v246 : BitVec 32 := Scalar.divsi v244 c1_i32_103
  let v247 : BitVec 32 := Scalar.muli v246 c1_i32_103
  let v248 : BitVec 32 := Scalar.addi v226 v247
  let c1_i32_105 : BitVec 32 := 1#32
  let arg4 : BitVec 32 := Scf.iv v248 c1_i32_105 k0_t24
  let c128_i32_149 : BitVec 32 := 128#32
  let v360 : BitVec 32 := Scalar.muli arg4 c128_i32_149
  let v361 : Index := Scalar.indexCast v360
  ![0, 0, v361.toNat]
@[reducible] def k0_t25_loop (i : grid0.Coords) : Scf.Loop 32 :=
  let c0_i32_117 : BitVec 32 := 0#32
  let arg1 : BitVec 32 := BitVec.ofNat 32 (i 1).val
  let c8_i32_111 : BitVec 32 := 8#32
  let v270 : BitVec 32 := Scalar.muli arg1 c8_i32_111
  let c6_i32 : BitVec 32 := 6#32
  let v271 : BitVec 32 := Scalar.addi v270 c6_i32
  let v282 : BitVec 32 := Scalar.subi v271 c0_i32_117
  let c1_i32_118 : BitVec 32 := 1#32
  let v284 : BitVec 32 := Scalar.divsi v282 c1_i32_118
  let v285 : BitVec 32 := Scalar.muli v284 c1_i32_118
  let v286 : BitVec 32 := Scalar.addi c0_i32_117 v285
  let c1_i32_119 : BitVec 32 := 1#32
  ⟨c0_i32_117, v286, c1_i32_119⟩
def k0_off26 (i : grid0.Coords) (k0_t25 : Fin (k0_t25_loop i).trips) : Fin 3 → Nat :=
  let c0_150 : Index := 0#32
  let c0_151 : Index := 0#32
  let c0_i32_117 : BitVec 32 := 0#32
  let c1_i32_119 : BitVec 32 := 1#32
  let arg4 : BitVec 32 := Scf.iv c0_i32_117 c1_i32_119 k0_t25
  let c128_i32_149 : BitVec 32 := 128#32
  let v360 : BitVec 32 := Scalar.muli arg4 c128_i32_149
  let v361 : Index := Scalar.indexCast v360
  ![0, 0, v361.toNat]
@[reducible] def k0_t26_loop (i : grid0.Coords) : Scf.Loop 32 :=
  let c0_i32_117 : BitVec 32 := 0#32
  let arg1 : BitVec 32 := BitVec.ofNat 32 (i 1).val
  let c8_i32_111 : BitVec 32 := 8#32
  let v270 : BitVec 32 := Scalar.muli arg1 c8_i32_111
  let c6_i32 : BitVec 32 := 6#32
  let v271 : BitVec 32 := Scalar.addi v270 c6_i32
  let v282 : BitVec 32 := Scalar.subi v271 c0_i32_117
  let c1_i32_118 : BitVec 32 := 1#32
  let v284 : BitVec 32 := Scalar.divsi v282 c1_i32_118
  let v285 : BitVec 32 := Scalar.muli v284 c1_i32_118
  let v286 : BitVec 32 := Scalar.addi c0_i32_117 v285
  let v283 : BitVec 32 := Scalar.addi c0_i32_117 v282
  let c1_i32_120 : BitVec 32 := 1#32
  ⟨v286, v283, c1_i32_120⟩
def k0_off27 (i : grid0.Coords) (k0_t26 : Fin (k0_t26_loop i).trips) : Fin 3 → Nat :=
  let c0_150 : Index := 0#32
  let c0_151 : Index := 0#32
  let c0_i32_117 : BitVec 32 := 0#32
  let arg1 : BitVec 32 := BitVec.ofNat 32 (i 1).val
  let c8_i32_111 : BitVec 32 := 8#32
  let v270 : BitVec 32 := Scalar.muli arg1 c8_i32_111
  let c6_i32 : BitVec 32 := 6#32
  let v271 : BitVec 32 := Scalar.addi v270 c6_i32
  let v282 : BitVec 32 := Scalar.subi v271 c0_i32_117
  let c1_i32_118 : BitVec 32 := 1#32
  let v284 : BitVec 32 := Scalar.divsi v282 c1_i32_118
  let v285 : BitVec 32 := Scalar.muli v284 c1_i32_118
  let v286 : BitVec 32 := Scalar.addi c0_i32_117 v285
  let c1_i32_120 : BitVec 32 := 1#32
  let arg4 : BitVec 32 := Scf.iv v286 c1_i32_120 k0_t26
  let c128_i32_149 : BitVec 32 := 128#32
  let v360 : BitVec 32 := Scalar.muli arg4 c128_i32_149
  let v361 : Index := Scalar.indexCast v360
  ![0, 0, v361.toNat]
@[reducible] def k0_t27_loop (i : grid0.Coords) : Scf.Loop 32 :=
  let arg1 : BitVec 32 := BitVec.ofNat 32 (i 1).val
  let c8_i32_111 : BitVec 32 := 8#32
  let v270 : BitVec 32 := Scalar.muli arg1 c8_i32_111
  let c6_i32 : BitVec 32 := 6#32
  let v271 : BitVec 32 := Scalar.addi v270 c6_i32
  let c8_i32_121 : BitVec 32 := 8#32
  let v289 : BitVec 32 := Scalar.subi c8_i32_121 v271
  let c1_i32_122 : BitVec 32 := 1#32
  let v291 : BitVec 32 := Scalar.divsi v289 c1_i32_122
  let v292 : BitVec 32 := Scalar.muli v291 c1_i32_122
  let v293 : BitVec 32 := Scalar.addi v271 v292
  let c1_i32_123 : BitVec 32 := 1#32
  ⟨v271, v293, c1_i32_123⟩
def k0_off28 (i : grid0.Coords) (k0_t27 : Fin (k0_t27_loop i).trips) : Fin 3 → Nat :=
  let c0_150 : Index := 0#32
  let c0_151 : Index := 0#32
  let arg1 : BitVec 32 := BitVec.ofNat 32 (i 1).val
  let c8_i32_111 : BitVec 32 := 8#32
  let v270 : BitVec 32 := Scalar.muli arg1 c8_i32_111
  let c6_i32 : BitVec 32 := 6#32
  let v271 : BitVec 32 := Scalar.addi v270 c6_i32
  let c1_i32_123 : BitVec 32 := 1#32
  let arg4 : BitVec 32 := Scf.iv v271 c1_i32_123 k0_t27
  let c128_i32_149 : BitVec 32 := 128#32
  let v360 : BitVec 32 := Scalar.muli arg4 c128_i32_149
  let v361 : Index := Scalar.indexCast v360
  ![0, 0, v361.toNat]
@[reducible] def k0_t28_loop (i : grid0.Coords) : Scf.Loop 32 :=
  let arg1 : BitVec 32 := BitVec.ofNat 32 (i 1).val
  let c8_i32_111 : BitVec 32 := 8#32
  let v270 : BitVec 32 := Scalar.muli arg1 c8_i32_111
  let c6_i32 : BitVec 32 := 6#32
  let v271 : BitVec 32 := Scalar.addi v270 c6_i32
  let c8_i32_121 : BitVec 32 := 8#32
  let v289 : BitVec 32 := Scalar.subi c8_i32_121 v271
  let c1_i32_122 : BitVec 32 := 1#32
  let v291 : BitVec 32 := Scalar.divsi v289 c1_i32_122
  let v292 : BitVec 32 := Scalar.muli v291 c1_i32_122
  let v293 : BitVec 32 := Scalar.addi v271 v292
  let v290 : BitVec 32 := Scalar.addi v271 v289
  let c1_i32_124 : BitVec 32 := 1#32
  ⟨v293, v290, c1_i32_124⟩
def k0_off29 (i : grid0.Coords) (k0_t28 : Fin (k0_t28_loop i).trips) : Fin 3 → Nat :=
  let c0_150 : Index := 0#32
  let c0_151 : Index := 0#32
  let arg1 : BitVec 32 := BitVec.ofNat 32 (i 1).val
  let c8_i32_111 : BitVec 32 := 8#32
  let v270 : BitVec 32 := Scalar.muli arg1 c8_i32_111
  let c6_i32 : BitVec 32 := 6#32
  let v271 : BitVec 32 := Scalar.addi v270 c6_i32
  let c8_i32_121 : BitVec 32 := 8#32
  let v289 : BitVec 32 := Scalar.subi c8_i32_121 v271
  let c1_i32_122 : BitVec 32 := 1#32
  let v291 : BitVec 32 := Scalar.divsi v289 c1_i32_122
  let v292 : BitVec 32 := Scalar.muli v291 c1_i32_122
  let v293 : BitVec 32 := Scalar.addi v271 v292
  let c1_i32_124 : BitVec 32 := 1#32
  let arg4 : BitVec 32 := Scf.iv v293 c1_i32_124 k0_t28
  let c128_i32_149 : BitVec 32 := 128#32
  let v360 : BitVec 32 := Scalar.muli arg4 c128_i32_149
  let v361 : Index := Scalar.indexCast v360
  ![0, 0, v361.toNat]
@[reducible] def k0_t29_loop (i : grid0.Coords) : Scf.Loop 32 :=
  let c0_i32_136 : BitVec 32 := 0#32
  let arg1 : BitVec 32 := BitVec.ofNat 32 (i 1).val
  let c8_i32_130 : BitVec 32 := 8#32
  let v315 : BitVec 32 := Scalar.muli arg1 c8_i32_130
  let c7_i32 : BitVec 32 := 7#32
  let v316 : BitVec 32 := Scalar.addi v315 c7_i32
  let v327 : BitVec 32 := Scalar.subi v316 c0_i32_136
  let c1_i32_137 : BitVec 32 := 1#32
  let v329 : BitVec 32 := Scalar.divsi v327 c1_i32_137
  let v330 : BitVec 32 := Scalar.muli v329 c1_i32_137
  let v331 : BitVec 32 := Scalar.addi c0_i32_136 v330
  let c1_i32_138 : BitVec 32 := 1#32
  ⟨c0_i32_136, v331, c1_i32_138⟩
def k0_off30 (i : grid0.Coords) (k0_t29 : Fin (k0_t29_loop i).trips) : Fin 3 → Nat :=
  let c0_150 : Index := 0#32
  let c0_151 : Index := 0#32
  let c0_i32_136 : BitVec 32 := 0#32
  let c1_i32_138 : BitVec 32 := 1#32
  let arg4 : BitVec 32 := Scf.iv c0_i32_136 c1_i32_138 k0_t29
  let c128_i32_149 : BitVec 32 := 128#32
  let v360 : BitVec 32 := Scalar.muli arg4 c128_i32_149
  let v361 : Index := Scalar.indexCast v360
  ![0, 0, v361.toNat]
@[reducible] def k0_t30_loop (i : grid0.Coords) : Scf.Loop 32 :=
  let c0_i32_136 : BitVec 32 := 0#32
  let arg1 : BitVec 32 := BitVec.ofNat 32 (i 1).val
  let c8_i32_130 : BitVec 32 := 8#32
  let v315 : BitVec 32 := Scalar.muli arg1 c8_i32_130
  let c7_i32 : BitVec 32 := 7#32
  let v316 : BitVec 32 := Scalar.addi v315 c7_i32
  let v327 : BitVec 32 := Scalar.subi v316 c0_i32_136
  let c1_i32_137 : BitVec 32 := 1#32
  let v329 : BitVec 32 := Scalar.divsi v327 c1_i32_137
  let v330 : BitVec 32 := Scalar.muli v329 c1_i32_137
  let v331 : BitVec 32 := Scalar.addi c0_i32_136 v330
  let v328 : BitVec 32 := Scalar.addi c0_i32_136 v327
  let c1_i32_139 : BitVec 32 := 1#32
  ⟨v331, v328, c1_i32_139⟩
def k0_off31 (i : grid0.Coords) (k0_t30 : Fin (k0_t30_loop i).trips) : Fin 3 → Nat :=
  let c0_150 : Index := 0#32
  let c0_151 : Index := 0#32
  let c0_i32_136 : BitVec 32 := 0#32
  let arg1 : BitVec 32 := BitVec.ofNat 32 (i 1).val
  let c8_i32_130 : BitVec 32 := 8#32
  let v315 : BitVec 32 := Scalar.muli arg1 c8_i32_130
  let c7_i32 : BitVec 32 := 7#32
  let v316 : BitVec 32 := Scalar.addi v315 c7_i32
  let v327 : BitVec 32 := Scalar.subi v316 c0_i32_136
  let c1_i32_137 : BitVec 32 := 1#32
  let v329 : BitVec 32 := Scalar.divsi v327 c1_i32_137
  let v330 : BitVec 32 := Scalar.muli v329 c1_i32_137
  let v331 : BitVec 32 := Scalar.addi c0_i32_136 v330
  let c1_i32_139 : BitVec 32 := 1#32
  let arg4 : BitVec 32 := Scf.iv v331 c1_i32_139 k0_t30
  let c128_i32_149 : BitVec 32 := 128#32
  let v360 : BitVec 32 := Scalar.muli arg4 c128_i32_149
  let v361 : Index := Scalar.indexCast v360
  ![0, 0, v361.toNat]
@[reducible] def k0_t31_loop (i : grid0.Coords) : Scf.Loop 32 :=
  let arg1 : BitVec 32 := BitVec.ofNat 32 (i 1).val
  let c8_i32_130 : BitVec 32 := 8#32
  let v315 : BitVec 32 := Scalar.muli arg1 c8_i32_130
  let c7_i32 : BitVec 32 := 7#32
  let v316 : BitVec 32 := Scalar.addi v315 c7_i32
  let c8_i32_140 : BitVec 32 := 8#32
  let v334 : BitVec 32 := Scalar.subi c8_i32_140 v316
  let c1_i32_141 : BitVec 32 := 1#32
  let v336 : BitVec 32 := Scalar.divsi v334 c1_i32_141
  let v337 : BitVec 32 := Scalar.muli v336 c1_i32_141
  let v338 : BitVec 32 := Scalar.addi v316 v337
  let c1_i32_142 : BitVec 32 := 1#32
  ⟨v316, v338, c1_i32_142⟩
def k0_off32 (i : grid0.Coords) (k0_t31 : Fin (k0_t31_loop i).trips) : Fin 3 → Nat :=
  let c0_150 : Index := 0#32
  let c0_151 : Index := 0#32
  let arg1 : BitVec 32 := BitVec.ofNat 32 (i 1).val
  let c8_i32_130 : BitVec 32 := 8#32
  let v315 : BitVec 32 := Scalar.muli arg1 c8_i32_130
  let c7_i32 : BitVec 32 := 7#32
  let v316 : BitVec 32 := Scalar.addi v315 c7_i32
  let c1_i32_142 : BitVec 32 := 1#32
  let arg4 : BitVec 32 := Scf.iv v316 c1_i32_142 k0_t31
  let c128_i32_149 : BitVec 32 := 128#32
  let v360 : BitVec 32 := Scalar.muli arg4 c128_i32_149
  let v361 : Index := Scalar.indexCast v360
  ![0, 0, v361.toNat]
@[reducible] def k0_t32_loop (i : grid0.Coords) : Scf.Loop 32 :=
  let arg1 : BitVec 32 := BitVec.ofNat 32 (i 1).val
  let c8_i32_130 : BitVec 32 := 8#32
  let v315 : BitVec 32 := Scalar.muli arg1 c8_i32_130
  let c7_i32 : BitVec 32 := 7#32
  let v316 : BitVec 32 := Scalar.addi v315 c7_i32
  let c8_i32_140 : BitVec 32 := 8#32
  let v334 : BitVec 32 := Scalar.subi c8_i32_140 v316
  let c1_i32_141 : BitVec 32 := 1#32
  let v336 : BitVec 32 := Scalar.divsi v334 c1_i32_141
  let v337 : BitVec 32 := Scalar.muli v336 c1_i32_141
  let v338 : BitVec 32 := Scalar.addi v316 v337
  let v335 : BitVec 32 := Scalar.addi v316 v334
  let c1_i32_143 : BitVec 32 := 1#32
  ⟨v338, v335, c1_i32_143⟩
def k0_off33 (i : grid0.Coords) (k0_t32 : Fin (k0_t32_loop i).trips) : Fin 3 → Nat :=
  let c0_150 : Index := 0#32
  let c0_151 : Index := 0#32
  let arg1 : BitVec 32 := BitVec.ofNat 32 (i 1).val
  let c8_i32_130 : BitVec 32 := 8#32
  let v315 : BitVec 32 := Scalar.muli arg1 c8_i32_130
  let c7_i32 : BitVec 32 := 7#32
  let v316 : BitVec 32 := Scalar.addi v315 c7_i32
  let c8_i32_140 : BitVec 32 := 8#32
  let v334 : BitVec 32 := Scalar.subi c8_i32_140 v316
  let c1_i32_141 : BitVec 32 := 1#32
  let v336 : BitVec 32 := Scalar.divsi v334 c1_i32_141
  let v337 : BitVec 32 := Scalar.muli v336 c1_i32_141
  let v338 : BitVec 32 := Scalar.addi v316 v337
  let c1_i32_143 : BitVec 32 := 1#32
  let arg4 : BitVec 32 := Scf.iv v338 c1_i32_143 k0_t32
  let c128_i32_149 : BitVec 32 := 128#32
  let v360 : BitVec 32 := Scalar.muli arg4 c128_i32_149
  let v361 : Index := Scalar.indexCast v360
  ![0, 0, v361.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== RankReferenceIdeal.lean ====
abbrev S20x1024 : Shape := ⟨2, ![20, 1024]⟩
abbrev S20x8x128 : Shape := ⟨3, ![20, 8, 128]⟩

abbrev nBuf : Space → Nat
  | .hbm => 9
  | .vmem => 0
  | .smem => 0
  | _ => 0

abbrev bufTy : (tb : Table) → Fin (tcTables nBuf tb) → BufTy
  | .hbm, ⟨0, _⟩ => ⟨S20x1024, .i32⟩
  | .hbm, ⟨1, _⟩ => ⟨S20x1024, .i32⟩
  | .hbm, ⟨2, _⟩ => ⟨S20x1024, .i32⟩
  | .hbm, ⟨3, _⟩ => ⟨S20x1024, .i32⟩
  | .hbm, ⟨4, _⟩ => ⟨S20x1024, .i32⟩
  | .hbm, ⟨5, _⟩ => ⟨S20x1024, .i32⟩
  | .hbm, ⟨6, _⟩ => ⟨S20x1024, .i32⟩
  | .hbm, ⟨7, _⟩ => ⟨S20x1024, .i32⟩
  | .hbm, ⟨8, _⟩ => ⟨S20x8x128, .i32⟩
  | _, _ => ⟨S20x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_call1_v0 : Ref sig .tc := ⟨.hbm, 5, rfl⟩
abbrev main_call1_v1_0 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== NmsIdeal.lean ====
abbrev S20x8x1024 : Shape := ⟨3, ![20, 8, 1024]⟩
abbrev S20x1024x8 : Shape := ⟨3, ![20, 1024, 8]⟩
abbrev S1x8x1024 : Shape := ⟨3, ![1, 8, 1024]⟩
abbrev S1x1024x8 : Shape := ⟨3, ![1, 1024, 8]⟩
abbrev S1024 : Shape := ⟨1, ![1024]⟩
abbrev S1x1x1024 : Shape := ⟨3, ![1, 1, 1024]⟩
abbrev S1x128x1 : Shape := ⟨3, ![1, 128, 1]⟩
abbrev S128 : Shape := ⟨1, ![128]⟩
abbrev S128x1 : Shape := ⟨2, ![128, 1]⟩
abbrev S1x128 : Shape := ⟨2, ![1, 128]⟩
abbrev S1x1024 : Shape := ⟨2, ![1, 1024]⟩
abbrev S128x128 : Shape := ⟨2, ![128, 128]⟩
abbrev S8x128 : Shape := ⟨2, ![8, 128]⟩
abbrev S1 : Shape := ⟨1, ![1]⟩
abbrev S1x1 : Shape := ⟨2, ![1, 1]⟩
abbrev S1x1x128 : Shape := ⟨3, ![1, 1, 128]⟩

abbrev nBuf : Space → Nat
  | .hbm => 3
  | .vmem => 7
  | .smem => 0
  | _ => 0

abbrev bufTy : (tb : Table) → Fin (tcTables nBuf tb) → BufTy
  | .hbm, ⟨0, _⟩ => ⟨S20x8x1024, .f32⟩
  | .hbm, ⟨1, _⟩ => ⟨S20x1024x8, .f32⟩
  | .hbm, ⟨2, _⟩ => ⟨S20x8x1024, .f32⟩
  | .local _ .vmem, ⟨0, _⟩ => ⟨S1x8x1024, .f32⟩
  | .local _ .vmem, ⟨1, _⟩ => ⟨S1x8x1024, .f32⟩
  | .local _ .vmem, ⟨2, _⟩ => ⟨S1x1024x8, .f32⟩
  | .local _ .vmem, ⟨3, _⟩ => ⟨S1x1024x8, .f32⟩
  | .local _ .vmem, ⟨4, _⟩ => ⟨S1x8x1024, .f32⟩
  | .local _ .vmem, ⟨5, _⟩ => ⟨S1x8x1024, .f32⟩
  | .local _ .vmem, ⟨6, _⟩ => ⟨S1024, .f32⟩
  | _, _ => ⟨S20x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![20], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NmsReferenceIdeal.lean ====
abbrev S20x8x1024 : Shape := ⟨3, ![20, 8, 1024]⟩
abbrev S20x1024x8 : Shape := ⟨3, ![20, 1024, 8]⟩
abbrev S20x4x1024 : Shape := ⟨3, ![20, 4, 1024]⟩
abbrev S_ : Shape := ⟨0, ![]⟩
abbrev S20x1x1024 : Shape := ⟨3, ![20, 1, 1024]⟩
abbrev S20x1024 : Shape := ⟨2, ![20, 1024]⟩
abbrev S20x1024x1 : Shape := ⟨3, ![20, 1024, 1]⟩
abbrev S20x1024x1024 : Shape := ⟨3, ![20, 1024, 1024]⟩
abbrev S1024 : Shape := ⟨1, ![1024]⟩
abbrev S1x1024 : Shape := ⟨2, ![1, 1024]⟩
abbrev S20 : Shape := ⟨1, ![20]⟩
abbrev S20x1 : Shape := ⟨2, ![20, 1]⟩
abbrev S20x2x1024 : Shape := ⟨3, ![20, 2, 1024]⟩

abbrev nBuf : Space → Nat
  | .hbm => 147
  | .vmem => 0
  | .smem => 0
  | _ => 0

abbrev hbmTy0_0 (i : Nat) : BufTy := match i % 128 with
  | 0 => ⟨S20x8x1024, .f32⟩
  | 1 => ⟨S20x1024x8, .f32⟩
  | 2 => ⟨S20x4x1024, .f32⟩
  | 3 => ⟨S_, .f32⟩
  | 4 => ⟨S_, .f32⟩
  | 5 => ⟨S_, .f32⟩
  | 6 => ⟨S20x4x1024, .f32⟩
  | 7 => ⟨S20x4x1024, .f32⟩
  | 8 => ⟨S_, .f32⟩
  | 9 => ⟨S20x4x1024, .f32⟩
  | 10 => ⟨S20x4x1024, .f32⟩
  | 11 => ⟨S20x1x1024, .f32⟩
  | 12 => ⟨S20x1024, .f32⟩
  | 13 => ⟨S20x1x1024, .f32⟩
  | 14 => ⟨S20x1024, .f32⟩
  | 15 => ⟨S20x1x1024, .f32⟩
  | 16 => ⟨S20x1024, .f32⟩
  | 17 => ⟨S20x1x1024, .f32⟩
  | 18 => ⟨S20x1024, .f32⟩
  | 19 => ⟨S20x1024, .f32⟩
  | 20 => ⟨S_, .f32⟩
  | 21 => ⟨S20x1024, .f32⟩
  | 22 => ⟨S20x1024, .f32⟩
  | 23 => ⟨S20x1024, .f32⟩
  | 24 => ⟨S_, .f32⟩
  | 25 => ⟨S20x1024, .f32⟩
  | 26 => ⟨S20x1024, .f32⟩
  | 27 => ⟨S20x1024, .f32⟩
  | 28 => ⟨S20x1024x1, .f32⟩
  | 29 => ⟨S20x1x1024, .f32⟩
  | 30 => ⟨S20x1024x1024, .f32⟩
  | 31 => ⟨S20x1024x1024, .f32⟩
  | 32 => ⟨S20x1024x1024, .f32⟩
  | 33 => ⟨S20x1024x1, .f32⟩
  | 34 => ⟨S20x1x1024, .f32⟩
  | 35 => ⟨S20x1024x1024, .f32⟩
  | 36 => ⟨S20x1024x1024, .f32⟩
  | 37 => ⟨S20x1024x1024, .f32⟩
  | 38 => ⟨S20x1024x1024, .f32⟩
  | 39 => ⟨S20x1024x1, .f32⟩
  | 40 => ⟨S20x1x1024, .f32⟩
  | 41 => ⟨S20x1024x1024, .f32⟩
  | 42 => ⟨S20x1024x1024, .f32⟩
  | 43 => ⟨S20x1024x1024, .f32⟩
  | 44 => ⟨S20x1024x1, .f32⟩
  | 45 => ⟨S20x1x1024, .f32⟩
  | 46 => ⟨S20x1024x1024, .f32⟩
  | 47 => ⟨S20x1024x1024, .f32⟩
  | 48 => ⟨S20x1024x1024, .f32⟩
  | 49 => ⟨S20x1024x1024, .f32⟩
  | 50 => ⟨S_, .f32⟩
  | 51 => ⟨S20x1024x1024, .f32⟩
  | 52 => ⟨S20x1024x1024, .f32⟩
  | 53 => ⟨S_, .f32⟩
  | 54 => ⟨S20x1024x1024, .f32⟩
  | 55 => ⟨S20x1024x1024, .f32⟩
  | 56 => ⟨S20x1024x1024, .f32⟩
  | 57 => ⟨S20x1024x1, .f32⟩
  | 58 => ⟨S20x1x1024, .f32⟩
  | 59 => ⟨S20x1024x1024, .f32⟩
  | 60 => ⟨S20x1024x1024, .f32⟩
  | 61 => ⟨S20x1024x1024, .f32⟩
  | 62 => ⟨S20x1024x1024, .f32⟩
  | 63 => ⟨S_, .f32⟩
  | 64 => ⟨S20x1024x1024, .f32⟩
  | 65 => ⟨S20x1024x1024, .f32⟩
  | 66 => ⟨S20x1024x1024, .f32⟩
  | 67 => ⟨S_, .f32⟩
  | 68 => ⟨S20x1024x1024, .f32⟩
  | 69 => ⟨S20x1024x1024, .i1⟩
  | 70 => ⟨S1024, .i32⟩
  | 71 => ⟨S20x1x1024, .f32⟩
  | 72 => ⟨S20x1024, .f32⟩
  | 73 => ⟨S_, .f32⟩
  | 74 => ⟨S20x1024, .f32⟩
  | 75 => ⟨S20x1024, .i1⟩
  | 76 => ⟨S_, .i32⟩
  | 77 => ⟨S1024, .i32⟩
  | 78 => ⟨S1024, .i1⟩
  | 79 => ⟨S1x1024, .i1⟩
  | 80 => ⟨S20x1024, .i1⟩
  | 81 => ⟨S20x1024, .i1⟩
  | 82 => ⟨S_, .i1⟩
  | 83 => ⟨S20x1024, .i1⟩
  | 84 => ⟨S_, .i32⟩
  | 85 => ⟨S_, .i32⟩
  | 86 => ⟨S20x1024x1024, .i1⟩
  | 87 => ⟨S20x1024, .i1⟩
  | 88 => ⟨S1024, .i32⟩
  | 89 => ⟨S_, .i32⟩
  | 90 => ⟨S_, .i32⟩
  | 91 => ⟨S20x1024, .i1⟩
  | 92 => ⟨S_, .i32⟩
  | 93 => ⟨S_, .i1⟩
  | 94 => ⟨S_, .i32⟩
  | 95 => ⟨S_, .i32⟩
  | 96 => ⟨S_, .i32⟩
  | 97 => ⟨S_, .i1⟩
  | 98 => ⟨S_, .i32⟩
  | 99 => ⟨S_, .i32⟩
  | 100 => ⟨S_, .i32⟩
  | 101 => ⟨S_, .i32⟩
  | 102 => ⟨S_, .i32⟩
  | 103 => ⟨S_, .i32⟩
  | 104 => ⟨S20x1x1024, .i1⟩
  | 105 => ⟨S20x1024, .i1⟩
  | 106 => ⟨S20x1024, .i1⟩
  | 107 => ⟨S_, .i1⟩
  | 108 => ⟨S20, .i1⟩
  | 109 => ⟨S_, .i32⟩
  | 110 => ⟨S_, .i1⟩
  | 111 => ⟨S_, .i32⟩
  | 112 => ⟨S_, .i32⟩
  | 113 => ⟨S_, .i32⟩
  | 114 => ⟨S_, .i32⟩
  | 115 => ⟨S_, .i32⟩
  | 116 => ⟨S20x1, .i1⟩
  | 117 => ⟨S20, .i1⟩
  | 118 => ⟨S20, .i1⟩
  | 119 => ⟨S20, .i1⟩
  | 120 => ⟨S_, .i32⟩
  | 121 => ⟨S1024, .i32⟩
  | 122 => ⟨S1024, .i1⟩
  | 123 => ⟨S20x1, .i1⟩
  | 124 => ⟨S20x1024, .i1⟩
  | 125 => ⟨S20x1024, .i1⟩
  | 126 => ⟨S20x1024, .i1⟩
  | 127 => ⟨S_, .i32⟩
  | _ => ⟨S20x8x1024, .f32⟩

abbrev hbmTy0_1 (i : Nat) : BufTy := match i % 128 with
  | 0 => ⟨S_, .i32⟩
  | 1 => ⟨S20x1024, .f32⟩
  | 2 => ⟨S20x1x1024, .f32⟩
  | 3 => ⟨S20x4x1024, .f32⟩
  | 4 => ⟨S_, .f32⟩
  | 5 => ⟨S_, .f32⟩
  | 6 => ⟨S_, .f32⟩
  | 7 => ⟨S20x4x1024, .f32⟩
  | 8 => ⟨S20x4x1024, .f32⟩
  | 9 => ⟨S_, .f32⟩
  | 10 => ⟨S20x4x1024, .f32⟩
  | 11 => ⟨S20x4x1024, .f32⟩
  | 12 => ⟨S20x4x1024, .f32⟩
  | 13 => ⟨S20x4x1024, .f32⟩
  | 14 => ⟨S20x1x1024, .f32⟩
  | 15 => ⟨S20x1x1024, .f32⟩
  | 16 => ⟨S_, .f32⟩
  | 17 => ⟨S20x2x1024, .f32⟩
  | 18 => ⟨S20x8x1024, .f32⟩
  | _ => ⟨S20x8x1024, .f32⟩

abbrev hbmTy (i : Nat) : BufTy := match i / 128 with
  | 0 => hbmTy0_0 i
  | 1 => hbmTy0_1 i
  | _ => ⟨S20x8x1024, .f32⟩

abbrev bufTy : (tb : Table) → Fin (tcTables nBuf tb) → BufTy
  | .hbm, ⟨i, _⟩ => hbmTy i
  | _, _ => ⟨S20x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_3 : Ref sig .tc := ⟨.hbm, 50, rfl⟩
abbrev main_v39 : Ref sig .tc := ⟨.hbm, 51, rfl⟩
abbrev main_v40 : Ref sig .tc := ⟨.hbm, 52, rfl⟩
abbrev main_cst_4 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_5 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_6 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_7 : Ref sig .tc := ⟨.hbm, 73, rfl⟩
abbrev main_v58 : Ref sig .tc := ⟨.hbm, 74, rfl⟩
abbrev main_v59 : Ref sig .tc := ⟨.hbm, 75, rfl⟩
abbrev main_c : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_c_8 : Ref sig .tc := ⟨.hbm, 82, rfl⟩
abbrev main_v65 : Ref sig .tc := ⟨.hbm, 83, rfl⟩
abbrev main_c_9 : Ref sig .tc := ⟨.hbm, 84, rfl⟩
abbrev main_c_10 : Ref sig .tc := ⟨.hbm, 85, rfl⟩
abbrev main_v66_0 : Ref sig .tc := ⟨.hbm, 86, rfl⟩
abbrev main_v66_1 : Ref sig .tc := ⟨.hbm, 87, rfl⟩
abbrev main_v66_2 : Ref sig .tc := ⟨.hbm, 88, rfl⟩
abbrev main_v66_3 : Ref sig .tc := ⟨.hbm, 89, rfl⟩
abbrev main_v66_4 : Ref sig .tc := ⟨.hbm, 90, rfl⟩
abbrev main_v66_5 : Ref sig .tc := ⟨.hbm, 91, rfl⟩
abbrev main_while0c_c_19 : Ref sig .tc := ⟨.hbm, 92, rfl⟩
abbrev main_while0c_v77 : Ref sig .tc := ⟨.hbm, 93, rfl⟩
abbrev main_while0b_c_19 : Ref sig .tc := ⟨.hbm, 94, rfl⟩
abbrev main_while0b_v77 : Ref sig .tc := ⟨.hbm, 95, rfl⟩
abbrev main_while0b_call1_c : Ref sig .tc := ⟨.hbm, 96, rfl⟩
abbrev main_while0b_call1_v0 : Ref sig .tc := ⟨.hbm, 97, rfl⟩
abbrev main_while0b_call1_v1 : Ref sig .tc := ⟨.hbm, 98, rfl⟩
abbrev main_while0b_call1_c_0 : Ref sig .tc := ⟨.hbm, 99, rfl⟩
abbrev main_while0b_call1_v2 : Ref sig .tc := ⟨.hbm, 100, rfl⟩
abbrev main_while0b_call1_v3 : Ref sig .tc := ⟨.hbm, 101, rfl⟩
abbrev main_while0b_call1_c_1 : Ref sig .tc := ⟨.hbm, 102, rfl⟩
abbrev main_while0b_call1_c_2 : Ref sig .tc := ⟨.hbm, 103, rfl⟩
abbrev main_while0b_call1_v4 : Ref sig .tc := ⟨.hbm, 104, rfl⟩
abbrev main_while0b_v78 : Ref sig .tc := ⟨.hbm, 105, rfl⟩
abbrev main_while0b_v79 : Ref sig .tc := ⟨.hbm, 106, rfl⟩
abbrev main_while0b_c_20 : Ref sig .tc := ⟨.hbm, 107, rfl⟩
abbrev main_while0b_v80 : Ref sig .tc := ⟨.hbm, 108, rfl⟩
abbrev main_while0b_call2_c : Ref sig .tc := ⟨.hbm, 109, rfl⟩
abbrev main_while0b_call2_v0 : Ref sig .tc := ⟨.hbm, 110, rfl⟩
abbrev main_while0b_call2_v1 : Ref sig .tc := ⟨.hbm, 111, rfl⟩
abbrev main_while0b_call2_c_0 : Ref sig .tc := ⟨.hbm, 112, rfl⟩
abbrev main_while0b_call2_v2 : Ref sig .tc := ⟨.hbm, 113, rfl⟩
abbrev main_while0b_call2_v3 : Ref sig .tc := ⟨.hbm, 114, rfl⟩
abbrev main_while0b_call2_c_1 : Ref sig .tc := ⟨.hbm, 115, rfl⟩
abbrev main_while0b_call2_v4 : Ref sig .tc := ⟨.hbm, 116, rfl⟩
abbrev main_while0b_v81 : Ref sig .tc := ⟨.hbm, 117, rfl⟩
abbrev main_while0b_v82 : Ref sig .tc := ⟨.hbm, 118, rfl⟩
abbrev main_while0b_v83 : Ref sig .tc := ⟨.hbm, 119, rfl⟩
abbrev main_while0b_v84 : Ref sig .tc := ⟨.hbm, 120, rfl⟩
abbrev main_while0b_v85 : Ref sig .tc := ⟨.hbm, 121, rfl⟩
abbrev main_while0b_v86 : Ref sig .tc := ⟨.hbm, 122, rfl⟩
abbrev main_while0b_v87 : Ref sig .tc := ⟨.hbm, 123, rfl⟩
abbrev main_while0b_call3_v0 : Ref sig .tc := ⟨.hbm, 124, rfl⟩
abbrev main_while0b_call3_v1 : Ref sig .tc := ⟨.hbm, 125, rfl⟩
abbrev main_while0b_v88 : Ref sig .tc := ⟨.hbm, 126, rfl⟩
abbrev main_while0b_c_21 : Ref sig .tc := ⟨.hbm, 127, rfl⟩
abbrev main_while0b_v89 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_cst_11 : Ref sig .tc := ⟨.hbm, 132, rfl⟩
abbrev main_cst_12 : Ref sig .tc := ⟨.hbm, 133, rfl⟩
abbrev main_call4_v0 : Ref sig .tc := ⟨.hbm, 134, rfl⟩
abbrev main_call4_v1 : Ref sig .tc := ⟨.hbm, 135, rfl⟩
abbrev main_call4_v2 : Ref sig .tc := ⟨.hbm, 136, rfl⟩
abbrev main_call4_v3 : Ref sig .tc := ⟨.hbm, 137, rfl⟩
abbrev main_call4_v4 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_cst_13 : Ref sig .tc := ⟨.hbm, 144, rfl⟩
abbrev main_v75 : Ref sig .tc := ⟨.hbm, 145, rfl⟩
abbrev main_v76 : Ref sig .tc := ⟨.hbm, 146, rfl⟩

abbrev nD : Nat := 1
abbrev τ : Topo := Topo.v7x

variable {F : FTy → Type} [FloatOps F]

abbrev main_while0_count : Scf.Loop 32 := ⟨0#32, 1024#32, 1#32⟩
-- ==== Proof.Lanes.lean ====
/-
  Sixteen-lane vectors of a SparseCore tile, read lane by lane: what a running sum of mask bits counts, and what an
  indexed store leaves at one element.
-/
module

public import proofs.«01_k».proof.Proof.Gen.KernelIdeal
public import Mathlib.Data.Nat.Count

@[expose] public section

namespace Cert.Proof.Lanes

open Idealize.ShloMosaic

/-- Lane `k` of a sixteen-lane vector. -/
abbrev lane (k : Fin 16) : (⟨1, ![16]⟩ : Shape).Idx := Shape.ofLane (d := ![16]) k

theorem lane_eta (x : (⟨1, ![16]⟩ : Shape).Idx) : ∃ k : Fin 16, x = lane k :=
  ⟨x 0, funext fun a => by rw [Fin.eq_zero a]; rfl⟩

theorem lane_zero (k : Fin 16) : (lane k 0).val = k.val := rfl

/-- A word of mask bits taken as numbers. -/
theorem bit_eq (b : BitVec 1) : b.setWidth 32 = BitVec.ofNat 32 (if b = 1 then 1 else 0) := by
  revert b; decide

/-- Adding up numbers as words. -/
theorem foldl_words {α : Type} (g : α → Nat) (L : List α) (a : Nat) :
    L.foldl (fun r k => r + BitVec.ofNat 32 (g k)) (BitVec.ofNat 32 a) = BitVec.ofNat 32 (a + (L.map g).sum) := by
  induction L generalizing a with
  | nil => simp
  | cons x L ih =>
    rw [List.foldl_cons, ← BitVec.ofNat_add, ih, List.map_cons, List.sum_cons, Nat.add_assoc]

/-- The lanes up to a lane. -/
theorem upto (j : Fin 16) : (⟨0, by omega⟩ :: (List.finRange 16).filter fun k => decide (0 < k.val ∧ k.val ≤ j.val)).map Fin.val
    = List.range (j.val + 1) := by
  revert j; decide

theorem sum_range_count (p : Nat → Prop) [DecidablePred p] (n : Nat) :
    ((List.range n).map fun k => if p k then 1 else 0).sum = Nat.count p n := by
  induction n with
  | zero => rfl
  | succ n ih => rw [List.range_succ, List.map_append, List.sum_append, ih, Nat.count_succ]; simp

/-- The running sum of mask bits at a lane counts the set lanes up to it. -/
theorem scan_mask (m : IVec (⟨1, ![16]⟩ : Shape) 1) (h : 1 < 32) (p : Nat → Prop) [DecidablePred p]
    (hp : ∀ k : Fin 16, m (lane k) = 1 ↔ p k.val) (j : Fin 16) :
    scan .sum (extui 32 m h) (lane j) = BitVec.ofNat 32 (Nat.count p (j.val + 1)) := by
  have e : ∀ k : Fin 16, (extui 32 m h) (lane k) = BitVec.ofNat 32 (if p k.val then 1 else 0) := fun k => by
    show (m (lane k)).setWidth 32 = _
    rw [bit_eq]; simp only [hp k]
  have key : scan .sum (extui 32 m h) (lane j)
      = ((List.finRange 16).filter fun k => decide (0 < k.val ∧ k.val ≤ j.val)).foldl
          (fun r k => r + BitVec.ofNat 32 (if p k.val then 1 else 0)) (BitVec.ofNat 32 (if p 0 then 1 else 0)) := by
    show List.foldl _ (extui 32 m h (lane ⟨0, by omega⟩)) _ = _
    rw [e]
    congr 1
    funext r k
    show r + extui 32 m h (lane k) = _
    exact congrArg (r + ·) (e k)
  rw [key, foldl_words, ← sum_range_count, ← upto j]
  simp [Function.comp_def]

variable {F : FTy → Type} [FloatOps F] {s : Shape} {e : EltTy} {d : Fin 1 → Nat}

/-- One lane's part of an indexed store. -/
def put (idxs : Fin s.rank → IVec ⟨1, d⟩ 32) (v : Vec F ⟨1, d⟩ e) (mask : IVec ⟨1, d⟩ 1)
    (h : ∀ a x, (idxs a x).toNat < s.size a) (g : Vec F s e) (k : Fin (d 0)) : Vec F s e :=
  if mask (Shape.ofLane k) = 1 then
    fun j => if (∀ a, (j a).val = (idxAt idxs h (Shape.ofLane k) a).val) then v (Shape.ofLane k) else g j
  else g

theorem storeIdx_eq (f : Vec F s e) (idxs : Fin s.rank → IVec ⟨1, d⟩ 32) (v : Vec F ⟨1, d⟩ e) (mask : IVec ⟨1, d⟩ 1)
    (h : ∀ a x, (idxs a x).toNat < s.size a) :
    storeIdx f idxs v mask false h = (List.finRange (d 0)).foldl (put idxs v mask h) f := by
  unfold storeIdx
  congr 1
  funext g k
  unfold put
  simp only [Bool.false_eq_true, if_false]

/-- An indexed store's effect at an element no set lane names. -/
theorem storeIdx_miss (f : Vec F s e) (idxs : Fin s.rank → IVec ⟨1, d⟩ 32) (v : Vec F ⟨1, d⟩ e) (mask : IVec ⟨1, d⟩ 1)
    (h : ∀ a x, (idxs a x).toNat < s.size a) (j : s.Idx)
    (hj : ∀ k : Fin (d 0), mask (Shape.ofLane k) = 1 → ¬ ∀ a, (j a).val = (idxs a (Shape.ofLane k)).toNat) :
    storeIdx f idxs v mask false h j = f j := by
  rw [storeIdx_eq]
  suffices ∀ (L : List (Fin (d 0))) (g : Vec F s e), g j = f j →
      (L.foldl (put idxs v mask h) g) j = f j from this _ f rfl
  intro L
  induction L with
  | nil => exact fun g hg => hg
  | cons k L ih =>
    intro g hg
    rw [List.foldl_cons]
    apply ih
    by_cases hm : mask (Shape.ofLane k) = 1
    · unfold put; rw [if_pos hm]
      rw [if_neg]
      · exact hg
      · exact hj k hm
    · unfold put; rw [if_neg hm]; exact hg

/-- An indexed store's effect at the element one set lane names and no later set lane does. -/
theorem storeIdx_hit (f : Vec F s e) (idxs : Fin s.rank → IVec ⟨1, d⟩ 32) (v : Vec F ⟨1, d⟩ e) (mask : IVec ⟨1, d⟩ 1)
    (h : ∀ a x, (idxs a x).toNat < s.size a) (j : s.Idx) (k : Fin (d 0)) (hk : mask (Shape.ofLane k) = 1)
    (hj : ∀ a, (j a).val = (idxs a (Shape.ofLane k)).toNat)
    (hlast : ∀ k' : Fin (d 0), mask (Shape.ofLane k') = 1 → (∀ a, (j a).val = (idxs a (Shape.ofLane k')).toNat) → k' = k) :
    storeIdx f idxs v mask false h j = v (Shape.ofLane k) := by
  rw [storeIdx_eq]
  suffices ∀ (L : List (Fin (d 0))) (g : Vec F s e), (k ∈ L ∨ g j = v (Shape.ofLane k)) →
      (L.foldl (put idxs v mask h) g) j = v (Shape.ofLane k) from this _ f (Or.inl (List.mem_finRange k))
  intro L
  induction L with
  | nil => exact fun g hg => hg.resolve_left (by simp)
  | cons k' L ih =>
    intro g hg
    rw [List.foldl_cons]
    apply ih
    by_cases hkL : k ∈ L
    · exact .inl hkL
    right
    by_cases hm : mask (Shape.ofLane k') = 1
    · unfold put; rw [if_pos hm]
      by_cases hh : ∀ a, (j a).val = (idxs a (Shape.ofLane k')).toNat
      · have := hlast k' hm hh
        subst this
        exact if_pos hh
      · refine (if_neg hh).trans ?_
        rcases hg with hg | hg
        · rcases List.mem_cons.mp hg with hg | hg
          · exact absurd (hg ▸ hj) hh
          · exact absurd hg hkL
        · exact hg
    · unfold put; rw [if_neg hm]
      rcases hg with hg | hg
      · rcases List.mem_cons.mp hg with hg | hg
        · exact absurd (hg ▸ hk) hm
        · exact absurd hg hkL
      · exact hg

end Cert.Proof.Lanes
-- ==== Proof.Setup.lean ====
/-
  The compacting call as the launch theorem sees it: the program's configuration, the resource algebra, the arrays and the
  scratch buffers of a tile, and which pieces of the arrays a tile is handed.
-/
module

public import proofs.«01_k».proof.Defs
public import proofs.«01_k».proof.Proof.Gen.KernelIdeal
public import proofs.«01_k».proof.Proof.Gen.KernelIdeal.Skeleton
public import proofs.«01_k».proof.Proof.Lanes
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Compact

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-- The arrays the call reads and writes, as locations of device `d`. -/
abbrev kLoc (d : Dev nD) : Loc nD τ sig := (SparseCore.T d).loc main_arg0
abbrev wLoc (d : Dev nD) : Loc nD τ sig := (SparseCore.T d).loc main_arg1
abbrev bLoc (d : Dev nD) : Loc nD τ sig := (SparseCore.T d).loc main_v6
abbrev uLoc (d : Dev nD) : Loc nD τ sig := (SparseCore.T d).loc main_v7_0
abbrev oLoc (d : Dev nD) : Loc nD τ sig := (SparseCore.T d).loc main_v7_1

local notation "kV" => (Memref.whole Cert.KernelIdeal.main_arg0_scv : Memref Cert.KernelIdeal.sig Kind.scVector Space.hbm Cert.KernelIdeal.S20x5120 EltTy.i32)
local notation "wV" => (Memref.whole Cert.KernelIdeal.main_arg1_scv : Memref Cert.KernelIdeal.sig Kind.scVector Space.hbm Cert.KernelIdeal.S20x5x5120 EltTy.f32)
local notation "bV" => (Memref.whole Cert.KernelIdeal.main_v6_scv : Memref Cert.KernelIdeal.sig Kind.scVector Space.hbm Cert.KernelIdeal.S20x128 EltTy.i32)
local notation "uV" => (Memref.whole Cert.KernelIdeal.main_v7_0_scv : Memref Cert.KernelIdeal.sig Kind.scVector Space.hbm Cert.KernelIdeal.S20x1024 EltTy.i32)
local notation "oV" => (Memref.whole Cert.KernelIdeal.main_v7_1_scv : Memref Cert.KernelIdeal.sig Kind.scVector Space.hbm Cert.KernelIdeal.S20x5120 EltTy.f32)
local notation "sU" => (Memref.whole Cert.KernelIdeal.cc0_scratch0 : Memref Cert.KernelIdeal.sig Kind.scVector Space.vmem Cert.KernelIdeal.S5120 EltTy.i32)
local notation "sW" => (Memref.whole Cert.KernelIdeal.cc0_scratch1 : Memref Cert.KernelIdeal.sig Kind.scVector Space.vmem Cert.KernelIdeal.S5x5120 EltTy.f32)
local notation "sB" => (Memref.whole Cert.KernelIdeal.cc0_scratch2 : Memref Cert.KernelIdeal.sig Kind.scVector Space.vmem Cert.KernelIdeal.S128 EltTy.i32)
local notation "sC" => (Memref.whole Cert.KernelIdeal.cc0_scratch3 : Memref Cert.KernelIdeal.sig Kind.scVector Space.vmem Cert.KernelIdeal.S1024 EltTy.i32)
local notation "sD" => (Memref.whole Cert.KernelIdeal.cc0_scratch4 : Memref Cert.KernelIdeal.sig Kind.scVector Space.vmem Cert.KernelIdeal.S5120 EltTy.f32)

/-- Row `w` of the arrays. -/
theorem hd2 {n : Nat} : 20 ∣ (⟨2, ![20, n]⟩ : Shape).size 0 := ⟨1, rfl⟩
theorem hd3 : 20 ∣ S20x5x5120.size 0 := ⟨1, rfl⟩
abbrev row2 (n : Nat) (w : Fin 20) : Rect (⟨2, ![20, n]⟩ : Shape) := Rect.part (s := ⟨2, ![20, n]⟩) (a₀ := 0) hd2 w
abbrev row3 (w : Fin 20) : Rect S20x5x5120 := Rect.part (s := S20x5x5120) (a₀ := 0) hd3 w
abbrev kSet (w : Fin 20) : Finset S20x5120.Idx := (row2 5120 w).set
abbrev wSet (w : Fin 20) : Finset S20x5x5120.Idx := (row3 w).set
abbrev bSet (w : Fin 20) : Finset S20x128.Idx := (row2 128 w).set
abbrev uSet (w : Fin 20) : Finset S20x1024.Idx := (row2 1024 w).set

section Tile

variable (L : grid0.Coords)

abbrev cV (L : grid0.Coords) : Fin τ.nSC := (L 0).castLE hcore0
abbrev jV (L : grid0.Coords) : Fin τ.nSub := (L 1).castLE hsub0

/-- The row a tile works on. -/
abbrev wid (L : grid0.Coords) : Nat := 2 * (L 1).val + (L 0).val

theorem cond_iff : ∀ L : grid0.Coords, k0_cond1 L = 1#1 ↔ wid L < 20 := by decide +kernel

variable (hw : wid L < 20)
abbrev rowK (h1 : k0_cond1 L = 1#1) : Rect S20x5120 := Rect.unit (s := S20x5120) (k0_off1 L) S1x5120.size (k0_off1_inb L h1)
abbrev rowW (h1 : k0_cond1 L = 1#1) : Rect S20x5x5120 := Rect.unit (s := S20x5x5120) (k0_off2 L) S1x5x5120.size (k0_off2_inb L h1)
abbrev rowB (h1 : k0_cond1 L = 1#1) : Rect S20x128 := Rect.unit (s := S20x128) (k0_off3 L) S1x128.size (k0_off3_inb L h1)
abbrev rowU (h1 : k0_cond1 L = 1#1) : Rect S20x1024 := Rect.unit (s := S20x1024) (k0_off10 L) S1x1024.size (k0_off10_inb L h1)

theorem rowK_eq (h1 : k0_cond1 L = 1#1) : rowK L h1 = row2 5120 ⟨wid L, hw⟩ := by
  unfold rowK row2 Rect.part Rect.block
  congr 1 <;> funext a
  · rw [k0_off1_eq]; match a with
    | 0 => simp [Shape.partIx, Shape.partSize]
    | 1 => simp [Shape.partIx, Shape.partSize]
  · match a with
    | 0 => simp [Shape.partSize]
    | 1 => simp [Shape.partSize]
theorem rowB_eq (h1 : k0_cond1 L = 1#1) : rowB L h1 = row2 128 ⟨wid L, hw⟩ := by
  unfold rowB row2 Rect.part Rect.block
  congr 1 <;> funext a
  · rw [k0_off3_eq]; match a with
    | 0 => simp [Shape.partIx, Shape.partSize]
    | 1 => simp [Shape.partIx, Shape.partSize]
  · match a with
    | 0 => simp [Shape.partSize]
    | 1 => simp [Shape.partSize]
theorem rowU_eq (h1 : k0_cond1 L = 1#1) : rowU L h1 = row2 1024 ⟨wid L, hw⟩ := by
  unfold rowU row2 Rect.part Rect.block
  congr 1 <;> funext a
  · rw [k0_off10_eq]; match a with
    | 0 => simp [Shape.partIx, Shape.partSize]
    | 1 => simp [Shape.partIx, Shape.partSize]
  · match a with
    | 0 => simp [Shape.partSize]
    | 1 => simp [Shape.partSize]
theorem rowW_eq (h1 : k0_cond1 L = 1#1) : rowW L h1 = row3 ⟨wid L, hw⟩ := by
  unfold rowW row3 Rect.part Rect.block
  congr 1 <;> funext a
  · rw [k0_off2_eq]; match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

/-- The pieces a tile's transfers address. -/
abbrev kP (h1 : k0_cond1 L = 1#1) : Memref sig .scVector .hbm S5120 .i32 := ((kV).slice (rowK L h1) (fun _ => rfl)).squeeze S5120 squeezes_S1x5120_S5120
abbrev wP (h1 : k0_cond1 L = 1#1) : Memref sig .scVector .hbm S5x5120 .f32 := ((wV).slice (rowW L h1) (fun _ => rfl)).squeeze S5x5120 squeezes_S1x5x5120_S5x5120
abbrev bP (h1 : k0_cond1 L = 1#1) : Memref sig .scVector .hbm S128 .i32 := ((bV).slice (rowB L h1) (fun _ => rfl)).squeeze S128 squeezes_S1x128_S128
abbrev uP (h1 : k0_cond1 L = 1#1) : Memref sig .scVector .hbm S1024 .i32 := ((uV).slice (rowU L h1) (fun _ => rfl)).squeeze S1024 squeezes_S1x1024_S1024
abbrev oP (h1 : k0_cond1 L = 1#1) : Memref sig .scVector .hbm S5120 .f32 := ((oV).slice (rowK L h1) (fun _ => rfl)).squeeze S5120 squeezes_S1x5120_S5120

theorem set_kP (h1 : k0_cond1 L = 1#1) : (kP L h1).view.set = kSet ⟨wid L, hw⟩ := by
  show (((kV).view.slice (rowK L h1)).reshape S5120 squeezes_S1x5120_S5120.numel_eq).set = _
  rw [View.set_reshape]
  exact (View.set_slice _ _).trans ((congrArg (fun r => Finset.map _ r.set) (rowK_eq L hw h1)).trans Finset.map_refl)
theorem set_wP (h1 : k0_cond1 L = 1#1) : (wP L h1).view.set = wSet ⟨wid L, hw⟩ := by
  show (((wV).view.slice (rowW L h1)).reshape S5x5120 squeezes_S1x5x5120_S5x5120.numel_eq).set = _
  rw [View.set_reshape]
  exact (View.set_slice _ _).trans ((congrArg (fun r => Finset.map _ r.set) (rowW_eq L hw h1)).trans Finset.map_refl)
theorem set_bP (h1 : k0_cond1 L = 1#1) : (bP L h1).view.set = bSet ⟨wid L, hw⟩ := by
  show (((bV).view.slice (rowB L h1)).reshape S128 squeezes_S1x128_S128.numel_eq).set = _
  rw [View.set_reshape]
  exact (View.set_slice _ _).trans ((congrArg (fun r => Finset.map _ r.set) (rowB_eq L hw h1)).trans Finset.map_refl)
theorem set_uP (h1 : k0_cond1 L = 1#1) : (uP L h1).view.set = uSet ⟨wid L, hw⟩ := by
  show (((uV).view.slice (rowU L h1)).reshape S1024 squeezes_S1x1024_S1024.numel_eq).set = _
  rw [View.set_reshape]
  exact (View.set_slice _ _).trans ((congrArg (fun r => Finset.map _ r.set) (rowU_eq L hw h1)).trans Finset.map_refl)
theorem set_oP (h1 : k0_cond1 L = 1#1) : (oP L h1).view.set = kSet ⟨wid L, hw⟩ := by
  show (((oV).view.slice (rowK L h1)).reshape S5120 squeezes_S1x5120_S5120.numel_eq).set = _
  rw [View.set_reshape]
  exact (View.set_slice _ _).trans ((congrArg (fun r => Finset.map _ r.set) (rowK_eq L hw h1)).trans Finset.map_refl)

variable (d : Dev nD)

theorem pts_kP (h1 : k0_cond1 L = 1#1) (f : Buf (Elt F) (kLoc d)) :
    ((kP L h1).view.loc (V d (cV L) (jV L)) ↦[(kP L h1).view.set]{fullShare} f : sProp 𝕄) = kLoc d ↦[kSet ⟨wid L, hw⟩]{fullShare} f := by
  rw [set_kP L hw]
theorem pts_wP (h1 : k0_cond1 L = 1#1) (f : Buf (Elt F) (wLoc d)) :
    ((wP L h1).view.loc (V d (cV L) (jV L)) ↦[(wP L h1).view.set]{fullShare} f : sProp 𝕄) = wLoc d ↦[wSet ⟨wid L, hw⟩]{fullShare} f := by
  rw [set_wP L hw]
theorem pts_bP (h1 : k0_cond1 L = 1#1) (f : Buf (Elt F) (bLoc d)) :
    ((bP L h1).view.loc (V d (cV L) (jV L)) ↦[(bP L h1).view.set]{fullShare} f : sProp 𝕄) = bLoc d ↦[bSet ⟨wid L, hw⟩]{fullShare} f := by
  rw [set_bP L hw]
theorem pts_uP (h1 : k0_cond1 L = 1#1) (f : Buf (Elt F) (uLoc d)) :
    ((uP L h1).view.loc (V d (cV L) (jV L)) ↦[(uP L h1).view.set]{fullShare} f : sProp 𝕄) = uLoc d ↦[uSet ⟨wid L, hw⟩]{fullShare} f := by
  rw [set_uP L hw]
theorem pts_oP (h1 : k0_cond1 L = 1#1) (f : Buf (Elt F) (oLoc d)) :
    ((oP L h1).view.loc (V d (cV L) (jV L)) ↦[(oP L h1).view.set]{fullShare} f : sProp 𝕄) = oLoc d ↦[kSet ⟨wid L, hw⟩]{fullShare} f := by
  rw [set_oP L hw]

/-- The scoped DMA cells the body names, one per copy. -/
abbrev cell0 : GSem nD τ sig := (V d (cV L) (jV L), .dma cc0_scoped0.sem)
abbrev cell1 : GSem nD τ sig := (V d (cV L) (jV L), .dma cc0_scoped1.sem)
abbrev cell2 : GSem nD τ sig := (V d (cV L) (jV L), .dma cc0_scoped2.sem)
abbrev cell3 : GSem nD τ sig := (V d (cV L) (jV L), .dma cc0_scoped3.sem)
abbrev cell4 : GSem nD τ sig := (V d (cV L) (jV L), .dma cc0_scoped4.sem)

/-- The copies' cells among the tile's own. -/
abbrev cells (d : Dev nD) (L : grid0.Coords) : Finset (GSem nD τ sig) := {cell0 L d, cell1 L d, cell2 L d, cell3 L d, cell4 L d}

theorem cells_sub : cells d L ⊆ ownCells (V d (cV L) (jV L)) := by
  intro g hg
  simp only [cells, Finset.mem_insert, Finset.mem_singleton] at hg
  rcases hg with rfl | rfl | rfl | rfl | rfl
  · exact (mem_ownCells (g := cell0 L d)).mpr ⟨rfl, by show (SemLoc.dma cc0_scoped0.sem : SemLoc sig).isScoped .scVector = true; decide⟩
  · exact (mem_ownCells (g := cell1 L d)).mpr ⟨rfl, by show (SemLoc.dma cc0_scoped1.sem : SemLoc sig).isScoped .scVector = true; decide⟩
  · exact (mem_ownCells (g := cell2 L d)).mpr ⟨rfl, by show (SemLoc.dma cc0_scoped2.sem : SemLoc sig).isScoped .scVector = true; decide⟩
  · exact (mem_ownCells (g := cell3 L d)).mpr ⟨rfl, by show (SemLoc.dma cc0_scoped3.sem : SemLoc sig).isScoped .scVector = true; decide⟩
  · exact (mem_ownCells (g := cell4 L d)).mpr ⟨rfl, by show (SemLoc.dma cc0_scoped4.sem : SemLoc sig).isScoped .scVector = true; decide⟩

theorem cell_ne {a b : DmaSem sig} (h : a ≠ b) : ((V d (cV L) (jV L), .dma a) : GSem nD τ sig) ≠ (V d (cV L) (jV L), .dma b) :=
  fun e => h (by injection e with _ e; injection e)

theorem bigSep_cells (Φ : GSem nD τ sig → sProp 𝕄) :
    bigSep (cells d L) Φ = iprop(Φ (cell0 L d) ∗ Φ (cell1 L d) ∗ Φ (cell2 L d) ∗ Φ (cell3 L d) ∗ Φ (cell4 L d)) := by
  unfold cells
  have h01 := cell_ne L d (a := cc0_scoped0.sem) (b := cc0_scoped1.sem) (by decide)
  have h02 := cell_ne L d (a := cc0_scoped0.sem) (b := cc0_scoped2.sem) (by decide)
  have h03 := cell_ne L d (a := cc0_scoped0.sem) (b := cc0_scoped3.sem) (by decide)
  have h04 := cell_ne L d (a := cc0_scoped0.sem) (b := cc0_scoped4.sem) (by decide)
  have h12 := cell_ne L d (a := cc0_scoped1.sem) (b := cc0_scoped2.sem) (by decide)
  have h13 := cell_ne L d (a := cc0_scoped1.sem) (b := cc0_scoped3.sem) (by decide)
  have h14 := cell_ne L d (a := cc0_scoped1.sem) (b := cc0_scoped4.sem) (by decide)
  have h23 := cell_ne L d (a := cc0_scoped2.sem) (b := cc0_scoped3.sem) (by decide)
  have h24 := cell_ne L d (a := cc0_scoped2.sem) (b := cc0_scoped4.sem) (by decide)
  have h34 := cell_ne L d (a := cc0_scoped3.sem) (b := cc0_scoped4.sem) (by decide)
  rw [SparseCore.bigSep_insert' (by simp only [Finset.mem_insert, Finset.mem_singleton, not_or]; exact ⟨h01, h02, h03, h04⟩),
    SparseCore.bigSep_insert' (by simp only [Finset.mem_insert, Finset.mem_singleton, not_or]; exact ⟨h12, h13, h14⟩),
    SparseCore.bigSep_insert' (by simp only [Finset.mem_insert, Finset.mem_singleton, not_or]; exact ⟨h23, h24⟩),
    SparseCore.bigSep_insert' (by simp only [Finset.mem_singleton]; exact h34), bigSep_singleton]

theorem ownSems0_V :
    (ownSems0 (V d (cV L) (jV L)) : sProp 𝕄)
      = iprop((semVal (cell0 L d) 0 ∗ semVal (cell1 L d) 0 ∗ semVal (cell2 L d) 0 ∗ semVal (cell3 L d) 0 ∗ semVal (cell4 L d) 0)
          ∗ bigSep (ownCells (V d (cV L) (jV L)) \ cells d L) fun g => semVal g 0) := by
  unfold SparseCore.Cfg.ownSems0
  rw [← bigSep_cells L d fun g => semVal g 0]
  exact SparseCore.bigSep_sdiff_split' (cells_sub L d)

abbrev refs (L : grid0.Coords) : Finset (DevRef τ sig) :=
  {(Proc.scVector (cV L) (jV L)).devRef cc0_scratch0, (Proc.scVector (cV L) (jV L)).devRef cc0_scratch1, (Proc.scVector (cV L) (jV L)).devRef cc0_scratch2,
    (Proc.scVector (cV L) (jV L)).devRef cc0_scratch3, (Proc.scVector (cV L) (jV L)).devRef cc0_scratch4}

theorem refs_sub : refs L ⊆ ownRefs (τ := τ) (.scVector (cV L) (jV L)) := by
  intro b hb
  simp only [refs, Finset.mem_insert, Finset.mem_singleton] at hb
  rcases hb with rfl | rfl | rfl | rfl | rfl <;>
    exact SparseCore.Cfg.mem_ownRefs_of_owner (p := Proc.scVector (cV L) (jV L)) rfl

theorem ref_ne {a b : Ref sig .scVector} (h : a ≠ b) : (Proc.scVector (cV L) (jV L)).devRef a ≠ (Proc.scVector (τ := τ) (cV L) (jV L)).devRef b :=
  fun e => h (Proc.devRef_injective _ e)

theorem bigSep_refs (Φ : DevRef τ sig → sProp 𝕄) :
    bigSep (refs L) Φ = iprop(Φ ((Proc.scVector (cV L) (jV L)).devRef cc0_scratch0) ∗ Φ ((Proc.scVector (cV L) (jV L)).devRef cc0_scratch1)
      ∗ Φ ((Proc.scVector (cV L) (jV L)).devRef cc0_scratch2) ∗ Φ ((Proc.scVector (cV L) (jV L)).devRef cc0_scratch3)
      ∗ Φ ((Proc.scVector (cV L) (jV L)).devRef cc0_scratch4)) := by
  unfold refs
  have h01 := ref_ne L (a := cc0_scratch0) (b := cc0_scratch1) (by decide)
  have h02 := ref_ne L (a := cc0_scratch0) (b := cc0_scratch2) (by decide)
  have h03 := ref_ne L (a := cc0_scratch0) (b := cc0_scratch3) (by decide)
  have h04 := ref_ne L (a := cc0_scratch0) (b := cc0_scratch4) (by decide)
  have h12 := ref_ne L (a := cc0_scratch1) (b := cc0_scratch2) (by decide)
  have h13 := ref_ne L (a := cc0_scratch1) (b := cc0_scratch3) (by decide)
  have h14 := ref_ne L (a := cc0_scratch1) (b := cc0_scratch4) (by decide)
  have h23 := ref_ne L (a := cc0_scratch2) (b := cc0_scratch3) (by decide)
  have h24 := ref_ne L (a := cc0_scratch2) (b := cc0_scratch4) (by decide)
  have h34 := ref_ne L (a := cc0_scratch3) (b := cc0_scratch4) (by decide)
  rw [SparseCore.bigSep_insert' (by simp only [Finset.mem_insert, Finset.mem_singleton, not_or]; exact ⟨h01, h02, h03, h04⟩),
    SparseCore.bigSep_insert' (by simp only [Finset.mem_insert, Finset.mem_singleton, not_or]; exact ⟨h12, h13, h14⟩),
    SparseCore.bigSep_insert' (by simp only [Finset.mem_insert, Finset.mem_singleton, not_or]; exact ⟨h23, h24⟩),
    SparseCore.bigSep_insert' (by simp only [Finset.mem_singleton]; exact h34), bigSep_singleton]

/-- A tile's own buffers: the five scratch buffers, each at some contents, and the rest. -/
theorem ownBufs_V :
    (ownBufs (V d (cV L) (jV L)) : sProp 𝕄)
      = iprop(((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f))
          ∗ bigSep (ownRefs (τ := τ) (.scVector (cV L) (jV L)) \ refs L) fun b => iprop(∃ f, ((d, b) : Loc nD τ sig) ↦{fullShare} f)) := by
  unfold SparseCore.Cfg.ownBufs
  refine Eq.trans ?_ (congrArg (fun X => iprop(X ∗ _)) (bigSep_refs L fun b => iprop(∃ f, ((d, b) : Loc nD τ sig) ↦{fullShare} f)))
  exact SparseCore.bigSep_sdiff_split' (refs_sub L)

end Tile

end Cert.Proof.Compact

end
-- ==== Proof.Select.lean ====
/-
  The choice a row makes: every key above the threshold, and the first so many of those equal to it. Where each chosen
  key goes, and what a trip's sixteen lanes compute of that.
-/
module

public import proofs.«01_k».proof.Proof.Lanes
public import proofs.«01_k».proof.Proof.Gen.KernelIdeal.Skeleton
public import Idealize.ShloMosaic.Lib.WordCmp
public import Idealize.ShloMosaic.Lib.ValueLayout
public import Mathlib.Order.Basic

@[expose] public section

namespace Cert.Proof.Select

/-! ### Counting -/

section
variable (gt eq : Nat → Prop) [DecidablePred gt] [DecidablePred eq] (b : Nat)

/-- An equal key is taken while the budget lasts. -/
def tie (j : Nat) : Prop := eq j ∧ Nat.count eq (j + 1) ≤ b

instance : DecidablePred (tie eq b) := fun j => inferInstanceAs (Decidable (_ ∧ _))

/-- The keys taken. -/
def sel (j : Nat) : Prop := gt j ∨ tie eq b j

instance : DecidablePred (sel gt eq b) := fun j => inferInstanceAs (Decidable (_ ∨ _))

theorem count_tie (n : Nat) : Nat.count (tie eq b) n = min b (Nat.count eq n) := by
  induction n with
  | zero => simp
  | succ n ih =>
    rw [Nat.count_succ, Nat.count_succ, ih]
    have e : tie eq b n ↔ eq n ∧ Nat.count eq (n + 1) ≤ b := Iff.rfl
    rw [Nat.count_succ] at e
    by_cases h : eq n
    · rw [if_pos h] at e ⊢
      by_cases h' : tie eq b n
      · have := (e.mp h').2; rw [if_pos h']; omega
      · have : ¬ Nat.count eq n + 1 ≤ b := fun hh => h' (e.mpr ⟨h, hh⟩)
        rw [if_neg h']; omega
    · rw [if_neg h, if_neg fun h' => h h'.1]; omega

theorem count_sel (hd : ∀ j, gt j → ¬ eq j) (n : Nat) : Nat.count (sel gt eq b) n = Nat.count gt n + min b (Nat.count eq n) := by
  rw [← count_tie]
  induction n with
  | zero => simp
  | succ n ih =>
    rw [Nat.count_succ, Nat.count_succ, Nat.count_succ, ih]
    have : gt n → ¬ tie eq b n := fun h h' => hd n h h'.1
    unfold sel
    by_cases h : gt n
    · simp [h, this h]; omega
    · simp [h]; omega

/-- Inside a chunk, counting on from what was taken before it. -/
theorem tie_chunk (m l : Nat) :
    (eq (m + l) ∧ Nat.count (tie eq b) m + Nat.count (fun k => eq (m + k)) (l + 1) ≤ b) ↔ tie eq b (m + l) := by
  refine and_congr_right fun h => ?_
  have h0 := count_tie eq b m
  rw [h0, Nat.add_assoc m l 1, Nat.count_add eq m (l + 1)]
  have : 1 ≤ Nat.count (fun k => eq (m + k)) (l + 1) := by
    rw [Nat.count_succ, if_pos h]; omega
  omega

end

section
variable (p : Nat → Prop) [DecidablePred p]

/-- The place of a taken key, counted on from what was taken before its chunk. -/
theorem place_chunk (m l : Nat) (h : p (m + l)) :
    Nat.count p m + Nat.count (fun k => p (m + k)) (l + 1) = Nat.count p (m + l) + 1 := by
  rw [← Nat.count_add, ← Nat.add_assoc, Nat.count_succ, if_pos h]

theorem count_chunk (m : Nat) : Nat.count p (m + 16) = Nat.count p m + Nat.count (fun k => p (m + k)) 16 :=
  Nat.count_add p m 16

theorem place_lt {m n j : Nat} (hn : Nat.count p m ≤ n) (hj : j < m) (h : p j) : Nat.count p j < n :=
  (Nat.count_strict_mono h hj).trans_le hn

end

/-! ### Over words -/

open Idealize.ShloMosaic Idealize.ShloMosaic.ValueIdx Idealize.ShloMosaic.WordCmp Cert.KernelIdeal Cert.KernelIdeal.Gen Cert.Proof.Lanes

/-- The last lane, as a position. -/
theorem last_pos {α : Type} (x : S16.Idx → α) : extractAt ![15] x inpos_S16_p15 = x (lane 15) := by
  unfold extractAt
  exact congrArg x (funext fun a => by rw [Fin.eq_zero a]; rfl)

theorem last16 (a : IVec S16 32) (mk : IVec S16 1) (k : Fin 16) :
    k0_pay16 a mk (lane k) = a (lane k) + scan .sum (extui 32 mk natLt_1_32) (lane 15) := by
  unfold k0_pay16
  simp only [last_pos]
  generalize scan .sum (extui 32 mk natLt_1_32) = s
  rfl

theorem last17 (a : IVec S16 32) (mk : IVec S16 1) (k : Fin 16) :
    k0_pay17 a mk (lane k) = a (lane k) + scan .sum (extui 32 mk natLt_1_32) (lane 15) := by
  unfold k0_pay17
  simp only [last_pos]
  generalize scan .sum (extui 32 mk natLt_1_32) = s
  rfl

section
variable (u : Nat → BitVec 32) (t bw : BitVec 32)

/-- A key above the threshold. -/
def gtp (j : Nat) : Prop := t.toInt < (u j).toInt
/-- A key equal to it. -/
def eqp (j : Nat) : Prop := u j = t

instance : DecidablePred (gtp u t) := fun _ => inferInstanceAs (Decidable (_ < _))
instance : DecidablePred (eqp u t) := fun _ => inferInstanceAs (Decidable (_ = _))

theorem gt_ne (j : Nat) (h : gtp u t j) : ¬ eqp u t j := fun e => by unfold gtp at h; unfold eqp at e; rw [e] at h; omega

/-- The keys a row takes. -/
abbrev taken : Nat → Prop := sel (gtp u t) (eqp u t) bw.toNat
/-- Those of them equal to the threshold. -/
abbrev tied : Nat → Prop := tie (eqp u t) bw.toNat
/-- Where a key goes. -/
abbrev pos (j : Nat) : Nat := Nat.count (taken u t bw) j

theorem ofBool_one (b : Bool) : BitVec.ofBool b = 1 ↔ b = true := by revert b; decide
theorem or_one (x y : BitVec 1) : IntOp.ori x y = 1 ↔ x = 1 ∨ y = 1 := by revert x y; decide
theorem and_one (x y : BitVec 1) : IntOp.andi x y = 1 ↔ x = 1 ∧ y = 1 := by revert x y; decide

theorem toInt_small {n : Nat} (h : n < 2 ^ 31) : (BitVec.ofNat 32 n).toInt = n := by
  rw [BitVec.toInt_eq_toNat_cond, BitVec.toNat_ofNat]; omega

variable {F : FTy → Type} [FloatOps F]
variable (v5 v6 : Vec F S16 .i32) (a13 a14 : IVec S16 32) (v13 : Vec F S16 .i32) (m : Nat)

/-- The state before a chunk that starts at key `m`. -/
structure At : Prop where
  thr : ∀ k, v5 (lane k) = t
  bud : ∀ k, v6 (lane k) = bw
  bud_lt : bw.toNat < 2 ^ 31
  keys : ∀ k : Fin 16, v13 (lane k) = u (m + k.val)
  tot : ∀ k, a13 (lane k) = BitVec.ofNat 32 (Nat.count (taken u t bw) m)
  ties : ∀ k, a14 (lane k) = BitVec.ofNat 32 (Nat.count (tied u t bw) m)
  le : m + 16 ≤ 5120
  le_total : Nat.count (taken u t bw) 5120 ≤ 1024

variable {u t bw v5 v6 a13 a14 v13 m} (H : At u t bw v5 v6 a13 a14 v13 m)
include H

theorem eq_iff (k : Fin 16) : cmpi .eq v13 v5 (lane k) = 1 ↔ eqp u t (m + k.val) := by
  show IntOp.cmpi .eq (v13 (lane k)) (v5 (lane k)) = 1 ↔ _
  rw [H.thr, H.keys, cmpi_eq_eq, ofBool_one, decide_eq_true_iff]; rfl

theorem gt_iff (k : Fin 16) : cmpi .sgt v13 v5 (lane k) = 1 ↔ gtp u t (m + k.val) := by
  show IntOp.cmpi .sgt (v13 (lane k)) (v5 (lane k)) = 1 ↔ _
  rw [H.thr, H.keys, cmpi_sgt_eq, ofBool_one, decide_eq_true_iff]; rfl

/-- The lanes taken as ties. -/
theorem pay1_iff (k : Fin 16) : k0_pay1 v5 v6 a14 v13 (lane k) = 1 ↔ tied u t bw (m + k.val) := by
  have hs := scan_mask (cmpi .eq v13 v5) natLt_1_32 (fun l => eqp u t (m + l)) (eq_iff H) k
  have key : k0_pay1 v5 v6 a14 v13 (lane k)
      = IntOp.andi (cmpi .eq v13 v5 (lane k)) (IntOp.cmpi .sle (a14 (lane k) + scan .sum (extui 32 (cmpi .eq v13 v5) natLt_1_32) (lane k)) (v6 (lane k))) := rfl
  rw [key, and_one, eq_iff H, hs, H.ties, H.bud, ← BitVec.ofNat_add, cmpi_sle_eq, ofBool_one, decide_eq_true_iff]
  have h1 := Nat.count_le (p := tied u t bw) (n := m)
  have h2 := Nat.count_le (p := fun l => eqp u t (m + l)) (n := k.val + 1)
  have h3 := H.le
  have h4 := H.bud_lt
  rw [toInt_small (by omega), BitVec.toInt_eq_toNat_cond, if_pos (by omega), Nat.cast_le]
  exact tie_chunk (eqp u t) bw.toNat m k.val

/-- The lanes taken. -/
theorem pay2_iff (k : Fin 16) : k0_pay2 v5 v6 a14 v13 (lane k) = 1 ↔ taken u t bw (m + k.val) := by
  show IntOp.ori (cmpi .sgt v13 v5 (lane k)) (k0_pay1 v5 v6 a14 v13 (lane k)) = 1 ↔ _
  rw [or_one, gt_iff H, pay1_iff H]; rfl

theorem tot_next (k : Fin 16) : k0_pay16 a13 (k0_pay2 v5 v6 a14 v13) (lane k) = BitVec.ofNat 32 (Nat.count (taken u t bw) (m + 16)) := by
  have hs := scan_mask (k0_pay2 v5 v6 a14 v13) natLt_1_32 (fun l => taken u t bw (m + l)) (pay2_iff H) 15
  rw [last16, count_chunk, BitVec.ofNat_add, H.tot]
  exact congrArg _ hs

theorem ties_next (k : Fin 16) : k0_pay17 a14 (k0_pay1 v5 v6 a14 v13) (lane k) = BitVec.ofNat 32 (Nat.count (tied u t bw) (m + 16)) := by
  have hs := scan_mask (k0_pay1 v5 v6 a14 v13) natLt_1_32 (fun l => tied u t bw (m + l)) (pay1_iff H) 15
  rw [last17, count_chunk, BitVec.ofNat_add, H.ties]
  exact congrArg _ hs

theorem pos_lt {j : Nat} (hj : j < 5120) (h : taken u t bw j) : pos u t bw j < 1024 := place_lt _ H.le_total hj h

/-- Where a taken lane goes. -/
theorem pay3_eq (k : Fin 16) (h : taken u t bw (m + k.val)) : (k0_pay3 v5 v6 a13 a14 v13 (lane k)).toNat = pos u t bw (m + k.val) := by
  have hs := scan_mask (k0_pay2 v5 v6 a14 v13) natLt_1_32 (fun l => taken u t bw (m + l)) (pay2_iff H) k
  have h1 := pos_lt H (j := m + k.val) (by have := H.le; omega) h
  have key : k0_pay3 v5 v6 a13 a14 v13 (lane k)
      = IntOp.maxsi (IntOp.minsi (a13 (lane k) + scan .sum (extui 32 (k0_pay2 v5 v6 a14 v13) natLt_1_32) (lane k) - 1#32) 1023#32) 0#32 := rfl
  have e : BitVec.ofNat 32 (pos u t bw (m + k.val) + 1) - 1#32 = BitVec.ofNat 32 (pos u t bw (m + k.val)) := by
    rw [BitVec.ofNat_add, BitVec.add_sub_cancel]
  rw [key, hs, H.tot, ← BitVec.ofNat_add, place_chunk _ _ _ h, e]
  generalize pos u t bw (m + k.val) = q at h1
  unfold IntOp.maxsi IntOp.minsi
  simp only [BitVec.slt, toInt_small (show q < 2 ^ 31 by omega), toInt_small (show 1023 < 2 ^ 31 by omega), toInt_small (show 0 < 2 ^ 31 by omega), decide_eq_true_iff]
  split <;> rename_i hc <;> split at * <;> rw [BitVec.toNat_ofNat] <;> simp only [toInt_small (show q < 2 ^ 31 by omega), toInt_small (show 1023 < 2 ^ 31 by omega), Nat.cast_ofNat, Nat.cast_zero] at * <;> omega

end

/-! ### The chosen put in their places -/

section
variable {F : FTy → Type} [FloatOps F] {N : Nat} {e : EltTy}
variable (p : Nat → Prop) [DecidablePred p]

/-- Row `r` of a compacted buffer holds, at its place, every key below `m` that is taken. -/
def Filled (f : Vec F (⟨1, ![N]⟩ : Shape) e) (g : Nat → Elt F e) (r m : Nat) : Prop :=
  ∀ j, j < m → p j → ∀ x : (⟨1, ![N]⟩ : Shape).Idx, (x 0).val = r * 1024 + Nat.count p j → f x = g j

theorem Filled.zero (f : Vec F (⟨1, ![N]⟩ : Shape) e) (g : Nat → Elt F e) (r : Nat) : Filled p f g r 0 := fun j hj => absurd hj (by omega)

variable {p} {f : Vec F (⟨1, ![N]⟩ : Shape) e} {g : Nat → Elt F e} {r m : Nat}
  {idxs : Fin 1 → IVec S16 32} {v : Vec F S16 e} {mask : IVec S16 1}
  {h : ∀ a x, (idxs a x).toNat < (⟨1, ![N]⟩ : Shape).size a} {r' : Nat}

/-- A store of a chunk into its own row. -/
theorem Filled.own (hf : Filled p f g r m) (hm : ∀ k : Fin 16, mask (lane k) = 1 ↔ p (m + k.val))
    (hi : ∀ k : Fin 16, p (m + k.val) → (idxs 0 (lane k)).toNat = r * 1024 + Nat.count p (m + k.val))
    (hv : ∀ k : Fin 16, v (lane k) = g (m + k.val)) :
    Filled p (storeIdx (s := ⟨1, ![N]⟩) f idxs v mask false h) g r (m + 16) := by
  intro j hj hp x hx
  by_cases hjm : j < m
  · rw [storeIdx_miss]
    · exact hf j hjm hp x hx
    · intro k hk hh
      have h1 := (hm k).mp hk
      have h2 := (hh 0).symm.trans hx
      rw [hi k h1] at h2
      have := Nat.count_injective (p := p) h1 hp (by omega)
      omega
  · obtain ⟨l, rfl⟩ := Nat.exists_eq_add_of_le (Nat.le_of_not_lt hjm)
    have hl : l < 16 := by omega
    have hk := storeIdx_hit f idxs v mask h x (⟨l, hl⟩ : Fin 16) ((hm ⟨l, hl⟩).mpr hp)
      (fun a => by rw [Fin.eq_zero a]; exact hx.trans (hi ⟨l, hl⟩ hp).symm)
      (fun k' hk' hh => by
        have h1 := (hm k').mp hk'
        have h2 := (hh 0).symm.trans hx
        have h3 := hi k' h1
        have := Nat.count_injective (p := p) h1 hp (by
          have : (idxs 0 (lane k')).toNat = r * 1024 + Nat.count p (m + l) := h2
          omega)
        exact Fin.ext (by show k'.val = l; omega))
    exact hk.trans (hv ⟨l, hl⟩)

/-- A store into another row. -/
theorem Filled.other {m' : Nat} (hf : Filled p f g r m') (hm : ∀ k : Fin 16, mask (lane k) = 1 ↔ p (m + k.val))
    (hi : ∀ k : Fin 16, p (m + k.val) → (idxs 0 (lane k)).toNat = r' * 1024 + Nat.count p (m + k.val))
    (hlt : ∀ k : Fin 16, p (m + k.val) → Nat.count p (m + k.val) < 1024)
    (hlt' : ∀ j, j < m' → p j → Nat.count p j < 1024) (hr : r ≠ r') :
    Filled p (storeIdx (s := ⟨1, ![N]⟩) f idxs v mask false h) g r m' := by
  intro j hj hp x hx
  rw [storeIdx_miss]
  · exact hf j hj hp x hx
  · intro k hk hh
    have h1 := (hm k).mp hk
    have h2 : (idxs 0 (lane k)).toNat = _ := (hh 0).symm.trans hx
    have := hi k h1
    have := hlt k h1
    have := hlt' j hj hp
    omega

end

section
variable {F : FTy → Type} [FloatOps F] {N : Nat} {p : Nat → Prop} [DecidablePred p] {f : Vec F (⟨1, ![N]⟩ : Shape) .f32} {g : Nat → Nat → Elt F .f32}
  {m : Nat} {x0 x1 x2 x3 x4 : IVec S16 32} {v0 v1 v2 v3 v4 : Vec F S16 .f32} {mask : IVec S16 1}

/-- The five stores of a chunk, one into each row. -/
theorem Filled.five {i0 i1 i2 i3 i4} (hm : ∀ k : Fin 16, mask (lane k) = 1 ↔ p (m + k.val))
    (d0 : ∀ k : Fin 16, p (m + k.val) → (x0 (lane k)).toNat = 0 * 1024 + Nat.count p (m + k.val))
    (d1 : ∀ k : Fin 16, p (m + k.val) → (x1 (lane k)).toNat = 1 * 1024 + Nat.count p (m + k.val))
    (d2 : ∀ k : Fin 16, p (m + k.val) → (x2 (lane k)).toNat = 2 * 1024 + Nat.count p (m + k.val))
    (d3 : ∀ k : Fin 16, p (m + k.val) → (x3 (lane k)).toNat = 3 * 1024 + Nat.count p (m + k.val))
    (d4 : ∀ k : Fin 16, p (m + k.val) → (x4 (lane k)).toNat = 4 * 1024 + Nat.count p (m + k.val))
    (h0 : ∀ k : Fin 16, v0 (lane k) = g 0 (m + k.val)) (h1 : ∀ k : Fin 16, v1 (lane k) = g 1 (m + k.val))
    (h2 : ∀ k : Fin 16, v2 (lane k) = g 2 (m + k.val)) (h3 : ∀ k : Fin 16, v3 (lane k) = g 3 (m + k.val))
    (h4 : ∀ k : Fin 16, v4 (lane k) = g 4 (m + k.val))
    (hlt' : ∀ j, j < m + 16 → p j → Nat.count p j < 1024) {r : Nat} (hr : r < 5) (hr0 : Filled p f (g r) r m) :
    Filled p (storeIdx (s := ⟨1, ![N]⟩) (storeIdx (s := ⟨1, ![N]⟩) (storeIdx (s := ⟨1, ![N]⟩)
        (storeIdx (s := ⟨1, ![N]⟩) (storeIdx (s := ⟨1, ![N]⟩) f
          ![x0] v0 mask false i0) ![x1] v1 mask false i1) ![x2] v2 mask false i2) ![x3] v3 mask false i3) ![x4] v4 mask false i4)
      (g r) r (m + 16) := by
  have hlt : ∀ k : Fin 16, p (m + k.val) → Nat.count p (m + k.val) < 1024 := fun k h => hlt' _ (by omega) h
  have hlm : ∀ j, j < m → p j → Nat.count p j < 1024 := fun j hj h => hlt' j (by omega) h
  rcases r with _ | _ | _ | _ | _ | n
  · have hr0 : Filled p f (g 0) 0 m := hr0
    exact ((((hr0.own hm d0 h0).other (r' := 1) hm d1 hlt hlt' (by decide)).other (r' := 2) hm d2 hlt hlt' (by decide)).other (r' := 3) hm d3 hlt hlt' (by decide)).other (r' := 4) hm d4 hlt hlt' (by decide)
  · have hr0 : Filled p f (g 1) 1 m := hr0
    exact ((((hr0.other (r' := 0) hm d0 hlt hlm (by decide)).own hm d1 h1).other (r' := 2) hm d2 hlt hlt' (by decide)).other (r' := 3) hm d3 hlt hlt' (by decide)).other (r' := 4) hm d4 hlt hlt' (by decide)
  · have hr0 : Filled p f (g 2) 2 m := hr0
    exact ((((hr0.other (r' := 0) hm d0 hlt hlm (by decide)).other (r' := 1) hm d1 hlt hlm (by decide)).own hm d2 h2).other (r' := 3) hm d3 hlt hlt' (by decide)).other (r' := 4) hm d4 hlt hlt' (by decide)
  · have hr0 : Filled p f (g 3) 3 m := hr0
    exact ((((hr0.other (r' := 0) hm d0 hlt hlm (by decide)).other (r' := 1) hm d1 hlt hlm (by decide)).other (r' := 2) hm d2 hlt hlm (by decide)).own hm d3 h3).other (r' := 4) hm d4 hlt hlt' (by decide)
  · have hr0 : Filled p f (g 4) 4 m := hr0
    exact ((((hr0.other (r' := 0) hm d0 hlt hlm (by decide)).other (r' := 1) hm d1 hlt hlm (by decide)).other (r' := 2) hm d2 hlt hlm (by decide)).other (r' := 3) hm d3 hlt hlm (by decide)).own hm d4 h4
  · omega

end

/-! ### What the loop keeps -/

/-- Key `j` of a row. -/
def at1 {α : Type} (f : S5120.Idx → α) (j : Nat) : α := f (ix1 ⟨j % 5120, Nat.mod_lt _ (by decide)⟩)

/-- Value `j` of row `r` of five. -/
def at2 {α : Type} (f : S5x5120.Idx → α) (r j : Nat) : α := f (ix2 ⟨r % 5, Nat.mod_lt _ (by decide)⟩ ⟨j % 5120, Nat.mod_lt _ (by decide)⟩)

/-- The row's threshold and budget as the tile holds them, and that the keys taken fit. -/
structure Fits (v5 v6 : IVec S16 32) (u : Nat → BitVec 32) (t bw : BitVec 32) : Prop where
  thr : ∀ k, v5 (lane k) = t
  bud : ∀ k, v6 (lane k) = bw
  bud_lt : bw.toNat < 2 ^ 31
  le_total : Nat.count (taken u t bw) 5120 ≤ 1024

section
variable {F : FTy → Type} [FloatOps F]

/-- The state before a chunk that starts at key `n`. -/
structure Good (u : Nat → BitVec 32) (g : Nat → Nat → Elt F .f32) (t bw : BitVec 32) (acc : IVec S16 32 × IVec S16 32)
    (fc : Vec F S1024 .i32) (fd : Vec F S5120 .f32) (n : Nat) : Prop where
  tot : ∀ k, acc.1 (lane k) = BitVec.ofNat 32 (Nat.count (taken u t bw) n)
  ties : ∀ k, acc.2 (lane k) = BitVec.ofNat 32 (Nat.count (tied u t bw) n)
  keys : Filled (F := F) (e := .i32) (N := 1024) (taken u t bw) fc u 0 n
  rows : ∀ r, r < 5 → Filled (F := F) (e := .f32) (N := 5120) (taken u t bw) fd (g r) r n

theorem Good.zero (u : Nat → BitVec 32) (g : Nat → Nat → Elt F .f32) (t bw : BitVec 32) (fc : Vec F S1024 .i32) (fd : Vec F S5120 .f32) :
    Good u g t bw (k0_pay8, k0_pay9) fc fd 0 :=
  ⟨fun _ => rfl, fun _ => rfl, Filled.zero _ _ _ _, fun _ _ => Filled.zero _ _ _ _⟩

variable {v5 v6 : Vec F S16 .i32} {a13 a14 : IVec S16 32} {v13 : Vec F S16 .i32} {m : Nat} {u : Nat → BitVec 32} {t bw : BitVec 32}

/-- A place shifted to row `r`. -/
theorem shifted (H : At u t bw v5 v6 a13 a14 v13 m) (k : Fin 16) (h : taken u t bw (m + k.val)) (r : Nat) (hr : r < 5) :
    (IntOp.addi (k0_pay3 v5 v6 a13 a14 v13 (lane k)) (BitVec.ofNat 32 (r * 1024))).toNat = r * 1024 + pos u t bw (m + k.val) := by
  have h1 := pay3_eq H k h
  have h2 := pos_lt H (j := m + k.val) (by have := H.le; omega) h
  unfold IntOp.addi
  rw [BitVec.toNat_add, BitVec.toNat_ofNat, h1]
  omega

theorem cast16 (w : Vec F S1x16 .f32) (k : Fin 16) : shapeCast S16 w shapeCasts_S1x16_S16 (lane k) = w (ix2 0 k) :=
  (congrArg _ (funext fun a => by rw [Fin.eq_zero a]; rfl)).trans (shapeCast_1a_a_apply w shapeCasts_S1x16_S16 k)

theorem shifted0 (H : At u t bw v5 v6 a13 a14 v13 m) (k : Fin 16) (h : taken u t bw (m + k.val)) :
    (k0_pay5 (k0_pay3 v5 v6 a13 a14 v13) (lane k)).toNat = 0 * 1024 + Nat.count (taken u t bw) (m + k.val) :=
  shifted H k h 0 (by decide)

theorem shifted1 (H : At u t bw v5 v6 a13 a14 v13 m) (k : Fin 16) (h : taken u t bw (m + k.val)) :
    (k0_pay7 (k0_pay3 v5 v6 a13 a14 v13) (lane k)).toNat = 1 * 1024 + Nat.count (taken u t bw) (m + k.val) :=
  shifted H k h 1 (by decide)

theorem shifted2 (H : At u t bw v5 v6 a13 a14 v13 m) (k : Fin 16) (h : taken u t bw (m + k.val)) :
    (k0_pay11 (k0_pay3 v5 v6 a13 a14 v13) (lane k)).toNat = 2 * 1024 + Nat.count (taken u t bw) (m + k.val) :=
  shifted H k h 2 (by decide)

theorem shifted3 (H : At u t bw v5 v6 a13 a14 v13 m) (k : Fin 16) (h : taken u t bw (m + k.val)) :
    (k0_pay13 (k0_pay3 v5 v6 a13 a14 v13) (lane k)).toNat = 3 * 1024 + Nat.count (taken u t bw) (m + k.val) :=
  shifted H k h 3 (by decide)

theorem shifted4 (H : At u t bw v5 v6 a13 a14 v13 m) (k : Fin 16) (h : taken u t bw (m + k.val)) :
    (k0_pay15 (k0_pay3 v5 v6 a13 a14 v13) (lane k)).toNat = 4 * 1024 + Nat.count (taken u t bw) (m + k.val) :=
  shifted H k h 4 (by decide)

theorem Good.step {g : Nat → Nat → Elt F .f32} {fc : Vec F S1024 .i32} {fd : Vec F S5120 .f32}
    {w0 w1 w2 w3 w4 : Vec F S1x16 .f32}
    (hF : Fits v5 v6 u t bw) (hm : m + 16 ≤ 5120) (hk : ∀ k : Fin 16, v13 (lane k) = u (m + k.val))
    (h0 : ∀ k : Fin 16, w0 (ix2 0 k) = g 0 (m + k.val)) (h1 : ∀ k : Fin 16, w1 (ix2 0 k) = g 1 (m + k.val))
    (h2 : ∀ k : Fin 16, w2 (ix2 0 k) = g 2 (m + k.val)) (h3 : ∀ k : Fin 16, w3 (ix2 0 k) = g 3 (m + k.val))
    (h4 : ∀ k : Fin 16, w4 (ix2 0 k) = g 4 (m + k.val))
    (hG : Good u g t bw (a13, a14) fc fd m) {i0 i1 i2 i3 i4 i5} :
    Good u g t bw (k0_pay16 a13 (k0_pay2 v5 v6 a14 v13), k0_pay17 a14 (k0_pay1 v5 v6 a14 v13))
      (storeIdx (s := S1024) (e := .i32) fc ![k0_pay3 v5 v6 a13 a14 v13] v13 (k0_pay2 v5 v6 a14 v13) false i0)
      (storeIdx (s := S5120) (e := .f32) (storeIdx (s := S5120) (e := .f32) (storeIdx (s := S5120) (e := .f32)
        (storeIdx (s := S5120) (e := .f32) (storeIdx (s := S5120) (e := .f32) fd
          ![k0_pay5 (k0_pay3 v5 v6 a13 a14 v13)] (k0_pay4 w0) (k0_pay2 v5 v6 a14 v13) false i1)
          ![k0_pay7 (k0_pay3 v5 v6 a13 a14 v13)] (k0_pay6 w1) (k0_pay2 v5 v6 a14 v13) false i2)
          ![k0_pay11 (k0_pay3 v5 v6 a13 a14 v13)] (k0_pay10 w2) (k0_pay2 v5 v6 a14 v13) false i3)
          ![k0_pay13 (k0_pay3 v5 v6 a13 a14 v13)] (k0_pay12 w3) (k0_pay2 v5 v6 a14 v13) false i4)
          ![k0_pay15 (k0_pay3 v5 v6 a13 a14 v13)] (k0_pay14 w4) (k0_pay2 v5 v6 a14 v13) false i5) (m + 16) := by
  have H : At u t bw v5 v6 a13 a14 v13 m := ⟨hF.thr, hF.bud, hF.bud_lt, hk, hG.tot, hG.ties, hm, hF.le_total⟩
  have hlt : ∀ j, j < m + 16 → taken u t bw j → Nat.count (taken u t bw) j < 1024 := fun j hj h => pos_lt H (by omega) h
  refine ⟨tot_next H, ties_next H, hG.keys.own (pay2_iff H) (fun k h => (pay3_eq H k h).trans (by rw [Nat.zero_mul, Nat.zero_add])) hk, fun r hr => ?_⟩
  exact Filled.five (pay2_iff H) (shifted0 H) (shifted1 H) (shifted2 H)
    (shifted3 H) (shifted4 H) (fun k => (cast16 w0 k).trans (h0 k))
    (fun k => (cast16 w1 k).trans (h1 k)) (fun k => (cast16 w2 k).trans (h2 k)) (fun k => (cast16 w3 k).trans (h3 k)) (fun k => (cast16 w4 k).trans (h4 k))
    hlt hr (hG.rows r hr)

end

end Cert.Proof.Select
-- ==== Proof.Trip.lean ====
/-
  One trip of the compacting loop: sixteen keys read, and those selected put one after the other into the compacted key
  buffer and the five compacted rows.
-/
module

public import proofs.«01_k».proof.Proof.Setup
public import proofs.«01_k».proof.Proof.Select
public import Idealize.ShloMosaic.Lib.Tactic.WordOmega

@[expose] public section

noncomputable section

namespace Cert.Proof.Compact

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Lanes Cert.Proof.Select Idealize.ShloMosaic.ValueIdx

variable {F : FTy → Type}

local notation "𝕄" => MT nD τ sig (HIx 1) (Elt F) ℕ UU ℕ

local notation "kV" => (Memref.whole Cert.KernelIdeal.main_arg0_scv : Memref Cert.KernelIdeal.sig Kind.scVector Space.hbm Cert.KernelIdeal.S20x5120 EltTy.i32)
local notation "wV" => (Memref.whole Cert.KernelIdeal.main_arg1_scv : Memref Cert.KernelIdeal.sig Kind.scVector Space.hbm Cert.KernelIdeal.S20x5x5120 EltTy.f32)
local notation "bV" => (Memref.whole Cert.KernelIdeal.main_v6_scv : Memref Cert.KernelIdeal.sig Kind.scVector Space.hbm Cert.KernelIdeal.S20x128 EltTy.i32)
local notation "uV" => (Memref.whole Cert.KernelIdeal.main_v7_0_scv : Memref Cert.KernelIdeal.sig Kind.scVector Space.hbm Cert.KernelIdeal.S20x1024 EltTy.i32)
local notation "oV" => (Memref.whole Cert.KernelIdeal.main_v7_1_scv : Memref Cert.KernelIdeal.sig Kind.scVector Space.hbm Cert.KernelIdeal.S20x5120 EltTy.f32)
local notation "sU" => (Memref.whole Cert.KernelIdeal.cc0_scratch0 : Memref Cert.KernelIdeal.sig Kind.scVector Space.vmem Cert.KernelIdeal.S5120 EltTy.i32)
local notation "sW" => (Memref.whole Cert.KernelIdeal.cc0_scratch1 : Memref Cert.KernelIdeal.sig Kind.scVector Space.vmem Cert.KernelIdeal.S5x5120 EltTy.f32)
local notation "sB" => (Memref.whole Cert.KernelIdeal.cc0_scratch2 : Memref Cert.KernelIdeal.sig Kind.scVector Space.vmem Cert.KernelIdeal.S128 EltTy.i32)
local notation "sC" => (Memref.whole Cert.KernelIdeal.cc0_scratch3 : Memref Cert.KernelIdeal.sig Kind.scVector Space.vmem Cert.KernelIdeal.S1024 EltTy.i32)
local notation "sD" => (Memref.whole Cert.KernelIdeal.cc0_scratch4 : Memref Cert.KernelIdeal.sig Kind.scVector Space.vmem Cert.KernelIdeal.S5120 EltTy.f32)

variable [FloatOps F]

/-- A clipped word lies between its bounds. -/
theorem clip_lt (x : BitVec 32) : (IntOp.maxsi (IntOp.minsi x 1023#32) 0#32).toNat < 1024 := by
  unfold IntOp.maxsi IntOp.minsi
  simp only [BitVec.slt_iff_toInt_lt, BitVec.toInt_eq_toNat_cond, BitVec.toNat_ofNat]
  split <;> split <;> split_ifs at * <;> simp_all <;> omega

theorem dest_lt (v5 v6 : Vec F S16 .i32) (a13 a14 : IVec S16 32) (v13 : Vec F S16 .i32) (x : S16.Idx) :
    (k0_pay3 v5 v6 a13 a14 v13 x).toNat < 1024 := clip_lt _

/-- A clipped word moved to row `r` stays in the five rows. -/
theorem shift_lt {x : BitVec 32} (h : x.toNat < 1024) (r : Nat) (hr : r < 5) : (IntOp.addi x (BitVec.ofNat 32 (r * 1024))).toNat < 5120 := by
  unfold IntOp.addi
  rw [BitVec.toNat_add, BitVec.toNat_ofNat]
  omega

section
variable (L : grid0.Coords) (d : Dev nD)

/-- An indexed store into `sC`, held whole. -/
theorem put_sC {α : Type} {Q : α → sProp 𝕄} {idxs : Fin S1024.rank → IVec S16 32} {v : Vec F S16 .i32} {mask : IVec S16 1}
    {h : ∀ a x, (idxs a x).toNat < S1024.size a} {hs : ((sC).access (.whole S1024)).Stores Finset.univ}
    {k : PUnit → Prog (TpuEff nD τ sig (Elt F) Λ₀ (.scVector (cV L) (jV L))) α} {f : Buf (Elt F) ((V d (cV L) (jV L)).loc cc0_scratch3)} :
    ((sC).view.loc (V d (cV L) (jV L)) ↦{fullShare} f)
      ⊢ iprop((((sC).view.loc (V d (cV L) (jV L)) ↦{fullShare} (storeIdx (s := S1024) f idxs v mask false h : Vec F S1024 .i32))
          -∗ wp frame (wpE (defs₀ (F := F)) 𝒱₀ (V d (cV L) (jV L)) none) Set.univ (k ⟨⟩) Q)
        -∗ wp frame (wpE (defs₀ (F := F)) 𝒱₀ (V d (cV L) (jV L)) none) Set.univ (SparseCore.vectorStoreIdx sC idxs v mask false h hs >>= k) Q) := by
  have H := SparseCore.wp_vectorStoreIdx (defs := defs₀ (F := F)) (Q := Q) 𝒱₀ (V d (cV L) (jV L)) none Set.univ (base := (sC : Memref sig .scVector .vmem S1024 .i32)) (add := false)
    (idxs := idxs) (v := v) (mask := mask) (h := h) (hs := hs) (k := k) (f := f)
  rw [Memref.set_access_whole, Memref.read_access_whole, Memref.write_access_whole_univ] at H
  exact H

/-- An indexed store into `sD`, held whole. -/
theorem put_sD {α : Type} {Q : α → sProp 𝕄} {idxs : Fin S5120.rank → IVec S16 32} {v : Vec F S16 .f32} {mask : IVec S16 1}
    {h : ∀ a x, (idxs a x).toNat < S5120.size a} {hs : ((sD).access (.whole S5120)).Stores Finset.univ}
    {k : PUnit → Prog (TpuEff nD τ sig (Elt F) Λ₀ (.scVector (cV L) (jV L))) α} {f : Buf (Elt F) ((V d (cV L) (jV L)).loc cc0_scratch4)} :
    ((sD).view.loc (V d (cV L) (jV L)) ↦{fullShare} f)
      ⊢ iprop((((sD).view.loc (V d (cV L) (jV L)) ↦{fullShare} (storeIdx (s := S5120) f idxs v mask false h : Vec F S5120 .f32))
          -∗ wp frame (wpE (defs₀ (F := F)) 𝒱₀ (V d (cV L) (jV L)) none) Set.univ (k ⟨⟩) Q)
        -∗ wp frame (wpE (defs₀ (F := F)) 𝒱₀ (V d (cV L) (jV L)) none) Set.univ (SparseCore.vectorStoreIdx sD idxs v mask false h hs >>= k) Q) := by
  have H := SparseCore.wp_vectorStoreIdx (defs := defs₀ (F := F)) (Q := Q) 𝒱₀ (V d (cV L) (jV L)) none Set.univ (base := (sD : Memref sig .scVector .vmem S5120 .f32)) (add := false)
    (idxs := idxs) (v := v) (mask := mask) (h := h) (hs := hs) (k := k) (f := f)
  rw [Memref.set_access_whole, Memref.read_access_whole, Memref.write_access_whole_univ] at H
  exact H

/-- A load of sixteen values of row `r`. -/
theorem rows16_eq (k : Fin k0_t1_loop.trips) (fw : Buf (Elt F) ((V d (cV L) (jV L)).loc cc0_scratch1)) (r : Nat) (hr : r < 5)
    {off : Fin S5x5120.rank → Nat} (e : off = ![r, 16 * k.val]) {hb} (l : Fin 16) :
    ((sW).view.readAt (Elt F) (Rect.unit (s := S5x5120) off S1x16.size hb).toLoadRect fw : Vec F S1x16 .f32) (ix2 0 l) = at2 fw r (16 * k.val + l.val) := by
  have hk : k.val < 320 := k.isLt
  subst e
  refine congrArg fw (funext fun a => Fin.ext ?_)
  match a with
  | 0 => show r + 1 * 0 = r % 5; omega
  | 1 => show 16 * k.val + 1 * l.val = (16 * k.val + l.val) % 5120; omega

/-- The sixteen keys of trip `k`. -/
abbrev keys16 (d : Dev nD) (L : grid0.Coords) (k : Fin k0_t1_loop.trips) (h1 : k0_cond1 L = 1#1)
    (fu : Buf (Elt F) ((V d (cV L) (jV L)).loc cc0_scratch0)) : Vec F S16 .i32 :=
  (sU).view.readAt (Elt F) (Rect.unit (s := S5120) (k0_off4 k) S16.size (k0_off4_inb L k h1)).toLoadRect fu

theorem keys16_eq (k : Fin k0_t1_loop.trips) (h1 : k0_cond1 L = 1#1) (fu : Buf (Elt F) ((V d (cV L) (jV L)).loc cc0_scratch0)) (l : Fin 16) :
    keys16 d L k h1 fu (lane l) = at1 fu (16 * k.val + l.val) := by
  have hk : k.val < 320 := k.isLt
  refine congrArg fu (funext fun a => Fin.ext ?_)
  match a with
  | 0 =>
    show k0_off4 k 0 + 1 * l.val = (16 * k.val + l.val) % 5120
    rw [k0_off4_eq]; show 16 * k.val + 1 * l.val = _; omega

set_option maxHeartbeats 2000000 in
/-- One trip: the chosen of its sixteen keys are put in their places. -/
theorem trip (h1 : k0_cond1 L = 1#1) (v5 v6 : Vec F S16 .i32) (k : Fin k0_t1_loop.trips) (a13 a14 : IVec S16 32)
    (fu : Buf (Elt F) ((V d (cV L) (jV L)).loc cc0_scratch0)) (fw : Buf (Elt F) ((V d (cV L) (jV L)).loc cc0_scratch1))
    (fc : Buf (Elt F) ((V d (cV L) (jV L)).loc cc0_scratch3)) (fd : Buf (Elt F) ((V d (cV L) (jV L)).loc cc0_scratch4)) (t bw : BitVec 32)
    (hG : Fits v5 v6 (at1 fu) t bw → Good (F := F) (at1 fu) (at2 fw) t bw (a13, a14) fc fd (16 * k.val)) :
    iprop(((sU).view.loc (V d (cV L) (jV L)) ↦{fullShare} fu) ∗ ((sW).view.loc (V d (cV L) (jV L)) ↦{fullShare} fw)
        ∗ ((sC).view.loc (V d (cV L) (jV L)) ↦{fullShare} fc) ∗ ((sD).view.loc (V d (cV L) (jV L)) ↦{fullShare} fd))
      ⊢ wp frame (wpE (defs₀ (F := F)) 𝒱₀ (V d (cV L) (jV L)) none) Set.univ
          (k0_t1_body L kV (Memref.isWhole_whole _) wV (Memref.isWhole_whole _) bV (Memref.isWhole_whole _) uV (Memref.isWhole_whole _) oV (Memref.isWhole_whole _)
            sU (Memref.isWhole_whole _) sW (Memref.isWhole_whole _) sB (Memref.isWhole_whole _) sC (Memref.isWhole_whole _) sD (Memref.isWhole_whole _)
            cc0_scoped0 cc0_scoped1 cc0_scoped2 cc0_scoped3 cc0_scoped4 h1 v5 v6 k (a13, a14))
          fun acc => (iprop(∃ (fc' : Buf (Elt F) ((V d (cV L) (jV L)).loc cc0_scratch3)) (fd' : Buf (Elt F) ((V d (cV L) (jV L)).loc cc0_scratch4)),
            ((sU).view.loc (V d (cV L) (jV L)) ↦{fullShare} fu) ∗ ((sW).view.loc (V d (cV L) (jV L)) ↦{fullShare} fw)
            ∗ ((sC).view.loc (V d (cV L) (jV L)) ↦{fullShare} fc') ∗ ((sD).view.loc (V d (cV L) (jV L)) ↦{fullShare} fd')
            ∗ ⌜Fits v5 v6 (at1 fu) t bw → Good (F := F) (at1 fu) (at2 fw) t bw acc fc' fd' (16 * k.val + 16)⌝) : sProp 𝕄) := by
  unfold k0_t1_body
  simp only [k0_part1_eq_skeleton]
  unfold k0_part1_skel
  simp only [Prog.lift, Prog.bind_op, Prog.bind_ret, Prog.pure_eq_ret, bind_assoc]
  iintro ⟨Hu, Hw, Hc, Hd⟩
  iapply (wp_load 𝒱₀ (V d (cV L) (jV L)) none Set.univ (m := sU) (S := Finset.univ) (Finset.subset_univ _)) $$ Hu; iintro Hu
  rw [wp_assume_of _ _ _ _ (show k0_chk1 L _ from fun _ a x => by
    obtain rfl : a = 0 := Subsingleton.elim _ _; exact dest_lt v5 v6 a13 a14 (keys16 d L k h1 fu) x)]
  iapply (put_sC L d) $$ Hc; iintro Hc
  iapply (wp_load 𝒱₀ (V d (cV L) (jV L)) none Set.univ (m := sW) (S := Finset.univ) (Finset.subset_univ _)) $$ Hw; iintro Hw
  rw [wp_assume_of _ _ _ _ (show k0_chk2 L _ from fun _ a x => by
    obtain rfl : a = 0 := Subsingleton.elim _ _; exact shift_lt (dest_lt v5 v6 a13 a14 (keys16 d L k h1 fu) x) 0 (by decide))]
  iapply (put_sD L d) $$ Hd; iintro Hd
  iapply (wp_load 𝒱₀ (V d (cV L) (jV L)) none Set.univ (m := sW) (S := Finset.univ) (Finset.subset_univ _)) $$ Hw; iintro Hw
  rw [wp_assume_of _ _ _ _ (show k0_chk3 L _ from fun _ a x => by
    obtain rfl : a = 0 := Subsingleton.elim _ _; exact shift_lt (dest_lt v5 v6 a13 a14 (keys16 d L k h1 fu) x) 1 (by decide))]
  iapply (put_sD L d) $$ Hd; iintro Hd
  iapply (wp_load 𝒱₀ (V d (cV L) (jV L)) none Set.univ (m := sW) (S := Finset.univ) (Finset.subset_univ _)) $$ Hw; iintro Hw
  rw [wp_assume_of _ _ _ _ (show k0_chk4 L _ from fun _ a x => by
    obtain rfl : a = 0 := Subsingleton.elim _ _; exact shift_lt (dest_lt v5 v6 a13 a14 (keys16 d L k h1 fu) x) 2 (by decide))]
  iapply (put_sD L d) $$ Hd; iintro Hd
  iapply (wp_load 𝒱₀ (V d (cV L) (jV L)) none Set.univ (m := sW) (S := Finset.univ) (Finset.subset_univ _)) $$ Hw; iintro Hw
  rw [wp_assume_of _ _ _ _ (show k0_chk5 L _ from fun _ a x => by
    obtain rfl : a = 0 := Subsingleton.elim _ _; exact shift_lt (dest_lt v5 v6 a13 a14 (keys16 d L k h1 fu) x) 3 (by decide))]
  iapply (put_sD L d) $$ Hd; iintro Hd
  iapply (wp_load 𝒱₀ (V d (cV L) (jV L)) none Set.univ (m := sW) (S := Finset.univ) (Finset.subset_univ _)) $$ Hw; iintro Hw
  rw [wp_assume_of _ _ _ _ (show k0_chk6 L _ from fun _ a x => by
    obtain rfl : a = 0 := Subsingleton.elim _ _; exact shift_lt (dest_lt v5 v6 a13 a14 (keys16 d L k h1 fu) x) 4 (by decide))]
  iapply (put_sD L d) $$ Hd; iintro Hd
  rw [wp_ret]
  imodintro
  iexists _, _
  isplitl [Hu]; · iexact Hu
  isplitl [Hw]; · iexact Hw
  isplitl [Hc]; · iexact Hc
  isplitl [Hd]; · iexact Hd
  ipureintro
  intro hF
  exact Good.step hF (by have : k.val < 320 := k.isLt; omega) (keys16_eq L d k h1 fu) (rows16_eq L d k fw 0 (by decide) (k0_off5_eq k))
    (rows16_eq L d k fw 1 (by decide) (k0_off6_eq k)) (rows16_eq L d k fw 2 (by decide) (k0_off7_eq k)) (rows16_eq L d k fw 3 (by decide) (k0_off8_eq k))
    (rows16_eq L d k fw 4 (by decide) (k0_off9_eq k)) (hG hF)

end

end Cert.Proof.Compact

end
-- ==== Proof.Rows.lean ====
/-
  What a tile leaves in its row of the two results, and its row read and written through the pieces its copies address.
-/
module

public import proofs.«01_k».proof.Proof.Trip

@[expose] public section

noncomputable section

namespace Cert.Proof.Compact

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Lanes Cert.Proof.Select Idealize.ShloMosaic.ValueIdx

variable {F : FTy → Type}

local notation "𝕄" => MT nD τ sig (HIx 1) (Elt F) ℕ UU ℕ

local notation "kV" => (Memref.whole Cert.KernelIdeal.main_arg0_scv : Memref Cert.KernelIdeal.sig Kind.scVector Space.hbm Cert.KernelIdeal.S20x5120 EltTy.i32)
local notation "wV" => (Memref.whole Cert.KernelIdeal.main_arg1_scv : Memref Cert.KernelIdeal.sig Kind.scVector Space.hbm Cert.KernelIdeal.S20x5x5120 EltTy.f32)
local notation "bV" => (Memref.whole Cert.KernelIdeal.main_v6_scv : Memref Cert.KernelIdeal.sig Kind.scVector Space.hbm Cert.KernelIdeal.S20x128 EltTy.i32)
local notation "uV" => (Memref.whole Cert.KernelIdeal.main_v7_0_scv : Memref Cert.KernelIdeal.sig Kind.scVector Space.hbm Cert.KernelIdeal.S20x1024 EltTy.i32)
local notation "oV" => (Memref.whole Cert.KernelIdeal.main_v7_1_scv : Memref Cert.KernelIdeal.sig Kind.scVector Space.hbm Cert.KernelIdeal.S20x5120 EltTy.f32)
local notation "sU" => (Memref.whole Cert.KernelIdeal.cc0_scratch0 : Memref Cert.KernelIdeal.sig Kind.scVector Space.vmem Cert.KernelIdeal.S5120 EltTy.i32)
local notation "sW" => (Memref.whole Cert.KernelIdeal.cc0_scratch1 : Memref Cert.KernelIdeal.sig Kind.scVector Space.vmem Cert.KernelIdeal.S5x5120 EltTy.f32)
local notation "sB" => (Memref.whole Cert.KernelIdeal.cc0_scratch2 : Memref Cert.KernelIdeal.sig Kind.scVector Space.vmem Cert.KernelIdeal.S128 EltTy.i32)
local notation "sC" => (Memref.whole Cert.KernelIdeal.cc0_scratch3 : Memref Cert.KernelIdeal.sig Kind.scVector Space.vmem Cert.KernelIdeal.S1024 EltTy.i32)
local notation "sD" => (Memref.whole Cert.KernelIdeal.cc0_scratch4 : Memref Cert.KernelIdeal.sig Kind.scVector Space.vmem Cert.KernelIdeal.S5120 EltTy.f32)

/-- An index `x` matched with shape `[1, a]` is `(0, x)`. -/
theorem unsqueeze_row {a : ℕ} (h : (⟨1, ![a]⟩ : Shape).numel = (⟨2, ![1, a]⟩ : Shape).numel) (x : Fin a) :
    Shape.reshapeEquiv h (ix1 x) = ix2 (⟨0, Nat.one_pos⟩ : Fin 1) x :=
  Shape.reshapeEquiv_eq_of_rowMajor h (by
    rw [Shape.rowMajor_val_two, Shape.rowMajor_val_one]
    show 0 * a + x.val = x.val
    rw [Nat.zero_mul, Nat.zero_add])

section
variable (L : grid0.Coords) (hw : wid L < 20)

theorem emb_kP (h1 : k0_cond1 L = 1#1) (j : Fin 5120) : (kP L h1).view.emb (ix1 j) = ix2 (⟨wid L, hw⟩ : Fin 20) j := by
  show (rowK L h1).emb (Shape.reshapeEquiv _ (ix1 j)) = _
  rw [unsqueeze_row]
  refine funext fun a => Fin.ext ?_
  match a with
  | 0 => show k0_off1 L 0 + 1 * 0 = wid L; rw [k0_off1_eq]; rfl
  | 1 => show k0_off1 L 1 + 1 * j.val = j.val; rw [k0_off1_eq]; show 0 + 1 * j.val = _; omega

theorem emb_oP (h1 : k0_cond1 L = 1#1) (j : Fin 5120) : (oP L h1).view.emb (ix1 j) = ix2 (⟨wid L, hw⟩ : Fin 20) j := emb_kP L hw h1 j

theorem emb_bP (h1 : k0_cond1 L = 1#1) (j : Fin 128) : (bP L h1).view.emb (ix1 j) = ix2 (⟨wid L, hw⟩ : Fin 20) j := by
  show (rowB L h1).emb (Shape.reshapeEquiv _ (ix1 j)) = _
  rw [unsqueeze_row]
  refine funext fun a => Fin.ext ?_
  match a with
  | 0 => show k0_off3 L 0 + 1 * 0 = wid L; rw [k0_off3_eq]; rfl
  | 1 => show k0_off3 L 1 + 1 * j.val = j.val; rw [k0_off3_eq]; show 0 + 1 * j.val = _; omega

theorem emb_uP (h1 : k0_cond1 L = 1#1) (j : Fin 1024) : (uP L h1).view.emb (ix1 j) = ix2 (⟨wid L, hw⟩ : Fin 20) j := by
  show (rowU L h1).emb (Shape.reshapeEquiv _ (ix1 j)) = _
  rw [unsqueeze_row]
  refine funext fun a => Fin.ext ?_
  match a with
  | 0 => show k0_off10 L 0 + 1 * 0 = wid L; rw [k0_off10_eq]; rfl
  | 1 => show k0_off10 L 1 + 1 * j.val = j.val; rw [k0_off10_eq]; show 0 + 1 * j.val = _; omega

theorem emb_wP (h1 : k0_cond1 L = 1#1) (r : Fin 5) (j : Fin 5120) : (wP L h1).view.emb (ix2 r j) = ix3 (⟨wid L, hw⟩ : Fin 20) r j := by
  show (rowW L h1).emb (Shape.reshapeEquiv _ (ix2 r j)) = _
  rw [reshapeEquiv_ix2_1ab]
  refine funext fun a => Fin.ext ?_
  match a with
  | 0 => show k0_off2 L 0 + 1 * 0 = wid L; rw [k0_off2_eq]; rfl
  | 1 => show k0_off2 L 1 + 1 * r.val = r.val; rw [k0_off2_eq]; show 0 + 1 * r.val = _; omega
  | 2 => show k0_off2 L 2 + 1 * j.val = j.val; rw [k0_off2_eq]; show 0 + 1 * j.val = _; omega

end

/-! ### What a row of the results holds -/

section
variable (fk : Vec F S20x5120 .i32) (fw : Vec F S20x5x5120 .f32) (fb : Vec F S20x128 .i32) (w : Fin 20)

/-- Row `w`'s keys. -/
def keyAt (j : Nat) : BitVec 32 := fk (ix2 w ⟨j % 5120, Nat.mod_lt _ (by decide)⟩)

/-- Row `w`'s values. -/
def valAt (r j : Nat) : Elt F .f32 := fw (ix3 w ⟨r % 5, Nat.mod_lt _ (by decide)⟩ ⟨j % 5120, Nat.mod_lt _ (by decide)⟩)

/-- Row `w`'s threshold and budget are laid out one per lane, and no more than the results' width is taken. -/
structure RowFits (t bw : BitVec 32) : Prop where
  thr : ∀ k : Fin 16, fb (ix2 w ⟨k.val, by omega⟩) = t
  bud : ∀ k : Fin 16, fb (ix2 w ⟨16 + k.val, by omega⟩) = bw
  bud_lt : bw.toNat < 2 ^ 31
  le_total : Nat.count (taken (keyAt fk w) t bw) 5120 ≤ 1024

/-- Row `w` of the results holds what is taken, each in its place. -/
def RowOk (fu : Vec F S20x1024 .i32) (fo : Vec F S20x5120 .f32) : Prop :=
  ∀ t bw, RowFits fk fb w t bw → ∀ j, j < 5120 → taken (keyAt fk w) t bw j →
    (∀ x : Fin 1024, x.val = pos (keyAt fk w) t bw j → fu (ix2 w x) = keyAt fk w j)
    ∧ ∀ r, r < 5 → ∀ x : Fin 5120, x.val = r * 1024 + pos (keyAt fk w) t bw j → fo (ix2 w x) = valAt fw w r j

end

/-! ### A row copied in, and out -/

section
variable [FloatOps F] (L : grid0.Coords) (hw : wid L < 20) (d : Dev nD) (h1 : k0_cond1 L = 1#1)
variable (fk : Buf (Elt F) (kLoc d)) (fw : Buf (Elt F) (wLoc d)) (fb : Buf (Elt F) (bLoc d))
variable (gu : Buf (Elt F) ((V d (cV L) (jV L)).loc cc0_scratch0)) (gw : Buf (Elt F) ((V d (cV L) (jV L)).loc cc0_scratch1))
  (gb : Buf (Elt F) ((V d (cV L) (jV L)).loc cc0_scratch2))

abbrev inK : Buf (Elt F) ((V d (cV L) (jV L)).loc cc0_scratch0) := (sU).view.write (Elt F) gu ((kP L h1).view.read (Elt F) fk) Finset.univ
abbrev inW : Buf (Elt F) ((V d (cV L) (jV L)).loc cc0_scratch1) := (sW).view.write (Elt F) gw ((wP L h1).view.read (Elt F) fw) Finset.univ
abbrev inB : Buf (Elt F) ((V d (cV L) (jV L)).loc cc0_scratch2) := (sB).view.write (Elt F) gb ((bP L h1).view.read (Elt F) fb) Finset.univ

theorem inK_row (j : Fin 5120) : inK L d h1 fk gu (ix1 j) = fk (ix2 ⟨wid L, hw⟩ j) := by
  rw [show inK L d h1 fk gu = (kP L h1).view.read (Elt F) fk from View.write_whole_univ _ _ _]
  exact congrArg fk (emb_kP L hw h1 _)
theorem inW_row (r : Fin 5) (j : Fin 5120) : inW L d h1 fw gw (ix2 r j) = fw (ix3 ⟨wid L, hw⟩ r j) := by
  rw [show inW L d h1 fw gw = (wP L h1).view.read (Elt F) fw from View.write_whole_univ _ _ _]
  exact congrArg fw (emb_wP L hw h1 _ _)

theorem inK_at : at1 (inK L d h1 fk gu) = keyAt fk ⟨wid L, hw⟩ := by
  funext j; unfold at1 keyAt; exact inK_row L hw d h1 fk gu _

theorem inW_at : at2 (inW L d h1 fw gw) = valAt fw ⟨wid L, hw⟩ := by
  funext r j; unfold at2 valAt; exact inW_row L hw d h1 fw gw _ _

theorem inB_at (j : Fin 128) : inB L d h1 fb gb (ix1 j) = fb (ix2 ⟨wid L, hw⟩ j) := by
  refine (congrFun (View.read_write_univ (v := (sB).view) (Val := Elt F) gb ((bP L h1).view.read (Elt F) fb)) (ix1 j)).trans ?_
  exact congrArg fb (emb_bP L hw h1 _)

/-- The two sixteen-lane words a tile reads off its budget row. -/
abbrev thrV : Vec F S16 .i32 := (sB).view.readAt (Elt F) (Rect.unit (s := S128) ![0] S16.size inb_S128_S16_0).toLoadRect (inB L d h1 fb gb)
abbrev budV : Vec F S16 .i32 := (sB).view.readAt (Elt F) (Rect.unit (s := S128) ![16] S16.size inb_S128_S16_16).toLoadRect (inB L d h1 fb gb)

theorem thrV_at (k : Fin 16) : thrV L d h1 fb gb (lane k) = fb (ix2 ⟨wid L, hw⟩ ⟨k.val, by omega⟩) := by
  refine Eq.trans (congrArg (inB L d h1 fb gb) (funext fun a => Fin.ext ?_)) (inB_at L hw d h1 fb gb ⟨k.val, by omega⟩)
  match a with
  | 0 => show 0 + 1 * k.val = k.val; omega
theorem budV_at (k : Fin 16) : budV L d h1 fb gb (lane k) = fb (ix2 ⟨wid L, hw⟩ ⟨16 + k.val, by omega⟩) := by
  refine Eq.trans (congrArg (inB L d h1 fb gb) (funext fun a => Fin.ext ?_)) (inB_at L hw d h1 fb gb ⟨16 + k.val, by omega⟩)
  match a with
  | 0 => show 16 + 1 * k.val = 16 + k.val; omega

theorem fits_in {t bw : BitVec 32} (H : RowFits fk fb ⟨wid L, hw⟩ t bw) :
    Fits (thrV L d h1 fb gb) (budV L d h1 fb gb) (at1 (inK L d h1 fk gu)) t bw where
  thr k := (thrV_at L hw d h1 fb gb k).trans (H.thr k)
  bud k := (budV_at L hw d h1 fb gb k).trans (H.bud k)
  bud_lt := H.bud_lt
  le_total := by rw [inK_at L hw]; exact H.le_total

variable (fu : Buf (Elt F) (uLoc d)) (fo : Buf (Elt F) (oLoc d))
  (fc : Buf (Elt F) ((V d (cV L) (jV L)).loc cc0_scratch3)) (fd : Buf (Elt F) ((V d (cV L) (jV L)).loc cc0_scratch4))

abbrev outK : Buf (Elt F) (uLoc d) := (uP L h1).view.write (Elt F) fu ((sC).view.read (Elt F) fc) Finset.univ
abbrev outW : Buf (Elt F) (oLoc d) := (oP L h1).view.write (Elt F) fo ((sD).view.read (Elt F) fd) Finset.univ

theorem outK_at (j : Fin 1024) : outK L d h1 fu fc (ix2 ⟨wid L, hw⟩ j) = fc (ix1 j) := by
  refine Eq.trans (congrArg (outK L d h1 fu fc) (emb_uP L hw h1 j).symm) ?_
  exact congrFun (View.read_write_univ (v := (uP L h1).view) (Val := Elt F) fu ((sC).view.read (Elt F) fc)) (ix1 j)
theorem outW_at (j : Fin 5120) : outW L d h1 fo fd (ix2 ⟨wid L, hw⟩ j) = fd (ix1 j) := by
  refine Eq.trans (congrArg (outW L d h1 fo fd) (emb_oP L hw h1 j).symm) ?_
  have e : (sD).view.read (Elt F) fd = fd := View.read_whole _ _
  unfold outW; rw [e]
  exact (View.write_emb_of_mem (v := (oP L h1).view) (Val := Elt F) fo fd (Finset.mem_univ (ix1 j))).trans (cast_eq _ _)

/-- The first lanes of a row's two words. -/
abbrev thrOf (w : Fin 20) : BitVec 32 := fb (ix2 w ⟨0, by decide⟩)
abbrev budOf (w : Fin 20) : BitVec 32 := fb (ix2 w ⟨16, by decide⟩)

theorem rowOk_of {w : Fin 20} {t bw : BitVec 32} {acc : IVec S16 32 × IVec S16 32} {fk : Vec F S20x5120 .i32} {fw : Vec F S20x5x5120 .f32} {fb : Vec F S20x128 .i32}
    {fu : Vec F S20x1024 .i32} {fo : Vec F S20x5120 .f32} {fc : Vec F S1024 .i32} {fd : Vec F S5120 .f32}
    (ht : fb (ix2 w ⟨0, by decide⟩) = t) (hb : fb (ix2 w ⟨16, by decide⟩) = bw)
    (hu : ∀ j : Fin 1024, fu (ix2 w j) = fc (ix1 j)) (ho : ∀ j : Fin 5120, fo (ix2 w j) = fd (ix1 j))
    (H : RowFits fk fb w t bw → Good (F := F) (keyAt fk w) (valAt fw w) t bw acc fc fd 5120) : RowOk fk fw fb w fu fo := by
  intro t' bw' hR j hj htk
  obtain rfl : t = t' := ht.symm.trans (hR.thr 0)
  obtain rfl : bw = bw' := hb.symm.trans (hR.bud 0)
  have G := H hR
  refine ⟨fun x hx => (hu x).trans (G.keys j hj htk _ ?_), fun r hr x hx => (ho x).trans (G.rows r hr j hj htk _ hx)⟩
  exact hx.trans (by rw [Nat.zero_mul, Nat.zero_add])

theorem rowOk_out {acc : IVec S16 32 × IVec S16 32}
    (H : Fits (thrV L d h1 fb gb) (budV L d h1 fb gb) (at1 (inK L d h1 fk gu)) (thrOf d fb ⟨wid L, hw⟩) (budOf d fb ⟨wid L, hw⟩) →
      Good (F := F) (at1 (inK L d h1 fk gu)) (at2 (inW L d h1 fw gw)) (thrOf d fb ⟨wid L, hw⟩) (budOf d fb ⟨wid L, hw⟩) acc fc fd 5120) :
    RowOk fk fw fb ⟨wid L, hw⟩ (outK L d h1 fu fc) (outW L d h1 fo fd) :=
  rowOk_of rfl rfl (outK_at L hw d h1 fu fc) (outW_at L hw d h1 fo fd) fun hR =>
    inK_at L hw d h1 fk gu ▸ inW_at L hw d h1 fw gw ▸ H (fits_in L hw d h1 fk fb gu gb hR)

end

end Cert.Proof.Compact

end
-- ==== Proof.Tile.lean ====
/-
  One tile's task: its row of keys, values, threshold and budget copied in, the compacting loop, the compacted row copied out.
-/
module

public import proofs.«01_k».proof.Proof.Trip
public import proofs.«01_k».proof.Proof.Rows
public import Idealize.ShloMosaic.Lib.Tactic.WordOmega

@[expose] public section

noncomputable section

namespace Cert.Proof.Compact

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Lanes Cert.Proof.Select Idealize.ShloMosaic.ValueIdx

variable {F : FTy → Type}

local notation "𝕄" => MT nD τ sig (HIx 1) (Elt F) ℕ UU ℕ

local notation "kV" => (Memref.whole Cert.KernelIdeal.main_arg0_scv : Memref Cert.KernelIdeal.sig Kind.scVector Space.hbm Cert.KernelIdeal.S20x5120 EltTy.i32)
local notation "wV" => (Memref.whole Cert.KernelIdeal.main_arg1_scv : Memref Cert.KernelIdeal.sig Kind.scVector Space.hbm Cert.KernelIdeal.S20x5x5120 EltTy.f32)
local notation "bV" => (Memref.whole Cert.KernelIdeal.main_v6_scv : Memref Cert.KernelIdeal.sig Kind.scVector Space.hbm Cert.KernelIdeal.S20x128 EltTy.i32)
local notation "uV" => (Memref.whole Cert.KernelIdeal.main_v7_0_scv : Memref Cert.KernelIdeal.sig Kind.scVector Space.hbm Cert.KernelIdeal.S20x1024 EltTy.i32)
local notation "oV" => (Memref.whole Cert.KernelIdeal.main_v7_1_scv : Memref Cert.KernelIdeal.sig Kind.scVector Space.hbm Cert.KernelIdeal.S20x5120 EltTy.f32)
local notation "sU" => (Memref.whole Cert.KernelIdeal.cc0_scratch0 : Memref Cert.KernelIdeal.sig Kind.scVector Space.vmem Cert.KernelIdeal.S5120 EltTy.i32)
local notation "sW" => (Memref.whole Cert.KernelIdeal.cc0_scratch1 : Memref Cert.KernelIdeal.sig Kind.scVector Space.vmem Cert.KernelIdeal.S5x5120 EltTy.f32)
local notation "sB" => (Memref.whole Cert.KernelIdeal.cc0_scratch2 : Memref Cert.KernelIdeal.sig Kind.scVector Space.vmem Cert.KernelIdeal.S128 EltTy.i32)
local notation "sC" => (Memref.whole Cert.KernelIdeal.cc0_scratch3 : Memref Cert.KernelIdeal.sig Kind.scVector Space.vmem Cert.KernelIdeal.S1024 EltTy.i32)
local notation "sD" => (Memref.whole Cert.KernelIdeal.cc0_scratch4 : Memref Cert.KernelIdeal.sig Kind.scVector Space.vmem Cert.KernelIdeal.S5120 EltTy.f32)

variable [FloatOps F]

section
variable (L : grid0.Coords) (d : Dev nD)

theorem loop0 : k0_t1_loop.trips = 320 := rfl

/-- What the loop keeps: the row as it was copied in, and the two compacted buffers filled as far as the keys read. -/
def inv (v5 v6 : Vec F S16 .i32) (fu : Buf (Elt F) ((V d (cV L) (jV L)).loc cc0_scratch0)) (fw : Buf (Elt F) ((V d (cV L) (jV L)).loc cc0_scratch1))
    (t bw : BitVec 32) (n : Nat) (acc : IVec S16 32 × IVec S16 32) : sProp 𝕄 :=
  iprop(∃ (fc : Buf (Elt F) ((V d (cV L) (jV L)).loc cc0_scratch3)) (fd : Buf (Elt F) ((V d (cV L) (jV L)).loc cc0_scratch4)),
    ((sU).view.loc (V d (cV L) (jV L)) ↦{fullShare} fu) ∗ ((sW).view.loc (V d (cV L) (jV L)) ↦{fullShare} fw)
    ∗ ((sC).view.loc (V d (cV L) (jV L)) ↦{fullShare} fc) ∗ ((sD).view.loc (V d (cV L) (jV L)) ↦{fullShare} fd)
    ∗ ⌜Fits v5 v6 (at1 fu) t bw → Good (F := F) (at1 fu) (at2 fw) t bw acc fc fd (16 * n)⌝)

variable (fk : Buf (Elt F) (kLoc d)) (fw : Buf (Elt F) (wLoc d)) (fb : Buf (Elt F) (bLoc d))

theorem tile_active (hF : (K (F := F)).Facts) (hw : wid L < 20) (O : CellTallies nD τ sig (HIx 1)) (W : Waits sig (HIx 1)) (hO : ∀ g, O g none = 0)
    (fu : Buf (Elt F) (uLoc d)) (fo : Buf (Elt F) (oLoc d)) :
    iprop(levAts (K (F := F)).L (K (F := F)).lev
        ∗ ((kLoc d ↦[kSet ⟨wid L, hw⟩]{fullShare} fk) ∗ (wLoc d ↦[wSet ⟨wid L, hw⟩]{fullShare} fw) ∗ (bLoc d ↦[bSet ⟨wid L, hw⟩]{fullShare} fb)
          ∗ (uLoc d ↦[uSet ⟨wid L, hw⟩]{fullShare} fu) ∗ (oLoc d ↦[kSet ⟨wid L, hw⟩]{fullShare} fo))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_compact L kV (Memref.isWhole_whole _) wV (Memref.isWhole_whole _) bV (Memref.isWhole_whole _) uV (Memref.isWhole_whole _) oV (Memref.isWhole_whole _)
            sU (Memref.isWhole_whole _) sW (Memref.isWhole_whole _) sB (Memref.isWhole_whole _) sC (Memref.isWhole_whole _) sD (Memref.isWhole_whole _)
            cc0_scoped0 cc0_scoped1 cc0_scoped2 cc0_scoped3 cc0_scoped4)
          fun _ => (iprop((∃ (fu' : Buf (Elt F) (uLoc d)) (fo' : Buf (Elt F) (oLoc d)),
              (kLoc d ↦[kSet ⟨wid L, hw⟩]{fullShare} fk) ∗ (wLoc d ↦[wSet ⟨wid L, hw⟩]{fullShare} fw) ∗ (bLoc d ↦[bSet ⟨wid L, hw⟩]{fullShare} fb)
              ∗ (uLoc d ↦[uSet ⟨wid L, hw⟩]{fullShare} fu') ∗ (oLoc d ↦[kSet ⟨wid L, hw⟩]{fullShare} fo')
              ∗ ⌜RowOk (F := F) fk fw fb ⟨wid L, hw⟩ fu' fo'⌝)
            ∗ scopedBufs (V d (cV L) (jV L)) ∗ scopedSems0 (V d (cV L) (jV L))
            ∗ ∃ W' : Waits sig (HIx 1), ⌜∀ p ∈ W', p ∈ W ∨ p.2 = none ∨ p.2 = some (0 : Fin 1)⌝ ∗ owes (V d (cV L) (jV L)) O W') : sProp 𝕄) := by
  have h1 : k0_cond1 L = 1#1 := (cond_iff L).mpr hw
  unfold cc0_sc_compact
  simp only [k0_part2_eq_skeleton]
  rw [dif_pos h1]
  unfold k0_part2_skel
  simp only [Prog.lift, Prog.bind_op, Prog.bind_ret, Prog.pure_eq_ret, bind_assoc]
  rw [(K (F := F)).scopedBufs_V hF d (cV L) (jV L), SparseCore.Cfg.scopedSems0_V (Val := Elt F) d (cV L) (jV L), ownSems0_V, ownBufs_V]
  iintro ⟨#Hlv, ⟨Hk, Hw, Hb, Hu, Ho⟩, ⟨⟨⟨%gu, HsU⟩, ⟨%gw, HsW⟩, ⟨%gb, HsB⟩, ⟨%gc, HsC⟩, ⟨%gd, HsD⟩⟩, Hbufs⟩, ⟨⟨Hm0, Hm1, Hm2, Hm3, Hm4⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hk' := (Entails.of_eq (pts_kP (F := F) L hw d h1 _).symm) $$ Hk
  ihave Hw' := (Entails.of_eq (pts_wP (F := F) L hw d h1 _).symm) $$ Hw
  ihave Hb' := (Entails.of_eq (pts_bP (F := F) L hw d h1 _).symm) $$ Hb
  ihave Hu' := (Entails.of_eq (pts_uP (F := F) L hw d h1 _).symm) $$ Hu
  ihave Ho' := (Entails.of_eq (pts_oP (F := F) L hw d h1 _).symm) $$ Ho
  ihave HsU' := (show ((V d (cV L) (jV L)).loc cc0_scratch0 ↦{fullShare} gu : sProp 𝕄) ⊢ ((sU).view.loc (V d (cV L) (jV L)) ↦{fullShare} gu) from .rfl) $$ HsU
  ihave HsW' := (show ((V d (cV L) (jV L)).loc cc0_scratch1 ↦{fullShare} gw : sProp 𝕄) ⊢ ((sW).view.loc (V d (cV L) (jV L)) ↦{fullShare} gw) from .rfl) $$ HsW
  ihave HsB' := (show ((V d (cV L) (jV L)).loc cc0_scratch2 ↦{fullShare} gb : sProp 𝕄) ⊢ ((sB).view.loc (V d (cV L) (jV L)) ↦{fullShare} gb) from .rfl) $$ HsB
  ihave HsC' := (show ((V d (cV L) (jV L)).loc cc0_scratch3 ↦{fullShare} gc : sProp 𝕄) ⊢ ((sC).view.loc (V d (cV L) (jV L)) ↦{fullShare} gc) from .rfl) $$ HsC
  ihave HsD' := (show ((V d (cV L) (jV L)).loc cc0_scratch4 ↦{fullShare} gd : sProp 𝕄) ⊢ ((sD).view.loc (V d (cV L) (jV L)) ↦{fullShare} gd) from .rfl) $$ HsD
  sl_exec (disch := first | exact View.amount_pos _ _ (show 0 < S5120.numel by decide) | exact View.amount_pos _ _ (show 0 < S5x5120.numel by decide) | exact View.amount_pos _ _ (show 0 < S128.numel by decide))
  sl_for (inv L d (thrV L d h1 fb gb) (budV L d h1 fb gb) (inK L d h1 fk gu) (inW L d h1 fw gw)
    (thrOf d fb ⟨wid L, hw⟩) (budOf d fb ⟨wid L, hw⟩)) $$ [HsU' HsW' HsC' HsD']
  case region =>
    intro k acc
    obtain ⟨a13, a14⟩ := acc
    unfold inv
    iintro ⟨%fc, %fd, HU, HW, HC, HD, %hG⟩
    iapply (trip L d h1 (thrV L d h1 fb gb) (budV L d h1 fb gb) k a13 a14 (inK L d h1 fk gu) (inW L d h1 fw gw) fc fd
      (thrOf d fb ⟨wid L, hw⟩) (budOf d fb ⟨wid L, hw⟩) hG)
    isplitl [HU]; · iexact HU
    isplitl [HW]; · iexact HW
    isplitl [HC]; · iexact HC
    iexact HD
  · unfold inv
    iexists gc, gd
    isplitl [HsU']; · iexact HsU'
    isplitl [HsW']; · iexact HsW'
    isplitl [HsC']; · iexact HsC'
    isplitl [HsD']; · iexact HsD'
    ipureintro; exact fun _ => Good.zero _ _ _ _ _ _
  iintro %acc Hinv
  unfold inv
  icases Hinv with ⟨%fc, %fd, HsU, HsW, HsC, HsD, %hG⟩
  sl_exec (disch := first | exact View.amount_pos _ _ (show 0 < S1024.numel by decide) | exact View.amount_pos _ _ (show 0 < S5120.numel by decide))
  sl_step
  have eu : (uP L h1).view.writes (Elt F) fu [⟨Rect.whole S1024, tile_active.sl.dma0_3 L d fc⟩] = outK L d h1 fu fc := by
    rw [← View.write_univ_eq_writes_whole, View.writes_nil]; rfl
  have eo : (oP L h1).view.writes (Elt F) fo [⟨Rect.whole S5120, tile_active.sl.dma0_4 L d fd⟩] = outW L d h1 fo fd := by
    rw [← View.write_univ_eq_writes_whole, View.writes_nil]; rfl
  ihave Hu := (show ((uP L h1).view.loc (V d (cV L) (jV L)) ↦[(uP L h1).view.set]{fullShare} (uP L h1).view.writes (Elt F) fu [⟨Rect.whole S1024, tile_active.sl.dma0_3 L d fc⟩] : sProp 𝕄)
      ⊢ (uLoc d ↦[uSet ⟨wid L, hw⟩]{fullShare} outK L d h1 fu fc) from Entails.of_eq (by rw [eu, pts_uP L hw])) $$ Hu'
  ihave Ho := (show ((oP L h1).view.loc (V d (cV L) (jV L)) ↦[(oP L h1).view.set]{fullShare} (oP L h1).view.writes (Elt F) fo [⟨Rect.whole S5120, tile_active.sl.dma0_4 L d fd⟩] : sProp 𝕄)
      ⊢ (oLoc d ↦[kSet ⟨wid L, hw⟩]{fullShare} outW L d h1 fo fd) from Entails.of_eq (by rw [eo, pts_oP L hw])) $$ Ho'
  isplitl [Hk' Hw' Hb' Hu Ho]
  · iexists outK L d h1 fu fc, outW L d h1 fo fd
    isplitl [Hk']; · iapply (Entails.of_eq (pts_kP (F := F) L hw d h1 _)); iexact Hk'
    isplitl [Hw']; · iapply (Entails.of_eq (pts_wP (F := F) L hw d h1 _)); iexact Hw'
    isplitl [Hb']; · iapply (Entails.of_eq (pts_bP (F := F) L hw d h1 _)); iexact Hb'
    isplitl [Hu]; · iexact Hu
    isplitl [Ho]; · iexact Ho
    ipureintro
    exact rowOk_out L hw d h1 fk fw fb gu gw gb fu fo fc fd hG
  isplitl [HsU HsW HsB' HsC HsD Hbufs]
  · isplitr [Hbufs]
    · isplitl [HsU]; · iexists _; iexact HsU
      isplitl [HsW]; · iexists _; iexact HsW
      isplitl [HsB']; · iexists _; iexact HsB'
      isplitl [HsC]; · iexists _; iexact HsC
      iexists _; iexact HsD
    · iexact Hbufs
  isplitl [Hm0 Hm1 Hm2 Hm3 Hm4 Hsems]
  · isplitr [Hsems]
    · isplitl [Hm0]; · iexact Hm0
      isplitl [Hm1]; · iexact Hm1
      isplitl [Hm2]; · iexact Hm2
      isplitl [Hm3]; · iexact Hm3
      iexact Hm4
    · iexact Hsems
  iexists _; isplitr
  swap; · iexact HO
  ipureintro; intro p _
  rcases p.2 with _ | q
  · exact .inr (.inl rfl)
  · exact .inr (.inr (congrArg some (Subsingleton.elim q 0)))

/-- A tile with no row leaves everything as it was. -/
theorem tile_idle (hw : ¬ wid L < 20) (O : CellTallies nD τ sig (HIx 1)) (W : Waits sig (HIx 1)) :
    iprop(scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_compact L kV (Memref.isWhole_whole _) wV (Memref.isWhole_whole _) bV (Memref.isWhole_whole _) uV (Memref.isWhole_whole _) oV (Memref.isWhole_whole _)
            sU (Memref.isWhole_whole _) sW (Memref.isWhole_whole _) sB (Memref.isWhole_whole _) sC (Memref.isWhole_whole _) sD (Memref.isWhole_whole _)
            cc0_scoped0 cc0_scoped1 cc0_scoped2 cc0_scoped3 cc0_scoped4)
          fun _ => (iprop(scopedBufs (V d (cV L) (jV L)) ∗ scopedSems0 (V d (cV L) (jV L))
            ∗ ∃ W' : Waits sig (HIx 1), ⌜∀ p ∈ W', p ∈ W ∨ p.2 = none ∨ p.2 = some (0 : Fin 1)⌝ ∗ owes (V d (cV L) (jV L)) O W') : sProp 𝕄) := by
  have h1 : ¬ k0_cond1 L = 1#1 := fun h => hw ((cond_iff L).mp h)
  unfold cc0_sc_compact
  rw [dif_neg h1]
  iintro ⟨Hb, Hs, HO⟩
  sl_step
  isplitl [Hb]; · iexact Hb
  isplitl [Hs]; · iexact Hs
  iexists W; isplitr
  · ipureintro; exact fun p hp => .inl hp
  · iexact HO

end

end Cert.Proof.Compact

end
-- ==== Proof.Pay.lean ====
/-
  What the compacting call's tiles are handed and hand back: row by row, and the launch's obligations about one task.
-/
module

public import proofs.«01_k».proof.Proof.Tile
public import Idealize.ShloMosaic.Lib.Pipeline.Frame

@[expose] public section

noncomputable section

namespace Cert.Proof.Compact

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_sub_split after)
open Cert.Proof.Lanes Cert.Proof.Select Idealize.ShloMosaic.ValueIdx

variable {F : FTy → Type}

local notation "𝕄" => MT nD τ sig (HIx 1) (Elt F) ℕ UU ℕ

local notation "kV" => (Memref.whole Cert.KernelIdeal.main_arg0_scv : Memref Cert.KernelIdeal.sig Kind.scVector Space.hbm Cert.KernelIdeal.S20x5120 EltTy.i32)
local notation "wV" => (Memref.whole Cert.KernelIdeal.main_arg1_scv : Memref Cert.KernelIdeal.sig Kind.scVector Space.hbm Cert.KernelIdeal.S20x5x5120 EltTy.f32)
local notation "bV" => (Memref.whole Cert.KernelIdeal.main_v6_scv : Memref Cert.KernelIdeal.sig Kind.scVector Space.hbm Cert.KernelIdeal.S20x128 EltTy.i32)
local notation "uV" => (Memref.whole Cert.KernelIdeal.main_v7_0_scv : Memref Cert.KernelIdeal.sig Kind.scVector Space.hbm Cert.KernelIdeal.S20x1024 EltTy.i32)
local notation "oV" => (Memref.whole Cert.KernelIdeal.main_v7_1_scv : Memref Cert.KernelIdeal.sig Kind.scVector Space.hbm Cert.KernelIdeal.S20x5120 EltTy.f32)
local notation "sU" => (Memref.whole Cert.KernelIdeal.cc0_scratch0 : Memref Cert.KernelIdeal.sig Kind.scVector Space.vmem Cert.KernelIdeal.S5120 EltTy.i32)
local notation "sW" => (Memref.whole Cert.KernelIdeal.cc0_scratch1 : Memref Cert.KernelIdeal.sig Kind.scVector Space.vmem Cert.KernelIdeal.S5x5120 EltTy.f32)
local notation "sB" => (Memref.whole Cert.KernelIdeal.cc0_scratch2 : Memref Cert.KernelIdeal.sig Kind.scVector Space.vmem Cert.KernelIdeal.S128 EltTy.i32)
local notation "sC" => (Memref.whole Cert.KernelIdeal.cc0_scratch3 : Memref Cert.KernelIdeal.sig Kind.scVector Space.vmem Cert.KernelIdeal.S1024 EltTy.i32)
local notation "sD" => (Memref.whole Cert.KernelIdeal.cc0_scratch4 : Memref Cert.KernelIdeal.sig Kind.scVector Space.vmem Cert.KernelIdeal.S5120 EltTy.f32)

variable [FloatOps F]

/-! ## The host operations before the call -/

/-- Threshold and budget, each as a column, side by side, spread over sixteen lanes each, and padded to the row of 128 the call reads. -/
abbrev hostOps : List (HloOp τ sig (Elt F)) :=
  [StableHlo.unary main_arg2 main_v0 (broadcastInDim S20x1 ![0] bcast_S20_S20x1_0 : (⟨S20, .i32⟩ : BufTy).Contents (Elt F) → (⟨S20x1, .i32⟩ : BufTy).Contents (Elt F)),
   StableHlo.unary main_arg3 main_v1 (broadcastInDim S20x1 ![0] bcast_S20_S20x1_0 : (⟨S20, .i32⟩ : BufTy).Contents (Elt F) → (⟨S20x1, .i32⟩ : BufTy).Contents (Elt F)),
   StableHlo.binary main_v0 main_v1 main_v2 ((fun a b => concatenate S20x2 1 [⟨S20x1, a⟩, ⟨S20x1, b⟩] concatenates_S20x1_S20x1_S20x2_d1) : (⟨S20x1, .i32⟩ : BufTy).Contents (Elt F) → (⟨S20x1, .i32⟩ : BufTy).Contents (Elt F) → (⟨S20x2, .i32⟩ : BufTy).Contents (Elt F)),
   StableHlo.unary main_v2 main_v3 (broadcastInDim S20x2x1 ![0, 1] bcast_S20x2_S20x2x1_0_1 : (⟨S20x2, .i32⟩ : BufTy).Contents (Elt F) → (⟨S20x2x1, .i32⟩ : BufTy).Contents (Elt F)),
   StableHlo.unary main_v3 main_v4 (broadcastInDim S20x2x16 ![0, 1, 2] bcast_S20x2x1_S20x2x16_0_1_2 : (⟨S20x2x1, .i32⟩ : BufTy).Contents (Elt F) → (⟨S20x2x16, .i32⟩ : BufTy).Contents (Elt F)),
   StableHlo.reshape main_v4 main_v5 (rfl : (.i32 : EltTy) = .i32) shapeCasts_S20x2x16_S20x32,
   StableHlo.nullary main_c (constantI S_ 32 0#32),
   StableHlo.TRef.unary (.of main_c : StableHlo.TRef sig ⟨S_, .i32⟩) main_call0.v0 id,
   StableHlo.TRef.binary (.of main_v5 : StableHlo.TRef sig ⟨S20x32, .i32⟩) main_call0.v0 main_call0.v1 ((fun x v => pad S20x128 ![0, 0] ![0, 96] ![0, 0] x v pads_S20x32_S20x128_000_0960 h_S_) : (⟨S20x32, .i32⟩ : BufTy).Contents (Elt F) → (⟨S_, .i32⟩ : BufTy).Contents (Elt F) → (⟨S20x128, .i32⟩ : BufTy).Contents (Elt F))]

variable (m : (ℓ : Loc nD τ sig) → Buf (Elt F) ℓ) (ρ : Dev nD → PrngReg)

def V0 (d : Dev nD) : Valuation τ sig (Elt F) := fun b => m (d, b)
def V1 (d : Dev nD) : Valuation τ sig (Elt F) := after (hostOps (F := F)) (V0 m d)

/-- The row of thresholds and budgets the call reads, as the host operations leave it. -/
def tb (d : Dev nD) : Buf (Elt F) (bLoc d) := V1 m d (Proc.devRef .tc main_v6)

/-! ## What the tiles are handed and hand back -/

def inRow (d : Dev nD) (w : Fin 20) : sProp 𝕄 :=
  iprop((kLoc d ↦[kSet w]{fullShare} m (kLoc d)) ∗ (wLoc d ↦[wSet w]{fullShare} m (wLoc d)) ∗ (bLoc d ↦[bSet w]{fullShare} tb m d)
    ∗ (uLoc d ↦[uSet w]{fullShare} m (uLoc d)) ∗ (oLoc d ↦[kSet w]{fullShare} m (oLoc d)))

def outRow (d : Dev nD) (w : Fin 20) : sProp 𝕄 :=
  iprop(∃ (fu : Buf (Elt F) (uLoc d)) (fo : Buf (Elt F) (oLoc d)),
    (kLoc d ↦[kSet w]{fullShare} m (kLoc d)) ∗ (wLoc d ↦[wSet w]{fullShare} m (wLoc d)) ∗ (bLoc d ↦[bSet w]{fullShare} tb m d)
      ∗ (uLoc d ↦[uSet w]{fullShare} fu) ∗ (oLoc d ↦[kSet w]{fullShare} fo)
    ∗ ⌜RowOk (m (kLoc d)) (m (wLoc d)) (tb m d) w fu fo⌝)

/-- A task's share: a row if there is one of its number, nothing otherwise. -/
def pick (Φ : Fin 20 → sProp 𝕄) (n : Nat) : sProp 𝕄 := if h : n < 20 then Φ ⟨n, h⟩ else iprop(emp)

instance pick_storable (Φ : Fin 20 → sProp 𝕄) [∀ w, BI.Storable (upEmb : UEmb _ 𝕄) (Φ w)] (n : Nat) : BI.Storable (upEmb : UEmb _ 𝕄) (pick Φ n) := by
  unfold pick; split <;> infer_instance
instance inRow_storable (d : Dev nD) (w : Fin 20) : BI.Storable (upEmb : UEmb _ 𝕄) (inRow m d w) := by unfold inRow; infer_instance
instance outRow_storable (d : Dev nD) (w : Fin 20) : BI.Storable (upEmb : UEmb _ 𝕄) (outRow m d w) := by unfold outRow; infer_instance

def P : (K (F := F)).Pay (nD := nD) (Val := Elt F) (Name := ℕ) (U := UU) where
  st := fun _ d c => bigSep Finset.univ fun i : Fin 16 => pick (inRow m d) (2 * i.val + c.val)
  dn := fun _ d c => bigSep Finset.univ fun i : Fin 16 => pick (outRow m d) (2 * i.val + c.val)
  go := fun _ d c i => pick (inRow m d) (2 * i.val + c.val)
  td := fun _ d c i => pick (outRow m d) (2 * i.val + c.val)
  x := fun _ _ => iprop(emp)

instance P_storable : (P m).IsStorable where
  st _ d c := (inferInstance : BI.Storable (upEmb : UEmb _ 𝕄) (bigSep Finset.univ fun i : Fin 16 => pick (inRow m d) (2 * i.val + c.val)))
  dn _ d c := (inferInstance : BI.Storable (upEmb : UEmb _ 𝕄) (bigSep Finset.univ fun i : Fin 16 => pick (outRow m d) (2 * i.val + c.val)))
  go _ d c i := pick_storable (inRow m d) _
  td _ d c i := pick_storable (outRow m d) _

/-! ## The task is the launch's -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_compact (coordsV c s)
          kV (Memref.isWhole_whole _) wV (Memref.isWhole_whole _) bV (Memref.isWhole_whole _) uV (Memref.isWhole_whole _) oV (Memref.isWhole_whole _)
            sU (Memref.isWhole_whole _) sW (Memref.isWhole_whole _) sB (Memref.isWhole_whole _) sC (Memref.isWhole_whole _) sD (Memref.isWhole_whole _)
            cc0_scoped0 cc0_scoped1 cc0_scoped2 cc0_scoped3 cc0_scoped4) ⟨⟩ c s := rfl

theorem tile_any (hF : (K (F := F)).Facts) (d : Dev nD) (L : grid0.Coords) (O : CellTallies nD τ sig (HIx 1)) (W : Waits sig (HIx 1)) (hO : ∀ g, O g none = 0) :
    iprop(levAts (K (F := F)).L (K (F := F)).lev ∗ emp ∗ pick (inRow m d) (wid L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_compact L kV (Memref.isWhole_whole _) wV (Memref.isWhole_whole _) bV (Memref.isWhole_whole _) uV (Memref.isWhole_whole _) oV (Memref.isWhole_whole _)
            sU (Memref.isWhole_whole _) sW (Memref.isWhole_whole _) sB (Memref.isWhole_whole _) sC (Memref.isWhole_whole _) sD (Memref.isWhole_whole _)
            cc0_scoped0 cc0_scoped1 cc0_scoped2 cc0_scoped3 cc0_scoped4)
          fun _ => (iprop(pick (outRow m d) (wid L) ∗ scopedBufs (V d (cV L) (jV L)) ∗ scopedSems0 (V d (cV L) (jV L))
            ∗ ∃ W' : Waits sig (HIx 1), ⌜∀ p ∈ W', p ∈ W ∨ p.2 = none ∨ p.2 = some (0 : Fin 1)⌝ ∗ owes (V d (cV L) (jV L)) O W') : sProp 𝕄) := by
  unfold pick
  by_cases hw : wid L < 20
  · rw [dif_pos hw, dif_pos hw]
    unfold inRow outRow
    iintro ⟨Hlev, -, Hin, Hsb, Hss, How⟩
    iapply (tile_active L d (m (kLoc d)) (m (wLoc d)) (tb m d) hF hw O W hO (m (uLoc d)) (m (oLoc d))) $$ [Hlev Hin Hsb Hss How]
    isplitl [Hlev]; · iexact Hlev
    isplitl [Hin]; · iexact Hin
    isplitl [Hsb]; · iexact Hsb
    isplitl [Hss]; · iexact Hss
    iexact How
  · rw [dif_neg hw, dif_neg hw]
    iintro ⟨-, -, -, Hsb, Hss, How⟩
    iapply (wp_mono frame (wpE (defs₀ (F := F)) 𝒱₀ (V d (cV L) (jV L)) none) Set.univ (fun _ => Entails.of_eq (BI.equiv_iff.mp BI.emp_sep).symm))
    iapply (tile_idle L d hw O W) $$ [Hsb Hss How]
    isplitl [Hsb]; · iexact Hsb
    isplitl [Hss]; · iexact Hss
    iexact How

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_any m hF d (coordsV ⟨_, hci.1⟩ ⟨_, hci.2⟩) O W hO

theorem vecSplit : (K (F := F)).VecSplit' (P m) 0 := by
  intro d c
  show iprop(bigSep Finset.univ fun i : Fin 16 => pick (inRow m d) (2 * i.val + c.val)) ⊢ |={Set.univ}=> iprop(
      (bigSep Finset.univ fun i : Fin 16 => pick (inRow m d) (2 * i.val + c.val))
      ∗ ((bigSep Finset.univ fun i : Fin 16 => pick (outRow m d) (2 * i.val + c.val))
          -∗ bigSep Finset.univ fun i : Fin 16 => pick (outRow m d) (2 * i.val + c.val)))
  iintro H; imodintro
  isplitl [H]; · iexact H
  iintro H; iexact H

end Cert.Proof.Compact

end
-- ==== Proof.Launch.lean ====
/-
  The compacting call launched: rows dealt to the tiles and joined again, @main's run, and what it leaves.
-/
module

public import proofs.«01_k».proof.Proof.Pay
public import Idealize.ShloMosaic.Lib.Pipeline.Frame

@[expose] public section

noncomputable section

namespace Cert.Proof.Compact

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_sub_split after wp_seq seq)
open Cert.Proof.Lanes Cert.Proof.Select Idealize.ShloMosaic.ValueIdx

variable {F : FTy → Type}

local notation "𝕄" => MT nD τ sig (HIx 1) (Elt F) ℕ UU ℕ

/-! ## Rows of the arrays, and the arrays whole -/

theorem mem_row {n : Nat} (w : Fin 20) (x : Fin n) : ix2 w x ∈ (row2 n w).set := by
  refine (LoadRect.mem_set _).mpr fun a => ?_
  match a with
  | 0 => exact ⟨0, by simp [row2, Rect.part, Rect.block, Shape.partSize], by
      show w.val = Shape.partIx _ _ _ _ * Shape.partSize _ _ _ _ + 1 * 0
      simp [Shape.partIx, Shape.partSize]⟩
  | 1 => exact ⟨x.val, by simp [row2, Rect.part, Rect.block, Shape.partSize], by
      show x.val = Shape.partIx _ _ _ _ * Shape.partSize _ _ _ _ + 1 * x.val
      simp [Shape.partIx, Shape.partSize]⟩

section
variable {n : Nat}
theorem rows_disjoint : ∀ i ∈ (Finset.univ : Finset (Fin 20)), ∀ j ∈ (Finset.univ : Finset (Fin 20)), i ≠ j → Disjoint (row2 n i).set (row2 n j).set :=
  fun _ _ _ _ h => Rect.part_disjoint hd2 h
theorem rows_cover : ((Finset.univ : Finset (Fin 20)).biUnion fun w => (row2 n w).set) = Finset.univ := Rect.biUnion_part hd2
end
theorem rows3_disjoint : ∀ i ∈ (Finset.univ : Finset (Fin 20)), ∀ j ∈ (Finset.univ : Finset (Fin 20)), i ≠ j → Disjoint (row3 i).set (row3 j).set :=
  fun _ _ _ _ h => Rect.part_disjoint hd3 h
theorem rows3_cover : ((Finset.univ : Finset (Fin 20)).biUnion fun w => (row3 w).set) = Finset.univ := Rect.biUnion_part hd3

section
variable (d : Dev nD)
theorem kRows (f : Buf (Elt F) (kLoc d)) : (kLoc d ↦{fullShare} f : sProp 𝕄) = bigSep Finset.univ fun w : Fin 20 => kLoc d ↦[kSet w]{fullShare} f := by
  rw [← pointsTo_biUnion Finset.univ (ℓ := kLoc d) kSet rows_disjoint, rows_cover]; try rfl
theorem wRows (f : Buf (Elt F) (wLoc d)) : (wLoc d ↦{fullShare} f : sProp 𝕄) = bigSep Finset.univ fun w : Fin 20 => wLoc d ↦[wSet w]{fullShare} f := by
  rw [← pointsTo_biUnion Finset.univ (ℓ := wLoc d) wSet rows3_disjoint, rows3_cover]; try rfl
theorem bRows (f : Buf (Elt F) (bLoc d)) : (bLoc d ↦{fullShare} f : sProp 𝕄) = bigSep Finset.univ fun w : Fin 20 => bLoc d ↦[bSet w]{fullShare} f := by
  rw [← pointsTo_biUnion Finset.univ (ℓ := bLoc d) bSet rows_disjoint, rows_cover]; try rfl
theorem uRows (f : Buf (Elt F) (uLoc d)) : (uLoc d ↦{fullShare} f : sProp 𝕄) = bigSep Finset.univ fun w : Fin 20 => uLoc d ↦[uSet w]{fullShare} f := by
  rw [← pointsTo_biUnion Finset.univ (ℓ := uLoc d) uSet rows_disjoint, rows_cover]; try rfl
theorem oRows (f : Buf (Elt F) (oLoc d)) : (oLoc d ↦{fullShare} f : sProp 𝕄) = bigSep Finset.univ fun w : Fin 20 => oLoc d ↦[kSet w]{fullShare} f := by
  rw [← pointsTo_biUnion Finset.univ (ℓ := oLoc d) kSet rows_disjoint, rows_cover]; try rfl
end

/-- The rows, dealt over two cores of sixteen tiles each. -/
theorem deal_rows (Φ : Fin 20 → sProp 𝕄) :
    (bigSep Finset.univ fun c : Fin 2 => bigSep Finset.univ fun i : Fin 16 => pick Φ (2 * i.val + c.val)) = bigSep Finset.univ Φ := by
  have e1 : (bigSep Finset.univ fun c : Fin 2 => bigSep Finset.univ fun i : Fin 16 => pick Φ (2 * i.val + c.val))
      = bigSep (Finset.range 32) (pick Φ) := by
    rw [← bigSep_univ_prod (fun p : Fin 2 × Fin 16 => pick Φ (2 * p.2.val + p.1.val)),
      ← bigSep_image_of_injOn (s := (Finset.univ : Finset (Fin 2 × Fin 16))) (f := fun p => 2 * p.2.val + p.1.val) (Φ := pick Φ)]
    · exact congrArg (fun s => bigSep s (pick Φ)) (by decide)
    · rintro ⟨a, b⟩ - ⟨a', b'⟩ - h
      have h : 2 * b.val + a.val = 2 * b'.val + a'.val := h
      exact Prod.ext (Fin.ext (show a.val = a'.val by omega)) (Fin.ext (show b.val = b'.val by omega))
  have e2 : bigSep (Finset.range 32) (pick Φ) = bigSep (Finset.range 20) (pick Φ) := by
    rw [show Finset.range 20 = (Finset.range 32).filter (· < 20) from by decide, bigSep_filter]
    refine bigSep_congr fun n _ => ?_
    split
    · rfl
    · rename_i h; unfold pick; rw [dif_neg h]; rfl
  have e3 : bigSep (Finset.range 20) (pick Φ) = bigSep Finset.univ Φ := by
    rw [show Finset.range 20 = (Finset.univ : Finset (Fin 20)).image Fin.val from by decide, bigSep_image_of_injOn Fin.val_injective.injOn]
    refine bigSep_congr fun w _ => ?_
    unfold pick; rw [dif_pos w.isLt]
  rw [e1, e2, e3]

variable [FloatOps F]

theorem RowOk.congr {fk : Vec F S20x5120 .i32} {fw : Vec F S20x5x5120 .f32} {fb : Vec F S20x128 .i32} {w : Fin 20} {fu gu : Vec F S20x1024 .i32} {fo go : Vec F S20x5120 .f32}
    (h : RowOk fk fw fb w fu fo) (hu : ∀ i ∈ uSet w, gu i = fu i) (ho : ∀ i ∈ kSet w, go i = fo i) : RowOk fk fw fb w gu go := fun t bw hf j hj ht =>
  ⟨fun x hx => (hu _ (mem_row w x)).trans ((h t bw hf j hj ht).1 x hx), fun r hr x hx => (ho _ (mem_row w x)).trans ((h t bw hf j hj ht).2 r hr x hx)⟩

variable (m : (ℓ : Loc nD τ sig) → Buf (Elt F) ℓ) (ρ : Dev nD → PrngReg)

theorem rows_in (d : Dev nD) :
    iprop((kLoc d ↦{fullShare} m (kLoc d)) ∗ (wLoc d ↦{fullShare} m (wLoc d)) ∗ (bLoc d ↦{fullShare} tb m d)
      ∗ (uLoc d ↦{fullShare} m (uLoc d)) ∗ (oLoc d ↦{fullShare} m (oLoc d))) = (bigSep Finset.univ (inRow m d) : sProp 𝕄) := by
  unfold inRow
  rw [bigSep_sep', bigSep_sep', bigSep_sep', bigSep_sep', kRows, wRows, bRows, uRows, oRows]

/-- Afterwards the arrays are whole again, the two results at contents right in every row. -/
theorem rows_out (d : Dev nD) : (bigSep Finset.univ (outRow m d) : sProp 𝕄) ⊢ (iprop((kLoc d ↦{fullShare} m (kLoc d)) ∗ (wLoc d ↦{fullShare} m (wLoc d)) ∗ (bLoc d ↦{fullShare} tb m d)
    ∗ ∃ (gu : Buf (Elt F) (uLoc d)) (go : Buf (Elt F) (oLoc d)), (uLoc d ↦{fullShare} gu) ∗ (oLoc d ↦{fullShare} go)
      ∗ ⌜∀ w, RowOk (m (kLoc d)) (m (wLoc d)) (tb m d) w gu go⌝) : sProp 𝕄) := by
  have e : ∀ w, outRow m d w ⊢ iprop((kLoc d ↦[kSet w]{fullShare} m (kLoc d)) ∗ (wLoc d ↦[wSet w]{fullShare} m (wLoc d)) ∗ (bLoc d ↦[bSet w]{fullShare} tb m d)
      ∗ ∃ p : Buf (Elt F) (uLoc d) × Buf (Elt F) (oLoc d), ⌜RowOk (m (kLoc d)) (m (wLoc d)) (tb m d) w p.1 p.2⌝
        ∗ (uLoc d ↦[uSet w]{fullShare} p.1) ∗ (oLoc d ↦[kSet w]{fullShare} p.2)) := by
    intro w
    unfold outRow
    iintro ⟨%fu, %fo, Hk, Hw, Hb, Hu, Ho, %h⟩
    isplitl [Hk]; · iexact Hk
    isplitl [Hw]; · iexact Hw
    isplitl [Hb]; · iexact Hb
    iexists (fu, fo)
    isplitr; · ipureintro; exact h
    isplitl [Hu]; · iexact Hu
    iexact Ho
  refine (show (bigSep Finset.univ (outRow m d) : sProp 𝕄) ⊢ bigSep Finset.univ fun w => iprop((kLoc d ↦[kSet w]{fullShare} m (kLoc d)) ∗ (wLoc d ↦[wSet w]{fullShare} m (wLoc d))
      ∗ (bLoc d ↦[bSet w]{fullShare} tb m d)
      ∗ ∃ p : Buf (Elt F) (uLoc d) × Buf (Elt F) (oLoc d), ⌜RowOk (m (kLoc d)) (m (wLoc d)) (tb m d) w p.1 p.2⌝
        ∗ (uLoc d ↦[uSet w]{fullShare} p.1) ∗ (oLoc d ↦[kSet w]{fullShare} p.2)) from bigSep_mono fun w _ => e w).trans ?_
  rw [bigSep_sep', bigSep_sep', bigSep_sep', ← kRows, ← wRows, ← bRows]
  have : Nonempty (Buf (Elt F) (uLoc d) × Buf (Elt F) (oLoc d)) := ⟨(m (uLoc d), m (oLoc d))⟩
  iintro ⟨Hk, Hw, Hb, H⟩
  isplitl [Hk]; · iexact Hk
  isplitl [Hw]; · iexact Hw
  isplitl [Hb]; · iexact Hb
  ihave H := (bigSep_exists_pi Finset.univ (fun w (p : Buf (Elt F) (uLoc d) × Buf (Elt F) (oLoc d)) =>
    iprop(⌜RowOk (m (kLoc d)) (m (wLoc d)) (tb m d) w p.1 p.2⌝ ∗ (uLoc d ↦[uSet w]{fullShare} p.1) ∗ (oLoc d ↦[kSet w]{fullShare} p.2)))) $$ H
  icases H with ⟨%p, H⟩
  ihave H := (bigSep_pure_sep Finset.univ (fun w => RowOk (m (kLoc d)) (m (wLoc d)) (tb m d) w (p w).1 (p w).2)
    (fun w => iprop((uLoc d ↦[uSet w]{fullShare} (p w).1) ∗ (oLoc d ↦[kSet w]{fullShare} (p w).2)))) $$ H
  icases H with ⟨%hp, H⟩
  ihave H := (Entails.of_eq (bigSep_sep' Finset.univ (fun w : Fin 20 => (uLoc d ↦[uSet w]{fullShare} (p w).1 : sProp 𝕄))
    (fun w => (oLoc d ↦[kSet w]{fullShare} (p w).2)))) $$ H
  icases H with ⟨Hu, Ho⟩
  ihave Hu := (pointsTo_biUnion_join (ℓ := uLoc d) (q := fullShare) (Val := Elt F) Finset.univ uSet (fun w => (p w).1) (m (uLoc d)) rows_disjoint) $$ Hu
  ihave Ho := (pointsTo_biUnion_join (ℓ := oLoc d) (q := fullShare) (Val := Elt F) Finset.univ kSet (fun w => (p w).2) (m (oLoc d)) rows_disjoint) $$ Ho
  icases Hu with ⟨%gu, %hu, Hu⟩
  icases Ho with ⟨%go, %ho, Ho⟩
  rw [rows_cover, rows_cover]
  iexists gu, go
  isplitl [Hu]; · iexact Hu
  isplitl [Ho]; · iexact Ho
  ipureintro
  exact fun w => (hp w (Finset.mem_univ w)).congr (hu w (Finset.mem_univ w)) (ho w (Finset.mem_univ w))

theorem st0_eq (d : Dev nD) : (bigSep Finset.univ fun c : Fin ((K (F := F)).nCore 0) => (P m).st 0 d c) = bigSep Finset.univ (inRow m d) := deal_rows _
theorem dn0_eq (d : Dev nD) : (bigSep Finset.univ fun c : Fin ((K (F := F)).nCore 0) => (P m).dn 0 d c) = bigSep Finset.univ (outRow m d) := deal_rows _

/-! ## The launch element -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [show (bigSep Finset.univ fun _ : Dev nD => (iprop(emp) : sProp 𝕄)) = iprop(emp) from bigSep_emp_const _]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1),
    show (bigSep Finset.univ fun _ : Thread nD τ => (iprop(emp) : sProp 𝕄)) = iprop(emp) from bigSep_emp_const _]
  iempintro

/-! ## @main on the TensorCore -/

theorem host_sub : ∀ op ∈ hostOps (F := F), op.bufs ⊆ Pipeline.ucRefs τ sig :=
  fun op h => Pipeline.sub_ucRefs op ((List.forall_iff_forall_mem.mp (by
    show List.Forall (fun op => op.bufs ⊆ StableHlo.tcRefs τ sig) (hostOps (F := F))
    simp [hostOps])) op h)
theorem host_fresh : ∀ op ∈ hostOps (F := F), op.fresh = ∅ :=
  List.forall_iff_forall_mem.mp (by
    show List.Forall (fun op => op.fresh = ∅) (hostOps (F := F))
    exact ⟨rfl, rfl, rfl, rfl, rfl, rfl, rfl, rfl, rfl⟩)

/-- The arrays @main still needs once the host operations are done. -/
abbrev T7 : Finset (DevRef τ sig) :=
  {Proc.devRef .tc (main_arg0 : Ref sig .tc), Proc.devRef .tc (main_arg1 : Ref sig .tc), Proc.devRef .tc (main_arg2 : Ref sig .tc), Proc.devRef .tc (main_arg3 : Ref sig .tc),
    Proc.devRef .tc (main_v6 : Ref sig .tc), Proc.devRef .tc (main_v7_0 : Ref sig .tc), Proc.devRef .tc (main_v7_1 : Ref sig .tc)}

theorem T7_sub : T7 ⊆ Pipeline.ucRefs τ sig := by decide

abbrev pLoc (d : Dev nD) : Loc nD τ sig := (SparseCore.T d).loc main_arg2
abbrev qLoc (d : Dev nD) : Loc nD τ sig := (SparseCore.T d).loc main_arg3

theorem held_T7 (d : Dev nD) (W : Valuation τ sig (Elt F)) :
    (held (T d) T7 W : sProp 𝕄)
      = iprop((kLoc d ↦{fullShare} W (Proc.devRef .tc main_arg0)) ∗ (wLoc d ↦{fullShare} W (Proc.devRef .tc main_arg1))
          ∗ (pLoc d ↦{fullShare} W (Proc.devRef .tc main_arg2)) ∗ (qLoc d ↦{fullShare} W (Proc.devRef .tc main_arg3))
          ∗ (bLoc d ↦{fullShare} W (Proc.devRef .tc main_v6)) ∗ (uLoc d ↦{fullShare} W (Proc.devRef .tc main_v7_0))
          ∗ oLoc d ↦{fullShare} W (Proc.devRef .tc main_v7_1)) := by
  unfold held T7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- What the host operations write. -/
abbrev hostW : List (Ref sig .tc) := [main_v0, main_v1, main_v2, main_v3, main_v4, main_v5, main_c, main_call0_v0, main_v6]

theorem V1_of (d : Dev nD) {r : Ref sig .tc} (hr : r ∉ hostW) : V1 m d (Proc.devRef .tc r) = m (d, Proc.devRef .tc r) :=
  StableHlo.after_of_writes_sub (W := hostW) (hostOps (F := F)) (V0 m d) (StableHlo.forall_writes_sub_of_map rfl) hr

theorem held_V1 (d : Dev nD) :
    (held (T d) (Pipeline.ucRefs τ sig) (after (hostOps (F := F)) (V0 m d)) : sProp 𝕄)
      = iprop(((kLoc d ↦{fullShare} m (kLoc d)) ∗ (wLoc d ↦{fullShare} m (wLoc d)) ∗ (pLoc d ↦{fullShare} m (pLoc d)) ∗ (qLoc d ↦{fullShare} m (qLoc d))
          ∗ (bLoc d ↦{fullShare} tb m d) ∗ (uLoc d ↦{fullShare} m (uLoc d)) ∗ oLoc d ↦{fullShare} m (oLoc d))
          ∗ held (T d) (Pipeline.ucRefs τ sig \ T7) (V1 m d)) := by
  show held (T d) (Pipeline.ucRefs τ sig) (V1 m d) = _
  rw [held_sub_split _ T7_sub, held_T7, V1_of m d (r := main_arg0) (by decide), V1_of m d (r := main_arg1) (by decide), V1_of m d (r := main_arg2) (by decide),
    V1_of m d (r := main_arg3) (by decide), V1_of m d (r := main_v7_0) (by decide), V1_of m d (r := main_v7_1) (by decide)]
  rfl

theorem main_seq (d : Dev nD) : main (F := F) d = (seq (hostOps (F := F)) >>= fun _ => (sc (F := F)).run d 0 >>= fun _ => pure ⟨⟩) := by
  unfold main fn_pad.body
  simp only [seq, bind_assoc, pure_bind]

/-- What @main leaves the claims: the arguments as they were, the two results right in every row. -/
abbrev FIN (d : Dev nD) : sProp 𝕄 :=
  iprop((kLoc d ↦{fullShare} m (kLoc d)) ∗ (wLoc d ↦{fullShare} m (wLoc d)) ∗ (pLoc d ↦{fullShare} m (pLoc d)) ∗ (qLoc d ↦{fullShare} m (qLoc d))
    ∗ ∃ (gu : Buf (Elt F) (uLoc d)) (go : Buf (Elt F) (oLoc d)), (uLoc d ↦{fullShare} gu) ∗ (oLoc d ↦{fullShare} go)
      ∗ ⌜∀ w, RowOk (m (kLoc d)) (m (wLoc d)) (tb m d) w gu go⌝)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) (Pipeline.ucRefs τ sig) (V0 m d) from Pipeline.unscopedBufs_held d (V0 m d), main_seq]
  iintro ⟨#Hctx, Hst, ⟨Hb, Hheld, Hts, -⟩, -⟩
  iapply (wp_seq (𝒱 := 𝒱) (bd := none) (E := Set.univ) d (Pipeline.ucRefs τ sig) _ (hostOps (F := F)) host_sub host_fresh (V0 m d)) $$ [Hb Hheld]
  · isplitl [Hb] <;> iassumption
  iintro ⟨Hb, Hheld⟩
  ihave Hh := (Entails.of_eq (held_V1 (F := F) m d)) $$ Hheld
  icases Hh with ⟨⟨Hk, Hw, Hp, Hq, Hbb, Hu, Ho⟩, -⟩
  simp only [wp_bind, wp_pure]
  iapply ((K (F := F)).wp_run (D (F := F)) 𝒱 (EH := EH) (P := P m) κ d 0) $$ [Hst Hk Hw Hp Hq Hbb Hu Ho Hb Hts]
  isplitr; · iexact Hctx
  isplitl [Hst]; · iexact Hst
  isplitl [Hk Hw Hbb Hu Ho]
  · rw [st0_eq, ← rows_in]
    isplitl [Hk]; · iexact Hk
    isplitl [Hw]; · iexact Hw
    isplitl [Hbb]; · iexact Hbb
    isplitl [Hu]; · iexact Hu
    iexact Ho
  iintro ⟨Hst, Hdn⟩
  ihave Hdn := (Entails.of_eq (dn0_eq m d)) $$ Hdn
  ihave Hdn := (rows_out m d) $$ Hdn
  icases Hdn with ⟨Hk, Hw, -, Hout⟩
  imodintro
  isplitl [Hst]; · iexact Hst
  isplitr [Hb Hts]
  · isplitl [Hk]; · iexact Hk
    isplitl [Hw]; · iexact Hw
    isplitl [Hp]; · iexact Hp
    isplitl [Hq]; · iexact Hq
    iexact Hout
  isplitl [Hb] <;> iassumption

/-- What the claims read of device `d`'s final state. -/
def fq (d : Dev nD) (s' : Phys nD τ sig (Elt F)) : Prop :=
  (s'.mem.mem (kLoc d) = m (kLoc d) ∧ s'.mem.mem (wLoc d) = m (wLoc d) ∧ s'.mem.mem (pLoc d) = m (pLoc d) ∧ s'.mem.mem (qLoc d) = m (qLoc d))
    ∧ ∀ w, RowOk (m (kLoc d)) (m (wLoc d)) (tb m d) w (s'.mem.mem (uLoc d)) (s'.mem.mem (oLoc d))

theorem hfin (d : Dev nD) (s' : Phys nD τ sig (Elt F)) : iprop(FIN m d ∗ SI s') ⊢ (⌜fq m d s'⌝ : sProp 𝕄) := by
  iintro ⟨⟨Hk, Hw, Hp, Hq, %gu, %go, Hu, Ho, %hrow⟩, HSI⟩
  ihave H := (persistent_entails_right (SI_pointsTo_agree (st := s') (ℓ := kLoc d) (I := Finset.univ) (q := fullShare) (f := m (kLoc d)))) $$ [HSI Hk]
  · isplitl [HSI] <;> iassumption
  icases H with ⟨%hk, HSI, -⟩
  ihave H := (persistent_entails_right (SI_pointsTo_agree (st := s') (ℓ := wLoc d) (I := Finset.univ) (q := fullShare) (f := m (wLoc d)))) $$ [HSI Hw]
  · isplitl [HSI] <;> iassumption
  icases H with ⟨%hw, HSI, -⟩
  ihave H := (persistent_entails_right (SI_pointsTo_agree (st := s') (ℓ := pLoc d) (I := Finset.univ) (q := fullShare) (f := m (pLoc d)))) $$ [HSI Hp]
  · isplitl [HSI] <;> iassumption
  icases H with ⟨%hp, HSI, -⟩
  ihave H := (persistent_entails_right (SI_pointsTo_agree (st := s') (ℓ := qLoc d) (I := Finset.univ) (q := fullShare) (f := m (qLoc d)))) $$ [HSI Hq]
  · isplitl [HSI] <;> iassumption
  icases H with ⟨%hq, HSI, -⟩
  ihave H := (persistent_entails_right (SI_pointsTo_agree (st := s') (ℓ := uLoc d) (I := Finset.univ) (q := fullShare) (f := gu))) $$ [HSI Hu]
  · isplitl [HSI] <;> iassumption
  icases H with ⟨%hu, HSI, -⟩
  ihave H := (SI_pointsTo_agree (st := s') (ℓ := oLoc d) (I := Finset.univ) (q := fullShare) (f := go)) $$ [HSI Ho]
  · isplitl [HSI] <;> iassumption
  icases H with %ho
  ipureintro
  exact ⟨⟨funext fun i => hk i (Finset.mem_univ i), funext fun i => hw i (Finset.mem_univ i), funext fun i => hp i (Finset.mem_univ i),
    funext fun i => hq i (Finset.mem_univ i)⟩, fun w => (hrow w).congr (fun i _ => hu i (Finset.mem_univ i)) (fun i _ => ho i (Finset.mem_univ i))⟩

/-! ## The program's run -/

def QC : PUnit × MemSt nD τ sig (Elt F) → Prop := fun r => (∀ d : Dev nD,
  (r.2.mem (kLoc d) = m (kLoc d) ∧ r.2.mem (wLoc d) = m (wLoc d) ∧ r.2.mem (pLoc d) = m (pLoc d) ∧ r.2.mem (qLoc d) = m (qLoc d))
    ∧ ∀ w, RowOk (m (kLoc d)) (m (wLoc d)) (tb m d) w (r.2.mem (uLoc d)) (r.2.mem (oLoc d))) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Compact

end
-- ==== Proof.TbLanes.lean ====
/-
  The row of thresholds and budgets, lane by lane: sixteen lanes of the threshold, then sixteen of the budget.
-/
module

public import proofs.«01_k».proof.Proof.Launch
public import Idealize.ShloMosaic.Lib.KernelVsHost
public import Idealize.ShloMosaic.Lib.Pipeline.Value

@[expose] public section

noncomputable section

namespace Cert.Proof.Compact

open Idealize.ShloMosaic Idealize.ShloMosaic.ValueIdx Idealize.ShloMosaic.StableHlo
open Cert.KernelIdeal Cert.KernelIdeal.Gen
open Idealize.SL.Sem

section
variable {F : FTy → Type} (t b : IVec S20 32)

abbrev two : IVec S20x2 32 :=
  concatenate S20x2 1 [⟨S20x1, broadcastInDim S20x1 ![0] bcast_S20_S20x1_0 t⟩, ⟨S20x1, broadcastInDim S20x1 ![0] bcast_S20_S20x1_0 b⟩]
    concatenates_S20x1_S20x1_S20x2_d1
abbrev spread : IVec S20x2x16 32 :=
  broadcastInDim S20x2x16 ![0, 1, 2] bcast_S20x2x1_S20x2x16_0_1_2 (broadcastInDim S20x2x1 ![0, 1] bcast_S20x2_S20x2x1_0_1 (two t b))
abbrev padded : IVec S20x128 32 :=
  pad S20x128 ![0, 0] ![0, 96] ![0, 0] (shapeCast S20x32 (spread t b) shapeCasts_S20x2x16_S20x32) (constantI S_ 32 0#32)
    pads_S20x32_S20x128_000_0960 h_S_

theorem one_at (x : IVec S20 32) (w : Fin 20) (z : Fin 1) : broadcastInDim S20x1 ![0] bcast_S20_S20x1_0 x (ix2 w z) = x (ix1 w) :=
  broadcastInDim_apply _ _ _ _ _ fun a => by
    match a with
    | 0 => rfl

theorem two_left (w : Fin 20) : two t b (ix2 w 0) = t (ix1 w) :=
  (concatenate_pair_apply_left (s₁ := S20x1) (s₂ := S20x1) (t := S20x2) 1 _ _ _ (ix2 w 0) rfl (ix2 w 0) (fun a => by
    match a with
    | 0 => rfl
    | 1 => rfl)).trans (one_at t w 0)

theorem two_right (w : Fin 20) : two t b (ix2 w 1) = b (ix1 w) :=
  (concatenate_pair_apply_right (s₁ := S20x1) (s₂ := S20x1) (t := S20x2) 1 _ _ _ (ix2 w 1) rfl rfl (ix2 w 0) (fun a ha => by
    match a with
    | 0 => rfl
    | 1 => exact absurd rfl ha) rfl).trans (one_at b w 0)

theorem spread_at (w : Fin 20) (h : Fin 2) (k : Fin 16) : spread t b (ix3 w h k) = two t b (ix2 w h) :=
  (broadcastInDim_apply _ _ _ _ (ix3 w h 0) fun a => by
    match a with
    | 0 => rfl
    | 1 => rfl
    | 2 => rfl).trans (broadcastInDim_apply _ _ _ _ _ fun a => by
    match a with
    | 0 => rfl
    | 1 => rfl)

theorem padded_at (w : Fin 20) (h : Fin 2) (k : Fin 16) (y : Fin 128) (hy : y.val = h.val * 16 + k.val) :
    padded t b (ix2 w y) = two t b (ix2 w h) := by
  refine (pad_apply_of_inside _ _ _ _ _ _ _ (ix2 w y) (ix2 w (⟨h.val * 16 + k.val, by omega⟩ : Fin 32)) (fun a => by
    match a with
    | 0 => show w.val = 0 + w.val * (0 + 1); omega
    | 1 => show y.val = 0 + (h.val * 16 + k.val) * (0 + 1); omega)).trans ?_
  refine (shapeCast_apply _ _ _ (ix3 w h k) ?_).trans (spread_at t b w h k)
  rw [Shape.rowMajor_val_three, Shape.rowMajor_val_two]
  show (w.val * 2 + h.val) * 16 + k.val = w.val * 32 + (h.val * 16 + k.val)
  omega

end

section
variable {F : FTy → Type} [FloatOps F] (m : (ℓ : Loc nD τ sig) → Buf (Elt F) ℓ)

theorem tb_eq (d : Dev nD) : tb m d = padded (m (pLoc d)) (m (qLoc d)) := by
  unfold tb V1
  simp only [hostOps, TRef.binary, TRef.unary, TRef.toBuf, TRef.ofBuf, cast_eq]
  after_results_simp
  rfl

theorem tb_thr (d : Dev nD) (w : Fin 20) (k : Fin 16) : tb m d (ix2 w ⟨k.val, by omega⟩) = m (pLoc d) (ix1 w) := by
  rw [tb_eq]
  exact (padded_at _ _ w 0 k _ (by show k.val = 0 * 16 + k.val; omega)).trans (two_left _ _ w)

theorem tb_bud (d : Dev nD) (w : Fin 20) (k : Fin 16) : tb m d (ix2 w ⟨16 + k.val, by omega⟩) = m (qLoc d) (ix1 w) := by
  rw [tb_eq]
  exact (padded_at _ _ w 1 k _ (by show 16 + k.val = 1 * 16 + k.val; omega)).trans (two_right _ _ w)

end

end Cert.Proof.Compact

end

end
-- ==== Proof.Order.lean ====
/-
  Sorting the keys downwards, stably, puts the chosen ones first; sorting their positions upwards then gives each the
  place counting gives it.
-/
module

public import proofs.«01_k».proof.Proof.Select
public import Idealize.ShloMosaic.Lib.SortFacts
public import Idealize.ShloMosaic.Lib.SortPrefix

@[expose] public section

namespace Cert.Proof.Select

open Idealize.ShloMosaic

/-! ### Stable sorts -/

/-- A stable sort asks only whether a later position goes before an earlier one. -/
theorem stableSort_later {n : Nat} (R R' : Fin n → Fin n → Bool) (h : ∀ a b, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

theorem sortedFrom_later {n : Nat} (R R' : Fin n → Fin n → Bool) (h : ∀ a b, a < b → R b a = R' b a) :
    sortedFrom R = sortedFrom R' := by
  have e : sortPositions n R = sortPositions n R' := stableSort_later R R' h _ (List.pairwise_lt_finRange n)
  funext k
  unfold sortedFrom
  rw [List.get_of_eq e]
  rfl

section
variable {n k : Nat} (p : Nat → Prop) [DecidablePred p]

theorem card_taken : (Finset.univ.filter fun i : Fin n => p i.val).card = Nat.count p n := by
  rw [Nat.count_eq_card_filter_range, ← Finset.card_map Fin.valEmbedding]
  congr 1
  ext j
  simp only [Finset.mem_map, Finset.mem_filter, Finset.mem_univ, true_and, Fin.valEmbedding_apply, Finset.mem_range]
  constructor
  · rintro ⟨i, hi, rfl⟩; exact ⟨i.isLt, hi⟩
  · rintro ⟨hj, hp⟩; exact ⟨⟨j, hj⟩, hp, rfl⟩

/-- If everything taken goes before everything left, the sort's first places hold what is taken. -/
theorem taken_of_prefix {B : Fin n → Fin n → Bool} (hB : StrictTotalBefore B)
    (hdown : ∀ a b : Fin n, p b.val → ¬ p a.val → B b a = true) (i : Fin n) (hi : i.val < Nat.count p n) :
    p (sortedFrom B i).val := by
  by_contra hn
  have hsub : (Finset.univ.filter fun j : Fin n => p j.val) ⊆ (Finset.Iio i).image (sortedFrom B) := by
    intro q hq
    have hq' := (Finset.mem_filter.mp hq).2
    obtain ⟨j, rfl⟩ := sortedFrom_surjective B q
    refine Finset.mem_image.mpr ⟨j, Finset.mem_Iio.mpr ?_, rfl⟩
    have hb := hdown _ _ hq' hn
    rcases lt_trichotomy j i with h | h | h
    · exact h
    · subst h; exact absurd hq' hn
    · have := sortedFrom_noInversion B B (fun a b h => hB.asymm a b h) (fun _ _ h => h) hB.negTrans i j h
      rw [hb] at this
      exact absurd this (by decide)
  have h1 := Finset.card_le_card hsub
  rw [card_taken] at h1
  have h2 := h1.trans Finset.card_image_le
  rw [Fin.card_Iio] at h2
  omega

/-- As many places as there are taken positions, listed upwards: each is in the place counting gives it. -/
theorem count_of_strictMono (r : Fin k → Nat) (hr : StrictMono r) (hp : ∀ x, p (r x)) (hn : ∀ x, r x < n)
    (hk : Nat.count p n = k) (x : Fin k) : Nat.count p (r x) = x.val := by
  have hlt : ∀ y, Nat.count p (r y) < k := fun y => hk ▸ Nat.count_strict_mono (hp y) (hn y)
  let f : Fin k → Fin k := fun y => ⟨Nat.count p (r y), hlt y⟩
  have hf : StrictMono f := fun a b hab => Nat.count_strict_mono (hp a) (hr hab)
  have h1 : x ≤ f x := hf.le_apply
  have h2 : f x ≤ x := hf.apply_le
  exact congrArg Fin.val (le_antisymm h2 h1)

end

/-! ### The keys' order -/

section
variable {n : Nat} (u : Nat → BitVec 32) (t bw : BitVec 32)

/-- Greater keys first, and of equal keys the earlier. -/
abbrev before (a b : Fin n) : Bool :=
  decide ((u b.val).toInt < (u a.val).toInt) || (decide (u a.val = u b.val) && decide (a < b))

theorem before_total : StrictTotalBefore (before u (n := n)) :=
  StrictTotalBefore.of_key_then_position (fun x y : BitVec 32 => decide (y.toInt < x.toInt)) (fun a : Fin n => u a.val)
    (fun a => by simp) (fun a b c h h' => by simp only [decide_eq_true_eq] at h h' ⊢; omega)
    (fun a b => by
      simp only [decide_eq_true_eq]
      rcases lt_trichotomy a.toInt b.toInt with h | h | h
      · exact Or.inr (Or.inr h)
      · exact Or.inr (Or.inl (BitVec.eq_of_toInt_eq h))
      · exact Or.inl h)

theorem taken_before (a b : Fin 5120) (hb : taken u t bw b.val) (ha : ¬ taken u t bw a.val) : before u b a = true := by
  simp only [before, Bool.or_eq_true, Bool.and_eq_true, decide_eq_true_eq]
  have hga : (u a.val).toInt ≤ t.toInt := by
    by_contra h
    exact ha (Or.inl (by unfold gtp; omega))
  rcases hb with hb | ⟨hb, hc⟩
  · left; unfold gtp at hb; omega
  · unfold eqp at hb
    by_cases he : u a.val = t
    · right
      refine ⟨hb.trans he.symm, ?_⟩
      have hnc : ¬ Nat.count (eqp u t) (a.val + 1) ≤ bw.toNat := fun h => ha (Or.inr ⟨he, h⟩)
      by_contra hle
      have : Nat.count (eqp u t) (a.val + 1) ≤ Nat.count (eqp u t) (b.val + 1) :=
        Nat.count_monotone _ (Nat.add_le_add_right (not_lt.mp hle) 1)
      exact hnc (this.trans hc)
    · left
      rw [hb]
      exact lt_of_le_of_ne hga fun h => he (BitVec.eq_of_toInt_eq h)

/-- The order a stable ascending sort of the negated keys compares by. -/
abbrev negBefore (a b : Fin n) : Bool := IntOp.cmpi .slt (-(u a.val)) (-(u b.val)) == 1#1

theorem toInt_neg_of_gt {x : BitVec 32} (h : -2147483648 < x.toInt) : (-x).toInt = -x.toInt := by
  have h1 := BitVec.toInt_lt (x := x)
  rw [BitVec.toInt_neg, Int.bmod_def]
  omega

theorem negBefore_eq (hu : ∀ j, j < n → -2147483648 < (u j).toInt) : sortedFrom (negBefore u (n := n)) = sortedFrom (before u) := by
  refine sortedFrom_later _ _ fun a b hab => ?_
  have h1 : ¬ b < a := not_lt.mpr hab.le
  simp only [negBefore, before, WordCmp.cmpi_slt_eq, toInt_neg_of_gt (hu a.val a.isLt), toInt_neg_of_gt (hu b.val b.isLt),
    h1, decide_false, Bool.and_false, Bool.or_false]
  rw [Bool.eq_iff_iff]
  simp only [beq_iff_eq, WordCmp.ofBool_eq_one_iff, decide_eq_true_eq]
  omega

variable (hu : ∀ j, j < 5120 → -2147483648 < (u j).toInt) (hk : Nat.count (taken u t bw) 5120 = 1024)

/-- The positions of the first places of the sort, as words. -/
abbrev firstPos (x : Fin 1024) : BitVec 32 := BitVec.ofNat 32 (sortedFrom (negBefore u (n := 5120)) (x.castLE (by decide))).val

/-- The order their ascending sort compares by. -/
abbrev posBefore (x y : Fin 1024) : Bool := IntOp.cmpi .slt (firstPos u x) (firstPos u y) == 1#1

theorem firstPos_toInt (x : Fin 1024) :
    (firstPos u x).toInt = (sortedFrom (negBefore u (n := 5120)) (x.castLE (by decide))).val := by
  have := (sortedFrom (negBefore u (n := 5120)) (x.castLE (by decide))).isLt
  exact toInt_small (by omega)

theorem posBefore_iff (x y : Fin 1024) : posBefore u x y = true ↔
    (sortedFrom (negBefore u (n := 5120)) (x.castLE (by decide))).val < (sortedFrom (negBefore u (n := 5120)) (y.castLE (by decide))).val := by
  simp only [posBefore, WordCmp.cmpi_slt_eq, beq_iff_eq, WordCmp.ofBool_eq_one_iff, decide_eq_true_eq, firstPos_toInt]
  omega

include hu hk in
/-- The sorted first positions: in place `x` stands a taken position that goes to place `x`. -/
theorem sorted_pos (x : Fin 1024) : ∃ j, j < 5120 ∧ firstPos u (sortedFrom (posBefore u) x) = BitVec.ofNat 32 j
    ∧ taken u t bw j ∧ pos u t bw j = x.val := by
  let s : Fin 1024 → Nat := fun y => (sortedFrom (negBefore u (n := 5120)) (y.castLE (by decide))).val
  have hs : Function.Injective s := fun a b h =>
    Fin.castLE_injective _ (sortedFrom_injective _ (Fin.ext h))
  have htk : ∀ y, taken u t bw (s y) := fun y => by
    show taken u t bw (sortedFrom (negBefore u (n := 5120)) _).val
    rw [negBefore_eq u hu]
    exact taken_of_prefix (taken u t bw) (before_total u) (fun a b => taken_before u t bw a b) _ (by rw [hk]; exact y.isLt)
  let r : Fin 1024 → Nat := fun y => s (sortedFrom (posBefore u) y)
  have hr : StrictMono r := fun a b hab => by
    have h := sortedFrom_noInversion (posBefore u) (posBefore u)
      (fun a b h => by
        rw [posBefore_iff] at h
        rw [← Bool.not_eq_true, posBefore_iff]
        omega) (fun _ _ h => h)
      (fun a b c h h' => by
        rw [← Bool.not_eq_true, posBefore_iff] at h h' ⊢
        omega) a b hab
    rw [← Bool.not_eq_true, posBefore_iff] at h
    have hne : r a ≠ r b := fun e => hab.ne (sortedFrom_injective _ (hs e))
    exact lt_of_le_of_ne (not_lt.mp h) hne
  refine ⟨r x, Fin.isLt _, rfl, htk _, count_of_strictMono (taken u t bw) r hr (fun y => htk _) (fun y => Fin.isLt _) hk x⟩

end

end Cert.Proof.Select

end
-- ==== Proof.RefValue.lean ====
/-
  The reference's results, index by index: in column `x` of row `w` stand the key and the values at the position that
  goes to place `x`.
-/
module

public import proofs.«01_k».proof.Proof.Order
public import proofs.«01_k».proof.Proof.Rows
public import proofs.«01_k».proof.Proof.Gen.ReferenceIdeal
public import Idealize.ShloMosaic.Lib.ReduceAll
public import Idealize.ShloMosaic.Lib.Pipeline.Value

@[expose] public section

noncomputable section

namespace Cert.Proof.RefValue

open Idealize.ShloMosaic Idealize.ShloMosaic.ValueIdx
open Cert.ReferenceIdeal Cert.ReferenceIdeal.Gen
open Cert.Proof.Select Cert.Proof.Compact

/-! ### The positions -/

section
variable (k : IVec S20x5120 32)

/-- The positions in sorted order. -/
abbrev order : IVec S20x5120 32 := (Host.sort2 S20x5120 1 comparator_i32_i32_d1 (negi k) (iotaInDim S20x5120 32 1)).2
/-- The first of them, in order of position. -/
abbrev idx : IVec S20x1024 32 :=
  Host.sort S20x1024 1 comparator_i32_d1 (extractStridedSlice S20x1024 ![0, 0] (order k) slices_S20x5120_S20x1024_0_0)

theorem along_two {n m : Nat} (w : Fin n) (x y : Fin m) :
    Shape.Idx.along (s := ⟨2, ![n, m]⟩) (ix2 w x) 1 y = ix2 w y := by
  funext a
  match a with
  | 0 => rfl
  | 1 => rfl

theorem sort_two {n m : Nat} {α : Type} (cmp : α → α → BitVec 1) (x : (⟨2, ![n, m]⟩ : Shape).Idx → α) (w : Fin n) (y : Fin m) :
    Host.sort ⟨2, ![n, m]⟩ 1 cmp x (ix2 w y)
      = x (ix2 w (sortedFrom (fun a b : Fin m => cmp (x (ix2 w a)) (x (ix2 w b)) == 1#1) y)) := by
  unfold Host.sort
  refine (dif_pos (show (1 : Nat) < (⟨2, ![n, m]⟩ : Shape).rank from Nat.lt_succ_self 1)).trans ?_
  refine (congrArg x (along_two w y _)).trans ?_
  refine congrArg (fun B : Fin m → Fin m → Bool => x (ix2 w (sortedFrom B y))) (funext fun a => funext fun b => ?_)
  exact congrArg₂ (fun i j => cmp (x i) (x j) == 1#1) (along_two w y a) (along_two w y b)

theorem sort2_two {n m : Nat} {α β : Type} (cmp : α × β → α × β → BitVec 1) (x : (⟨2, ![n, m]⟩ : Shape).Idx → α)
    (z : (⟨2, ![n, m]⟩ : Shape).Idx → β) (w : Fin n) (y : Fin m) :
    (Host.sort2 ⟨2, ![n, m]⟩ 1 cmp x z).2 (ix2 w y)
      = z (ix2 w (sortedFrom (fun a b : Fin m => cmp (x (ix2 w a), z (ix2 w a)) (x (ix2 w b), z (ix2 w b)) == 1#1) y)) := by
  unfold Host.sort2
  rw [dif_pos (show (1 : Nat) < (⟨2, ![n, m]⟩ : Shape).rank from Nat.lt_succ_self 1)]
  refine (congrArg z (along_two w y _)).trans ?_
  refine congrArg (fun B : Fin m → Fin m → Bool => z (ix2 w (sortedFrom B y))) (funext fun a => funext fun b => ?_)
  exact congrArg₂ (fun i j => cmp (x i, z i) (x j, z j) == 1#1) (along_two w y a) (along_two w y b)

variable {F : FTy → Type}

theorem keyAt_fin (w : Fin 20) (j : Fin 5120) : keyAt (F := F) k w j.val = k (ix2 w j) := by
  unfold keyAt
  exact congrArg (fun i => k (ix2 w i)) (Fin.ext (Nat.mod_eq_of_lt j.isLt))

theorem order_at (w : Fin 20) (x : Fin 5120) :
    order k (ix2 w x) = BitVec.ofNat 32 (sortedFrom (negBefore (keyAt (F := F) k w)) x).val := by
  refine (sort2_two comparator_i32_i32_d1 (negi k) (iotaInDim S20x5120 32 1) w x).trans ?_
  refine congrArg (fun B : Fin 5120 → Fin 5120 → Bool => BitVec.ofNat 32 (sortedFrom B x).val) (funext fun a => funext fun b => ?_)
  simp only [negBefore, keyAt_fin]
  rfl

theorem first_at (w : Fin 20) (x : Fin 1024) :
    extractStridedSlice S20x1024 ![0, 0] (order k) slices_S20x5120_S20x1024_0_0 (ix2 w x) = firstPos (keyAt (F := F) k w) x := by
  rw [extractStridedSlice_apply _ _ _ _ (ix2 w (x.castLE (by decide))) (fun a => by
    match a with
    | 0 => show w.val = 0 + w.val; omega
    | 1 => show x.val = 0 + x.val; omega), order_at (F := F)]

theorem idx_at (w : Fin 20) (x : Fin 1024) :
    idx k (ix2 w x) = firstPos (keyAt (F := F) k w) (sortedFrom (posBefore (keyAt (F := F) k w)) x) := by
  refine (sort_two comparator_i32_d1 _ w x).trans ?_
  refine (first_at (F := F) k w _).trans ?_
  refine congrArg (fun B : Fin 1024 → Fin 1024 → Bool => firstPos (keyAt (F := F) k w) (sortedFrom B x)) (funext fun a => funext fun b => ?_)
  simp only [posBefore, first_at (F := F)]
  rfl

/-- The chosen positions: in place `x` the taken position that goes there. -/
theorem idx_pos (w : Fin 20) (t bw : BitVec 32) (hu : ∀ j : Fin 5120, -2147483648 < (k (ix2 w j)).toInt)
    (hk : Nat.count (taken (keyAt (F := F) k w) t bw) 5120 = 1024) (x : Fin 1024) :
    ∃ j : Fin 5120, idx k (ix2 w x) = BitVec.ofNat 32 j.val ∧ taken (keyAt (F := F) k w) t bw j.val
      ∧ pos (keyAt (F := F) k w) t bw j.val = x.val := by
  obtain ⟨j, hj, h1, h2, h3⟩ := sorted_pos (keyAt (F := F) k w) t bw
    (fun j hj => (keyAt_fin (F := F) k w ⟨j, hj⟩).symm ▸ hu ⟨j, hj⟩) hk x
  exact ⟨⟨j, hj⟩, (idx_at (F := F) k w x).trans h1, h2, h3⟩

end

/-! ### Taking along the columns -/

section
variable (k : IVec S20x5120 32) (ps : IVec S20x1024 32)

/-- A position counted from the end, made one counted from the start. -/
abbrev wrap : IVec S20x1024 32 :=
  select (cmpi .slt ps (broadcastInDim S20x1024 ![] bcast_S_S20x1024 (constantI S_ 32 0#32)))
    (addi ps (broadcastInDim S20x1024 ![] bcast_S_S20x1024 (constantI S_ 32 5120#32))) ps
abbrev col : IVec S20x1024x1 32 := shapeCast S20x1024x1 (wrap ps) shapeCasts_S20x1024_S20x1024x1
/-- Whether a position is one. -/
abbrev inside (c : IVec S20x1024x1 32) : IVec S20x1024 1 :=
  Host.reduce IntOp.andi
    (andi (cmpi .sge c (broadcastInDim S20x1024x1 ![] bcast_S_S20x1024x1 (constantI S_ 32 0#32)))
      (cmpi .sle c (broadcastInDim S20x1024x1 ![0, 1, 2] bcast_S1x1x1_S20x1024x1_0_1_2
        (broadcastInDim S1x1x1 ![2] bcast_S1_S1x1x1_2 (constantI S1 32 5119#32)))))
    (constantI S_ 1 1#1) reducesTo_S20x1024x1_S20x1024_d2 h_S_
/-- The keys at the positions. -/
abbrev takeK : IVec S20x1024 32 :=
  select (inside (col ps)) (Host.gather gather_S20x5120_S20x1024x1_S20x1024_n_1_0_0_1_2_11 k (col ps))
    (broadcastInDim S20x1024 ![] bcast_S_S20x1024 (constantI S_ 32 2147483648#32))

theorem wrap_at {w : Fin 20} {x : Fin 1024} {j : Fin 5120} (h : ps (ix2 w x) = BitVec.ofNat 32 j.val) :
    wrap ps (ix2 w x) = BitVec.ofNat 32 j.val := by
  show Scalar.select (IntOp.cmpi .slt (ps (ix2 w x)) 0#32) _ (ps (ix2 w x)) = _
  rw [h, WordCmp.cmpi_slt_eq, toInt_small (n := j.val) (by omega)]
  have : ¬ ((j.val : Int) < (0#32 : BitVec 32).toInt) := by
    show ¬ ((j.val : Int) < 0); omega
  rw [decide_eq_false this]
  rfl

theorem col_at (w : Fin 20) (x : Fin 1024) (z : Fin 1) : col ps (ix3 w x z) = wrap ps (ix2 w x) := by
  refine shapeCast_apply _ _ _ _ ?_
  rw [Shape.rowMajor_val_two, Shape.rowMajor_val_three]
  show w.val * 1024 + x.val = (w.val * 1024 + x.val) * 1 + z.val
  omega

theorem inside_one (c : IVec S20x1024x1 32) (h : ∀ w x z, ∃ j : Fin 5120, c (ix3 w x z) = BitVec.ofNat 32 j.val) (i : S20x1024.Idx) :
    inside c i = 1#1 := by
  refine Host.reduce_andi_one _ _ _ _ _ rfl fun i => ?_
  obtain ⟨j, hj⟩ := h (i 0) (i 1) (i 2)
  have e : c i = BitVec.ofNat 32 j.val := (congrArg c (eq_ix3 i)).trans hj
  show IntOp.andi (IntOp.cmpi .sge (c i) 0#32) (IntOp.cmpi .sle (c i) 5119#32) = 1#1
  rw [e, WordCmp.cmpi_sge_eq, WordCmp.cmpi_sle_eq, toInt_small (n := j.val) (by omega), decide_eq_true, decide_eq_true]
  · rfl
  · show (j.val : Int) ≤ 5119; omega
  · show (0 : Int) ≤ j.val; omega

theorem gatherK_at (c : IVec S20x1024x1 32) {w : Fin 20} {x : Fin 1024} {j : Fin 5120} (h : c (ix3 w x 0) = BitVec.ofNat 32 j.val) :
    Host.gather gather_S20x5120_S20x1024x1_S20x1024_n_1_0_0_1_2_11 k c (ix2 w x) = k (ix2 w j) := by
  unfold Host.gather
  refine congrArg k (funext fun a => Fin.ext ?_)
  match a with
  | 0 =>
    show 0 + w.val + 0 = w.val
    omega
  | 1 =>
    have e : c (gather_S20x5120_S20x1024x1_S20x1024_n_1_0_0_1_2_11.siIdx (ix2 w x) ⟨0, by decide⟩) = BitVec.ofNat 32 j.val := by
      rw [← h]
      refine congrArg c (funext fun b => ?_)
      match b with
      | 0 => rfl
      | 1 => rfl
      | 2 => rfl
    show min (c (gather_S20x5120_S20x1024x1_S20x1024_n_1_0_0_1_2_11.siIdx (ix2 w x) ⟨0, by decide⟩)).toInt.toNat 5119 + 0 + 0 = j.val
    rw [e, toInt_small (n := j.val) (by omega)]
    omega

/-- The key taken for column `x`. -/
theorem takeK_at (hp : ∀ w x, ∃ j : Fin 5120, ps (ix2 w x) = BitVec.ofNat 32 j.val) {w : Fin 20} {x : Fin 1024} {j : Fin 5120}
    (h : ps (ix2 w x) = BitVec.ofNat 32 j.val) : takeK k ps (ix2 w x) = k (ix2 w j) := by
  show Scalar.select (inside (col ps) (ix2 w x)) _ _ = _
  rw [inside_one (col ps) fun w x z => by
    obtain ⟨j, hj⟩ := hp w x
    exact ⟨j, (col_at ps w x z).trans (wrap_at ps hj)⟩]
  exact gatherK_at k (col ps) ((col_at ps w x 0).trans (wrap_at ps h))

end

section
variable {F : FTy → Type} [FloatOps F] (v : FVec F S20x5x5120 .f32) (ps : IVec S20x1024 32)

abbrev mid : IVec S20x1x1024 32 := broadcastInDim S20x1x1024 ![0, 2] bcast_S20x1024_S20x1x1024_0_2 ps
abbrev wrap1 : IVec S20x1x1024 32 :=
  select (cmpi .slt (mid ps) (broadcastInDim S20x1x1024 ![] bcast_S_S20x1x1024 (constantI S_ 32 0#32)))
    (addi (mid ps) (broadcastInDim S20x1x1024 ![] bcast_S_S20x1x1024 (constantI S_ 32 5120#32))) (mid ps)
abbrev col1 : IVec S20x1024x1 32 := shapeCast S20x1024x1 (wrap1 ps) shapeCasts_S20x1x1024_S20x1024x1
/-- The values at the positions. -/
abbrev takeV : FVec F S20x5x1024 .f32 :=
  select (broadcastInDim S20x5x1024 ![0, 2] bcast_S20x1024_S20x5x1024_0_2 (inside (col1 ps)))
    (Host.gather gather_S20x5x5120_S20x1024x1_S20x5x1024_1_2_0_0_2_2_151 v (col1 ps))
    (broadcastInDim S20x5x1024 ![] bcast_S_S20x5x1024 (constant S_ .f32 0x7FC00000#32))
/-- The same, the five side by side in a row. -/
abbrev flatV : FVec F S20x5120 .f32 := shapeCast S20x5120 (takeV v ps) shapeCasts_S20x5x1024_S20x5120

theorem mid_at (w : Fin 20) (z : Fin 1) (x : Fin 1024) : mid ps (ix3 w z x) = ps (ix2 w x) :=
  broadcastInDim_apply _ _ _ _ _ fun a => by
    match a with
    | 0 => rfl
    | 1 => rfl

theorem wrap1_at {w : Fin 20} {z : Fin 1} {x : Fin 1024} {j : Fin 5120} (h : ps (ix2 w x) = BitVec.ofNat 32 j.val) :
    wrap1 ps (ix3 w z x) = BitVec.ofNat 32 j.val := by
  show Scalar.select (IntOp.cmpi .slt (mid ps (ix3 w z x)) 0#32) _ (mid ps (ix3 w z x)) = _
  rw [mid_at, h, WordCmp.cmpi_slt_eq, toInt_small (n := j.val) (by omega)]
  have : ¬ ((j.val : Int) < (0#32 : BitVec 32).toInt) := by
    show ¬ ((j.val : Int) < 0); omega
  rw [decide_eq_false this]
  rfl

theorem col1_at (w : Fin 20) (x : Fin 1024) (z : Fin 1) : col1 ps (ix3 w x z) = wrap1 ps (ix3 w 0 x) := by
  refine shapeCast_apply _ _ _ _ ?_
  rw [Shape.rowMajor_val_three, Shape.rowMajor_val_three]
  show (w.val * 1 + 0) * 1024 + x.val = (w.val * 1024 + x.val) * 1 + z.val
  omega

theorem gatherV_at (c : IVec S20x1024x1 32) {w : Fin 20} {r : Fin 5} {x : Fin 1024} {j : Fin 5120}
    (h : c (ix3 w x 0) = BitVec.ofNat 32 j.val) :
    Host.gather gather_S20x5x5120_S20x1024x1_S20x5x1024_1_2_0_0_2_2_151 v c (ix3 w r x) = v (ix3 w r j) := by
  unfold Host.gather
  refine congrArg v (funext fun a => Fin.ext ?_)
  match a with
  | 0 =>
    show 0 + w.val + 0 = w.val
    omega
  | 1 =>
    show 0 + 0 + r.val = r.val
    omega
  | 2 =>
    have e : c (gather_S20x5x5120_S20x1024x1_S20x5x1024_1_2_0_0_2_2_151.siIdx (ix3 w r x) ⟨0, by decide⟩) = BitVec.ofNat 32 j.val := by
      rw [← h]
      refine congrArg c (funext fun b => ?_)
      match b with
      | 0 => rfl
      | 1 => rfl
      | 2 => rfl
    show min (c (gather_S20x5x5120_S20x1024x1_S20x5x1024_1_2_0_0_2_2_151.siIdx (ix3 w r x) ⟨0, by decide⟩)).toInt.toNat 5119 + 0 + 0 = j.val
    rw [e, toInt_small (n := j.val) (by omega)]
    omega

/-- The value taken for column `x` of the `r`-th five. -/
theorem flatV_at (hp : ∀ w x, ∃ j : Fin 5120, ps (ix2 w x) = BitVec.ofNat 32 j.val) {w : Fin 20} (r : Fin 5) {x : Fin 1024} {j : Fin 5120}
    (h : ps (ix2 w x) = BitVec.ofNat 32 j.val) (y : Fin 5120) (hy : y.val = r.val * 1024 + x.val) :
    flatV v ps (ix2 w y) = v (ix3 w r j) := by
  rw [show flatV v ps (ix2 w y) = takeV v ps (ix3 w r x) from shapeCast_apply _ _ _ _ (by
    rw [Shape.rowMajor_val_three, Shape.rowMajor_val_two]
    show (w.val * 5 + r.val) * 1024 + x.val = w.val * 5120 + y.val
    omega)]
  show Scalar.select (broadcastInDim S20x5x1024 ![0, 2] bcast_S20x1024_S20x5x1024_0_2 (inside (col1 ps)) (ix3 w r x)) _ _ = _
  rw [broadcastInDim_apply _ _ _ _ (ix2 w x) (fun a => by
    match a with
    | 0 => rfl
    | 1 => rfl), inside_one (col1 ps) fun w x z => by
    obtain ⟨j, hj⟩ := hp w x
    exact ⟨j, (col1_at ps w x z).trans (wrap1_at ps hj)⟩]
  exact gatherV_at v (col1 ps) ((col1_at ps w x 0).trans (wrap1_at ps h))

end

end Cert.Proof.RefValue

end

end
-- ==== Proof.PreFacts.lean ====
/-
  What the precondition says: no key is the least integer, the keys above the threshold and the budget make up 1024, and the budget
  is no more than the keys equal to the threshold.
-/
module

public import proofs.«01_k».proof.Proof.Order
public import proofs.«01_k».proof.Proof.Rows
public import proofs.«01_k».proof.Proof.Gen.Pre_pre
public import Idealize.ShloMosaic.Lib.ReduceAll
public import Idealize.ShloMosaic.Lib.IndicatorCount
public import Idealize.ShloMosaic.Lib.Pipeline.Value

@[expose] public section

namespace Cert.Proof.PreFacts

open Idealize.ShloMosaic Idealize.ShloMosaic.ValueIdx
open Cert.Pre_pre Cert.Pre_pre.Gen
open Cert.Proof.Select Cert.Proof.Compact

variable {F : FTy → Type}

theorem lift_at (h : S20x5120.Reduces [1] S20) (w : Fin 20) (x : Fin 5120) : h.lift (ix1 w) x = ix2 w x :=
  funext fun a => Fin.ext ((Shape.Reduces.lift_val h (ix1 w) x a).trans (by
    match a with
    | 0 => rfl
    | 1 => rfl))

/-- A row's sum of truth bits counts them. -/
theorem count_at (c : IVec S20x5120 1) (p : Nat → Prop) [DecidablePred p] (w : Fin 20)
    (h : ∀ j : Fin 5120, c (ix2 w j) = 1#1 ↔ p j.val) :
    Host.reduce IntOp.addi (extui 32 c natLt_1_32) (constantI S_ 32 0#32) reducesTo_S20x5120_S20_d1 h_S_ (ix1 w)
      = BitVec.ofNat 32 (Nat.count p 5120) := by
  have hr : S20x5120.Reduces [1] S20 := by decide
  rw [Host.reduce_eq_fold_single IntOp.addi _ _ reducesTo_S20x5120_S20_d1 hr]
  refine Eq.trans (b := (Finset.univ : Finset (Fin 5120)).fold IntOp.addi 0#32 (fun j => (c (ix2 w j)).setWidth 32)) ?_ ?_
  · exact Finset.fold_congr fun j _ => congrArg (fun i => (c i).setWidth 32) (lift_at hr w j)
  · rw [IndicatorCount.fold_addi_setWidth_eq_card, ← card_taken]
    exact congrArg (fun S : Finset (Fin 5120) => BitVec.ofNat 32 S.card) (Finset.filter_congr fun j _ => h j)

theorem spread_row {α : Type} (x : S20.Idx → α) (w : Fin 20) (j : Fin 5120) :
    broadcastInDim S20x5120 ![0, 1] bcast_S20x1_S20x5120_0_1 (broadcastInDim S20x1 ![0] bcast_S20_S20x1_0 x) (ix2 w j) = x (ix1 w) :=
  (broadcastInDim_apply _ _ _ _ (ix2 w 0) fun a => by
    match a with
    | 0 => rfl
    | 1 => rfl).trans (broadcastInDim_apply _ _ _ _ _ fun a => by
    match a with
    | 0 => rfl)

/-- The precondition, a row at a time. -/
structure RowPre (k : IVec S20x5120 32) (t b : IVec S20 32) (w : Fin 20) : Prop where
  least : ∀ j : Fin 5120, -2147483648 < (k (ix2 w j)).toInt
  total : Nat.count (taken (keyAt (F := F) k w) (t (ix1 w)) (b (ix1 w))) 5120 = 1024
  bud_lt : (b (ix1 w)).toNat < 2 ^ 31

theorem keyAt_pos (k : IVec S20x5120 32) (w : Fin 20) (j : Fin 5120) : keyAt (F := F) k w j.val = k (ix2 w j) := by
  unfold keyAt
  exact congrArg (fun i => k (ix2 w i)) (Fin.ext (Nat.mod_eq_of_lt j.isLt))

/-- What the precondition's words say of a row, in numbers. -/
theorem count_taken (u : Nat → BitVec 32) (t b : BitVec 32) (hg : BitVec.ofNat 32 (Nat.count (gtp u t) 5120) + b = 1024#32)
    (hb : 0 ≤ b.toInt) (he : b.toInt ≤ (BitVec.ofNat 32 (Nat.count (eqp u t) 5120)).toInt) :
    b.toNat < 2 ^ 31 ∧ Nat.count (taken u t b) 5120 = 1024 := by
  have h1 : b.toNat < 2 ^ 31 := (WordCmp.toInt_nonneg_iff_lt_half b).mp hb
  have h2 : b.toInt = b.toNat := WordCmp.toInt_eq_toNat_of_lt_half h1
  have h3 : Nat.count (gtp u t) 5120 ≤ 5120 := Nat.count_le _
  have h4 : Nat.count (eqp u t) 5120 ≤ 5120 := Nat.count_le _
  refine ⟨h1, ?_⟩
  rw [toInt_small (n := Nat.count (eqp u t) 5120) (by omega), h2] at he
  have h5 := congrArg BitVec.toNat hg
  rw [BitVec.toNat_add, BitVec.toNat_ofNat] at h5
  have h6 : (1024#32 : BitVec 32).toNat = 1024 := rfl
  rw [h6] at h5
  have h7 := count_sel (gtp u t) (eqp u t) b.toNat (gt_ne u t) 5120
  rw [h7]
  omega

/-- A word per row, over the row. -/
def spread {α : Type} (x : S20.Idx → α) : S20x5120.Idx → α :=
  broadcastInDim S20x5120 ![0, 1] bcast_S20x1_S20x5120_0_1 (broadcastInDim S20x1 ![0] bcast_S20_S20x1_0 x)

theorem spread_at {α : Type} (x : S20.Idx → α) (w : Fin 20) (j : Fin 5120) : spread x (ix2 w j) = x (ix1 w) := spread_row x w j

/-- The truth bits of each row, summed. -/
def tally (c : IVec S20x5120 1) : IVec S20 32 :=
  Host.reduce IntOp.addi (extui 32 c natLt_1_32) (constantI S_ 32 0#32) reducesTo_S20x5120_S20_d1 h_S_

theorem tally_at (c : IVec S20x5120 1) (p : Nat → Prop) [DecidablePred p] (w : Fin 20)
    (h : ∀ j : Fin 5120, c (ix2 w j) = 1#1 ↔ p j.val) : tally c (ix1 w) = BitVec.ofNat 32 (Nat.count p 5120) := count_at c p w h

/-- The four tests of the precondition. -/
def tests (k : IVec S20x5120 32) (t b : IVec S20 32) : IVec S20x5120 1 :=
  andi (andi (andi (cmpi .sgt k (broadcastInDim S20x5120 ![] bcast_S_S20x5120 (constantI S_ 32 2147483648#32)))
    (spread (cmpi .eq (addi (tally (cmpi .sgt k (spread t))) b) (broadcastInDim S20 ![] bcast_S_S20 (constantI S_ 32 1024#32)))))
    (spread (cmpi .sge b (broadcastInDim S20 ![] bcast_S_S20 (constantI S_ 32 0#32)))))
    (spread (cmpi .sle b (tally (cmpi .eq k (spread t)))))

section
variable [FloatOps F] (k : IVec S20x5120 32) (v : FVec F S20x5x5120 .f32) (t b : IVec S20 32)

theorem fn_eq : Cert.Pre_pre.fn (F := F) k v t b
    = Host.reduce IntOp.andi (tests k t b) (constantI S_ 1 1#1) reducesTo_S20x5120_S_d0_1 h_S_ := rfl

theorem gt_at (w : Fin 20) (j : Fin 5120) :
    cmpi .sgt k (spread t) (ix2 w j) = 1#1 ↔ gtp (keyAt (F := F) k w) (t (ix1 w)) j.val := by
  show IntOp.cmpi .sgt (k (ix2 w j)) (spread t (ix2 w j)) = 1#1 ↔ _
  rw [spread_at, WordCmp.cmpi_sgt_eq, WordCmp.ofBool_eq_one_iff, decide_eq_true_eq]
  unfold gtp
  rw [keyAt_pos]

theorem eq_at (w : Fin 20) (j : Fin 5120) :
    cmpi .eq k (spread t) (ix2 w j) = 1#1 ↔ eqp (keyAt (F := F) k w) (t (ix1 w)) j.val := by
  show IntOp.cmpi .eq (k (ix2 w j)) (spread t (ix2 w j)) = 1#1 ↔ _
  rw [spread_at, WordCmp.cmpi_eq_eq, WordCmp.ofBool_eq_one_iff, decide_eq_true_eq]
  unfold eqp
  rw [keyAt_pos]

theorem tests_at (w : Fin 20) (j : Fin 5120) (h : tests k t b (ix2 w j) = 1#1) :
    -2147483648 < (k (ix2 w j)).toInt ∧ tally (cmpi .sgt k (spread t)) (ix1 w) + b (ix1 w) = 1024#32
      ∧ 0 ≤ (b (ix1 w)).toInt ∧ (b (ix1 w)).toInt ≤ (tally (cmpi .eq k (spread t)) (ix1 w)).toInt := by
  obtain ⟨h1, h4⟩ := (and_one _ _).mp h
  obtain ⟨h1, h3⟩ := (and_one _ _).mp h1
  obtain ⟨h1, h2⟩ := (and_one _ _).mp h1
  rw [spread_at] at h2 h3 h4
  have h1 : IntOp.cmpi .sgt (k (ix2 w j)) 2147483648#32 = 1#1 := h1
  have h2 : IntOp.cmpi .eq (tally (cmpi .sgt k (spread t)) (ix1 w) + b (ix1 w)) 1024#32 = 1#1 := h2
  have h3 : IntOp.cmpi .sge (b (ix1 w)) 0#32 = 1#1 := h3
  have h4 : IntOp.cmpi .sle (b (ix1 w)) (tally (cmpi .eq k (spread t)) (ix1 w)) = 1#1 := h4
  rw [WordCmp.cmpi_sgt_eq, WordCmp.ofBool_eq_one_iff, decide_eq_true_eq] at h1
  rw [WordCmp.cmpi_sge_eq, WordCmp.ofBool_eq_one_iff, decide_eq_true_eq] at h3
  rw [WordCmp.cmpi_eq_eq, WordCmp.ofBool_eq_one_iff, decide_eq_true_eq] at h2
  rw [WordCmp.cmpi_sle_eq, WordCmp.ofBool_eq_one_iff, decide_eq_true_eq] at h4
  exact ⟨h1, h2, h3, h4⟩

theorem rowPre (h : Cert.Pre_pre.fn (F := F) k v t b = fun _ => 1#1) (w : Fin 20) : RowPre (F := F) k t b w := by
  rw [fn_eq] at h
  haveI : Subsingleton S_.Idx := ⟨fun a b => funext fun i => i.elim0⟩
  have hall := fun j : Fin 5120 =>
    tests_at k t b w j (Host.reduce_andi_all _ _ _ _ (fun a => a.elim0) (congrFun h _) (ix2 w j))
  obtain ⟨-, hg, hb, he⟩ := hall 0
  rw [tally_at _ _ w (gt_at (F := F) k t w)] at hg
  rw [tally_at _ _ w (eq_at (F := F) k t w)] at he
  have hc := count_taken _ _ _ hg hb he
  exact ⟨fun j => (hall j).1, hc.2, hc.1⟩

end

end Cert.Proof.PreFacts

end
-- ==== Proof.Equation.lean ====
/-
  Under the precondition the rows the tiles leave are the reference's: each of the 1024 taken columns lies in its place.
-/
module

public import proofs.«01_k».proof.Proof.TbLanes
public import proofs.«01_k».proof.Proof.RefValue
public import proofs.«01_k».proof.Proof.PreFacts

@[expose] public section

noncomputable section

namespace Cert.Proof.Equation

open Idealize.ShloMosaic Idealize.ShloMosaic.ValueIdx
open Cert.KernelIdeal Cert.KernelIdeal.Gen
open Cert.Proof.Select Cert.Proof.Compact
open Idealize.SL.Sem

variable {F : FTy → Type} [FloatOps F]

section
variable (m : (ℓ : Loc nD τ sig) → Buf (Elt F) ℓ) (d : Dev nD)
  (h : ∀ w, PreFacts.RowPre (F := F) (m (kLoc d)) (m (pLoc d)) (m (qLoc d)) w)

include h

theorem fits (w : Fin 20) : RowFits (F := F) (m (kLoc d)) (tb m d) w (m (pLoc d) (ix1 w)) (m (qLoc d) (ix1 w)) :=
  ⟨fun k => tb_thr m d w k, fun k => tb_bud m d w k, (h w).bud_lt, (h w).total.le⟩

theorem placed (w : Fin 20) (x : Fin 1024) : ∃ j : Fin 5120, RefValue.idx (m (kLoc d)) (ix2 w x) = BitVec.ofNat 32 j.val
    ∧ taken (keyAt (F := F) (m (kLoc d)) w) (m (pLoc d) (ix1 w)) (m (qLoc d) (ix1 w)) j.val
    ∧ pos (keyAt (F := F) (m (kLoc d)) w) (m (pLoc d) (ix1 w)) (m (qLoc d) (ix1 w)) j.val = x.val :=
  RefValue.idx_pos (F := F) (m (kLoc d)) w _ _ (h w).least (h w).total x

theorem inBounds (w : Fin 20) (x : Fin 1024) : ∃ j : Fin 5120, RefValue.idx (m (kLoc d)) (ix2 w x) = BitVec.ofNat 32 j.val :=
  let ⟨j, hj, _⟩ := placed m d h w x
  ⟨j, hj⟩

/-- The keys left. -/
theorem keys_eq (fu : Vec F S20x1024 .i32) (fo : Vec F S20x5120 .f32)
    (ok : ∀ w, RowOk (F := F) (m (kLoc d)) (m (wLoc d)) (tb m d) w fu fo) :
    fu = RefValue.takeK (m (kLoc d)) (RefValue.idx (m (kLoc d))) := by
  funext i
  rw [eq_ix2 i]
  generalize i 0 = w
  generalize i 1 = x
  obtain ⟨j, hj, ht, hx⟩ := placed m d h w x
  refine (((ok w _ _ (fits m d h w) j.val j.isLt ht).1 x hx.symm).trans (RefValue.keyAt_fin (F := F) _ w j)).trans ?_
  exact (RefValue.takeK_at _ _ (inBounds m d h) hj).symm

/-- The values left. -/
theorem vals_eq (fu : Vec F S20x1024 .i32) (fo : Vec F S20x5120 .f32)
    (ok : ∀ w, RowOk (F := F) (m (kLoc d)) (m (wLoc d)) (tb m d) w fu fo) :
    fo = RefValue.flatV (m (wLoc d)) (RefValue.idx (m (kLoc d))) := by
  funext i
  rw [eq_ix2 i]
  generalize i 0 = w
  generalize i 1 = y
  have hy : y.val < 5120 := y.isLt
  have hr : y.val / 1024 < 5 := by omega
  have hq : y.val % 1024 < 1024 := Nat.mod_lt _ (by omega)
  have hs : y.val = y.val / 1024 * 1024 + y.val % 1024 := by omega
  obtain ⟨j, hj, ht, hx⟩ := placed m d h w ⟨y.val % 1024, hq⟩
  have hx : pos (keyAt (F := F) (m (kLoc d)) w) (m (pLoc d) (ix1 w)) (m (qLoc d) (ix1 w)) j.val = y.val % 1024 := hx
  refine ((ok w _ _ (fits m d h w) j.val j.isLt ht).2 (y.val / 1024) hr y (by rw [hx]; exact hs)).trans ?_
  refine Eq.trans ?_ (RefValue.flatV_at _ _ (inBounds m d h) ⟨y.val / 1024, hr⟩ hj y hs).symm
  unfold valAt
  refine congrArg (m (wLoc d)) (congrArg₂ (ix3 w) (Fin.ext ?_) (Fin.ext ?_))
  · exact Nat.mod_eq_of_lt hr
  · exact Nat.mod_eq_of_lt j.isLt

end

end Cert.Proof.Equation

end
-- ==== Proof.SortFill.lean ====
/-
  Scattering by rank: sixteen values a store, each to the place its rank names, five rows of them to a trip.
-/
module

public import proofs.«01_k».proof.Proof.Lanes
public import Idealize.ShloMosaic.Lib.ValueLayout

@[expose] public section

namespace Cert.Proof.Scatter

open Idealize.ShloMosaic Idealize.ShloMosaic.ValueIdx
open Cert.Proof.Lanes

/-- The ranks of a row: 1024 different places. -/
structure Ranks (rk : Nat → BitVec 32) : Prop where
  lt : ∀ j, j < 1024 → (rk j).toNat < 1024
  inj : ∀ i j, i < 1024 → j < 1024 → (rk i).toNat = (rk j).toNat → i = j

/-- Where row `r`'s value of rank `p` goes: in the one result rows lie one after the other, in the other places do. -/
abbrev byRow (r p : Nat) : Nat := r * 1024 + p
abbrev byPlace (r p : Nat) : Nat := p * 8 + r

/-- Different rows and ranks have different places, all within a buffer. -/
structure Places (P : Nat → Nat → Nat) : Prop where
  lt : ∀ r p, r < 5 → p < 1024 → P r p < 8192
  inj : ∀ r p r' p', r < 5 → r' < 5 → p < 1024 → p' < 1024 → P r p = P r' p' → r = r' ∧ p = p'

theorem places_byRow : Places byRow := ⟨fun _ _ _ _ => by unfold byRow; omega, fun _ _ _ _ _ _ _ _ h => by unfold byRow at h; omega⟩
theorem places_byPlace : Places byPlace := ⟨fun _ _ _ _ => by unfold byPlace; omega, fun _ _ _ _ _ _ _ _ h => by unfold byPlace at h; omega⟩

section
variable {α : Type}

/-- `k` trips done, and of the next its first `q` rows. -/
def Filled (P : Nat → Nat → Nat) (rk : Nat → BitVec 32) (cv : Nat → α) (k q : Nat) (g : Fin 8192 → α) : Prop :=
  ∀ r, r < 5 → ∀ j, j < 16 * k + (if r < q then 16 else 0) → ∀ x : Fin 8192, x.val = P r (rk j).toNat → g x = cv (r * 1024 + j)

variable {P : Nat → Nat → Nat} {rk : Nat → BitVec 32} {cv : Nat → α} {k : Nat} {g : Fin 8192 → α}

theorem Filled.zero : Filled P rk cv 0 0 g := fun _ _ j hj => absurd hj (by simp)

theorem Filled.next (h : Filled P rk cv k 5 g) : Filled P rk cv (k + 1) 0 g := fun r hr j hj =>
  h r hr j (by rw [if_pos hr]; simp only [Nat.not_lt_zero, if_false] at hj; omega)

end

section
variable {F : FTy → Type} [FloatOps F] {P : Nat → Nat → Nat} {rk : Nat → BitVec 32} {cv : Nat → Elt F .f32} {k : Nat}

/-- One store: the sixteen values of row `q`, to their places. -/
theorem Filled.store (hP : Places P) (hR : Ranks rk) {f : Vec F ⟨1, ![8192]⟩ .f32} {idx : IVec ⟨1, ![16]⟩ 32} {v : Vec F ⟨1, ![16]⟩ .f32}
    {mask : IVec ⟨1, ![16]⟩ 1} (hb : ∀ a x, ((![idx] : Fin 1 → IVec ⟨1, ![16]⟩ 32) a x).toNat < (⟨1, ![8192]⟩ : Shape).size a) (hk : k < 64) {q : Nat} (hq : q < 5)
    (hm : ∀ l : Fin 16, mask (lane l) = 1) (hi : ∀ l : Fin 16, (idx (lane l)).toNat = P q (rk (16 * k + l.val)).toNat)
    (hv : ∀ l : Fin 16, v (lane l) = cv (q * 1024 + (16 * k + l.val)))
    (h : Filled P rk cv k q fun x => f (ix1 x)) :
    Filled P rk cv k (q + 1) fun x => storeIdx (s := ⟨1, ![8192]⟩) f ![idx] v mask false hb (ix1 x) := by
  intro r hr j hj x hx
  have hj' : j < 1024 := by split at hj <;> omega
  have same : ∀ l : Fin 16, (∀ a, (ix1 x a).val = ((![idx] : Fin 1 → IVec ⟨1, ![16]⟩ 32) a (lane l)).toNat) → r = q ∧ j = 16 * k + l.val := by
    intro l hl
    have e : x.val = (idx (lane l)).toNat := hl 0
    rw [hi l, hx] at e
    obtain ⟨h1, h2⟩ := hP.inj _ _ _ _ hr hq (hR.lt j hj') (hR.lt _ (by omega)) e
    exact ⟨h1, hR.inj _ _ hj' (by omega) h2⟩
  by_cases hh : r = q ∧ 16 * k ≤ j
  · obtain ⟨rfl, hkj⟩ := hh
    rw [if_pos (Nat.lt_succ_self r)] at hj
    have hl : j - 16 * k < 16 := by omega
    have ej : 16 * k + (j - 16 * k) = j := by omega
    refine (storeIdx_hit _ _ _ _ _ (ix1 x) ⟨j - 16 * k, hl⟩ (hm _) (fun a => ?_) (fun l _ hl' => ?_)).trans ?_
    · obtain rfl : a = 0 := Subsingleton.elim _ _
      show x.val = (idx (lane ⟨j - 16 * k, hl⟩)).toNat
      rw [hi, hx]; show _ = P r (rk (16 * k + (j - 16 * k))).toNat; rw [ej]
    · exact Fin.ext (show l.val = j - 16 * k by have := (same l hl').2; omega)
    · exact (hv ⟨j - 16 * k, hl⟩).trans (by show cv (r * 1024 + (16 * k + (j - 16 * k))) = _; rw [ej])
  · refine (storeIdx_miss _ _ _ _ _ (ix1 x) fun l _ hl => ?_).trans (h r hr j ?_ x hx)
    · obtain ⟨h1, h2⟩ := same l hl
      exact hh ⟨h1, by omega⟩
    · by_cases h1 : r = q
      · have : ¬ 16 * k ≤ j := fun h2 => hh ⟨h1, h2⟩
        split <;> omega
      · split at hj <;> split <;> omega

end

/-! ### The words the places are computed as -/

theorem byRow_word {w : BitVec 32} (h : w.toNat < 1024) {r : Nat} (hr : r < 5) :
    (IntOp.addi w (BitVec.ofNat 32 (r * 1024))).toNat = byRow r w.toNat := by
  unfold IntOp.addi
  rw [BitVec.toNat_add, BitVec.toNat_ofNat]
  unfold byRow; omega

theorem byPlace_word {w : BitVec 32} (h : w.toNat < 1024) {r : Nat} (hr : r < 5) :
    (IntOp.addi (IntOp.muli w 8#32) (BitVec.ofNat 32 r)).toNat = byPlace r w.toNat := by
  unfold IntOp.addi IntOp.muli
  rw [BitVec.toNat_add, BitVec.toNat_mul, BitVec.toNat_ofNat, BitVec.toNat_ofNat]
  unfold byPlace; omega

end Cert.Proof.Scatter
-- ==== Proof.SortSetup.lean ====
/-
  The scattering call as the launch theorem sees it: the program's configuration, the arrays and the scratch buffers of a
  tile, and which pieces of the arrays a tile is handed.
-/
module

public import proofs.«01_k».proof.Defs
public import proofs.«01_k».proof.Proof.Gen.SortIdeal
public import proofs.«01_k».proof.Proof.Gen.SortIdeal.Skeleton
public import proofs.«01_k».proof.Proof.SortFill
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Scatter

open Cert.SortIdeal Cert.SortIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-- The arrays the call reads and writes, as locations of device `d`: ranks, values, and the values by row and by place. -/
abbrev rLoc (d : Dev nD) : Loc nD τ sig := (SparseCore.T d).loc main_arg0
abbrev cLoc (d : Dev nD) : Loc nD τ sig := (SparseCore.T d).loc main_arg1
abbrev oLoc (d : Dev nD) : Loc nD τ sig := (SparseCore.T d).loc main_v0_0
abbrev pLoc (d : Dev nD) : Loc nD τ sig := (SparseCore.T d).loc main_v0_1

local notation "rV" => (Memref.whole Cert.SortIdeal.main_arg0_scv : Memref Cert.SortIdeal.sig Kind.scVector Space.hbm Cert.SortIdeal.S20x1024 EltTy.i32)
local notation "vV" => (Memref.whole Cert.SortIdeal.main_arg1_scv : Memref Cert.SortIdeal.sig Kind.scVector Space.hbm Cert.SortIdeal.S20x5120 EltTy.f32)
local notation "oV" => (Memref.whole Cert.SortIdeal.main_v0_0_scv : Memref Cert.SortIdeal.sig Kind.scVector Space.hbm Cert.SortIdeal.S20x8192 EltTy.f32)
local notation "pV" => (Memref.whole Cert.SortIdeal.main_v0_1_scv : Memref Cert.SortIdeal.sig Kind.scVector Space.hbm Cert.SortIdeal.S20x8192 EltTy.f32)

/-- Row `w` of the arrays. -/
theorem twenty_dvd {n : Nat} : 20 ∣ (⟨2, ![20, n]⟩ : Shape).size 0 := ⟨1, rfl⟩
abbrev row (n : Nat) (w : Fin 20) : Rect (⟨2, ![20, n]⟩ : Shape) := Rect.part (s := ⟨2, ![20, n]⟩) (a₀ := 0) twenty_dvd w
abbrev rSet (w : Fin 20) : Finset S20x1024.Idx := (row 1024 w).set
abbrev cSet (w : Fin 20) : Finset S20x5120.Idx := (row 5120 w).set
abbrev oSet (w : Fin 20) : Finset S20x8192.Idx := (row 8192 w).set

/-- One row's rectangle, and where it lies. -/
theorem unit_row {n w : Nat} (hw : w < 20) {off : Fin 2 → Nat} (e : off = ![w, 0])
    (hb : ∀ a, off a + (⟨2, ![1, n]⟩ : Shape).size a ≤ (⟨2, ![20, n]⟩ : Shape).size a) :
    Rect.unit (s := ⟨2, ![20, n]⟩) off (⟨2, ![1, n]⟩ : Shape).size hb = row n ⟨w, hw⟩ := by
  subst e
  unfold row Rect.part Rect.block
  congr 1 <;> funext a
  · match a with
    | 0 => simp [Shape.partIx, Shape.partSize]
    | 1 => simp [Shape.partIx, Shape.partSize]
  · match a with
    | 0 => simp [Shape.partSize]
    | 1 => simp [Shape.partSize]

theorem unit_row_emb {n w : Nat} (hw : w < 20) {off : Fin 2 → Nat} (e : off = ![w, 0])
    (hb : ∀ a, off a + (⟨2, ![1, n]⟩ : Shape).size a ≤ (⟨2, ![20, n]⟩ : Shape).size a) (h : (⟨1, ![n]⟩ : Shape).numel = (⟨2, ![1, n]⟩ : Shape).numel) (x : Fin n) :
    (Rect.unit (s := ⟨2, ![20, n]⟩) off (⟨2, ![1, n]⟩ : Shape).size hb).emb (Shape.reshapeEquiv h (ix1 x)) = ix2 (⟨w, hw⟩ : Fin 20) x := by
  subst e
  rw [show Shape.reshapeEquiv h (ix1 x) = ix2 (⟨0, Nat.one_pos⟩ : Fin 1) x from Shape.reshapeEquiv_eq_of_rowMajor h (by
    rw [Shape.rowMajor_val_two, Shape.rowMajor_val_one]
    show 0 * n + x.val = x.val
    omega)]
  refine funext fun a => Fin.ext ?_
  match a with
  | 0 => show w + 1 * 0 = w; omega
  | 1 => show 0 + 1 * x.val = x.val; omega

section Tile

variable (L : grid0.Coords)

abbrev cV (L : grid0.Coords) : Fin τ.nSC := (L 0).castLE hcore0
abbrev jV (L : grid0.Coords) : Fin τ.nSub := (L 1).castLE hsub0

/-- The row a tile works on. -/
abbrev wid (L : grid0.Coords) : Nat := 2 * (L 1).val + (L 0).val

theorem cond_iff : ∀ L : grid0.Coords, k0_cond1 L = 1#1 ↔ wid L < 20 := by decide +kernel

variable (hw : wid L < 20)

/-- The pieces a tile's transfers address. -/
abbrev rP (h1 : k0_cond1 L = 1#1) : Memref sig .scVector .hbm S1024 .i32 :=
  ((rV).slice (Rect.unit (s := S20x1024) (k0_off1 L) S1x1024.size (k0_off1_inb L h1)) (fun _ => rfl)).squeeze S1024 squeezes_S1x1024_S1024
abbrev cP (h1 : k0_cond1 L = 1#1) : Memref sig .scVector .hbm S5120 .f32 :=
  ((vV).slice (Rect.unit (s := S20x5120) (k0_off2 L) S1x5120.size (k0_off2_inb L h1)) (fun _ => rfl)).squeeze S5120 squeezes_S1x5120_S5120
abbrev oP (h1 : k0_cond1 L = 1#1) : Memref sig .scVector .hbm S8192 .f32 :=
  ((oV).slice (Rect.unit (s := S20x8192) (k0_off9 L) S1x8192.size (k0_off9_inb L h1)) (fun _ => rfl)).squeeze S8192 squeezes_S1x8192_S8192
abbrev pP (h1 : k0_cond1 L = 1#1) : Memref sig .scVector .hbm S8192 .f32 :=
  ((pV).slice (Rect.unit (s := S20x8192) (k0_off9 L) S1x8192.size (k0_off9_inb L h1)) (fun _ => rfl)).squeeze S8192 squeezes_S1x8192_S8192

theorem set_rP (h1 : k0_cond1 L = 1#1) : (rP L h1).view.set = rSet ⟨wid L, hw⟩ :=
  (View.set_reshape _ _).trans ((View.set_slice _ _).trans ((congrArg (fun r => Finset.map _ r.set) (unit_row hw (k0_off1_eq L) _)).trans Finset.map_refl))
theorem set_cP (h1 : k0_cond1 L = 1#1) : (cP L h1).view.set = cSet ⟨wid L, hw⟩ :=
  (View.set_reshape _ _).trans ((View.set_slice _ _).trans ((congrArg (fun r => Finset.map _ r.set) (unit_row hw (k0_off2_eq L) _)).trans Finset.map_refl))
theorem set_oP (h1 : k0_cond1 L = 1#1) : (oP L h1).view.set = oSet ⟨wid L, hw⟩ :=
  (View.set_reshape _ _).trans ((View.set_slice _ _).trans ((congrArg (fun r => Finset.map _ r.set) (unit_row hw (k0_off9_eq L) _)).trans Finset.map_refl))
theorem set_pP (h1 : k0_cond1 L = 1#1) : (pP L h1).view.set = oSet ⟨wid L, hw⟩ :=
  (View.set_reshape _ _).trans ((View.set_slice _ _).trans ((congrArg (fun r => Finset.map _ r.set) (unit_row hw (k0_off9_eq L) _)).trans Finset.map_refl))

theorem emb_rP (h1 : k0_cond1 L = 1#1) (j : Fin 1024) : (rP L h1).view.emb (ix1 j) = ix2 (⟨wid L, hw⟩ : Fin 20) j := unit_row_emb hw (k0_off1_eq L) _ _ j
theorem emb_cP (h1 : k0_cond1 L = 1#1) (j : Fin 5120) : (cP L h1).view.emb (ix1 j) = ix2 (⟨wid L, hw⟩ : Fin 20) j := unit_row_emb hw (k0_off2_eq L) _ _ j
theorem emb_oP (h1 : k0_cond1 L = 1#1) (j : Fin 8192) : (oP L h1).view.emb (ix1 j) = ix2 (⟨wid L, hw⟩ : Fin 20) j := unit_row_emb hw (k0_off9_eq L) _ _ j
theorem emb_pP (h1 : k0_cond1 L = 1#1) (j : Fin 8192) : (pP L h1).view.emb (ix1 j) = ix2 (⟨wid L, hw⟩ : Fin 20) j := unit_row_emb hw (k0_off9_eq L) _ _ j

variable (d : Dev nD)

theorem pts_rP (h1 : k0_cond1 L = 1#1) (f : Buf (Elt F) (rLoc d)) :
    ((rP L h1).view.loc (V d (cV L) (jV L)) ↦[(rP L h1).view.set]{fullShare} f : sProp 𝕄) = rLoc d ↦[rSet ⟨wid L, hw⟩]{fullShare} f := by
  rw [set_rP L hw]
theorem pts_cP (h1 : k0_cond1 L = 1#1) (f : Buf (Elt F) (cLoc d)) :
    ((cP L h1).view.loc (V d (cV L) (jV L)) ↦[(cP L h1).view.set]{fullShare} f : sProp 𝕄) = cLoc d ↦[cSet ⟨wid L, hw⟩]{fullShare} f := by
  rw [set_cP L hw]
theorem pts_oP (h1 : k0_cond1 L = 1#1) (f : Buf (Elt F) (oLoc d)) :
    ((oP L h1).view.loc (V d (cV L) (jV L)) ↦[(oP L h1).view.set]{fullShare} f : sProp 𝕄) = oLoc d ↦[oSet ⟨wid L, hw⟩]{fullShare} f := by
  rw [set_oP L hw]
theorem pts_pP (h1 : k0_cond1 L = 1#1) (f : Buf (Elt F) (pLoc d)) :
    ((pP L h1).view.loc (V d (cV L) (jV L)) ↦[(pP L h1).view.set]{fullShare} f : sProp 𝕄) = pLoc d ↦[oSet ⟨wid L, hw⟩]{fullShare} f := by
  rw [set_pP L hw]

/-- The scoped DMA cells the body names, one per copy. -/
abbrev cell0 : GSem nD τ sig := (V d (cV L) (jV L), .dma cc0_scoped0.sem)
abbrev cell1 : GSem nD τ sig := (V d (cV L) (jV L), .dma cc0_scoped1.sem)
abbrev cell2 : GSem nD τ sig := (V d (cV L) (jV L), .dma cc0_scoped2.sem)
abbrev cell3 : GSem nD τ sig := (V d (cV L) (jV L), .dma cc0_scoped3.sem)

/-- The copies' cells among the tile's own. -/
abbrev cells (d : Dev nD) (L : grid0.Coords) : Finset (GSem nD τ sig) := {cell0 L d, cell1 L d, cell2 L d, cell3 L d}

theorem cells_sub : cells d L ⊆ ownCells (V d (cV L) (jV L)) := by
  intro g hg
  simp only [cells, Finset.mem_insert, Finset.mem_singleton] at hg
  rcases hg with rfl | rfl | rfl | rfl
  · exact (mem_ownCells (g := cell0 L d)).mpr ⟨rfl, by show (SemLoc.dma cc0_scoped0.sem : SemLoc sig).isScoped .scVector = true; decide⟩
  · exact (mem_ownCells (g := cell1 L d)).mpr ⟨rfl, by show (SemLoc.dma cc0_scoped1.sem : SemLoc sig).isScoped .scVector = true; decide⟩
  · exact (mem_ownCells (g := cell2 L d)).mpr ⟨rfl, by show (SemLoc.dma cc0_scoped2.sem : SemLoc sig).isScoped .scVector = true; decide⟩
  · exact (mem_ownCells (g := cell3 L d)).mpr ⟨rfl, by show (SemLoc.dma cc0_scoped3.sem : SemLoc sig).isScoped .scVector = true; decide⟩

theorem cell_ne {a b : DmaSem sig} (h : a ≠ b) : ((V d (cV L) (jV L), .dma a) : GSem nD τ sig) ≠ (V d (cV L) (jV L), .dma b) :=
  fun e => h (by injection e with _ e; injection e)

theorem bigSep_cells (Φ : GSem nD τ sig → sProp 𝕄) :
    bigSep (cells d L) Φ = iprop(Φ (cell0 L d) ∗ Φ (cell1 L d) ∗ Φ (cell2 L d) ∗ Φ (cell3 L d)) := by
  unfold cells
  have h01 := cell_ne L d (a := cc0_scoped0.sem) (b := cc0_scoped1.sem) (by decide)
  have h02 := cell_ne L d (a := cc0_scoped0.sem) (b := cc0_scoped2.sem) (by decide)
  have h03 := cell_ne L d (a := cc0_scoped0.sem) (b := cc0_scoped3.sem) (by decide)
  have h12 := cell_ne L d (a := cc0_scoped1.sem) (b := cc0_scoped2.sem) (by decide)
  have h13 := cell_ne L d (a := cc0_scoped1.sem) (b := cc0_scoped3.sem) (by decide)
  have h23 := cell_ne L d (a := cc0_scoped2.sem) (b := cc0_scoped3.sem) (by decide)
  rw [SparseCore.bigSep_insert' (by simp only [Finset.mem_insert, Finset.mem_singleton, not_or]; exact ⟨h01, h02, h03⟩),
    SparseCore.bigSep_insert' (by simp only [Finset.mem_insert, Finset.mem_singleton, not_or]; exact ⟨h12, h13⟩),
    SparseCore.bigSep_insert' (by simp only [Finset.mem_singleton]; exact h23), bigSep_singleton]

theorem ownSems0_V :
    (ownSems0 (V d (cV L) (jV L)) : sProp 𝕄)
      = iprop((semVal (cell0 L d) 0 ∗ semVal (cell1 L d) 0 ∗ semVal (cell2 L d) 0 ∗ semVal (cell3 L d) 0)
          ∗ bigSep (ownCells (V d (cV L) (jV L)) \ cells d L) fun g => semVal g 0) := by
  unfold SparseCore.Cfg.ownSems0
  rw [← bigSep_cells L d fun g => semVal g 0]
  exact SparseCore.bigSep_sdiff_split' (cells_sub L d)

abbrev refs (L : grid0.Coords) : Finset (DevRef τ sig) :=
  {(Proc.scVector (cV L) (jV L)).devRef cc0_scratch0, (Proc.scVector (cV L) (jV L)).devRef cc0_scratch1, (Proc.scVector (cV L) (jV L)).devRef cc0_scratch2,
    (Proc.scVector (cV L) (jV L)).devRef cc0_scratch3}

theorem refs_sub : refs L ⊆ ownRefs (τ := τ) (.scVector (cV L) (jV L)) := by
  intro b hb
  simp only [refs, Finset.mem_insert, Finset.mem_singleton] at hb
  rcases hb with rfl | rfl | rfl | rfl <;>
    exact SparseCore.Cfg.mem_ownRefs_of_owner (p := Proc.scVector (cV L) (jV L)) rfl

theorem ref_ne {a b : Ref sig .scVector} (h : a ≠ b) : (Proc.scVector (cV L) (jV L)).devRef a ≠ (Proc.scVector (τ := τ) (cV L) (jV L)).devRef b :=
  fun e => h (Proc.devRef_injective _ e)

theorem bigSep_refs (Φ : DevRef τ sig → sProp 𝕄) :
    bigSep (refs L) Φ = iprop(Φ ((Proc.scVector (cV L) (jV L)).devRef cc0_scratch0) ∗ Φ ((Proc.scVector (cV L) (jV L)).devRef cc0_scratch1)
      ∗ Φ ((Proc.scVector (cV L) (jV L)).devRef cc0_scratch2) ∗ Φ ((Proc.scVector (cV L) (jV L)).devRef cc0_scratch3)) := by
  unfold refs
  have h01 := ref_ne L (a := cc0_scratch0) (b := cc0_scratch1) (by decide)
  have h02 := ref_ne L (a := cc0_scratch0) (b := cc0_scratch2) (by decide)
  have h03 := ref_ne L (a := cc0_scratch0) (b := cc0_scratch3) (by decide)
  have h12 := ref_ne L (a := cc0_scratch1) (b := cc0_scratch2) (by decide)
  have h13 := ref_ne L (a := cc0_scratch1) (b := cc0_scratch3) (by decide)
  have h23 := ref_ne L (a := cc0_scratch2) (b := cc0_scratch3) (by decide)
  rw [SparseCore.bigSep_insert' (by simp only [Finset.mem_insert, Finset.mem_singleton, not_or]; exact ⟨h01, h02, h03⟩),
    SparseCore.bigSep_insert' (by simp only [Finset.mem_insert, Finset.mem_singleton, not_or]; exact ⟨h12, h13⟩),
    SparseCore.bigSep_insert' (by simp only [Finset.mem_singleton]; exact h23), bigSep_singleton]

/-- A tile's own buffers: the four scratch buffers, each at some contents, and the rest. -/
theorem ownBufs_V :
    (ownBufs (V d (cV L) (jV L)) : sProp 𝕄)
      = iprop(((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f))
          ∗ bigSep (ownRefs (τ := τ) (.scVector (cV L) (jV L)) \ refs L) fun b => iprop(∃ f, ((d, b) : Loc nD τ sig) ↦{fullShare} f)) := by
  unfold SparseCore.Cfg.ownBufs
  refine Eq.trans ?_ (congrArg (fun X => iprop(X ∗ _)) (bigSep_refs L fun b => iprop(∃ f, ((d, b) : Loc nD τ sig) ↦{fullShare} f)))
  exact SparseCore.bigSep_sdiff_split' (refs_sub L)

end Tile

end Cert.Proof.Scatter

end
-- ==== Proof.SortTrip.lean ====
/-
  One trip of the scattering loop: sixteen ranks read, and the sixteen values of each of the five rows put where they name.
-/
module

public import proofs.«01_k».proof.Proof.SortSetup

@[expose] public section

noncomputable section

namespace Cert.Proof.Scatter

open Cert.SortIdeal Cert.SortIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Lanes Idealize.ShloMosaic.ValueIdx

variable {F : FTy → Type}

local notation "𝕄" => MT nD τ sig (HIx 1) (Elt F) ℕ UU ℕ

local notation "rV" => (Memref.whole Cert.SortIdeal.main_arg0_scv : Memref Cert.SortIdeal.sig Kind.scVector Space.hbm Cert.SortIdeal.S20x1024 EltTy.i32)
local notation "vV" => (Memref.whole Cert.SortIdeal.main_arg1_scv : Memref Cert.SortIdeal.sig Kind.scVector Space.hbm Cert.SortIdeal.S20x5120 EltTy.f32)
local notation "oV" => (Memref.whole Cert.SortIdeal.main_v0_0_scv : Memref Cert.SortIdeal.sig Kind.scVector Space.hbm Cert.SortIdeal.S20x8192 EltTy.f32)
local notation "pV" => (Memref.whole Cert.SortIdeal.main_v0_1_scv : Memref Cert.SortIdeal.sig Kind.scVector Space.hbm Cert.SortIdeal.S20x8192 EltTy.f32)
local notation "sR" => (Memref.whole Cert.SortIdeal.cc0_scratch0 : Memref Cert.SortIdeal.sig Kind.scVector Space.vmem Cert.SortIdeal.S1024 EltTy.i32)
local notation "sV" => (Memref.whole Cert.SortIdeal.cc0_scratch1 : Memref Cert.SortIdeal.sig Kind.scVector Space.vmem Cert.SortIdeal.S5120 EltTy.f32)
local notation "sO" => (Memref.whole Cert.SortIdeal.cc0_scratch2 : Memref Cert.SortIdeal.sig Kind.scVector Space.vmem Cert.SortIdeal.S8192 EltTy.f32)
local notation "sP" => (Memref.whole Cert.SortIdeal.cc0_scratch3 : Memref Cert.SortIdeal.sig Kind.scVector Space.vmem Cert.SortIdeal.S8192 EltTy.f32)

variable [FloatOps F]

/-! ### The sixteen places of a store -/

section
variable {rk : Nat → BitVec 32} (hR : Ranks rk) {k : Nat} (hk : k < 64) {u : IVec S16 32} (hu : ∀ l : Fin 16, u (lane l) = rk (16 * k + l.val))
include hR hk hu

theorem mask_lane (l : Fin 16) : k0_pay1 (F := F) u (lane l) = 1 := by
  show IntOp.cmpi .slt (u (lane l)) 1024#32 = 1
  have := hR.lt (16 * k + l.val) (by omega)
  rw [hu l]
  show BitVec.ofBool ((rk (16 * k + l.val)).slt 1024#32) = 1
  rw [show (rk (16 * k + l.val)).slt 1024#32 = true from by
    simp only [BitVec.slt_iff_toInt_lt, BitVec.toInt_eq_toNat_cond, BitVec.toNat_ofNat]; split <;> omega]
  rfl

theorem kept_lane (l : Fin 16) : k0_pay2 (F := F) u (lane l) = rk (16 * k + l.val) := by
  show (if k0_pay1 (F := F) u (lane l) = 1 then u (lane l) else 0#32) = _
  rw [if_pos (mask_lane hR hk hu l), hu l]

theorem row_lane {r : Nat} (hr : r < 5) (l : Fin 16) :
    (addi u (broadcast S16 (BitVec.ofNat 32 (r * 1024))) (lane l)).toNat = byRow r (rk (16 * k + l.val)).toNat := by
  show (IntOp.addi (u (lane l)) (BitVec.ofNat 32 (r * 1024))).toNat = _
  rw [hu l]; exact byRow_word (hR.lt _ (by omega)) hr

theorem place_lane {r : Nat} (hr : r < 5) (l : Fin 16) :
    (addi (muli u (broadcast S16 8#32)) (broadcast S16 (BitVec.ofNat 32 r)) (lane l)).toNat = byPlace r (rk (16 * k + l.val)).toNat := by
  show (IntOp.addi (IntOp.muli (u (lane l)) 8#32) (BitVec.ofNat 32 r)).toNat = _
  rw [hu l]; exact byPlace_word (hR.lt _ (by omega)) hr

end

/-- The places of a store lie within the buffer. -/
theorem within {P : Nat → Nat → Nat} (hP : Places P) {rk : Nat → BitVec 32} (hR : Ranks rk) {k : Nat} (hk : k < 64) {q : Nat} (hq : q < 5) {idx : IVec S16 32}
    (hi : ∀ l : Fin 16, (idx (lane l)).toNat = P q (rk (16 * k + l.val)).toNat) (a : Fin 1) (x : S16.Idx) :
    ((![idx] : Fin 1 → IVec S16 32) a x).toNat < S8192.size a := by
  obtain rfl : a = 0 := Subsingleton.elim _ _
  obtain ⟨l, rfl⟩ := lane_eta x
  show (idx (lane l)).toNat < 8192
  rw [hi l]; exact hP.lt _ _ hq (hR.lt _ (by omega))

section
variable (L : grid0.Coords) (d : Dev nD)

/-- An indexed store into `sO`, held whole. -/
theorem put_sO {α : Type} {Q : α → sProp 𝕄} {idxs : Fin S8192.rank → IVec S16 32} {v : Vec F S16 .f32} {mask : IVec S16 1}
    {h : ∀ a x, (idxs a x).toNat < S8192.size a} {hs : ((sO).access (.whole S8192)).Stores Finset.univ}
    {k : PUnit → Prog (TpuEff nD τ sig (Elt F) Λ₀ (.scVector (cV L) (jV L))) α} {f : Buf (Elt F) ((V d (cV L) (jV L)).loc cc0_scratch2)} :
    ((sO).view.loc (V d (cV L) (jV L)) ↦{fullShare} f)
      ⊢ iprop((((sO).view.loc (V d (cV L) (jV L)) ↦{fullShare} (storeIdx (s := S8192) f idxs v mask false h : Vec F S8192 .f32))
          -∗ wp frame (wpE (defs₀ (F := F)) 𝒱₀ (V d (cV L) (jV L)) none) Set.univ (k ⟨⟩) Q)
        -∗ wp frame (wpE (defs₀ (F := F)) 𝒱₀ (V d (cV L) (jV L)) none) Set.univ (SparseCore.vectorStoreIdx sO idxs v mask false h hs >>= k) Q) := by
  have H := SparseCore.wp_vectorStoreIdx (defs := defs₀ (F := F)) (Q := Q) 𝒱₀ (V d (cV L) (jV L)) none Set.univ (base := (sO : Memref sig .scVector .vmem S8192 .f32)) (add := false)
    (idxs := idxs) (v := v) (mask := mask) (h := h) (hs := hs) (k := k) (f := f)
  rw [Memref.set_access_whole, Memref.read_access_whole, Memref.write_access_whole_univ] at H
  exact H

/-- An indexed store into `sP`, held whole. -/
theorem put_sP {α : Type} {Q : α → sProp 𝕄} {idxs : Fin S8192.rank → IVec S16 32} {v : Vec F S16 .f32} {mask : IVec S16 1}
    {h : ∀ a x, (idxs a x).toNat < S8192.size a} {hs : ((sP).access (.whole S8192)).Stores Finset.univ}
    {k : PUnit → Prog (TpuEff nD τ sig (Elt F) Λ₀ (.scVector (cV L) (jV L))) α} {f : Buf (Elt F) ((V d (cV L) (jV L)).loc cc0_scratch3)} :
    ((sP).view.loc (V d (cV L) (jV L)) ↦{fullShare} f)
      ⊢ iprop((((sP).view.loc (V d (cV L) (jV L)) ↦{fullShare} (storeIdx (s := S8192) f idxs v mask false h : Vec F S8192 .f32))
          -∗ wp frame (wpE (defs₀ (F := F)) 𝒱₀ (V d (cV L) (jV L)) none) Set.univ (k ⟨⟩) Q)
        -∗ wp frame (wpE (defs₀ (F := F)) 𝒱₀ (V d (cV L) (jV L)) none) Set.univ (SparseCore.vectorStoreIdx sP idxs v mask false h hs >>= k) Q) := by
  have H := SparseCore.wp_vectorStoreIdx (defs := defs₀ (F := F)) (Q := Q) 𝒱₀ (V d (cV L) (jV L)) none Set.univ (base := (sP : Memref sig .scVector .vmem S8192 .f32)) (add := false)
    (idxs := idxs) (v := v) (mask := mask) (h := h) (hs := hs) (k := k) (f := f)
  rw [Memref.set_access_whole, Memref.read_access_whole, Memref.write_access_whole_univ] at H
  exact H

/-- A row's ranks and values as a tile holds them. -/
def rkOf (f : Vec F S1024 .i32) (j : Nat) : BitVec 32 := f (ix1 ⟨j % 1024, Nat.mod_lt _ (by decide)⟩)
def cvOf (f : Vec F S5120 .f32) (j : Nat) : Elt F .f32 := f (ix1 ⟨j % 5120, Nat.mod_lt _ (by decide)⟩)

/-- The sixteen ranks of trip `k`. -/
abbrev ranks16 (d : Dev nD) (L : grid0.Coords) (k : Fin k0_t1_loop.trips) (h1 : k0_cond1 L = 1#1)
    (fr : Buf (Elt F) ((V d (cV L) (jV L)).loc cc0_scratch0)) : Vec F S16 .i32 :=
  (sR).view.readAt (Elt F) (Rect.unit (s := S1024) (k0_off3 k) S16.size (k0_off3_inb L k h1)).toLoadRect fr

theorem ranks16_eq (k : Fin k0_t1_loop.trips) (h1 : k0_cond1 L = 1#1) (fr : Buf (Elt F) ((V d (cV L) (jV L)).loc cc0_scratch0)) (l : Fin 16) :
    ranks16 d L k h1 fr (lane l) = rkOf fr (16 * k.val + l.val) := by
  have hk : k.val < 64 := k.isLt
  refine congrArg fr (funext fun a => Fin.ext ?_)
  match a with
  | 0 =>
    show k0_off3 k 0 + 1 * l.val = (16 * k.val + l.val) % 1024
    rw [k0_off3_eq]; show 16 * k.val + 1 * l.val = _; omega

/-- A load of sixteen values of row `r`. -/
theorem vals16_eq (k : Fin k0_t1_loop.trips) (fc : Buf (Elt F) ((V d (cV L) (jV L)).loc cc0_scratch1)) (r : Nat) (hr : r < 5)
    {off : Fin S5120.rank → Nat} (e : off 0 = 16 * k.val + r * 1024) {hb} (l : Fin 16) :
    ((sV).view.readAt (Elt F) (Rect.unit (s := S5120) off S16.size hb).toLoadRect fc : Vec F S16 .f32) (lane l) = cvOf fc (r * 1024 + (16 * k.val + l.val)) := by
  have hk : k.val < 64 := k.isLt
  refine congrArg fc (funext fun a => Fin.ext ?_)
  match a with
  | 0 => show off 0 + 1 * l.val = (r * 1024 + (16 * k.val + l.val)) % 5120; omega

set_option maxHeartbeats 2000000 in
/-- One trip: the five rows' next sixteen values are put in their places, by row and by place. -/
theorem trip (h1 : k0_cond1 L = 1#1) (k : Fin k0_t1_loop.trips)
    (fr : Buf (Elt F) ((V d (cV L) (jV L)).loc cc0_scratch0)) (fc : Buf (Elt F) ((V d (cV L) (jV L)).loc cc0_scratch1))
    (fo : Buf (Elt F) ((V d (cV L) (jV L)).loc cc0_scratch2)) (fp : Buf (Elt F) ((V d (cV L) (jV L)).loc cc0_scratch3)) (hR : Ranks (rkOf (F := F) fr))
    (hO : Filled byRow (rkOf (F := F) fr) (cvOf (F := F) fc) k.val 0 fun x => fo (ix1 x))
    (hP : Filled byPlace (rkOf (F := F) fr) (cvOf (F := F) fc) k.val 0 fun x => fp (ix1 x)) :
    iprop(((sR).view.loc (V d (cV L) (jV L)) ↦{fullShare} fr) ∗ ((sV).view.loc (V d (cV L) (jV L)) ↦{fullShare} fc)
        ∗ ((sO).view.loc (V d (cV L) (jV L)) ↦{fullShare} fo) ∗ ((sP).view.loc (V d (cV L) (jV L)) ↦{fullShare} fp))
      ⊢ wp frame (wpE (defs₀ (F := F)) 𝒱₀ (V d (cV L) (jV L)) none) Set.univ
          (k0_t1_body L rV (Memref.isWhole_whole _) vV (Memref.isWhole_whole _) oV (Memref.isWhole_whole _) pV (Memref.isWhole_whole _)
            sR (Memref.isWhole_whole _) sV (Memref.isWhole_whole _) sO (Memref.isWhole_whole _) sP (Memref.isWhole_whole _)
            cc0_scoped0 cc0_scoped1 cc0_scoped2 cc0_scoped3 h1 k ())
          fun _ => (iprop(∃ (fo' : Buf (Elt F) ((V d (cV L) (jV L)).loc cc0_scratch2)) (fp' : Buf (Elt F) ((V d (cV L) (jV L)).loc cc0_scratch3)),
            ((sR).view.loc (V d (cV L) (jV L)) ↦{fullShare} fr) ∗ ((sV).view.loc (V d (cV L) (jV L)) ↦{fullShare} fc)
            ∗ ((sO).view.loc (V d (cV L) (jV L)) ↦{fullShare} fo') ∗ ((sP).view.loc (V d (cV L) (jV L)) ↦{fullShare} fp')
            ∗ ⌜Filled byRow (rkOf (F := F) fr) (cvOf (F := F) fc) (k.val + 1) 0 (fun x => fo' (ix1 x))
              ∧ Filled byPlace (rkOf (F := F) fr) (cvOf (F := F) fc) (k.val + 1) 0 fun x => fp' (ix1 x)⌝) : sProp 𝕄) := by
  have hk : k.val < 64 := k.isLt
  have hu := ranks16_eq L d k h1 fr
  have hm := mask_lane (F := F) hR hk hu
  have hn := kept_lane (F := F) hR hk hu
  have row := fun (r : Nat) (hr : r < 5) => row_lane hR hk hn hr
  have place := fun (r : Nat) (hr : r < 5) => place_lane hR hk hn hr
  unfold k0_t1_body
  simp only [k0_part1_eq_skeleton]
  unfold k0_part1_skel
  simp only [Prog.lift, Prog.bind_op, Prog.bind_ret, Prog.pure_eq_ret, bind_assoc]
  iintro ⟨Hr, Hc, Ho, Hp⟩
  iapply (wp_load 𝒱₀ (V d (cV L) (jV L)) none Set.univ (m := sR) (S := Finset.univ) (Finset.subset_univ _)) $$ Hr; iintro Hr
  iapply (wp_load 𝒱₀ (V d (cV L) (jV L)) none Set.univ (m := sV) (S := Finset.univ) (Finset.subset_univ _)) $$ Hc; iintro Hc
  rw [wp_assume_of _ _ _ _ (show k0_chk1 L (k0_pay3 (ranks16 d L k h1 fr)) from fun _ => within places_byRow hR hk (q := 0) (by decide) (row 0 (by decide)))]
  iapply (put_sO L d) $$ Ho; iintro Ho
  rw [wp_assume_of _ _ _ _ (show k0_chk2 L (k0_pay4 (ranks16 d L k h1 fr)) from fun _ => within places_byPlace hR hk (q := 0) (by decide) (place 0 (by decide)))]
  iapply (put_sP L d) $$ Hp; iintro Hp
  iapply (wp_load 𝒱₀ (V d (cV L) (jV L)) none Set.univ (m := sV) (S := Finset.univ) (Finset.subset_univ _)) $$ Hc; iintro Hc
  rw [wp_assume_of _ _ _ _ (show k0_chk3 L (k0_pay5 (ranks16 d L k h1 fr)) from fun _ => within places_byRow hR hk (q := 1) (by decide) (row 1 (by decide)))]
  iapply (put_sO L d) $$ Ho; iintro Ho
  rw [wp_assume_of _ _ _ _ (show k0_chk4 L (k0_pay6 (ranks16 d L k h1 fr)) from fun _ => within places_byPlace hR hk (q := 1) (by decide) (place 1 (by decide)))]
  iapply (put_sP L d) $$ Hp; iintro Hp
  iapply (wp_load 𝒱₀ (V d (cV L) (jV L)) none Set.univ (m := sV) (S := Finset.univ) (Finset.subset_univ _)) $$ Hc; iintro Hc
  rw [wp_assume_of _ _ _ _ (show k0_chk5 L (k0_pay7 (ranks16 d L k h1 fr)) from fun _ => within places_byRow hR hk (q := 2) (by decide) (row 2 (by decide)))]
  iapply (put_sO L d) $$ Ho; iintro Ho
  rw [wp_assume_of _ _ _ _ (show k0_chk6 L (k0_pay8 (k0_pay2 (ranks16 d L k h1 fr))) from fun _ => within places_byPlace hR hk (q := 2) (by decide) (place 2 (by decide)))]
  iapply (put_sP L d) $$ Hp; iintro Hp
  iapply (wp_load 𝒱₀ (V d (cV L) (jV L)) none Set.univ (m := sV) (S := Finset.univ) (Finset.subset_univ _)) $$ Hc; iintro Hc
  rw [wp_assume_of _ _ _ _ (show k0_chk7 L (k0_pay9 (k0_pay2 (ranks16 d L k h1 fr))) from fun _ => within places_byRow hR hk (q := 3) (by decide) (row 3 (by decide)))]
  iapply (put_sO L d) $$ Ho; iintro Ho
  rw [wp_assume_of _ _ _ _ (show k0_chk8 L (k0_pay10 (k0_pay2 (ranks16 d L k h1 fr))) from fun _ => within places_byPlace hR hk (q := 3) (by decide) (place 3 (by decide)))]
  iapply (put_sP L d) $$ Hp; iintro Hp
  iapply (wp_load 𝒱₀ (V d (cV L) (jV L)) none Set.univ (m := sV) (S := Finset.univ) (Finset.subset_univ _)) $$ Hc; iintro Hc
  rw [wp_assume_of _ _ _ _ (show k0_chk9 L (k0_pay11 (k0_pay2 (ranks16 d L k h1 fr))) from fun _ => within places_byRow hR hk (q := 4) (by decide) (row 4 (by decide)))]
  iapply (put_sO L d) $$ Ho; iintro Ho
  rw [wp_assume_of _ _ _ _ (show k0_chk10 L (k0_pay12 (k0_pay2 (ranks16 d L k h1 fr))) from fun _ => within places_byPlace hR hk (q := 4) (by decide) (place 4 (by decide)))]
  iapply (put_sP L d) $$ Hp; iintro Hp
  rw [wp_ret]
  imodintro
  iexists _, _
  isplitl [Hr]; · iexact Hr
  isplitl [Hc]; · iexact Hc
  isplitl [Ho]; · iexact Ho
  isplitl [Hp]; · iexact Hp
  ipureintro
  have v0 := vals16_eq L d k fc 0 (by decide) (congrFun (k0_off4_eq k) 0) (hb := k0_off4_inb L k h1)
  have v1 := vals16_eq L d k fc 1 (by decide) (congrFun (k0_off5_eq k) 0) (hb := k0_off5_inb L k h1)
  have v2 := vals16_eq L d k fc 2 (by decide) (congrFun (k0_off6_eq k) 0) (hb := k0_off6_inb L k h1)
  have v3 := vals16_eq L d k fc 3 (by decide) (congrFun (k0_off7_eq k) 0) (hb := k0_off7_inb L k h1)
  have v4 := vals16_eq L d k fc 4 (by decide) (congrFun (k0_off8_eq k) 0) (hb := k0_off8_inb L k h1)
  constructor
  · have s0 := hO.store places_byRow hR (within places_byRow hR hk (by decide) (row 0 (by decide))) hk (by decide) hm (row 0 (by decide)) v0
    have s1 := s0.store places_byRow hR (within places_byRow hR hk (by decide) (row 1 (by decide))) hk (by decide) hm (row 1 (by decide)) v1
    have s2 := s1.store places_byRow hR (within places_byRow hR hk (by decide) (row 2 (by decide))) hk (by decide) hm (row 2 (by decide)) v2
    have s3 := s2.store places_byRow hR (within places_byRow hR hk (by decide) (row 3 (by decide))) hk (by decide) hm (row 3 (by decide)) v3
    exact (s3.store places_byRow hR (within places_byRow hR hk (by decide) (row 4 (by decide))) hk (by decide) hm (row 4 (by decide)) v4).next
  · have s0 := hP.store places_byPlace hR (within places_byPlace hR hk (by decide) (place 0 (by decide))) hk (by decide) hm (place 0 (by decide)) v0
    have s1 := s0.store places_byPlace hR (within places_byPlace hR hk (by decide) (place 1 (by decide))) hk (by decide) hm (place 1 (by decide)) v1
    have s2 := s1.store places_byPlace hR (within places_byPlace hR hk (by decide) (place 2 (by decide))) hk (by decide) hm (place 2 (by decide)) v2
    have s3 := s2.store places_byPlace hR (within places_byPlace hR hk (by decide) (place 3 (by decide))) hk (by decide) hm (place 3 (by decide)) v3
    exact (s3.store places_byPlace hR (within places_byPlace hR hk (by decide) (place 4 (by decide))) hk (by decide) hm (place 4 (by decide)) v4).next

end

end Cert.Proof.Scatter

end
-- ==== Proof.SortTile.lean ====
/-
  One tile of the scattering call: its row of ranks and of values copied in, scattered, and the two results' rows copied out.
-/
module

public import proofs.«01_k».proof.Proof.SortTrip

@[expose] public section

noncomputable section

namespace Cert.Proof.Scatter

open Cert.SortIdeal Cert.SortIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Lanes Idealize.ShloMosaic.ValueIdx

variable {F : FTy → Type}

local notation "𝕄" => MT nD τ sig (HIx 1) (Elt F) ℕ UU ℕ

local notation "rV" => (Memref.whole Cert.SortIdeal.main_arg0_scv : Memref Cert.SortIdeal.sig Kind.scVector Space.hbm Cert.SortIdeal.S20x1024 EltTy.i32)
local notation "vV" => (Memref.whole Cert.SortIdeal.main_arg1_scv : Memref Cert.SortIdeal.sig Kind.scVector Space.hbm Cert.SortIdeal.S20x5120 EltTy.f32)
local notation "oV" => (Memref.whole Cert.SortIdeal.main_v0_0_scv : Memref Cert.SortIdeal.sig Kind.scVector Space.hbm Cert.SortIdeal.S20x8192 EltTy.f32)
local notation "pV" => (Memref.whole Cert.SortIdeal.main_v0_1_scv : Memref Cert.SortIdeal.sig Kind.scVector Space.hbm Cert.SortIdeal.S20x8192 EltTy.f32)
local notation "sR" => (Memref.whole Cert.SortIdeal.cc0_scratch0 : Memref Cert.SortIdeal.sig Kind.scVector Space.vmem Cert.SortIdeal.S1024 EltTy.i32)
local notation "sV" => (Memref.whole Cert.SortIdeal.cc0_scratch1 : Memref Cert.SortIdeal.sig Kind.scVector Space.vmem Cert.SortIdeal.S5120 EltTy.f32)
local notation "sO" => (Memref.whole Cert.SortIdeal.cc0_scratch2 : Memref Cert.SortIdeal.sig Kind.scVector Space.vmem Cert.SortIdeal.S8192 EltTy.f32)
local notation "sP" => (Memref.whole Cert.SortIdeal.cc0_scratch3 : Memref Cert.SortIdeal.sig Kind.scVector Space.vmem Cert.SortIdeal.S8192 EltTy.f32)

variable [FloatOps F]

/-! ### What a row of the results holds -/

/-- Row `w`'s ranks and values. -/
def rankAt (fr : Vec F S20x1024 .i32) (w : Fin 20) (j : Nat) : BitVec 32 := fr (ix2 w ⟨j % 1024, Nat.mod_lt _ (by decide)⟩)
def candAt (fc : Vec F S20x5120 .f32) (w : Fin 20) (j : Nat) : Elt F .f32 := fc (ix2 w ⟨j % 5120, Nat.mod_lt _ (by decide)⟩)

/-- Row `w` of both results holds every value of the row where its rank says. -/
def RowOk (fr : Vec F S20x1024 .i32) (fc : Vec F S20x5120 .f32) (w : Fin 20) (go gp : Vec F S20x8192 .f32) : Prop :=
  Filled byRow (rankAt (F := F) fr w) (candAt (F := F) fc w) 64 0 (fun x => go (ix2 w x))
    ∧ Filled byPlace (rankAt (F := F) fr w) (candAt (F := F) fc w) 64 0 fun x => gp (ix2 w x)

section
variable (L : grid0.Coords) (hw : wid L < 20) (d : Dev nD) (h1 : k0_cond1 L = 1#1)
variable (fr : Buf (Elt F) (rLoc d)) (fc : Buf (Elt F) (cLoc d))
variable (gr : Buf (Elt F) ((V d (cV L) (jV L)).loc cc0_scratch0)) (gc : Buf (Elt F) ((V d (cV L) (jV L)).loc cc0_scratch1))

/-! ### A row copied in, and out -/

abbrev inR : Buf (Elt F) ((V d (cV L) (jV L)).loc cc0_scratch0) := (sR).view.write (Elt F) gr ((rP L h1).view.read (Elt F) fr) Finset.univ
abbrev inC : Buf (Elt F) ((V d (cV L) (jV L)).loc cc0_scratch1) := (sV).view.write (Elt F) gc ((cP L h1).view.read (Elt F) fc) Finset.univ

theorem inR_at : rkOf (F := F) (inR L d h1 fr gr) = rankAt (F := F) fr ⟨wid L, hw⟩ := by
  funext j
  unfold rkOf rankAt
  rw [show inR L d h1 fr gr = (rP L h1).view.read (Elt F) fr from View.write_whole_univ _ _ _]
  exact congrArg fr (emb_rP L hw h1 _)
theorem inC_at : cvOf (F := F) (inC L d h1 fc gc) = candAt (F := F) fc ⟨wid L, hw⟩ := by
  funext j
  unfold cvOf candAt
  rw [show inC L d h1 fc gc = (cP L h1).view.read (Elt F) fc from View.write_whole_univ _ _ _]
  exact congrArg fc (emb_cP L hw h1 _)

variable (fo : Buf (Elt F) (oLoc d)) (fp : Buf (Elt F) (pLoc d))
  (so : Buf (Elt F) ((V d (cV L) (jV L)).loc cc0_scratch2)) (sp : Buf (Elt F) ((V d (cV L) (jV L)).loc cc0_scratch3))

abbrev outO : Buf (Elt F) (oLoc d) := (oP L h1).view.write (Elt F) fo ((sO).view.read (Elt F) so) Finset.univ
abbrev outP : Buf (Elt F) (pLoc d) := (pP L h1).view.write (Elt F) fp ((sP).view.read (Elt F) sp) Finset.univ

theorem outO_at (j : Fin 8192) : outO L d h1 fo so (ix2 ⟨wid L, hw⟩ j) = so (ix1 j) := by
  refine Eq.trans (congrArg (outO L d h1 fo so) (emb_oP L hw h1 j).symm) ?_
  have e : (sO).view.read (Elt F) so = so := View.read_whole _ _
  unfold outO; rw [e]
  exact (View.write_emb_of_mem (v := (oP L h1).view) (Val := Elt F) fo so (Finset.mem_univ (ix1 j))).trans (cast_eq _ _)
theorem outP_at (j : Fin 8192) : outP L d h1 fp sp (ix2 ⟨wid L, hw⟩ j) = sp (ix1 j) := by
  refine Eq.trans (congrArg (outP L d h1 fp sp) (emb_pP L hw h1 j).symm) ?_
  have e : (sP).view.read (Elt F) sp = sp := View.read_whole _ _
  unfold outP; rw [e]
  exact (View.write_emb_of_mem (v := (pP L h1).view) (Val := Elt F) fp sp (Finset.mem_univ (ix1 j))).trans (cast_eq _ _)

theorem rowOk_out
    (hO : Filled byRow (rkOf (F := F) (inR L d h1 fr gr)) (cvOf (F := F) (inC L d h1 fc gc)) 64 0 fun x => so (ix1 x))
    (hP : Filled byPlace (rkOf (F := F) (inR L d h1 fr gr)) (cvOf (F := F) (inC L d h1 fc gc)) 64 0 fun x => sp (ix1 x)) :
    RowOk fr fc ⟨wid L, hw⟩ (outO L d h1 fo so) (outP L d h1 fp sp) := by
  rw [inR_at L hw, inC_at L hw] at hO hP
  exact ⟨fun r hr j hj x hx => (outO_at L hw d h1 fo so x).trans (hO r hr j hj x hx), fun r hr j hj x hx => (outP_at L hw d h1 fp sp x).trans (hP r hr j hj x hx)⟩

end

section
variable (L : grid0.Coords) (d : Dev nD)

/-- What the loop keeps: the row as it was copied in, and the two buffers filled as far as the ranks read. -/
def inv (fr : Buf (Elt F) ((V d (cV L) (jV L)).loc cc0_scratch0)) (fc : Buf (Elt F) ((V d (cV L) (jV L)).loc cc0_scratch1))
    (n : Nat) (_ : Unit) : sProp 𝕄 :=
  iprop(∃ (so : Buf (Elt F) ((V d (cV L) (jV L)).loc cc0_scratch2)) (sp : Buf (Elt F) ((V d (cV L) (jV L)).loc cc0_scratch3)),
    ((sR).view.loc (V d (cV L) (jV L)) ↦{fullShare} fr) ∗ ((sV).view.loc (V d (cV L) (jV L)) ↦{fullShare} fc)
    ∗ ((sO).view.loc (V d (cV L) (jV L)) ↦{fullShare} so) ∗ ((sP).view.loc (V d (cV L) (jV L)) ↦{fullShare} sp)
    ∗ ⌜Filled byRow (rkOf (F := F) fr) (cvOf (F := F) fc) n 0 (fun x => so (ix1 x)) ∧ Filled byPlace (rkOf (F := F) fr) (cvOf (F := F) fc) n 0 fun x => sp (ix1 x)⌝)

variable (fr : Buf (Elt F) (rLoc d)) (fc : Buf (Elt F) (cLoc d))

theorem tile_active (hF : (K (F := F)).Facts) (hw : wid L < 20) (hR : Ranks (rankAt (F := F) fr ⟨wid L, hw⟩))
    (O : CellTallies nD τ sig (HIx 1)) (W : Waits sig (HIx 1)) (hO : ∀ g, O g none = 0) (fo : Buf (Elt F) (oLoc d)) (fp : Buf (Elt F) (pLoc d)) :
    iprop(levAts (K (F := F)).L (K (F := F)).lev
        ∗ ((rLoc d ↦[rSet ⟨wid L, hw⟩]{fullShare} fr) ∗ (cLoc d ↦[cSet ⟨wid L, hw⟩]{fullShare} fc)
          ∗ (oLoc d ↦[oSet ⟨wid L, hw⟩]{fullShare} fo) ∗ (pLoc d ↦[oSet ⟨wid L, hw⟩]{fullShare} fp))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_scatter L rV (Memref.isWhole_whole _) vV (Memref.isWhole_whole _) oV (Memref.isWhole_whole _) pV (Memref.isWhole_whole _)
            sR (Memref.isWhole_whole _) sV (Memref.isWhole_whole _) sO (Memref.isWhole_whole _) sP (Memref.isWhole_whole _)
            cc0_scoped0 cc0_scoped1 cc0_scoped2 cc0_scoped3)
          fun _ => (iprop((∃ (fo' : Buf (Elt F) (oLoc d)) (fp' : Buf (Elt F) (pLoc d)),
              (rLoc d ↦[rSet ⟨wid L, hw⟩]{fullShare} fr) ∗ (cLoc d ↦[cSet ⟨wid L, hw⟩]{fullShare} fc)
              ∗ (oLoc d ↦[oSet ⟨wid L, hw⟩]{fullShare} fo') ∗ (pLoc d ↦[oSet ⟨wid L, hw⟩]{fullShare} fp')
              ∗ ⌜RowOk (F := F) fr fc ⟨wid L, hw⟩ fo' fp'⌝)
            ∗ scopedBufs (V d (cV L) (jV L)) ∗ scopedSems0 (V d (cV L) (jV L))
            ∗ ∃ W' : Waits sig (HIx 1), ⌜∀ p ∈ W', p ∈ W ∨ p.2 = none ∨ p.2 = some (0 : Fin 1)⌝ ∗ owes (V d (cV L) (jV L)) O W') : sProp 𝕄) := by
  have h1 : k0_cond1 L = 1#1 := (cond_iff L).mpr hw
  unfold cc0_sc_scatter
  simp only [k0_part2_eq_skeleton]
  rw [dif_pos h1]
  unfold k0_part2_skel
  simp only [Prog.lift, Prog.bind_op, Prog.bind_ret, Prog.pure_eq_ret, bind_assoc]
  rw [(K (F := F)).scopedBufs_V hF d (cV L) (jV L), SparseCore.Cfg.scopedSems0_V (Val := Elt F) d (cV L) (jV L), ownSems0_V, ownBufs_V]
  iintro ⟨#Hlv, ⟨Hr, Hc, Ho, Hp⟩, ⟨⟨⟨%gr, HsR⟩, ⟨%gc, HsC⟩, ⟨%go, HsO⟩, ⟨%gp, HsP⟩⟩, Hbufs⟩, ⟨⟨Hm0, Hm1, Hm2, Hm3⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hr' := (Entails.of_eq (pts_rP (F := F) L hw d h1 _).symm) $$ Hr
  ihave Hc' := (Entails.of_eq (pts_cP (F := F) L hw d h1 _).symm) $$ Hc
  ihave Ho' := (Entails.of_eq (pts_oP (F := F) L hw d h1 _).symm) $$ Ho
  ihave Hp' := (Entails.of_eq (pts_pP (F := F) L hw d h1 _).symm) $$ Hp
  ihave HsR' := (show ((V d (cV L) (jV L)).loc cc0_scratch0 ↦{fullShare} gr : sProp 𝕄) ⊢ ((sR).view.loc (V d (cV L) (jV L)) ↦{fullShare} gr) from .rfl) $$ HsR
  ihave HsC' := (show ((V d (cV L) (jV L)).loc cc0_scratch1 ↦{fullShare} gc : sProp 𝕄) ⊢ ((sV).view.loc (V d (cV L) (jV L)) ↦{fullShare} gc) from .rfl) $$ HsC
  ihave HsO' := (show ((V d (cV L) (jV L)).loc cc0_scratch2 ↦{fullShare} go : sProp 𝕄) ⊢ ((sO).view.loc (V d (cV L) (jV L)) ↦{fullShare} go) from .rfl) $$ HsO
  ihave HsP' := (show ((V d (cV L) (jV L)).loc cc0_scratch3 ↦{fullShare} gp : sProp 𝕄) ⊢ ((sP).view.loc (V d (cV L) (jV L)) ↦{fullShare} gp) from .rfl) $$ HsP
  sl_exec (disch := first | exact View.amount_pos _ _ (show 0 < S1024.numel by decide) | exact View.amount_pos _ _ (show 0 < S5120.numel by decide))
  sl_for (inv L d (inR L d h1 fr gr) (inC L d h1 fc gc)) $$ [HsR' HsC' HsO' HsP']
  case region =>
    intro k acc
    unfold inv
    iintro ⟨%so, %sp, HR, HC, HO', HP, %hG⟩
    iapply (trip L d h1 k (inR L d h1 fr gr) (inC L d h1 fc gc) so sp (by rw [inR_at L hw]; exact hR) hG.1 hG.2)
    isplitl [HR]; · iexact HR
    isplitl [HC]; · iexact HC
    isplitl [HO']; · iexact HO'
    iexact HP
  · unfold inv
    iexists go, gp
    isplitl [HsR']; · iexact HsR'
    isplitl [HsC']; · iexact HsC'
    isplitl [HsO']; · iexact HsO'
    isplitl [HsP']; · iexact HsP'
    ipureintro; exact ⟨Filled.zero, Filled.zero⟩
  iintro %acc Hinv
  unfold inv
  icases Hinv with ⟨%so, %sp, HsR, HsC, HsO, HsP, %hG⟩
  sl_exec (disch := exact View.amount_pos _ _ (show 0 < S8192.numel by decide))
  sl_step
  have eo : (oP L h1).view.writes (Elt F) fo [⟨Rect.whole S8192, tile_active.sl.dma0_2 L d so⟩] = outO L d h1 fo so := by
    rw [← View.write_univ_eq_writes_whole, View.writes_nil]; rfl
  have ep : (pP L h1).view.writes (Elt F) fp [⟨Rect.whole S8192, tile_active.sl.dma0_3 L d sp⟩] = outP L d h1 fp sp := by
    rw [← View.write_univ_eq_writes_whole, View.writes_nil]; rfl
  ihave Ho := (show ((oP L h1).view.loc (V d (cV L) (jV L)) ↦[(oP L h1).view.set]{fullShare} (oP L h1).view.writes (Elt F) fo [⟨Rect.whole S8192, tile_active.sl.dma0_2 L d so⟩] : sProp 𝕄)
      ⊢ (oLoc d ↦[oSet ⟨wid L, hw⟩]{fullShare} outO L d h1 fo so) from Entails.of_eq (by rw [eo, pts_oP L hw])) $$ Ho'
  ihave Hp := (show ((pP L h1).view.loc (V d (cV L) (jV L)) ↦[(pP L h1).view.set]{fullShare} (pP L h1).view.writes (Elt F) fp [⟨Rect.whole S8192, tile_active.sl.dma0_3 L d sp⟩] : sProp 𝕄)
      ⊢ (pLoc d ↦[oSet ⟨wid L, hw⟩]{fullShare} outP L d h1 fp sp) from Entails.of_eq (by rw [ep, pts_pP L hw])) $$ Hp'
  isplitl [Hr' Hc' Ho Hp]
  · iexists outO L d h1 fo so, outP L d h1 fp sp
    isplitl [Hr']; · iapply (Entails.of_eq (pts_rP (F := F) L hw d h1 _)); iexact Hr'
    isplitl [Hc']; · iapply (Entails.of_eq (pts_cP (F := F) L hw d h1 _)); iexact Hc'
    isplitl [Ho]; · iexact Ho
    isplitl [Hp]; · iexact Hp
    ipureintro
    exact rowOk_out L hw d h1 fr fc gr gc fo fp so sp hG.1 hG.2
  isplitl [HsR HsC HsO HsP Hbufs]
  · isplitr [Hbufs]
    · isplitl [HsR]; · iexists _; iexact HsR
      isplitl [HsC]; · iexists _; iexact HsC
      isplitl [HsO]; · iexists _; iexact HsO
      iexists _; iexact HsP
    · iexact Hbufs
  isplitl [Hm0 Hm1 Hm2 Hm3 Hsems]
  · isplitr [Hsems]
    · isplitl [Hm0]; · iexact Hm0
      isplitl [Hm1]; · iexact Hm1
      isplitl [Hm2]; · iexact Hm2
      iexact Hm3
    · iexact Hsems
  iexists _; isplitr
  swap; · iexact HO
  ipureintro; intro p _
  rcases p.2 with _ | q
  · exact .inr (.inl rfl)
  · exact .inr (.inr (congrArg some (Subsingleton.elim q 0)))

/-- A tile with no row leaves everything as it was. -/
theorem tile_idle (hw : ¬ wid L < 20) (O : CellTallies nD τ sig (HIx 1)) (W : Waits sig (HIx 1)) :
    iprop(scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_scatter L rV (Memref.isWhole_whole _) vV (Memref.isWhole_whole _) oV (Memref.isWhole_whole _) pV (Memref.isWhole_whole _)
            sR (Memref.isWhole_whole _) sV (Memref.isWhole_whole _) sO (Memref.isWhole_whole _) sP (Memref.isWhole_whole _)
            cc0_scoped0 cc0_scoped1 cc0_scoped2 cc0_scoped3)
          fun _ => (iprop(scopedBufs (V d (cV L) (jV L)) ∗ scopedSems0 (V d (cV L) (jV L))
            ∗ ∃ W' : Waits sig (HIx 1), ⌜∀ p ∈ W', p ∈ W ∨ p.2 = none ∨ p.2 = some (0 : Fin 1)⌝ ∗ owes (V d (cV L) (jV L)) O W') : sProp 𝕄) := by
  have h1 : ¬ k0_cond1 L = 1#1 := fun h => hw ((cond_iff L).mp h)
  unfold cc0_sc_scatter
  rw [dif_neg h1]
  iintro ⟨Hb, Hs, HO⟩
  sl_step
  isplitl [Hb]; · iexact Hb
  isplitl [Hs]; · iexact Hs
  iexists W; isplitr
  · ipureintro; exact fun p hp => .inl hp
  · iexact HO

end

end Cert.Proof.Scatter

end
-- ==== Proof.SortPay.lean ====
/-
  What the scattering call's tiles are handed and hand back, and that the launch's task is the tile's.
-/
module

public import proofs.«01_k».proof.Proof.SortTile

@[expose] public section

noncomputable section

namespace Cert.Proof.Scatter

open Cert.SortIdeal Cert.SortIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Lanes Idealize.ShloMosaic.ValueIdx

variable {F : FTy → Type}

local notation "𝕄" => MT nD τ sig (HIx 1) (Elt F) ℕ UU ℕ

local notation "rV" => (Memref.whole Cert.SortIdeal.main_arg0_scv : Memref Cert.SortIdeal.sig Kind.scVector Space.hbm Cert.SortIdeal.S20x1024 EltTy.i32)
local notation "vV" => (Memref.whole Cert.SortIdeal.main_arg1_scv : Memref Cert.SortIdeal.sig Kind.scVector Space.hbm Cert.SortIdeal.S20x5120 EltTy.f32)
local notation "oV" => (Memref.whole Cert.SortIdeal.main_v0_0_scv : Memref Cert.SortIdeal.sig Kind.scVector Space.hbm Cert.SortIdeal.S20x8192 EltTy.f32)
local notation "pV" => (Memref.whole Cert.SortIdeal.main_v0_1_scv : Memref Cert.SortIdeal.sig Kind.scVector Space.hbm Cert.SortIdeal.S20x8192 EltTy.f32)
local notation "sR" => (Memref.whole Cert.SortIdeal.cc0_scratch0 : Memref Cert.SortIdeal.sig Kind.scVector Space.vmem Cert.SortIdeal.S1024 EltTy.i32)
local notation "sV" => (Memref.whole Cert.SortIdeal.cc0_scratch1 : Memref Cert.SortIdeal.sig Kind.scVector Space.vmem Cert.SortIdeal.S5120 EltTy.f32)
local notation "sO" => (Memref.whole Cert.SortIdeal.cc0_scratch2 : Memref Cert.SortIdeal.sig Kind.scVector Space.vmem Cert.SortIdeal.S8192 EltTy.f32)
local notation "sP" => (Memref.whole Cert.SortIdeal.cc0_scratch3 : Memref Cert.SortIdeal.sig Kind.scVector Space.vmem Cert.SortIdeal.S8192 EltTy.f32)

variable [FloatOps F]

variable (m : (ℓ : Loc nD τ sig) → Buf (Elt F) ℓ)

def inRow (d : Dev nD) (w : Fin 20) : sProp 𝕄 :=
  iprop((rLoc d ↦[rSet w]{fullShare} m (rLoc d)) ∗ (cLoc d ↦[cSet w]{fullShare} m (cLoc d))
    ∗ (oLoc d ↦[oSet w]{fullShare} m (oLoc d)) ∗ (pLoc d ↦[oSet w]{fullShare} m (pLoc d)))

def outRow (d : Dev nD) (w : Fin 20) : sProp 𝕄 :=
  iprop(∃ (fo : Buf (Elt F) (oLoc d)) (fp : Buf (Elt F) (pLoc d)),
    (rLoc d ↦[rSet w]{fullShare} m (rLoc d)) ∗ (cLoc d ↦[cSet w]{fullShare} m (cLoc d))
      ∗ (oLoc d ↦[oSet w]{fullShare} fo) ∗ (pLoc d ↦[oSet w]{fullShare} fp)
    ∗ ⌜RowOk (m (rLoc d)) (m (cLoc d)) w fo fp⌝)

/-- A task's share: a row if there is one of its number, nothing otherwise. -/
def pick (Φ : Fin 20 → sProp 𝕄) (n : Nat) : sProp 𝕄 := if h : n < 20 then Φ ⟨n, h⟩ else iprop(emp)

instance pick_storable (Φ : Fin 20 → sProp 𝕄) [∀ w, BI.Storable (upEmb : UEmb _ 𝕄) (Φ w)] (n : Nat) : BI.Storable (upEmb : UEmb _ 𝕄) (pick Φ n) := by
  unfold pick; split <;> infer_instance
instance inRow_storable (d : Dev nD) (w : Fin 20) : BI.Storable (upEmb : UEmb _ 𝕄) (inRow m d w) := by unfold inRow; infer_instance
instance outRow_storable (d : Dev nD) (w : Fin 20) : BI.Storable (upEmb : UEmb _ 𝕄) (outRow m d w) := by unfold outRow; infer_instance

def P : (K (F := F)).Pay (nD := nD) (Val := Elt F) (Name := ℕ) (U := UU) where
  st := fun _ d c => bigSep Finset.univ fun i : Fin 16 => pick (inRow m d) (2 * i.val + c.val)
  dn := fun _ d c => bigSep Finset.univ fun i : Fin 16 => pick (outRow m d) (2 * i.val + c.val)
  go := fun _ d c i => pick (inRow m d) (2 * i.val + c.val)
  td := fun _ d c i => pick (outRow m d) (2 * i.val + c.val)
  x := fun _ _ => iprop(emp)

instance P_storable : (P m).IsStorable where
  st _ d c := (inferInstance : BI.Storable (upEmb : UEmb _ 𝕄) (bigSep Finset.univ fun i : Fin 16 => pick (inRow m d) (2 * i.val + c.val)))
  dn _ d c := (inferInstance : BI.Storable (upEmb : UEmb _ 𝕄) (bigSep Finset.univ fun i : Fin 16 => pick (outRow m d) (2 * i.val + c.val)))
  go _ d c i := pick_storable (inRow m d) _
  td _ d c i := pick_storable (outRow m d) _

/-! ## The task is the launch's -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_scatter (coordsV c s)
          rV (Memref.isWhole_whole _) vV (Memref.isWhole_whole _) oV (Memref.isWhole_whole _) pV (Memref.isWhole_whole _)
            sR (Memref.isWhole_whole _) sV (Memref.isWhole_whole _) sO (Memref.isWhole_whole _) sP (Memref.isWhole_whole _)
            cc0_scoped0 cc0_scoped1 cc0_scoped2 cc0_scoped3) ⟨⟩ c s := rfl

variable (hR : ∀ (d : Dev nD) w, Ranks (rankAt (F := F) (m (rLoc d)) w))
include hR

theorem tile_any (hF : (K (F := F)).Facts) (d : Dev nD) (L : grid0.Coords) (O : CellTallies nD τ sig (HIx 1)) (W : Waits sig (HIx 1)) (hO : ∀ g, O g none = 0) :
    iprop(levAts (K (F := F)).L (K (F := F)).lev ∗ emp ∗ pick (inRow m d) (wid L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_scatter L rV (Memref.isWhole_whole _) vV (Memref.isWhole_whole _) oV (Memref.isWhole_whole _) pV (Memref.isWhole_whole _)
            sR (Memref.isWhole_whole _) sV (Memref.isWhole_whole _) sO (Memref.isWhole_whole _) sP (Memref.isWhole_whole _)
            cc0_scoped0 cc0_scoped1 cc0_scoped2 cc0_scoped3)
          fun _ => (iprop(pick (outRow m d) (wid L) ∗ scopedBufs (V d (cV L) (jV L)) ∗ scopedSems0 (V d (cV L) (jV L))
            ∗ ∃ W' : Waits sig (HIx 1), ⌜∀ p ∈ W', p ∈ W ∨ p.2 = none ∨ p.2 = some (0 : Fin 1)⌝ ∗ owes (V d (cV L) (jV L)) O W') : sProp 𝕄) := by
  unfold pick
  by_cases hw : wid L < 20
  · rw [dif_pos hw, dif_pos hw]
    unfold inRow outRow
    iintro ⟨Hlev, -, Hin, Hsb, Hss, How⟩
    iapply (tile_active L d (m (rLoc d)) (m (cLoc d)) hF hw (hR d _) O W hO (m (oLoc d)) (m (pLoc d))) $$ [Hlev Hin Hsb Hss How]
    isplitl [Hlev]; · iexact Hlev
    isplitl [Hin]; · iexact Hin
    isplitl [Hsb]; · iexact Hsb
    isplitl [Hss]; · iexact Hss
    iexact How
  · rw [dif_neg hw, dif_neg hw]
    iintro ⟨-, -, -, Hsb, Hss, How⟩
    iapply (wp_mono frame (wpE (defs₀ (F := F)) 𝒱₀ (V d (cV L) (jV L)) none) Set.univ (fun _ => Entails.of_eq (BI.equiv_iff.mp BI.emp_sep).symm))
    iapply (tile_idle L d hw O W) $$ [Hsb Hss How]
    isplitl [Hsb]; · iexact Hsb
    isplitl [Hss]; · iexact Hss
    iexact How

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_any m hR hF d (coordsV ⟨_, hci.1⟩ ⟨_, hci.2⟩) O W hO

omit hR in
theorem vecSplit : (K (F := F)).VecSplit' (P m) 0 := by
  intro d c
  show iprop(bigSep Finset.univ fun i : Fin 16 => pick (inRow m d) (2 * i.val + c.val)) ⊢ |={Set.univ}=> iprop(
      (bigSep Finset.univ fun i : Fin 16 => pick (inRow m d) (2 * i.val + c.val))
      ∗ ((bigSep Finset.univ fun i : Fin 16 => pick (outRow m d) (2 * i.val + c.val))
          -∗ bigSep Finset.univ fun i : Fin 16 => pick (outRow m d) (2 * i.val + c.val)))
  iintro H; imodintro
  isplitl [H]; · iexact H
  iintro H; iexact H

end Cert.Proof.Scatter

end
-- ==== Proof.SortLaunch.lean ====
/-
  The scattering call launched: rows dealt to the tiles and joined again, @main's run, and what it leaves.
-/
module

public import proofs.«01_k».proof.Proof.SortPay
public import Idealize.ShloMosaic.Lib.Pipeline.Frame

@[expose] public section

noncomputable section

namespace Cert.Proof.Scatter

open Cert.SortIdeal Cert.SortIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Lanes Idealize.ShloMosaic.ValueIdx

variable {F : FTy → Type}

local notation "𝕄" => MT nD τ sig (HIx 1) (Elt F) ℕ UU ℕ

open Idealize.ShloMosaic.StableHlo (held held_sub_split held_congr after wp_seq seq)

/-! ## Rows of the arrays, and the arrays whole -/

theorem mem_row {n : Nat} (w : Fin 20) (x : Fin n) : ix2 w x ∈ (row n w).set := by
  refine (LoadRect.mem_set _).mpr fun a => ?_
  match a with
  | 0 => exact ⟨0, by simp [row, Rect.part, Rect.block, Shape.partSize], by
      show w.val = Shape.partIx _ _ _ _ * Shape.partSize _ _ _ _ + 1 * 0
      simp [Shape.partIx, Shape.partSize]⟩
  | 1 => exact ⟨x.val, by simp [row, Rect.part, Rect.block, Shape.partSize], by
      show x.val = Shape.partIx _ _ _ _ * Shape.partSize _ _ _ _ + 1 * x.val
      simp [Shape.partIx, Shape.partSize]⟩

section
variable {n : Nat}
theorem rows_disjoint : ∀ i ∈ (Finset.univ : Finset (Fin 20)), ∀ j ∈ (Finset.univ : Finset (Fin 20)), i ≠ j → Disjoint (row n i).set (row n j).set :=
  fun _ _ _ _ h => Rect.part_disjoint twenty_dvd h
theorem rows_cover : ((Finset.univ : Finset (Fin 20)).biUnion fun w => (row n w).set) = Finset.univ := Rect.biUnion_part twenty_dvd
end

section
variable (d : Dev nD)
theorem rRows (f : Buf (Elt F) (rLoc d)) : (rLoc d ↦{fullShare} f : sProp 𝕄) = bigSep Finset.univ fun w : Fin 20 => rLoc d ↦[rSet w]{fullShare} f := by
  rw [← pointsTo_biUnion Finset.univ (ℓ := rLoc d) rSet rows_disjoint, rows_cover]; try rfl
theorem cRows (f : Buf (Elt F) (cLoc d)) : (cLoc d ↦{fullShare} f : sProp 𝕄) = bigSep Finset.univ fun w : Fin 20 => cLoc d ↦[cSet w]{fullShare} f := by
  rw [← pointsTo_biUnion Finset.univ (ℓ := cLoc d) cSet rows_disjoint, rows_cover]; try rfl
theorem oRows (f : Buf (Elt F) (oLoc d)) : (oLoc d ↦{fullShare} f : sProp 𝕄) = bigSep Finset.univ fun w : Fin 20 => oLoc d ↦[oSet w]{fullShare} f := by
  rw [← pointsTo_biUnion Finset.univ (ℓ := oLoc d) oSet rows_disjoint, rows_cover]; try rfl
theorem pRows (f : Buf (Elt F) (pLoc d)) : (pLoc d ↦{fullShare} f : sProp 𝕄) = bigSep Finset.univ fun w : Fin 20 => pLoc d ↦[oSet w]{fullShare} f := by
  rw [← pointsTo_biUnion Finset.univ (ℓ := pLoc d) oSet rows_disjoint, rows_cover]; try rfl
end

/-- The tasks' numbers: two cores of sixteen tiles each count up to 32. -/
theorem deal_tasks (Ψ : Nat → sProp 𝕄) :
    (bigSep Finset.univ fun c : Fin 2 => bigSep Finset.univ fun i : Fin 16 => Ψ (2 * i.val + c.val)) = bigSep (Finset.range 32) Ψ := by
  rw [← bigSep_univ_prod (fun p : Fin 2 × Fin 16 => Ψ (2 * p.2.val + p.1.val)),
    ← bigSep_image_of_injOn (s := (Finset.univ : Finset (Fin 2 × Fin 16))) (f := fun p => 2 * p.2.val + p.1.val) (Φ := Ψ)]
  · exact congrArg (fun s => bigSep s Ψ) (by decide)
  · rintro ⟨a, b⟩ - ⟨a', b'⟩ - h
    have h : 2 * b.val + a.val = 2 * b'.val + a'.val := h
    exact Prod.ext (Fin.ext (show a.val = a'.val by omega)) (Fin.ext (show b.val = b'.val by omega))

/-- The rows, dealt over the tasks. -/
theorem deal_rows (Φ : Fin 20 → sProp 𝕄) :
    (bigSep Finset.univ fun c : Fin 2 => bigSep Finset.univ fun i : Fin 16 => pick Φ (2 * i.val + c.val)) = bigSep Finset.univ Φ := by
  have e2 : bigSep (Finset.range 32) (pick Φ) = bigSep (Finset.range 20) (pick Φ) := by
    rw [show Finset.range 20 = (Finset.range 32).filter (· < 20) from by decide, bigSep_filter]
    refine bigSep_congr fun n _ => ?_
    split
    · rfl
    · rename_i h; unfold pick; rw [dif_neg h]; rfl
  rw [deal_tasks, e2, show Finset.range 20 = (Finset.univ : Finset (Fin 20)).image Fin.val from by decide, bigSep_image_of_injOn Fin.val_injective.injOn]
  refine bigSep_congr fun w _ => ?_
  unfold pick; rw [dif_pos w.isLt]

variable [FloatOps F]

theorem RowOk.congr {fr : Vec F S20x1024 .i32} {fc : Vec F S20x5120 .f32} {w : Fin 20} {fo go fp gp : Vec F S20x8192 .f32}
    (h : RowOk fr fc w fo fp) (ho : ∀ i ∈ oSet w, go i = fo i) (hp : ∀ i ∈ oSet w, gp i = fp i) : RowOk fr fc w go gp :=
  ⟨fun r hr j hj x hx => (ho _ (mem_row w x)).trans (h.1 r hr j hj x hx), fun r hr j hj x hx => (hp _ (mem_row w x)).trans (h.2 r hr j hj x hx)⟩

variable (m : (ℓ : Loc nD τ sig) → Buf (Elt F) ℓ) (ρ : Dev nD → PrngReg)

theorem rows_in (d : Dev nD) :
    iprop((rLoc d ↦{fullShare} m (rLoc d)) ∗ (cLoc d ↦{fullShare} m (cLoc d)) ∗ (oLoc d ↦{fullShare} m (oLoc d)) ∗ (pLoc d ↦{fullShare} m (pLoc d)))
      = (bigSep Finset.univ (inRow m d) : sProp 𝕄) := by
  unfold inRow
  rw [bigSep_sep', bigSep_sep', bigSep_sep', rRows, cRows, oRows, pRows]

/-- Afterwards the arrays are whole again, the two results at contents right in every row. -/
theorem rows_out (d : Dev nD) : (bigSep Finset.univ (outRow m d) : sProp 𝕄) ⊢ (iprop((rLoc d ↦{fullShare} m (rLoc d)) ∗ (cLoc d ↦{fullShare} m (cLoc d))
    ∗ ∃ (go : Buf (Elt F) (oLoc d)) (gp : Buf (Elt F) (pLoc d)), (oLoc d ↦{fullShare} go) ∗ (pLoc d ↦{fullShare} gp)
      ∗ ⌜∀ w, RowOk (m (rLoc d)) (m (cLoc d)) w go gp⌝) : sProp 𝕄) := by
  have e : ∀ w, outRow m d w ⊢ iprop((rLoc d ↦[rSet w]{fullShare} m (rLoc d)) ∗ (cLoc d ↦[cSet w]{fullShare} m (cLoc d))
      ∗ ∃ p : Buf (Elt F) (oLoc d) × Buf (Elt F) (pLoc d), ⌜RowOk (m (rLoc d)) (m (cLoc d)) w p.1 p.2⌝
        ∗ (oLoc d ↦[oSet w]{fullShare} p.1) ∗ (pLoc d ↦[oSet w]{fullShare} p.2)) := by
    intro w
    unfold outRow
    iintro ⟨%fo, %fp, Hr, Hc, Ho, Hp, %h⟩
    isplitl [Hr]; · iexact Hr
    isplitl [Hc]; · iexact Hc
    iexists (fo, fp)
    isplitr; · ipureintro; exact h
    isplitl [Ho]; · iexact Ho
    iexact Hp
  refine (show (bigSep Finset.univ (outRow m d) : sProp 𝕄) ⊢ bigSep Finset.univ fun w => iprop((rLoc d ↦[rSet w]{fullShare} m (rLoc d)) ∗ (cLoc d ↦[cSet w]{fullShare} m (cLoc d))
      ∗ ∃ p : Buf (Elt F) (oLoc d) × Buf (Elt F) (pLoc d), ⌜RowOk (m (rLoc d)) (m (cLoc d)) w p.1 p.2⌝
        ∗ (oLoc d ↦[oSet w]{fullShare} p.1) ∗ (pLoc d ↦[oSet w]{fullShare} p.2)) from bigSep_mono fun w _ => e w).trans ?_
  rw [bigSep_sep', bigSep_sep', ← rRows, ← cRows]
  have : Nonempty (Buf (Elt F) (oLoc d) × Buf (Elt F) (pLoc d)) := ⟨(m (oLoc d), m (pLoc d))⟩
  iintro ⟨Hr, Hc, H⟩
  isplitl [Hr]; · iexact Hr
  isplitl [Hc]; · iexact Hc
  ihave H := (bigSep_exists_pi Finset.univ (fun w (p : Buf (Elt F) (oLoc d) × Buf (Elt F) (pLoc d)) =>
    iprop(⌜RowOk (m (rLoc d)) (m (cLoc d)) w p.1 p.2⌝ ∗ (oLoc d ↦[oSet w]{fullShare} p.1) ∗ (pLoc d ↦[oSet w]{fullShare} p.2)))) $$ H
  icases H with ⟨%p, H⟩
  ihave H := (bigSep_pure_sep Finset.univ (fun w => RowOk (m (rLoc d)) (m (cLoc d)) w (p w).1 (p w).2)
    (fun w => iprop((oLoc d ↦[oSet w]{fullShare} (p w).1) ∗ (pLoc d ↦[oSet w]{fullShare} (p w).2)))) $$ H
  icases H with ⟨%hp, H⟩
  ihave H := (Entails.of_eq (bigSep_sep' Finset.univ (fun w : Fin 20 => (oLoc d ↦[oSet w]{fullShare} (p w).1 : sProp 𝕄))
    (fun w => (pLoc d ↦[oSet w]{fullShare} (p w).2)))) $$ H
  icases H with ⟨Ho, Hp⟩
  ihave Ho := (pointsTo_biUnion_join (ℓ := oLoc d) (q := fullShare) (Val := Elt F) Finset.univ oSet (fun w => (p w).1) (m (oLoc d)) rows_disjoint) $$ Ho
  ihave Hp := (pointsTo_biUnion_join (ℓ := pLoc d) (q := fullShare) (Val := Elt F) Finset.univ oSet (fun w => (p w).2) (m (pLoc d)) rows_disjoint) $$ Hp
  icases Ho with ⟨%go, %ho, Ho⟩
  icases Hp with ⟨%gp, %hq, Hp⟩
  rw [rows_cover]
  iexists go, gp
  isplitl [Ho]; · iexact Ho
  isplitl [Hp]; · iexact Hp
  ipureintro
  exact fun w => (hp w (Finset.mem_univ w)).congr (ho w (Finset.mem_univ w)) (hq w (Finset.mem_univ w))

theorem st0_eq (d : Dev nD) : (bigSep Finset.univ fun c : Fin ((K (F := F)).nCore 0) => (P m).st 0 d c) = bigSep Finset.univ (inRow m d) := deal_rows _
theorem dn0_eq (d : Dev nD) : (bigSep Finset.univ fun c : Fin ((K (F := F)).nCore 0) => (P m).dn 0 d c) = bigSep Finset.univ (outRow m d) := deal_rows _

/-! ## The launch element -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [show (bigSep Finset.univ fun _ : Dev nD => (iprop(emp) : sProp 𝕄)) = iprop(emp) from bigSep_emp_const _]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1),
    show (bigSep Finset.univ fun _ : Thread nD τ => (iprop(emp) : sProp 𝕄)) = iprop(emp) from bigSep_emp_const _]
  iempintro

/-! ## @main on the TensorCore -/

/-- The host operations after the call: both results laid out in their dimensions, and the rows no value was put in cut off. -/
abbrev hostOps : List (HloOp τ sig (Elt F)) :=
  [StableHlo.reshape main_v0_0 main_v1 (rfl : (.f32 : EltTy) = .f32) shapeCasts_S20x8192_S20x8x1024,
   StableHlo.unary main_v1 main_v2 ((extractStridedSlice S20x5x1024 ![0, 0, 0] · slices_S20x8x1024_S20x5x1024_0_0_0) : (⟨S20x8x1024, .f32⟩ : BufTy).Contents (Elt F) → (⟨S20x5x1024, .f32⟩ : BufTy).Contents (Elt F)),
   StableHlo.reshape main_v0_1 main_v3 (rfl : (.f32 : EltTy) = .f32) shapeCasts_S20x8192_S20x1024x8,
   StableHlo.unary main_v3 main_v4 ((extractStridedSlice S20x1024x5 ![0, 0, 0] · slices_S20x1024x8_S20x1024x5_0_0_0) : (⟨S20x1024x8, .f32⟩ : BufTy).Contents (Elt F) → (⟨S20x1024x5, .f32⟩ : BufTy).Contents (Elt F))]

theorem host_sub : ∀ op ∈ hostOps (F := F), op.bufs ⊆ Pipeline.ucRefs τ sig :=
  fun op h => Pipeline.sub_ucRefs op ((List.forall_iff_forall_mem.mp (by
    show List.Forall (fun op => op.bufs ⊆ StableHlo.tcRefs τ sig) (hostOps (F := F))
    simp [hostOps])) op h)
theorem host_fresh : ∀ op ∈ hostOps (F := F), op.fresh = ∅ :=
  List.forall_iff_forall_mem.mp (by
    show List.Forall (fun op => op.fresh = ∅) (hostOps (F := F))
    exact ⟨rfl, rfl, rfl, rfl⟩)

theorem main_seq (d : Dev nD) : main (F := F) d = ((sc (F := F)).run d 0 >>= fun _ => seq (hostOps (F := F)) >>= fun _ => pure ⟨⟩) := by
  unfold main
  simp only [seq, bind_assoc, pure_bind]

def V0 (d : Dev nD) : Valuation τ sig (Elt F) := fun b => m (d, b)

/-- The arrays once the call has put `go` and `gp` in its two results. -/
def V1 (d : Dev nD) (go : Buf (Elt F) (oLoc d)) (gp : Buf (Elt F) (pLoc d)) : Valuation τ sig (Elt F) :=
  Function.update (Function.update (V0 m d) (Proc.devRef .tc main_v0_0) go) (Proc.devRef .tc main_v0_1) gp

section
variable (d : Dev nD) (go : Buf (Elt F) (oLoc d)) (gp : Buf (Elt F) (pLoc d))

theorem V1_of {b : DevRef τ sig} (h0 : b ≠ Proc.devRef .tc main_v0_0) (h1 : b ≠ Proc.devRef .tc main_v0_1) : V1 m d go gp b = m (d, b) := by
  unfold V1; rw [Function.update_of_ne h1, Function.update_of_ne h0]; rfl
theorem V1_o : V1 m d go gp (Proc.devRef .tc main_v0_0) = go := by
  unfold V1; rw [Function.update_of_ne (by decide), Function.update_self]
theorem V1_p : V1 m d go gp (Proc.devRef .tc main_v0_1) = gp := by
  unfold V1; rw [Function.update_self]

/-- The call's arrays. -/
abbrev A4 : Finset (DevRef τ sig) :=
  {Proc.devRef .tc (main_arg0 : Ref sig .tc), Proc.devRef .tc (main_arg1 : Ref sig .tc), Proc.devRef .tc (main_v0_0 : Ref sig .tc), Proc.devRef .tc (main_v0_1 : Ref sig .tc)}

theorem A4_sub : A4 ⊆ Pipeline.ucRefs τ sig := by decide

theorem held_A4 (W : Valuation τ sig (Elt F)) :
    (held (T d) A4 W : sProp 𝕄)
      = iprop((rLoc d ↦{fullShare} W (Proc.devRef .tc main_arg0)) ∗ (cLoc d ↦{fullShare} W (Proc.devRef .tc main_arg1))
          ∗ (oLoc d ↦{fullShare} W (Proc.devRef .tc main_v0_0)) ∗ pLoc d ↦{fullShare} W (Proc.devRef .tc main_v0_1)) := by
  unfold held A4
  rw [SparseCore.bigSep_insert' (by decide), SparseCore.bigSep_insert' (by decide), SparseCore.bigSep_insert' (by decide), bigSep_singleton]

theorem held_V0 : (held (T d) (Pipeline.ucRefs τ sig) (V0 m d) : sProp 𝕄)
    = iprop(((rLoc d ↦{fullShare} m (rLoc d)) ∗ (cLoc d ↦{fullShare} m (cLoc d)) ∗ (oLoc d ↦{fullShare} m (oLoc d)) ∗ pLoc d ↦{fullShare} m (pLoc d))
        ∗ held (T d) (Pipeline.ucRefs τ sig \ A4) (V0 m d)) := by
  rw [held_sub_split _ A4_sub, held_A4]; rfl

theorem held_V1 : (held (T d) (Pipeline.ucRefs τ sig) (V1 m d go gp) : sProp 𝕄)
    = iprop(((rLoc d ↦{fullShare} m (rLoc d)) ∗ (cLoc d ↦{fullShare} m (cLoc d)) ∗ (oLoc d ↦{fullShare} go) ∗ pLoc d ↦{fullShare} gp)
        ∗ held (T d) (Pipeline.ucRefs τ sig \ A4) (V0 m d)) := by
  rw [held_sub_split _ A4_sub, held_A4, V1_o, V1_p, V1_of m d go gp (b := Proc.devRef .tc main_arg0) (by decide) (by decide),
    V1_of m d go gp (b := Proc.devRef .tc main_arg1) (by decide) (by decide), held_congr _ (V' := V0 m d) fun b hb => V1_of m d go gp (fun e => ?_) (fun e => ?_)]
  · subst e; exact (Finset.mem_sdiff.mp hb).2 (by decide)
  · subst e; exact (Finset.mem_sdiff.mp hb).2 (by decide)

/-- The two results as the host operations leave them. -/
abbrev resO (go : Vec F S20x8192 .f32) : Vec F S20x5x1024 .f32 :=
  extractStridedSlice S20x5x1024 ![0, 0, 0] (shapeCast S20x8x1024 go shapeCasts_S20x8192_S20x8x1024) slices_S20x8x1024_S20x5x1024_0_0_0
abbrev resP (gp : Vec F S20x8192 .f32) : Vec F S20x1024x5 .f32 :=
  extractStridedSlice S20x1024x5 ![0, 0, 0] (shapeCast S20x1024x8 gp shapeCasts_S20x8192_S20x1024x8) slices_S20x1024x8_S20x1024x5_0_0_0

abbrev V2 : Valuation τ sig (Elt F) := after (hostOps (F := F)) (V1 m d go gp)

theorem V2_v2 : V2 m d go gp (Proc.devRef .tc main_v2) = resO (F := F) go := by
  refine Eq.trans ?_ (congrArg (resO (F := F)) (V1_o m d go gp))
  unfold V2
  simp only [hostOps]
  after_results_simp
  rfl
theorem V2_v4 : V2 m d go gp (Proc.devRef .tc main_v4) = resP (F := F) gp := by
  refine Eq.trans ?_ (congrArg (resP (F := F)) (V1_p m d go gp))
  unfold V2
  simp only [hostOps]
  after_results_simp
  rfl

abbrev hostW : List (Ref sig .tc) := [main_v1, main_v2, main_v3, main_v4]

theorem V2_of {r : Ref sig .tc} (hr : r ∉ hostW) : V2 m d go gp (Proc.devRef .tc r) = V1 m d go gp (Proc.devRef .tc r) :=
  StableHlo.after_of_writes_sub (W := hostW) (hostOps (F := F)) (V1 m d go gp) (StableHlo.forall_writes_sub_of_map rfl) hr

/-- What the claims read: the arguments and the results. -/
abbrev Z4 : Finset (DevRef τ sig) :=
  {Proc.devRef .tc (main_arg0 : Ref sig .tc), Proc.devRef .tc (main_arg1 : Ref sig .tc), Proc.devRef .tc (main_v2 : Ref sig .tc), Proc.devRef .tc (main_v4 : Ref sig .tc)}

theorem Z4_sub : Z4 ⊆ Pipeline.ucRefs τ sig := by decide

abbrev xLoc (d : Dev nD) : Loc nD τ sig := (SparseCore.T d).loc main_v2
abbrev yLoc (d : Dev nD) : Loc nD τ sig := (SparseCore.T d).loc main_v4

theorem held_Z4 : (held (T d) Z4 (V2 m d go gp) : sProp 𝕄)
      = iprop((rLoc d ↦{fullShare} m (rLoc d)) ∗ (cLoc d ↦{fullShare} m (cLoc d)) ∗ (xLoc d ↦{fullShare} resO (F := F) go) ∗ yLoc d ↦{fullShare} resP (F := F) gp) := by
  unfold held Z4
  rw [SparseCore.bigSep_insert' (by decide), SparseCore.bigSep_insert' (by decide), SparseCore.bigSep_insert' (by decide), bigSep_singleton,
    V2_v2, V2_v4, V2_of m d go gp (r := main_arg0) (by decide), V2_of m d go gp (r := main_arg1) (by decide),
    V1_of m d go gp (b := Proc.devRef .tc main_arg0) (by decide) (by decide), V1_of m d go gp (b := Proc.devRef .tc main_arg1) (by decide) (by decide)]

end

/-- What @main leaves the claims: the arguments as they were, and the results those of contents right in every row. -/
abbrev FIN (d : Dev nD) : sProp 𝕄 :=
  iprop((rLoc d ↦{fullShare} m (rLoc d)) ∗ (cLoc d ↦{fullShare} m (cLoc d))
    ∗ ∃ (go : Vec F S20x8192 .f32) (gp : Vec F S20x8192 .f32), (xLoc d ↦{fullShare} resO (F := F) go) ∗ (yLoc d ↦{fullShare} resP (F := F) gp)
      ∗ ⌜∀ w, RowOk (m (rLoc d)) (m (cLoc d)) w go gp⌝)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) (Pipeline.ucRefs τ sig) (V0 m d) from Pipeline.unscopedBufs_held d (V0 m d), main_seq]
  iintro ⟨#Hctx, Hst, ⟨Hb, Hheld, Hts, -⟩, -⟩
  ihave Hh := (Entails.of_eq (held_V0 (F := F) m d)) $$ Hheld
  icases Hh with ⟨⟨Hr, Hc, Ho, Hp⟩, Hrest⟩
  rw [wp_bind]
  iapply ((K (F := F)).wp_run (D (F := F)) 𝒱 (EH := EH) (P := P m) κ d 0) $$ [Hst Hr Hc Ho Hp Hb Hts Hrest]
  isplitr; · iexact Hctx
  isplitl [Hst]; · iexact Hst
  isplitl [Hr Hc Ho Hp]
  · rw [st0_eq, ← rows_in]
    isplitl [Hr]; · iexact Hr
    isplitl [Hc]; · iexact Hc
    isplitl [Ho]; · iexact Ho
    iexact Hp
  iintro ⟨Hst, Hdn⟩
  ihave Hdn := (Entails.of_eq (dn0_eq m d)) $$ Hdn
  ihave Hdn := (rows_out m d) $$ Hdn
  icases Hdn with ⟨Hr, Hc, %go, %gp, Ho, Hp, %hrow⟩
  iapply (wp_seq (𝒱 := 𝒱) (bd := none) (E := Set.univ) d (Pipeline.ucRefs τ sig) _ (hostOps (F := F)) host_sub host_fresh (V1 m d go gp)) $$ [Hb Hr Hc Ho Hp Hrest]
  · isplitl [Hb]; · iexact Hb
    iapply (Entails.of_eq (held_V1 (F := F) m d go gp).symm)
    isplitr [Hrest]
    · isplitl [Hr]; · iexact Hr
      isplitl [Hc]; · iexact Hc
      isplitl [Ho]; · iexact Ho
      iexact Hp
    · iexact Hrest
  iintro ⟨Hb, Hheld⟩
  ihave Hh := (Entails.of_eq (held_sub_split (T d) Z4_sub (V2 m d go gp))) $$ Hheld
  icases Hh with ⟨Hz, -⟩
  ihave Hz := (Entails.of_eq (held_Z4 (F := F) m d go gp)) $$ Hz
  icases Hz with ⟨Hr, Hc, Hx, Hy⟩
  rw [wp_pure]
  imodintro
  isplitl [Hst]; · iexact Hst
  isplitr [Hb Hts]
  · isplitl [Hr]; · iexact Hr
    isplitl [Hc]; · iexact Hc
    iexists go, gp
    isplitl [Hx]; · iexact Hx
    isplitl [Hy]; · iexact Hy
    ipureintro; exact hrow
  isplitl [Hb] <;> iassumption

/-- What the claims read of device `d`'s final memory. -/
def fq (d : Dev nD) (M : (ℓ : Loc nD τ sig) → Buf (Elt F) ℓ) : Prop :=
  (M (rLoc d) = m (rLoc d) ∧ M (cLoc d) = m (cLoc d))
    ∧ ∃ go gp : Vec F S20x8192 .f32, M (xLoc d) = resO (F := F) go ∧ M (yLoc d) = resP (F := F) gp ∧ ∀ w, RowOk (m (rLoc d)) (m (cLoc d)) w go gp

theorem hfin (d : Dev nD) (s' : Phys nD τ sig (Elt F)) : iprop(FIN m d ∗ SI s') ⊢ (⌜fq m d s'.mem.mem⌝ : sProp 𝕄) := by
  iintro ⟨⟨Hr, Hc, %go, %gp, Hx, Hy, %hrow⟩, HSI⟩
  ihave H := (persistent_entails_right (SI_pointsTo_agree (st := s') (ℓ := rLoc d) (I := Finset.univ) (q := fullShare) (f := m (rLoc d)))) $$ [HSI Hr]
  · isplitl [HSI] <;> iassumption
  icases H with ⟨%hr, HSI, -⟩
  ihave H := (persistent_entails_right (SI_pointsTo_agree (st := s') (ℓ := cLoc d) (I := Finset.univ) (q := fullShare) (f := m (cLoc d)))) $$ [HSI Hc]
  · isplitl [HSI] <;> iassumption
  icases H with ⟨%hc, HSI, -⟩
  ihave H := (persistent_entails_right (SI_pointsTo_agree (st := s') (ℓ := xLoc d) (I := Finset.univ) (q := fullShare) (f := resO (F := F) go))) $$ [HSI Hx]
  · isplitl [HSI] <;> iassumption
  icases H with ⟨%hx, HSI, -⟩
  ihave H := (SI_pointsTo_agree (st := s') (ℓ := yLoc d) (I := Finset.univ) (q := fullShare) (f := resP (F := F) gp)) $$ [HSI Hy]
  · isplitl [HSI] <;> iassumption
  icases H with %hy
  ipureintro
  exact ⟨⟨funext fun i => hr i (Finset.mem_univ i), funext fun i => hc i (Finset.mem_univ i)⟩, go, gp,
    funext fun i => hx i (Finset.mem_univ i), funext fun i => hy i (Finset.mem_univ i), hrow⟩

/-! ## The program's run -/

def QC : PUnit × MemSt nD τ sig (Elt F) → Prop := fun r => (∀ d : Dev nD, fq m d r.2.mem) ∧ r.2.sem = fun _ => 0

theorem run_main [∀ e, Nonempty (Elt F e)] (hR : ∀ (d : Dev nD) w, Ranks (rankAt (F := F) (m (rLoc d)) w)) :
    θ_run (Cert.SortIdeal.defs (F := F)) (Cert.SortIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hR facts)
    (fun q _ => match q with | 0 => SparseCore.Cfg.VecSplit.of_plain (vecSplit m))
    m ρ main (fun _ => iprop(emp)) (FIN m) (u₀ (F := F)) (sep_elim_left.trans (hu₀ m)) (hmain m ρ) (fun d s' => fq m d s'.mem.mem) (hfin m) (QC m) (fun _ h hz => ⟨h, hz⟩)

end Cert.Proof.Scatter

end
-- ==== Proof.SortRef.lean ====
/-
  The scattering call's reference and its precondition, index by index: sorting a row of ranks meets each place once, so a
  row's ranks are 1024 different places, and the reference's place `p` holds the values at the position of rank `p`.
-/
module

public import proofs.«01_k».proof.Proof.RefValue
public import proofs.«01_k».proof.Proof.SortTile
public import proofs.«01_k».proof.Proof.Gen.SortReferenceIdeal
public import proofs.«01_k».proof.Proof.Gen.Pre_pre_sort

@[expose] public section

noncomputable section

namespace Cert.Proof.Scatter

open Idealize.ShloMosaic Idealize.ShloMosaic.ValueIdx
open Cert.SortReferenceIdeal Cert.SortReferenceIdeal.Gen
open Cert.Proof.Select Cert.Proof.RefValue

/-! ### Sorting a row of ranks -/

section
variable (r : IVec S20x1024 32) (w : Fin 20)

/-- The positions of row `w` in the order of their ranks. -/
def sorted : Fin 1024 → Fin 1024 := sortedFrom fun a b : Fin 1024 => IntOp.cmpi .slt (r (ix2 w a)) (r (ix2 w b)) == 1#1

/-- The reference's positions. -/
abbrev rankOrder : IVec S20x1024 32 := (Host.sort2 S20x1024 1 comparator_i32_i32_d1 r (iotaInDim S20x1024 32 1)).2

theorem rankOrder_at (p : Fin 1024) : rankOrder r (ix2 w p) = BitVec.ofNat 32 (sorted r w p).val :=
  sort2_two comparator_i32_i32_d1 r (iotaInDim S20x1024 32 1) w p

variable {F : FTy → Type} [FloatOps F]

theorem pre_eq (c : FVec F S20x5120 .f32) : Cert.Pre_pre_sort.fn (F := F) r c
    = Host.reduce IntOp.andi (cmpi .eq (Host.sort S20x1024 1 Cert.Pre_pre_sort.comparator_i32_d1 r) (iotaInDim S20x1024 32 1)) (constantI S_ 1 1#1)
        Cert.Pre_pre_sort.Gen.reducesTo_S20x1024_S_d0_1 Cert.Pre_pre_sort.Gen.h_S_ := rfl

/-- The precondition: in sorted order the ranks are the places in turn. -/
theorem sorted_rank {c : FVec F S20x5120 .f32} (h : Cert.Pre_pre_sort.fn (F := F) r c = fun _ => 1#1) (p : Fin 1024) :
    r (ix2 w (sorted r w p)) = BitVec.ofNat 32 p.val := by
  rw [pre_eq] at h
  haveI : Subsingleton S_.Idx := ⟨fun a b => funext fun i => i.elim0⟩
  have e : IntOp.cmpi .eq (Host.sort S20x1024 1 Cert.Pre_pre_sort.comparator_i32_d1 r (ix2 w p)) (BitVec.ofNat 32 p.val) = 1#1 :=
    Host.reduce_andi_all _ _ _ _ (fun a => a.elim0) (congrFun h _) (ix2 w p)
  rw [WordCmp.cmpi_eq_eq, WordCmp.ofBool_eq_one_iff, decide_eq_true_eq] at e
  exact (sort_two Cert.Pre_pre_sort.comparator_i32_d1 r w p).symm.trans e

section
variable {r w} (h : ∀ p, r (ix2 w (sorted r w p)) = BitVec.ofNat 32 p.val)
include h

/-- Every position is met in sorting. -/
theorem sorted_onto (j : Fin 1024) : ∃ p, sorted r w p = j := by
  refine (Finite.injective_iff_surjective.mp fun p q e => Fin.ext ?_) j
  have e := congrArg BitVec.toNat ((h p).symm.trans ((congrArg (fun i => r (ix2 w i)) e).trans (h q)))
  rw [BitVec.toNat_ofNat, BitVec.toNat_ofNat] at e
  omega

theorem rankAt_sorted (p : Fin 1024) : (rankAt (F := F) r w (sorted r w p).val).toNat = p.val := by
  unfold rankAt
  rw [show (⟨(sorted r w p).val % 1024, Nat.mod_lt _ (by decide)⟩ : Fin 1024) = sorted r w p from Fin.ext (Nat.mod_eq_of_lt (sorted r w p).isLt), h p,
    BitVec.toNat_ofNat]
  omega

theorem ranks_of : Ranks (rankAt (F := F) r w) where
  lt j hj := by
    obtain ⟨p, hp⟩ := sorted_onto h ⟨j, hj⟩
    have e := rankAt_sorted (F := F) h p
    rw [hp] at e
    exact e ▸ p.isLt
  inj i j hi hj e := by
    obtain ⟨p, hp⟩ := sorted_onto h ⟨i, hi⟩
    obtain ⟨q, hq⟩ := sorted_onto h ⟨j, hj⟩
    have ep := rankAt_sorted (F := F) h p
    have eq := rankAt_sorted (F := F) h q
    rw [hp] at ep
    rw [hq] at eq
    obtain rfl : p = q := Fin.ext (ep.symm.trans (e.trans eq))
    exact congrArg Fin.val (hp.symm.trans hq)

end

/-! ### The reference's results -/

variable (c : FVec F S20x5120 .f32)

abbrev fromEnd : IVec S20x1x1024 32 :=
  select (cmpi .slt (mid (rankOrder r)) (broadcastInDim S20x1x1024 ![] bcast_S_S20x1x1024 (constantI S_ 32 0#32)))
    (addi (mid (rankOrder r)) (broadcastInDim S20x1x1024 ![] bcast_S_S20x1x1024 (constantI S_ 32 1024#32))) (mid (rankOrder r))
abbrev column : IVec S20x1024x1 32 := shapeCast S20x1024x1 (fromEnd r) shapeCasts_S20x1x1024_S20x1024x1
/-- Whether a position is one of the row's. -/
abbrev within1024 : IVec S20x1024 1 :=
  Host.reduce IntOp.andi
    (andi (cmpi .sge (column r) (broadcastInDim S20x1024x1 ![] bcast_S_S20x1024x1 (constantI S_ 32 0#32)))
      (cmpi .sle (column r) (broadcastInDim S20x1024x1 ![0, 1, 2] bcast_S1x1x1_S20x1024x1_0_1_2
        (broadcastInDim S1x1x1 ![2] bcast_S1_S1x1x1_2 (constantI S1 32 1023#32)))))
    (constantI S_ 1 1#1) reducesTo_S20x1024x1_S20x1024_d2 h_S_
/-- The values in the order of the ranks: by row, and by place. -/
abbrev refRows : FVec F S20x5x1024 .f32 :=
  select (broadcastInDim S20x5x1024 ![0, 2] bcast_S20x1024_S20x5x1024_0_2 (within1024 r))
    (Host.gather gather_S20x5x1024_S20x1024x1_S20x5x1024_1_2_0_0_2_2_151 (shapeCast S20x5x1024 c shapeCasts_S20x5120_S20x5x1024) (column r))
    (broadcastInDim S20x5x1024 ![] bcast_S_S20x5x1024 (constant S_ .f32 0x7FC00000#32))
abbrev refPlaces : FVec F S20x1024x5 .f32 := transpose S20x1024x5 [0, 2, 1] (refRows r c) transposes_S20x5x1024_S20x1024x5_0_2_1

theorem column_at (p : Fin 1024) (z : Fin 1) : column r (ix3 w p z) = BitVec.ofNat 32 (sorted r w p).val := by
  have hs : (sorted r w p).val < 1024 := (sorted r w p).isLt
  rw [show column r (ix3 w p z) = fromEnd r (ix3 w 0 p) from shapeCast_apply _ _ _ _ (by
    rw [Shape.rowMajor_val_three, Shape.rowMajor_val_three]
    show (w.val * 1 + 0) * 1024 + p.val = (w.val * 1024 + p.val) * 1 + z.val
    omega)]
  show Scalar.select (IntOp.cmpi .slt (mid (rankOrder r) (ix3 w 0 p)) 0#32) _ (mid (rankOrder r) (ix3 w 0 p)) = _
  rw [mid_at, rankOrder_at, WordCmp.cmpi_slt_eq, toInt_small (n := (sorted r w p).val) (by omega)]
  have : ¬ (((sorted r w p).val : Int) < (0#32 : BitVec 32).toInt) := by
    show ¬ (((sorted r w p).val : Int) < 0); omega
  rw [decide_eq_false this]
  rfl

theorem within1024_one (i : S20x1024.Idx) : within1024 r i = 1#1 := by
  refine Host.reduce_andi_one _ _ _ _ _ rfl fun i => ?_
  have e : column r i = BitVec.ofNat 32 (sorted r (i 0) (i 1)).val := (congrArg (column r) (eq_ix3 i)).trans (column_at r (i 0) (i 1) (i 2))
  have hs : (sorted r (i 0) (i 1)).val < 1024 := (sorted r (i 0) (i 1)).isLt
  show IntOp.andi (IntOp.cmpi .sge (column r i) 0#32) (IntOp.cmpi .sle (column r i) 1023#32) = 1#1
  rw [e, WordCmp.cmpi_sge_eq, WordCmp.cmpi_sle_eq, toInt_small (n := (sorted r (i 0) (i 1)).val) (by omega), decide_eq_true, decide_eq_true]
  · rfl
  · show ((sorted r (i 0) (i 1)).val : Int) ≤ 1023; omega
  · show (0 : Int) ≤ (sorted r (i 0) (i 1)).val; omega

/-- Taking along the last axis at a row's position. -/
theorem taken_at (v : FVec F S20x5x1024 .f32) (x : IVec S20x1024x1 32) (b : Fin 5) {p j : Fin 1024} (h : x (ix3 w p 0) = BitVec.ofNat 32 j.val) :
    Host.gather gather_S20x5x1024_S20x1024x1_S20x5x1024_1_2_0_0_2_2_151 v x (ix3 w b p) = v (ix3 w b j) := by
  unfold Host.gather
  refine congrArg v (funext fun a => Fin.ext ?_)
  match a with
  | 0 =>
    show 0 + w.val + 0 = w.val
    omega
  | 1 =>
    show 0 + 0 + b.val = b.val
    omega
  | 2 =>
    have e : x (gather_S20x5x1024_S20x1024x1_S20x5x1024_1_2_0_0_2_2_151.siIdx (ix3 w b p) ⟨0, by decide⟩) = BitVec.ofNat 32 j.val := by
      rw [← h]
      refine congrArg x (funext fun a => ?_)
      match a with
      | 0 => rfl
      | 1 => rfl
      | 2 => rfl
    show min (x (gather_S20x5x1024_S20x1024x1_S20x5x1024_1_2_0_0_2_2_151.siIdx (ix3 w b p) ⟨0, by decide⟩)).toInt.toNat 1023 + 0 + 0 = j.val
    rw [e, toInt_small (n := j.val) (by omega)]
    omega

theorem refRows_at (b : Fin 5) (p : Fin 1024) : refRows r c (ix3 w b p) = candAt c w (b.val * 1024 + (sorted r w p).val) := by
  have hs : (sorted r w p).val < 1024 := (sorted r w p).isLt
  show Scalar.select (broadcastInDim S20x5x1024 ![0, 2] bcast_S20x1024_S20x5x1024_0_2 (within1024 r) (ix3 w b p)) _ _ = _
  rw [broadcastInDim_apply _ _ _ _ (ix2 w p) (fun a => by
    match a with
    | 0 => rfl
    | 1 => rfl), within1024_one]
  refine (taken_at w (shapeCast S20x5x1024 c shapeCasts_S20x5120_S20x5x1024) (column r) b (column_at r w p 0)).trans ?_
  refine shapeCast_apply _ _ _ _ ?_
  rw [Shape.rowMajor_val_two, Shape.rowMajor_val_three]
  show w.val * 5120 + (b.val * 1024 + (sorted r w p).val) % 5120 = (w.val * 5 + b.val) * 1024 + (sorted r w p).val
  omega

theorem refPlaces_at (b : Fin 5) (p : Fin 1024) : refPlaces r c (ix3 w p b) = candAt c w (b.val * 1024 + (sorted r w p).val) :=
  (congrArg (refRows r c) (funext fun a => by
    match a with
    | 0 => rfl
    | 1 => rfl
    | 2 => rfl)).trans (refRows_at r w c b p)

end

end Cert.Proof.Scatter

end
-- ==== Proof.SortEquation.lean ====
/-
  What the scattering call leaves is the values in the order of their ranks: the value at the position of rank `p` lies in place
  `p` of its row, which is where the reference gathers it to.
-/
module

public import proofs.«01_k».proof.Proof.SortLaunch
public import proofs.«01_k».proof.Proof.SortRef

@[expose] public section

noncomputable section

namespace Cert.Proof.Scatter

open Cert.SortIdeal Cert.SortIdeal.Gen
open Idealize.ShloMosaic Idealize.ShloMosaic.ValueIdx

variable {F : FTy → Type} [FloatOps F]

/-- Row and place in the one array, as the host reads it. -/
theorem resO_at (go : Vec F S20x8192 .f32) (w : Fin 20) (b : Fin 5) (p : Fin 1024) (x : Fin 8192) (hx : x.val = byRow b.val p.val) :
    resO go (ix3 w b p) = go (ix2 w x) := by
  refine (extractStridedSlice_apply _ _ _ _ (ix3 w ⟨b.val, by omega⟩ p) fun a => ?_).trans (shapeCast_apply _ _ _ _ ?_)
  · match a with
    | 0 => exact (Nat.zero_add _).symm
    | 1 => exact (Nat.zero_add _).symm
    | 2 => exact (Nat.zero_add _).symm
  · rw [Shape.rowMajor_val_two, Shape.rowMajor_val_three]
    show w.val * 8192 + x.val = (w.val * 8 + b.val) * 1024 + p.val
    unfold byRow at hx
    omega

/-- Place and row in the other. -/
theorem resP_at (gp : Vec F S20x8192 .f32) (w : Fin 20) (p : Fin 1024) (b : Fin 5) (x : Fin 8192) (hx : x.val = byPlace b.val p.val) :
    resP gp (ix3 w p b) = gp (ix2 w x) := by
  refine (extractStridedSlice_apply _ _ _ _ (ix3 w p ⟨b.val, by omega⟩) fun a => ?_).trans (shapeCast_apply _ _ _ _ ?_)
  · match a with
    | 0 => exact (Nat.zero_add _).symm
    | 1 => exact (Nat.zero_add _).symm
    | 2 => exact (Nat.zero_add _).symm
  · rw [Shape.rowMajor_val_two, Shape.rowMajor_val_three]
    show w.val * 8192 + x.val = (w.val * 1024 + p.val) * 8 + b.val
    unfold byPlace at hx
    omega

section
variable {fr : Vec F S20x1024 .i32} {fc : Vec F S20x5120 .f32} {go gp : Vec F S20x8192 .f32}
  (h : ∀ w p, fr (ix2 w (sorted fr w p)) = BitVec.ofNat 32 p.val) (ok : ∀ w, RowOk fr fc w go gp)
include h

/-- A row filled by rank holds in place `p` the value at the position of rank `p`. -/
theorem filled_at {P : Nat → Nat → Nat} {w : Fin 20} {cv : Nat → Elt F .f32} {g : Fin 8192 → Elt F .f32}
    (f : Filled P (rankAt (F := F) fr w) cv 64 0 g) (b : Fin 5) (p : Fin 1024) (x : Fin 8192) (hx : x.val = P b.val p.val) :
    g x = cv (b.val * 1024 + (sorted fr w p).val) :=
  f b.val b.isLt (sorted fr w p).val (by have := (sorted fr w p).isLt; simpa using this) x (by rw [rankAt_sorted (F := F) (h w) p]; exact hx)

include ok

theorem rows_eq : resO go = refRows (F := F) fr fc := by
  funext i
  rw [eq_ix3 i]
  generalize i 0 = w
  generalize i 1 = b
  generalize i 2 = p
  have hb : b.val < 5 := b.isLt
  have hp : p.val < 1024 := p.isLt
  exact (resO_at go w b p ⟨byRow b.val p.val, by unfold byRow; omega⟩ rfl).trans
    ((filled_at h (ok w).1 b p _ rfl).trans (refRows_at (F := F) fr w fc b p).symm)

theorem places_eq : resP gp = refPlaces (F := F) fr fc := by
  funext i
  rw [eq_ix3 i]
  generalize i 0 = w
  generalize i 1 = p
  generalize i 2 = b
  have hb : b.val < 5 := b.isLt
  have hp : p.val < 1024 := p.isLt
  exact (resP_at gp w p b ⟨byPlace b.val p.val, by unfold byPlace; omega⟩ rfl).trans
    ((filled_at h (ok w).2 b p _ rfl).trans (refPlaces_at (F := F) fr w fc b p).symm)

end

end Cert.Proof.Scatter

end
-- ==== Proof.RadixCount.lean ====
/-
  The 1024th largest of 5120 naturals, found from its leading digits down: what is counted at a prefix, the one prefix at
  which the 1024th largest lies, and the step that appends a digit to it.
-/
module

public import Mathlib.Data.BitVec
public import Mathlib.Algebra.BigOperators.Group.Finset.Basic
public import Mathlib.Algebra.BigOperators.Fin
public import Mathlib.Algebra.Order.BigOperators.Group.Finset
public import Idealize.ShloMosaic.PureOps.Reduce

@[expose] public section

namespace Cert.Proof.Radix

variable (U : Fin 5120 → ℕ)

/-- How many have the prefix `q` once the low `s` bits are dropped. -/
def level (s q : ℕ) : ℕ := (Finset.univ.filter fun x => U x / 2 ^ s = q).card

/-- How many have a larger prefix. -/
def over (s q : ℕ) : ℕ := (Finset.univ.filter fun x => q < U x / 2 ^ s).card

/-- The 1024th largest has the prefix `q`. -/
def Holds (s q : ℕ) : Prop := over U s q < 1024 ∧ 1024 ≤ over U s q + level U s q

theorem over_add_level (s q : ℕ) :
    over U s q + level U s q = (Finset.univ.filter fun x => q ≤ U x / 2 ^ s).card := by
  unfold over level
  rw [← Finset.card_union_of_disjoint (Finset.disjoint_filter.2 fun x _ h e => by omega), ← Finset.filter_or]
  exact congrArg Finset.card (Finset.filter_congr fun x _ => by omega)

theorem over_succ (s q : ℕ) : over U s q = over U s (q + 1) + level U s (q + 1) := by
  rw [over_add_level]; rfl

theorem over_of_lt (s : ℕ) {q q' : ℕ} (h : q < q') : over U s q' + level U s q' ≤ over U s q := by
  rw [over_add_level]
  exact Finset.card_le_card (Finset.monotone_filter_right _ fun x _ hx => lt_of_lt_of_le h hx)

theorem over_le (s q : ℕ) : over U s q + level U s q ≤ 5120 := by
  rw [over_add_level]
  exact (Finset.card_le_univ _).trans (by simp)

variable {U}

theorem Holds.unique {s q q' : ℕ} (h : Holds U s q) (h' : Holds U s q') : q = q' := by
  obtain ⟨h1, h2⟩ := h
  obtain ⟨h3, h4⟩ := h'
  rcases lt_trichotomy q q' with c | c | c
  · have := over_of_lt U s c; omega
  · exact c
  · have := over_of_lt U s c; omega

theorem Holds.top (hU : ∀ x, U x < 2 ^ 32) : Holds U 32 0 := by
  have e : ∀ x, U x / 2 ^ 32 = 0 := fun x => Nat.div_eq_of_lt (hU x)
  refine ⟨?_, ?_⟩
  · unfold over
    rw [Finset.filter_false_of_mem fun x _ => by rw [e x]; omega]
    decide
  · rw [over_add_level, Finset.filter_true_of_mem fun x _ => by omega]
    simp

theorem Holds.lt {s q : ℕ} (hU : ∀ x, U x < 2 ^ 32) (h : Holds U s q) : q < 2 ^ 32 := by
  have h2 := h.2
  rw [over_add_level] at h2
  obtain ⟨x, hx⟩ := Finset.card_pos.1 (lt_of_lt_of_le (by decide) h2)
  exact ((Finset.mem_filter.1 hx).2.trans (Nat.div_le_self _ _)).trans_lt (hU x)

variable (U)

/-- The digits above `b` with the prefix `p`, and the larger prefixes, are what is larger. -/
theorem over_digit (s w p : ℕ) (b : ℕ) (hb : b < 2 ^ w) :
    over U s (p * 2 ^ w + b)
      = over U (s + w) p + ∑ j : Fin (2 ^ w), if b < j.val then level U s (p * 2 ^ w + j.val) else 0 := by
  unfold over level
  rw [← Finset.sum_filter]
  simp only [Finset.card_filter]
  rw [Finset.sum_comm, ← Finset.sum_add_distrib]
  refine Finset.sum_congr rfl fun x _ => ?_
  rw [pow_add, ← Nat.div_div_eq_div_mul]
  generalize U x / 2 ^ s = v
  have hn : 0 < 2 ^ w := Nat.two_pow_pos w
  have hd := Nat.div_add_mod v (2 ^ w)
  have hm := Nat.mod_lt v hn
  generalize v / 2 ^ w = d at *
  generalize v % 2 ^ w = r at *
  generalize 2 ^ w = n at *
  subst hd
  by_cases hp : p < d
  · have h1 : p * n + n ≤ n * d := by rw [← Nat.succ_mul, Nat.mul_comm n]; exact Nat.mul_le_mul_right _ hp
    rw [if_pos (by omega), if_pos hp, Finset.sum_eq_zero fun j _ => if_neg (by have := j.isLt; omega), Nat.add_zero]
  · by_cases he : p = d
    · subst he
      have h1 : n * p = p * n := Nat.mul_comm _ _
      by_cases hr : b < r
      · rw [if_pos (by omega), if_neg hp, Finset.sum_eq_single (⟨r, hm⟩ : Fin n)]
        · rw [if_pos (by show n * p + r = p * n + r; omega)]
        · exact fun j _ hj => if_neg fun e => hj (Fin.ext (by show j.val = r; omega))
        · exact fun hj => absurd (Finset.mem_filter.2 ⟨Finset.mem_univ (⟨r, hm⟩ : Fin n), hr⟩) hj
      · rw [if_neg (by omega), if_neg hp, Finset.sum_eq_zero fun j hj => if_neg (by
          have := (Finset.mem_filter.1 hj).2; omega), Nat.add_zero]
    · have h1 : n * d + n ≤ p * n := by
        rw [← Nat.mul_succ, Nat.mul_comm p]; exact Nat.mul_le_mul_left _ (by omega)
      rw [if_neg (by omega), if_neg hp, Finset.sum_eq_zero fun j _ => if_neg (by omega), Nat.add_zero]

theorem over_first (s w p : ℕ) :
    over U s (p * 2 ^ w) + level U s (p * 2 ^ w) = over U (s + w) p + level U (s + w) p := by
  rw [over_add_level, over_add_level, pow_add]
  refine congrArg Finset.card (Finset.filter_congr fun x _ => ?_)
  rw [← Nat.div_div_eq_div_mul, Nat.le_div_iff_mul_le (Nat.two_pow_pos w)]

theorem over_last (s w p : ℕ) : over U s (p * 2 ^ w + (2 ^ w - 1)) = over U (s + w) p := by
  have hn : 0 < 2 ^ w := Nat.two_pow_pos w
  rw [over_digit U s w p _ (by omega), Finset.sum_eq_zero fun j _ => if_neg (by have := j.isLt; omega), Nat.add_zero]

variable {U}

/-- A prefix of the 1024th largest goes on with one of the digits. -/
theorem Holds.step {s w p : ℕ} (h : Holds U (s + w) p) : ∃ b, b < 2 ^ w ∧ Holds U s (p * 2 ^ w + b) := by
  have hn : 0 < 2 ^ w := Nat.two_pow_pos w
  have hx : ∃ b, over U s (p * 2 ^ w + b) < 1024 := ⟨2 ^ w - 1, by rw [over_last]; exact h.1⟩
  classical
  refine ⟨Nat.find hx, ?_, Nat.find_spec hx, ?_⟩
  · have : Nat.find hx ≤ 2 ^ w - 1 := Nat.find_min' hx (by rw [over_last]; exact h.1)
    omega
  · rcases hb : Nat.find hx with _ | b
    · rw [Nat.add_zero, over_first]; exact h.2
    · have := Nat.find_min hx (m := b) (by omega)
      rw [over_succ] at this
      rw [← Nat.add_assoc]; omega

end Cert.Proof.Radix
-- ==== Proof.RadixWord.lean ====
/-
  One step of the selection in 32-bit words: from the counts of a prefix's digits, the digit that is picked, the count
  still wanted and the count already above.
-/
module

public import proofs.«01_k».proof.Proof.RadixCount
public import Idealize.ShloMosaic.PureOps.Reduce

@[expose] public section

namespace Cert.Proof.Radix

open Idealize.ShloMosaic

local notation "W" => BitVec 32

/-- A sum of counts, as words. -/
theorem ofNat_sum {ι : Type} (S : Finset ι) (f : ι → ℕ) : ∑ i ∈ S, (BitVec.ofNat 32 (f i) : W) = BitVec.ofNat 32 (∑ i ∈ S, f i) := by
  classical
  induction S using Finset.induction_on with
  | empty => rfl
  | insert a S ha ih => rw [Finset.sum_insert ha, Finset.sum_insert ha, ih, BitVec.ofNat_add]

variable {n : ℕ} (h : Fin n → W) (r : W)

/-- The count above a digit. -/
def upper (b : Fin n) : W := ∑ j : Fin n, if b < j then h j else 0

/-- Whether the digit is the one picked. -/
def mark (b : Fin n) : W :=
  (IntOp.andi (IntOp.cmpi .slt (upper h b) r) (IntOp.cmpi .sge (IntOp.addi (upper h b) (h b)) r)).setWidth 32

/-- The digit picked. -/
def digit : W := ∑ b : Fin n, BitVec.ofNat 32 b.val * mark h r b

/-- The count above the digit picked. -/
def gain : W := ∑ b : Fin n, upper h b * mark h r b

theorem toInt_small {a : ℕ} (ha : a < 2 ^ 31) : (BitVec.ofNat 32 a).toInt = a := by
  rw [BitVec.toInt_eq_toNat_of_lt] <;> rw [BitVec.toNat_ofNat, Nat.mod_eq_of_lt (by omega)]
  omega

theorem slt_iff {a b : ℕ} (ha : a < 2 ^ 31) (hb : b < 2 ^ 31) :
    IntOp.cmpi .slt (BitVec.ofNat 32 a) (BitVec.ofNat 32 b) = 1#1 ↔ a < b := by
  show BitVec.ofBool (BitVec.slt _ _) = 1#1 ↔ _
  rw [show ∀ c : Bool, BitVec.ofBool c = 1#1 ↔ c = true from by decide, BitVec.slt_iff_toInt_lt, toInt_small ha, toInt_small hb]
  omega

theorem sge_iff {a b : ℕ} (ha : a < 2 ^ 31) (hb : b < 2 ^ 31) :
    IntOp.cmpi .sge (BitVec.ofNat 32 a) (BitVec.ofNat 32 b) = 1#1 ↔ b ≤ a := by
  show BitVec.ofBool (BitVec.sle _ _) = 1#1 ↔ _
  rw [show ∀ c : Bool, BitVec.ofBool c = 1#1 ↔ c = true from by decide, BitVec.sle_iff_toInt_le, toInt_small ha, toInt_small hb]
  omega

theorem and_iff (a b : BitVec 1) : IntOp.andi a b = 1#1 ↔ a = 1#1 ∧ b = 1#1 := by revert a b; decide

theorem bit_word (a : BitVec 1) (p : Prop) [Decidable p] (h : a = 1#1 ↔ p) : a.setWidth 32 = BitVec.ofNat 32 (if p then 1 else 0) := by
  by_cases hp : p
  · rw [if_pos hp, h.2 hp]; rfl
  · rw [if_neg hp, show a = 0#1 from by
      rcases (by decide : ∀ a : BitVec 1, a = 0#1 ∨ a = 1#1) a with e | e
      · exact e
      · exact absurd (h.1 e) hp]
    rfl

variable {U : Fin 5120 → ℕ} {s w p : ℕ}

/-- The step, from the counts of the digits after the prefix at which the 1024th largest lies. -/
theorem pick (hp : Holds U (s + w) p) (hn : n = 2 ^ w) (hh : ∀ b : Fin n, h b = BitVec.ofNat 32 (level U s (p * 2 ^ w + b.val)))
    (hr : r = BitVec.ofNat 32 (1024 - over U (s + w) p)) :
    ∃ b, b < 2 ^ w ∧ Holds U s (p * 2 ^ w + b) ∧ digit h r = BitVec.ofNat 32 b
      ∧ gain h r + BitVec.ofNat 32 (over U (s + w) p) = BitVec.ofNat 32 (over U s (p * 2 ^ w + b))
      ∧ r - gain h r = BitVec.ofNat 32 (1024 - over U s (p * 2 ^ w + b)) := by
  subst hn
  obtain ⟨b, hb, hB⟩ := hp.step
  have hup : ∀ a : Fin (2 ^ w), ∃ S, over U s (p * 2 ^ w + a.val) = over U (s + w) p + S ∧ upper h a = BitVec.ofNat 32 S := fun a =>
    ⟨_, over_digit U s w p a.val a.isLt, by
      unfold upper
      rw [← ofNat_sum]
      refine Finset.sum_congr rfl fun j _ => ?_
      by_cases hj : a < j
      · rw [if_pos hj, if_pos (show a.val < j.val from hj), hh]
      · rw [if_neg hj, if_neg (show ¬ a.val < j.val from hj)]; rfl⟩
  have hm : ∀ a : Fin (2 ^ w), mark h r a = BitVec.ofNat 32 (if a = ⟨b, hb⟩ then 1 else 0) := fun a => by
    obtain ⟨S, h1, h2⟩ := hup a
    have hle := over_le U s (p * 2 ^ w + a.val)
    have hlt := hp.1
    refine bit_word _ _ ?_
    rw [and_iff, h2, hr, hh, slt_iff (by omega) (by omega),
      show IntOp.addi (BitVec.ofNat 32 S) (BitVec.ofNat 32 (level U s (p * 2 ^ w + a.val))) = BitVec.ofNat 32 (S + level U s (p * 2 ^ w + a.val)) from
        (BitVec.ofNat_add _ _).symm, sge_iff (by omega) (by omega)]
    constructor
    · exact fun ⟨c1, c2⟩ => Fin.ext (Nat.add_left_cancel (Holds.unique (U := U) (s := s) ⟨by omega, by omega⟩ hB))
    · rintro rfl
      have := hB.1
      have := hB.2
      simp only at h1
      exact ⟨by omega, by simp only; omega⟩
  have hd : ∀ f : Fin (2 ^ w) → W, ∑ a, f a * mark h r a = f ⟨b, hb⟩ := fun f => by
    rw [Finset.sum_eq_single (⟨b, hb⟩ : Fin (2 ^ w))]
    · rw [hm, if_pos rfl]; exact BitVec.mul_one _
    · exact fun a _ ha => by rw [hm, if_neg ha]; exact BitVec.mul_zero
    · exact fun c => absurd (Finset.mem_univ _) c
  obtain ⟨S, h1, h2⟩ := hup ⟨b, hb⟩
  have hg : gain h r = BitVec.ofNat 32 S := (hd _).trans h2
  simp only at h1
  have hb1 := hB.1
  refine ⟨b, hb, hB, hd fun a => BitVec.ofNat 32 a.val, ?_, ?_⟩
  · rw [hg, ← BitVec.ofNat_add, h1, Nat.add_comm]
  · rw [hg, hr, h1]
    apply BitVec.eq_of_toNat_eq
    rw [BitVec.toNat_sub_of_le] <;> simp only [BitVec.le_def, BitVec.toNat_ofNat] <;> omega

/-- A digit appended to a prefix. -/
theorem append_digit {w p b : ℕ} (hb : b < 2 ^ w) (hp : p * 2 ^ w + b < 2 ^ 32) :
    (BitVec.ofNat 32 p <<< w) ||| BitVec.ofNat 32 b = (BitVec.ofNat 32 (p * 2 ^ w + b) : W) := by
  have h1 : p ≤ p * 2 ^ w := Nat.le_mul_of_pos_right _ (Nat.two_pow_pos w)
  apply BitVec.eq_of_toNat_eq
  rw [BitVec.toNat_or, BitVec.toNat_shiftLeft, BitVec.toNat_ofNat, BitVec.toNat_ofNat, BitVec.toNat_ofNat, Nat.shiftLeft_eq,
    Nat.mod_eq_of_lt (show p < 2 ^ 32 by omega), Nat.mod_eq_of_lt (show p * 2 ^ w < 2 ^ 32 by omega),
    Nat.mod_eq_of_lt (show b < 2 ^ 32 by omega), Nat.mod_eq_of_lt hp, Nat.mul_comm p, ← Nat.two_pow_add_eq_or_of_lt hb]

end Cert.Proof.Radix
-- ==== Proof.RadixLane.lean ====
/-
  The selection's vectors read at an index: a histogram's row sums, the sums above a row, the row that is picked, and a
  chunk's contribution to the histogram.
-/
module

public import proofs.«01_k».proof.Proof.RadixWord
public import proofs.«01_k».proof.Proof.Gen.SelectIdeal.Value
public import Idealize.ShloMosaic.Lib.ValueLayout

@[expose] public section

noncomputable section

namespace Cert.Proof.Radix

open Idealize.ShloMosaic Idealize.ShloMosaic.ValueIdx
open Cert.SelectIdeal Cert.SelectIdeal.Gen

/-! ### Sums along an axis -/

section
variable {n k : ℕ}

/-- A sum over the second axis, at a row. -/
theorem row_sum (h : (⟨2, ![n, k]⟩ : Shape).Reduces [1] ⟨1, ![n]⟩) (x : IVec ⟨2, ![n, k]⟩ 32) (b : Fin n) :
    multiReductionI .add [1] ⟨1, ![n]⟩ x 0#32 h rfl (ix1 b) = ∑ l : Fin k, x (ix2 b l) := by
  refine (reduceFold_add_eq_sum h (0#32 : BitVec 32) x (ix1 b)).trans ?_
  rw [show (0#32 : BitVec 32) = 0 from rfl, zero_add, h.filter_drop_eq_image_lift (ix1 b),
    Finset.sum_image fun u _ v _ e => h.lift_injective (ix1 b) e]
  refine Finset.sum_congr rfl fun l _ => congrArg x (funext fun a => Fin.ext ((Shape.Reduces.lift_val h (ix1 b) l a).trans ?_))
  match a with
  | 0 => rfl
  | 1 => rfl

/-- The column of the row sums, at a row. -/
theorem column_sum (h : (⟨2, ![n, k]⟩ : Shape).Reduces [1] ⟨1, ![n]⟩) (hc : (⟨1, ![n]⟩ : Shape).ShapeCasts ⟨2, ![n, 1]⟩)
    (x : IVec ⟨2, ![n, k]⟩ 32) (b : Fin n) :
    shapeCast ⟨2, ![n, 1]⟩ (multiReductionI .add [1] ⟨1, ![n]⟩ x 0#32 h rfl) hc (ix2 b 0) = ∑ l : Fin k, x (ix2 b l) :=
  (shapeCast_apply _ hc (ix2 b 0) (ix1 b) (by
    rw [Shape.rowMajor_val_two, Shape.rowMajor_val_one]
    show b.val = b.val * 1 + 0
    omega)).trans (row_sum h x b)

/-- The sum of a block of one column. -/
theorem all_sum (h : (⟨3, ![1, n, 1]⟩ : Shape).Reduces [1, 2] ⟨1, ![1]⟩) (y : IVec ⟨3, ![1, n, 1]⟩ 32) (j : (⟨1, ![1]⟩ : Shape).Idx) :
    multiReductionI .add [1, 2] ⟨1, ![1]⟩ y 0#32 h rfl j = ∑ b : Fin n, y (ix3 0 b 0) := by
  refine (reduceFold_add_eq_sum h (0#32 : BitVec 32) y j).trans ?_
  have hs : Subsingleton (⟨1, ![1]⟩ : Shape).Idx := ⟨fun i j => funext fun a => by
    obtain rfl := Fin.fin_one_eq_zero a
    exact Subsingleton.elim (α := Fin 1) _ _⟩
  rw [show (0#32 : BitVec 32) = 0 from rfl, zero_add, Finset.filter_true_of_mem fun i _ => Subsingleton.elim _ _]
  refine (Fintype.sum_equiv (⟨fun b => ix3 0 b 0, fun i => i 1, fun _ => rfl, fun i => funext fun a => Fin.ext ?_⟩ : Fin n ≃ (⟨3, ![1, n, 1]⟩ : Shape).Idx)
    _ _ fun b => rfl).symm
  match a with
  | 0 => have h0 := (i 0).isLt; exact (Nat.lt_one_iff.1 h0).symm
  | 1 => rfl
  | 2 => have h2 := (i 2).isLt; exact (Nat.lt_one_iff.1 h2).symm

/-- The sum of a column. -/
theorem whole_sum (h : (⟨3, ![1, n, 1]⟩ : Shape).Reduces [1, 2] ⟨1, ![1]⟩) (hc : (⟨2, ![n, 1]⟩ : Shape).ShapeCasts ⟨3, ![1, n, 1]⟩)
    (ho : (⟨1, ![1]⟩ : Shape).ShapeCasts ⟨3, ![1, 1, 1]⟩) (hp : ∀ a, (![0, 0, 0] : Fin 3 → ℕ) a < (⟨3, ![1, 1, 1]⟩ : Shape).size a)
    (x : IVec ⟨2, ![n, 1]⟩ 32) :
    extractAt ![0, 0, 0] (shapeCast ⟨3, ![1, 1, 1]⟩ (multiReductionI .add [1, 2] ⟨1, ![1]⟩ (shapeCast ⟨3, ![1, n, 1]⟩ x hc) 0#32 h rfl) ho) hp
      = ∑ b : Fin n, x (ix2 b 0) :=
  (all_sum h _ _).trans (Finset.sum_congr rfl fun b _ => shapeCast_ab_1ab_apply x hc 0 b 0)

/-- A column laid along each row. -/
theorem along_row (hc : (⟨2, ![n, 1]⟩ : Shape).ShapeCasts ⟨2, ![1, n]⟩) (hi : (⟨2, ![1, n]⟩ : Shape).ShapeCasts ⟨2, ![1, n]⟩)
    (hb : (⟨2, ![1, n]⟩ : Shape).Broadcasts ⟨2, ![n, n]⟩) (x : IVec ⟨2, ![n, 1]⟩ 32) (b j : Fin n) :
    broadcastTo ⟨2, ![n, n]⟩ (shapeCast ⟨2, ![1, n]⟩ (shapeCast ⟨2, ![1, n]⟩ x hc) hi) hb (ix2 b j) = x (ix2 j 0) := by
  rw [shapeCast_self]
  refine (broadcastTo_apply _ hb (ix2 b j) (ix2 0 j) fun a => ?_).trans (shapeCast_apply _ hc _ (ix2 j 0) ?_)
  · match a with
    | 0 => rfl
    | 1 =>
      show j.val = if n = 1 then 0 else j.val
      split_ifs with e
      · have := j.isLt; omega
      · rfl
  · rw [Shape.rowMajor_val_two, Shape.rowMajor_val_two]
    show j.val * 1 + 0 = 0 * n + j.val
    omega

/-- The sums above a row. -/
theorem upper_column (hr : (⟨2, ![n, n]⟩ : Shape).Reduces [1] ⟨1, ![n]⟩) (hs : (⟨1, ![n]⟩ : Shape).ShapeCasts ⟨2, ![n, 1]⟩)
    (hc : (⟨2, ![n, 1]⟩ : Shape).ShapeCasts ⟨2, ![1, n]⟩) (hi : (⟨2, ![1, n]⟩ : Shape).ShapeCasts ⟨2, ![1, n]⟩)
    (hb : (⟨2, ![1, n]⟩ : Shape).Broadcasts ⟨2, ![n, n]⟩) (h0 : (⟨2, ![n, n]⟩ : Shape).Iotas .tc 32 [0])
    (h1 : (⟨2, ![n, n]⟩ : Shape).Iotas .tc 32 [1]) (hn : n ≤ 128) (x : IVec ⟨2, ![n, 1]⟩ 32) (b : Fin n) :
    shapeCast ⟨2, ![n, 1]⟩ (multiReductionI .add [1] ⟨1, ![n]⟩
      (select (cmpi .sgt (iota .tc ⟨2, ![n, n]⟩ 32 [1] h1) (iota .tc ⟨2, ![n, n]⟩ 32 [0] h0))
        (broadcastTo ⟨2, ![n, n]⟩ (shapeCast ⟨2, ![1, n]⟩ (shapeCast ⟨2, ![1, n]⟩ x hc) hi) hb) (broadcast ⟨2, ![n, n]⟩ 0#32)) 0#32 hr rfl) hs (ix2 b 0)
      = upper (fun j => x (ix2 j 0)) b := by
  refine (column_sum hr hs _ b).trans (Finset.sum_congr rfl fun j _ => ?_)
  show Scalar.select (IntOp.cmpi .slt (BitVec.ofNat 32 (0 * n + b.val)) (BitVec.ofNat 32 (0 * n + j.val))) (broadcastTo _ _ hb (ix2 b j)) 0#32 = _
  have hbn := b.isLt
  have hjn := j.isLt
  rw [along_row, Nat.zero_mul, Nat.zero_add, Nat.zero_add]
  unfold Scalar.select
  have e : IntOp.cmpi .slt (BitVec.ofNat 32 b.val) (BitVec.ofNat 32 j.val) = 1 ↔ b.val < j.val := slt_iff (by omega) (by omega)
  by_cases hlt : b < j
  · rw [if_pos hlt, if_pos (e.2 hlt)]
  · rw [if_neg hlt, if_neg fun c => hlt (e.1 c)]; rfl

/-- A chunk's lane, on each row. -/
theorem on_rows {α : Type} (hb : (⟨2, ![1, k]⟩ : Shape).Broadcasts ⟨2, ![n, k]⟩) (x : (⟨2, ![1, k]⟩ : Shape).Idx → α) (b : Fin n) (l : Fin k) :
    broadcastTo ⟨2, ![n, k]⟩ x hb (ix2 b l) = x (ix2 0 l) := by
  refine broadcastTo_apply _ hb (ix2 b l) (ix2 0 l) fun a => ?_
  match a with
  | 0 => rfl
  | 1 =>
    show l.val = if k = 1 then 0 else l.val
    split_ifs with e
    · have := l.isLt; omega
    · rfl

end

theorem lane_at (v : IVec S1x1x128 32) (l : Fin 128) :
    shapeCast S1x128 (shapeCast S128 v shapeCasts_S1x1x128_S128) shapeCasts_S128_S1x128 (ix2 0 l) = v (ix3 0 0 l) :=
  (shapeCast_apply _ _ _ (ix1 l) (by
    rw [Shape.rowMajor_val_two, Shape.rowMajor_val_one]; show l.val = 0 * 128 + l.val; omega)).trans
  (shapeCast_apply _ _ _ (ix3 0 0 l) (by
    rw [Shape.rowMajor_val_three, Shape.rowMajor_val_one]; show (0 * 1 + 0) * 128 + l.val = l.val; omega))

/-! ### The level's picked digit -/

/-- A histogram's rows. -/
def rows {n : ℕ} (acc : IVec ⟨2, ![n, 128]⟩ 32) (b : Fin n) : BitVec 32 := ∑ l : Fin 128, acc (ix2 b l)

section
variable (r : BitVec 32) (acc : IVec S128x128 32)

theorem hist_at (b : Fin 128) : k0_pay11 acc (ix2 b 0) = rows acc b :=
  column_sum reduces_S128x128_S128 shapeCasts_S128_S128x1 acc b

theorem upper_at (b : Fin 128) : k0_pay12 acc (ix2 b 0) = upper (rows acc) b :=
  (upper_column reduces_S128x128_S128 shapeCasts_S128_S128x1 shapeCasts_S128x1_S1x128 shapeCasts_S1x128_S1x128
    broadcasts_S1x128_S128x128 iota_S128x128_d0_w32 iota_S128x128_d1_w32 le_rfl (k0_pay11 acc) b).trans
    (congrArg (fun f => upper f b) (funext fun j => hist_at acc j))

theorem mark_at (b : Fin 128) : k0_pay13 r acc (ix2 b 0) = mark (rows acc) r b := by
  show (IntOp.andi (IntOp.cmpi .slt (k0_pay12 acc (ix2 b 0)) r)
    (IntOp.cmpi .sge (IntOp.addi (k0_pay12 acc (ix2 b 0)) (k0_pay11 acc (ix2 b 0))) r)).setWidth 32 = _
  rw [upper_at, hist_at]
  rfl

theorem digit_at : extractAt ![0, 0, 0] (k0_pay14 r acc) inpos_S1x1x1_p0_0_0 = digit (rows acc) r := by
  refine (whole_sum reduces_S1x128x1_S1 shapeCasts_S128x1_S1x128x1 shapeCasts_S1_S1x1x1 inpos_S1x1x1_p0_0_0 _).trans
    (Finset.sum_congr rfl fun b _ => ?_)
  show BitVec.ofNat 32 (0 * 128 + b.val) * k0_pay13 r acc (ix2 b 0) = _
  rw [mark_at, Nat.zero_mul, Nat.zero_add]

theorem gain_at : extractAt ![0, 0, 0] (k0_pay15 r acc) inpos_S1x1x1_p0_0_0 = gain (rows acc) r := by
  refine (whole_sum reduces_S1x128x1_S1 shapeCasts_S128x1_S1x128x1 shapeCasts_S1_S1x1x1 inpos_S1x1x1_p0_0_0 _).trans
    (Finset.sum_congr rfl fun b _ => ?_)
  show k0_pay12 acc (ix2 b 0) * k0_pay13 r acc (ix2 b 0) = _
  rw [mark_at, upper_at]

end

end Cert.Proof.Radix

end
-- ==== Proof.RadixHist.lean ====
/-
  The selection's histograms: what a chunk of 128 keys adds to a level's histogram, and what the 40 chunks of a row leave.
-/
module

public import proofs.«01_k».proof.Proof.RadixLane

@[expose] public section

noncomputable section

namespace Cert.Proof.Radix

open Idealize.ShloMosaic Idealize.ShloMosaic.ValueIdx
open Cert.SelectIdeal Cert.SelectIdeal.Gen

/-! ### A key's digit -/

theorem eq_word (a b : BitVec 32) : IntOp.cmpi .eq a b = 1#1 ↔ a.toNat = b.toNat := by
  show BitVec.ofBool (a == b) = 1#1 ↔ _
  rw [show ∀ c : Bool, BitVec.ofBool c = 1#1 ↔ c = true from by decide, beq_iff_eq, BitVec.toNat_inj]

theorem drop_bits (x : BitVec 32) {s : ℕ} (hs : s < 32) : (IntOp.shrui .vector x (BitVec.ofNat 32 s)).toNat = x.toNat / 2 ^ s := by
  have h : (BitVec.ofNat 32 s).toNat = s := by rw [BitVec.toNat_ofNat]; exact Nat.mod_eq_of_lt (by omega)
  unfold IntOp.shrui
  rw [if_pos (by rw [h]; exact hs)]
  show (x >>> (BitVec.ofNat 32 s).toNat).toNat = _
  rw [h, BitVec.toNat_ushiftRight, Nat.shiftRight_eq_div_pow]

theorem low_bits (x : BitVec 32) {w : ℕ} (hw : w < 32) : (IntOp.andi x (BitVec.ofNat 32 (2 ^ w - 1))).toNat = x.toNat % 2 ^ w := by
  have h : 2 ^ w < 2 ^ 32 := Nat.pow_lt_pow_right (by decide) hw
  show (x &&& BitVec.ofNat 32 (2 ^ w - 1)).toNat = _
  rw [BitVec.toNat_and, BitVec.toNat_ofNat, Nat.mod_eq_of_lt (by omega), Nat.and_two_pow_sub_one_eq_mod]

theorem digit_iff (x : BitVec 32) {s w b : ℕ} (hs : s < 32) (hw : w < 32) (hb : b < 2 ^ w) :
    IntOp.cmpi .eq (IntOp.andi (IntOp.shrui .vector x (BitVec.ofNat 32 s)) (BitVec.ofNat 32 (2 ^ w - 1))) (BitVec.ofNat 32 b) = 1#1
      ↔ x.toNat / 2 ^ s % 2 ^ w = b := by
  have h : 2 ^ w < 2 ^ 32 := Nat.pow_lt_pow_right (by decide) hw
  rw [eq_word, low_bits _ hw, drop_bits _ hs, BitVec.toNat_ofNat, Nat.mod_eq_of_lt (show b < 2 ^ 32 by omega)]

/-- Whether a key has a prefix and a digit after it. -/
theorem hit_iff (x : BitVec 32) {s w p b : ℕ} (hs : s + w < 32) (hp : p < 2 ^ 32) (hb : b < 2 ^ w) :
    IntOp.andi (IntOp.cmpi .eq (IntOp.andi (IntOp.shrui .vector x (BitVec.ofNat 32 s)) (BitVec.ofNat 32 (2 ^ w - 1))) (BitVec.ofNat 32 b))
        (IntOp.cmpi .eq (IntOp.shrui .vector x (BitVec.ofNat 32 (s + w))) (BitVec.ofNat 32 p)) = 1#1
      ↔ x.toNat / 2 ^ s = p * 2 ^ w + b := by
  rw [and_iff, digit_iff x (by omega) (by omega) hb, eq_word, drop_bits _ hs, BitVec.toNat_ofNat, Nat.mod_eq_of_lt hp, pow_add,
    ← Nat.div_div_eq_div_mul]
  generalize x.toNat / 2 ^ s = v
  have hd := Nat.div_add_mod v (2 ^ w)
  constructor
  · rintro ⟨h1, h2⟩
    rw [← hd, h1, h2, Nat.mul_comm]
  · rintro rfl
    rw [Nat.mul_comm p]
    exact ⟨by rw [Nat.mul_add_mod, Nat.mod_eq_of_lt hb], by
      rw [Nat.mul_add_div (Nat.two_pow_pos w), Nat.div_eq_of_lt hb, Nat.add_zero]⟩

theorem top_iff (x : BitVec 32) {b : ℕ} (hb : b < 2 ^ 7) :
    IntOp.cmpi .eq (IntOp.andi (IntOp.shrui .vector x 25#32) 127#32) (BitVec.ofNat 32 b) = 1#1 ↔ x.toNat / 2 ^ 25 = 0 * 2 ^ 7 + b := by
  have := x.isLt
  refine (digit_iff x (s := 25) (w := 7) (by decide) (by decide) hb).trans ?_
  omega

/-! ### A chunk's contribution -/

/-- One key, counted if it has the prefix and the digit. -/
def one (s w p : ℕ) (x : BitVec 32) (b : ℕ) : ℕ := if x.toNat / 2 ^ s = p * 2 ^ w + b then 1 else 0

section
variable {n : ℕ} (acc : IVec ⟨2, ![n, 128]⟩ 32) (v : IVec S1x1x128 32)

/-- A histogram after a chunk, each lane's key tested for a digit after a prefix. -/
def bump (hb : S1x128.Broadcasts ⟨2, ![n, 128]⟩) (hi : (⟨2, ![n, 128]⟩ : Shape).Iotas .tc 32 [0]) (s m h p : BitVec 32) : IVec ⟨2, ![n, 128]⟩ 32 :=
  addi acc (extui 32 (andi
    (cmpi .eq (broadcastTo ⟨2, ![n, 128]⟩ (andi (shrui (shapeCast S1x128 (shapeCast S128 v shapeCasts_S1x1x128_S128) shapeCasts_S128_S1x128)
      (broadcast S1x128 s)) (broadcast S1x128 m)) hb) (iota .tc ⟨2, ![n, 128]⟩ 32 [0] hi))
    (broadcastTo ⟨2, ![n, 128]⟩ (cmpi .eq (shrui (shapeCast S1x128 (shapeCast S128 v shapeCasts_S1x1x128_S128) shapeCasts_S128_S1x128)
      (broadcast S1x128 h)) (broadcast S1x128 p)) hb)) natLt_1_32)

theorem bump_at (hb : S1x128.Broadcasts ⟨2, ![n, 128]⟩) (hi : (⟨2, ![n, 128]⟩ : Shape).Iotas .tc 32 [0]) {s w p : ℕ} (hs : s + w < 32)
    (hp : p < 2 ^ 32) (hn : n = 2 ^ w) (b : Fin n) (l : Fin 128) :
    bump acc v hb hi (BitVec.ofNat 32 s) (BitVec.ofNat 32 (2 ^ w - 1)) (BitVec.ofNat 32 (s + w)) (BitVec.ofNat 32 p) (ix2 b l)
      = acc (ix2 b l) + BitVec.ofNat 32 (one s w p (v (ix3 0 0 l)) b.val) := by
  refine congrArg (acc (ix2 b l) + ·) (bit_word _ _ ?_)
  show IntOp.andi (IntOp.cmpi .eq (broadcastTo _ _ hb (ix2 b l)) (BitVec.ofNat 32 (0 * n + b.val))) (broadcastTo _ _ hb (ix2 b l)) = 1#1 ↔ _
  rw [on_rows, on_rows, Nat.zero_mul, Nat.zero_add]
  show IntOp.andi (IntOp.cmpi .eq (IntOp.andi (IntOp.shrui .vector (shapeCast S1x128 _ _ (ix2 0 l)) _) _) _)
    (IntOp.cmpi .eq (IntOp.shrui .vector (shapeCast S1x128 _ _ (ix2 0 l)) _) _) = 1#1 ↔ _
  rw [lane_at]
  exact hit_iff _ hs hp (hn ▸ b.isLt)

theorem top_at {F : FTy → Type} [FloatOps F] (acc : IVec S128x128 32) (b l : Fin 128) :
    k0_pay3 (F := F) acc v (ix2 b l) = acc (ix2 b l) + BitVec.ofNat 32 (one 25 7 0 (v (ix3 0 0 l)) b.val) := by
  refine congrArg (acc (ix2 b l) + ·) (bit_word _ _ ?_)
  show IntOp.cmpi .eq (broadcastTo _ _ broadcasts_S1x128_S128x128 (ix2 b l)) (BitVec.ofNat 32 (0 * 128 + b.val)) = 1#1 ↔ _
  rw [on_rows, Nat.zero_mul, Nat.zero_add]
  show IntOp.cmpi .eq (IntOp.andi (IntOp.shrui .vector (shapeCast S1x128 _ _ (ix2 0 l)) _) _) _ = 1#1 ↔ _
  rw [lane_at]
  exact top_iff _ b.isLt

end

/-! ### A row's chunks -/

/-- The histogram the 40 chunks leave, row by row, counts the keys. -/
theorem rows_of {n s w p : ℕ} (u : Fin 5120 → BitVec 32) (st : ℕ → IVec ⟨2, ![n, 128]⟩ 32) (h0 : st 0 = broadcast ⟨2, ![n, 128]⟩ 0#32)
    (hst : ∀ (k : Fin 40) (b : Fin n) (l : Fin 128), st (k.val + 1) (ix2 b l)
      = st k.val (ix2 b l) + BitVec.ofNat 32 (one s w p (u ⟨l.val + 128 * k.val, by omega⟩) b.val)) (b : Fin n) :
    rows (st 40) b = BitVec.ofNat 32 (level (fun x => (u x).toNat) s (p * 2 ^ w + b.val)) := by
  have h : ∀ k : ℕ, ∀ hk : k ≤ 40, ∀ l : Fin 128, st k (ix2 b l)
      = BitVec.ofNat 32 (∑ j : Fin k, one s w p (u ⟨l.val + 128 * j.val, by omega⟩) b.val) := by
    intro k
    induction k with
    | zero => intro _ l; rw [h0]; rfl
    | succ k ih =>
      intro hk l
      rw [hst ⟨k, by omega⟩ b l, ih (by omega) l, Fin.sum_univ_castSucc, BitVec.ofNat_add]
      rfl
  unfold rows level
  rw [Finset.sum_congr rfl fun l _ => h 40 le_rfl l, ofNat_sum, Finset.card_filter, Finset.sum_comm, ← Fintype.sum_prod_type']
  refine congrArg (BitVec.ofNat 32) (Fintype.sum_equiv finProdFinEquiv _ _ fun x => rfl)

variable {F : FTy → Type} [FloatOps F]

/-- The chunk of keys a trip reads. -/
abbrev chunk (arg1 : Memref sig .tc .vmem S1x1x5120 .i32) (X : BufTy.Contents (Elt F) arg1.view.ty) (k : Fin k0_t1_loop.trips) :
    Vec F S1x1x128 .i32 :=
  View.readAt (Elt F) arg1.view (Rect.unit (s := S1x1x5120) (k0_off1 k) S1x1x128.size (k0_off1_inb k)).toLoadRect X

theorem chunk_offset : ∀ k : Fin k0_t1_loop.trips, k0_off1 k 2 = 128 * k.val := by decide +kernel

theorem chunk_at (arg1 : Memref sig .tc .vmem S1x1x5120 .i32) (harg1 : arg1.IsWhole) (x : Vec F S1x1x5120 .i32)
    (k : Fin 40) (l : Fin 128) : chunk arg1 (harg1.unread x) k (ix3 0 0 l) = x (ix3 0 0 ⟨l.val + 128 * k.val, by omega⟩) := by
  unfold chunk
  rw [View.readAt_eq_ld, harg1.read_unread]
  refine congrArg x (funext fun a => Fin.ext ?_)
  match a with
  | 0 => rfl
  | 1 => rfl
  | 2 =>
    show k0_off1 k 2 + 1 * l.val = l.val + 128 * k.val
    rw [chunk_offset k]
    omega

end Cert.Proof.Radix

end
-- ==== Proof.RadixLevels.lean ====
/-
  The selection's five levels: from the histograms its loops leave to the key value and the count its block holds.
-/
module

public import proofs.«01_k».proof.Proof.RadixHist

@[expose] public section

noncomputable section

namespace Cert.Proof.Radix

open Idealize.ShloMosaic Idealize.ShloMosaic.ValueIdx
open Cert.SelectIdeal Cert.SelectIdeal.Gen

local notation "W" => BitVec 32

/-! ### The digit picked at the last level -/

section
variable (A : IVec S16x128 32)

theorem hist16_at (b : Fin 16) : k0_pay36 A (ix2 b 0) = rows A b :=
  column_sum reduces_S16x128_S16 shapeCasts_S16_S16x1 A b

theorem upper16_at (b : Fin 16) : k0_pay37 A (ix2 b 0) = upper (rows A) b :=
  (upper_column reduces_S16x16_S16 shapeCasts_S16_S16x1 shapeCasts_S16x1_S1x16 shapeCasts_S1x16_S1x16
    broadcasts_S1x16_S16x16 iota_S16x16_d0_w32 iota_S16x16_d1_w32 (by decide) (k0_pay36 A) b).trans
    (congrArg (fun f => upper f b) (funext fun j => hist16_at A j))

/-- The last level's mark, the count wanted being `r`. -/
def mark16 (r : W) : IVec S16x1 32 :=
  extui 32 (andi (cmpi .slt (k0_pay37 A) (broadcast S16x1 r)) (cmpi .sge (addi (k0_pay37 A) (k0_pay36 A)) (broadcast S16x1 r))) natLt_1_32

theorem mark16_at (r : W) (b : Fin 16) : mark16 A r (ix2 b 0) = mark (rows A) r b := by
  show (IntOp.andi (IntOp.cmpi .slt (k0_pay37 A (ix2 b 0)) r)
    (IntOp.cmpi .sge (IntOp.addi (k0_pay37 A (ix2 b 0)) (k0_pay36 A (ix2 b 0))) r)).setWidth 32 = _
  rw [upper16_at, hist16_at]
  rfl

theorem digit16_at (r : W) :
    extractAt ![0, 0, 0] (shapeCast S1x1x1 (multiReductionI .add [1, 2] S1 (shapeCast S1x16x1
      (muli (iota .tc S16x1 32 [0] iota_S16x1_d0_w32) (mark16 A r)) shapeCasts_S16x1_S1x16x1) 0#32 reduces_S1x16x1_S1 rfl)
      shapeCasts_S1_S1x1x1) inpos_S1x1x1_p0_0_0 = digit (rows A) r := by
  refine (whole_sum reduces_S1x16x1_S1 shapeCasts_S16x1_S1x16x1 shapeCasts_S1_S1x1x1 inpos_S1x1x1_p0_0_0 _).trans
    (Finset.sum_congr rfl fun b _ => ?_)
  show BitVec.ofNat 32 (0 * 16 + b.val) * mark16 A r (ix2 b 0) = _
  rw [mark16_at, Nat.zero_mul, Nat.zero_add]

theorem gain16_at (r : W) :
    extractAt ![0, 0, 0] (shapeCast S1x1x1 (multiReductionI .add [1, 2] S1 (shapeCast S1x16x1
      (muli (k0_pay37 A) (mark16 A r)) shapeCasts_S16x1_S1x16x1) 0#32 reduces_S1x16x1_S1 rfl)
      shapeCasts_S1_S1x1x1) inpos_S1x1x1_p0_0_0 = gain (rows A) r := by
  refine (whole_sum reduces_S1x16x1_S1 shapeCasts_S16x1_S1x16x1 shapeCasts_S1_S1x1x1 inpos_S1x1x1_p0_0_0 _).trans
    (Finset.sum_congr rfl fun b _ => ?_)
  show k0_pay37 A (ix2 b 0) * mark16 A r (ix2 b 0) = _
  rw [mark16_at, upper16_at]

/-- The block's lanes: the prefix with the last digit, the count above it, and zeros. -/
theorem lanes (g p r d : W) (l : Fin 128) :
    k0_pay1 g p (k0_pay37 A) (mark16 A r) d (ix3 0 0 l)
      = if l.val = 0 then Scalar.ori (Scalar.shli p 4#32) d else if l.val = 1 then Scalar.addi g (gain (rows A) r) else 0#32 := by
  have hl := l.isLt
  unfold k0_pay1
  refine (shapeCast_apply _ shapeCasts_S128_S1x1x128 (ix3 0 0 l) (ix1 l) (by
    rw [Shape.rowMajor_val_three, Shape.rowMajor_val_one]; show l.val = (0 * 1 + 0) * 128 + l.val; omega)).trans ?_
  have hi : shapeCast S128 (iota .tc S1x128 32 [1] iota_S1x128_d1_w32) shapeCasts_S1x128_S128 (ix1 l) = BitVec.ofNat 32 l.val :=
    (shapeCast_apply _ _ (ix1 l) (ix2 0 l) (by
      rw [Shape.rowMajor_val_two, Shape.rowMajor_val_one]; show 0 * 128 + l.val = l.val; omega)).trans (by
      show BitVec.ofNat 32 (0 * 128 + l.val) = _; rw [Nat.zero_mul, Nat.zero_add])
  show Scalar.select (IntOp.cmpi .eq (shapeCast S128 _ _ (ix1 l)) 0#32) _ (Scalar.select (IntOp.cmpi .eq (shapeCast S128 _ _ (ix1 l)) 1#32)
    (Scalar.addi g (extractAt _ _ _)) 0#32) = _
  rw [hi, gain16_at]
  have e0 : IntOp.cmpi .eq (BitVec.ofNat 32 l.val) 0#32 = 1 ↔ l.val = 0 :=
    (eq_word _ _).trans (by rw [BitVec.toNat_ofNat, Nat.mod_eq_of_lt (by omega)]; rfl)
  have e1 : IntOp.cmpi .eq (BitVec.ofNat 32 l.val) 1#32 = 1 ↔ l.val = 1 :=
    (eq_word _ _).trans (by rw [BitVec.toNat_ofNat, Nat.mod_eq_of_lt (by omega)]; rfl)
  unfold Scalar.select
  simp only [e0, e1]
  rfl

end

/-! ### A level's words -/

variable (U : Fin 5120 → ℕ)

/-- The words of a level: a prefix at which the 1024th largest lies, the count above it and the count still wanted. -/
def At (s : ℕ) (p g r : W) : Prop :=
  ∃ q, Holds U s q ∧ p = BitVec.ofNat 32 q ∧ g = BitVec.ofNat 32 (over U s q) ∧ r = BitVec.ofNat 32 (1024 - over U s q)

/-- A histogram that counts the digits after a prefix. -/
def Counts {n : ℕ} (s w : ℕ) (p : W) (A : IVec ⟨2, ![n, 128]⟩ 32) : Prop :=
  ∀ q, q < 2 ^ 32 → p = BitVec.ofNat 32 q → ∀ b : Fin n, rows A b = BitVec.ofNat 32 (level U s (q * 2 ^ w + b.val))

variable {U}

theorem At.step {n s w : ℕ} {p g r : W} (hU : ∀ x, U x < 2 ^ 32) (h : At U (s + w) p g r) (hw : w < 32) (hn : n = 2 ^ w)
    {A : IVec ⟨2, ![n, 128]⟩ 32} (hA : Counts U s w p A) :
    At U s (Scalar.ori (Scalar.shli p (BitVec.ofNat 32 w)) (digit (rows A) r)) (Scalar.addi g (gain (rows A) r))
      (Scalar.subi r (gain (rows A) r)) := by
  obtain ⟨q, hq, rfl, rfl, hr⟩ := h
  obtain ⟨b, hb, hB, h1, h2, h3⟩ := pick (rows A) r hq hn (hA q (hq.lt hU) rfl) hr
  have hw' : (BitVec.ofNat 32 w).toNat = w := by rw [BitVec.toNat_ofNat]; exact Nat.mod_eq_of_lt (by omega)
  refine ⟨q * 2 ^ w + b, hB, ?_, ?_, h3⟩
  · rw [h1, ← append_digit hb (hB.lt hU)]
    refine congrArg (· ||| BitVec.ofNat 32 b) ?_
    show IntOp.shli .scalar _ _ = _
    unfold IntOp.shli
    rw [if_pos (by rw [hw']; exact hw)]
    show BitVec.ofNat 32 q <<< (BitVec.ofNat 32 w).toNat = _
    rw [hw']
  · exact (BitVec.add_comm _ _).trans h2

/-- The prefix, the count wanted and the count above after a level. -/
def prefix' (p r : W) (A : IVec S128x128 32) : W := Scalar.ori (Scalar.shli p 7#32) (extractAt ![0, 0, 0] (k0_pay14 r A) inpos_S1x1x1_p0_0_0)
def want (r : W) (A : IVec S128x128 32) : W := Scalar.subi r (extractAt ![0, 0, 0] (k0_pay15 r A) inpos_S1x1x1_p0_0_0)
def above (g r : W) (A : IVec S128x128 32) : W := Scalar.addi g (extractAt ![0, 0, 0] (k0_pay15 r A) inpos_S1x1x1_p0_0_0)

theorem At.next {s : ℕ} {p g r : W} (hU : ∀ x, U x < 2 ^ 32) (h : At U (s + 7) p g r) {A : IVec S128x128 32} (hA : Counts U s 7 p A) :
    At U s (prefix' p r A) (above g r A) (want r A) := by
  unfold prefix' above want
  rw [digit_at, gain_at]
  exact h.step hU (by decide) rfl hA

/-- The five levels. -/
theorem levels (hU : ∀ x, U x < 2 ^ 32) {A1 A2 A3 A4 : IVec S128x128 32} {A5 : IVec S16x128 32} {p1 p2 p3 p4 r1 r2 r3 r4 g1 g2 g3 g4 d : W}
    {M : IVec S16x1 32}
    (e1 : p1 = prefix' 0#32 1024#32 A1 ∧ r1 = want 1024#32 A1 ∧ g1 = above 0#32 1024#32 A1)
    (e2 : p2 = prefix' p1 r1 A2 ∧ r2 = want r1 A2 ∧ g2 = above g1 r1 A2)
    (e3 : p3 = prefix' p2 r2 A3 ∧ r3 = want r2 A3 ∧ g3 = above g2 r2 A3)
    (e4 : p4 = prefix' p3 r3 A4 ∧ r4 = want r3 A4 ∧ g4 = above g3 r3 A4)
    (eM : M = mark16 A5 r4)
    (ed : d = extractAt ![0, 0, 0] (shapeCast S1x1x1 (multiReductionI .add [1, 2] S1 (shapeCast S1x16x1
      (muli (iota .tc S16x1 32 [0] iota_S16x1_d0_w32) M) shapeCasts_S16x1_S1x16x1) 0#32 reduces_S1x16x1_S1 rfl)
      shapeCasts_S1_S1x1x1) inpos_S1x1x1_p0_0_0)
    (h1 : Counts U 25 7 0#32 A1) (h2 : Counts U 18 7 p1 A2) (h3 : Counts U 11 7 p2 A3) (h4 : Counts U 4 7 p3 A4) (h5 : Counts U 0 4 p4 A5) :
    ∃ T, Holds U 0 T ∧ ∀ l : Fin 128, k0_pay1 g4 p4 (k0_pay37 A5) M d (ix3 0 0 l)
      = if l.val = 0 then BitVec.ofNat 32 T else if l.val = 1 then BitVec.ofNat 32 (over U 0 T) else 0#32 := by
  have a0 : At U 32 0#32 0#32 1024#32 := by
    have ht := Holds.top hU
    have hz : over U 32 0 = 0 := by
      unfold over
      rw [Finset.filter_false_of_mem fun x _ => by rw [Nat.div_eq_of_lt (hU x)]; omega]
      rfl
    exact ⟨0, ht, rfl, by rw [hz], by rw [hz, Nat.sub_zero]⟩
  obtain ⟨rfl, rfl, rfl⟩ := e1
  have a1 := At.next (s := 25) hU a0 h1
  obtain ⟨rfl, rfl, rfl⟩ := e2
  have a2 := At.next (s := 18) hU a1 h2
  obtain ⟨rfl, rfl, rfl⟩ := e3
  have a3 := At.next (s := 11) hU a2 h3
  obtain ⟨rfl, rfl, rfl⟩ := e4
  have a4 := At.next (s := 4) hU a3 h4
  subst eM
  rw [digit16_at] at ed
  subst ed
  obtain ⟨T, hT, e1, e2, -⟩ := At.step (s := 0) (w := 4) hU a4 (by decide) rfl h5
  refine ⟨T, hT, fun l => ?_⟩
  rw [lanes, ← e1, ← e2]

end Cert.Proof.Radix

end
-- ==== Proof.RadixOut.lean ====
/-
  What a point of the selection's grid leaves in its block: the 1024th largest key and the count above it.
-/
module

public import proofs.«01_k».proof.Proof.RadixLevels

@[expose] public section

noncomputable section

namespace Cert.Proof.Radix

open Idealize.ShloMosaic Idealize.ShloMosaic.ValueIdx Idealize.ShloMosaic.TcCoe Idealize.SL.Sem Idealize.ShloMosaic.Tactic
open Cert.SelectIdeal Cert.SelectIdeal.Gen

variable {F : FTy → Type} [FloatOps F]

/-- A row of keys, as naturals. -/
abbrev nats (x : Vec F S1x1x5120 .i32) (j : Fin 5120) : ℕ := BitVec.toNat (x (ix3 0 0 j) : BitVec 32)

section
variable {n s w : ℕ} {p : BitVec 32} {arg1 : Memref sig .tc .vmem S1x1x5120 .i32} {harg1 : arg1.IsWhole} {x : Vec F S1x1x5120 .i32}

/-- A loop whose trips test a digit after a prefix counts the keys. -/
theorem counts_of (st : ℕ → IVec ⟨2, ![n, 128]⟩ 32) (hs : s + w < 32) (hn : n = 2 ^ w) (h0 : st 0 = broadcast ⟨2, ![n, 128]⟩ 0#32)
    (hb : S1x128.Broadcasts ⟨2, ![n, 128]⟩) (hi : (⟨2, ![n, 128]⟩ : Shape).Iotas .tc 32 [0])
    (hst : ∀ k : Fin k0_t1_loop.trips, st (k.val + 1) = bump (st k.val) (chunk arg1 (harg1.unread x) k) hb hi
      (BitVec.ofNat 32 s) (BitVec.ofNat 32 (2 ^ w - 1)) (BitVec.ofNat 32 (s + w)) p) :
    Counts (nats x) s w p (st 40) := fun q hq hp b =>
  rows_of (fun j => x (ix3 0 0 j)) st h0 (fun k b l => by
    rw [hst k, hp, bump_at _ _ hb hi hs hq hn b l]
    exact congrArg (fun y => st k.val (ix2 b l) + BitVec.ofNat 32 (one s w q y b.val)) (chunk_at arg1 harg1 x k l)) b

end

variable (c : Dev nD) (i : grid0.Coords) (arg1 : Memref sig .tc .vmem S1x1x5120 .i32) (harg1 : arg1.IsWhole)
  (arg2 : Memref sig .tc .vmem S1x1x128 .i32) (harg2 : arg2.IsWhole)

section
variable (X : BufTy.Contents (Elt F) arg1.view.ty) (k : Fin k0_t1_loop.trips) (p r g z z' : BitVec 32) (A B acc : IVec S128x128 32)

theorem trip1 : tripR_k0_t1 (F := F) Variants.none c none i arg1 harg1 arg2 harg2 X k acc = k0_pay3 (F := F) acc (chunk arg1 X k) := by
  unfold tripR_k0_t1 trip_k0_t1; rfl

theorem trip2 : tripR_k0_t2 (F := F) Variants.none c none i arg1 harg1 arg2 harg2 r g p (iota .tc S128x128 32 [0] iota_S128x128_d0_w32) A z z' X k acc
    = bump acc (chunk arg1 X k) broadcasts_S1x128_S128x128 iota_S128x128_d0_w32 18#32 127#32 25#32 p := by
  unfold tripR_k0_t2 trip_k0_t2; rfl

theorem trip3 : tripR_k0_t3 (F := F) Variants.none c none i arg1 harg1 arg2 harg2 r g p (iota .tc S128x128 32 [0] iota_S128x128_d0_w32) A z z' B X k acc
    = bump acc (chunk arg1 X k) broadcasts_S1x128_S128x128 iota_S128x128_d0_w32 11#32 127#32 18#32 (prefix' p r B) := by
  unfold tripR_k0_t3 trip_k0_t3; rfl

theorem trip4 : tripR_k0_t4 (F := F) Variants.none c none i arg1 harg1 arg2 harg2 r g p (k0_pay18 B) k0_pay19 (k0_pay20 B) X k acc
    = bump acc (chunk arg1 X k) broadcasts_S1x128_S128x128 iota_S128x128_d0_w32 4#32 127#32 11#32 (prefix' p r B) := by
  unfold tripR_k0_t4 trip_k0_t4; rfl

theorem trip5 (acc : IVec S16x128 32) :
    tripR_k0_t5 (F := F) Variants.none c none i arg1 harg1 arg2 harg2 (want r A) g p (k0_pay28 B) (k0_pay29 r (k0_pay18 A) k0_pay19 (k0_pay20 A) B) (k0_pay30 B) X k acc
    = bump acc (chunk arg1 X k) broadcasts_S1x128_S16x128 iota_S16x128_d0_w32 0#32 15#32 4#32 (prefix' p (want r A) B) := by
  unfold tripR_k0_t5 trip_k0_t5; rfl

end

theorem out_at (x : Vec F S1x1x5120 .i32) :
    ∃ T, Holds (nats x) 0 T ∧ ∀ l : Fin 128, out0_A_1 c i arg1 harg1 arg2 harg2 x (ix3 0 0 l)
      = if l.val = 0 then BitVec.ofNat 32 T else if l.val = 1 then BitVec.ofNat 32 (over (nats x) 0 T) else 0#32 := by
  have hz : (![0, 0, 0] : Fin 3 → ℕ) = fun _ => 0 := funext fun a => by fin_cases a <;> rfl
  unfold out0_A_1
  rw [View.read_writes_eq_canon _ _ _ (cover0_A_1 c _ _ _ _ _ _)]
  unfold kernelRun0_A
  dsimp only
  sl_unfold_words
  rw [View.canon_unit_zero hz]
  have hU : ∀ j, nats x j < 2 ^ 32 := fun j => BitVec.isLt _
  refine levels hU ⟨rfl, rfl, rfl⟩ ⟨rfl, rfl, rfl⟩ ⟨rfl, rfl, rfl⟩ ⟨rfl, rfl, rfl⟩ rfl rfl ?_ ?_ ?_ ?_ ?_
  · exact fun q hq hp b => rows_of (fun j => x (ix3 0 0 j)) (st_k0_t1 Variants.none c none i arg1 harg1 arg2 harg2 (harg1.unread x) _) rfl
      (fun k b l => by
        obtain rfl : q = 0 := by
          have e := congrArg BitVec.toNat hp
          rw [BitVec.toNat_ofNat, BitVec.toNat_ofNat, Nat.mod_eq_of_lt hq] at e
          exact e.symm
        refine (congrFun ((st_k0_t1_succ Variants.none c none i arg1 harg1 arg2 harg2 (harg1.unread x) _ k).trans (trip1 ..)) (ix2 b l)).trans ?_
        rw [top_at]
        exact congrArg (fun y => st_k0_t1 Variants.none c none i arg1 harg1 arg2 harg2 (harg1.unread x) _ k.val (ix2 b l)
          + BitVec.ofNat 32 (one 25 7 0 y b.val)) (chunk_at arg1 harg1 x k l)) b
  · exact counts_of (st_k0_t2 Variants.none c none i arg1 harg1 arg2 harg2 _ _ _ _ _ _ _ (harg1.unread x) _) (by decide) rfl rfl _ _
      fun k => (st_k0_t2_succ ..).trans (trip2 ..)
  · exact counts_of (st_k0_t3 Variants.none c none i arg1 harg1 arg2 harg2 _ _ _ _ _ _ _ _ (harg1.unread x) _) (by decide) rfl rfl _ _
      fun k => (st_k0_t3_succ ..).trans (trip3 ..)
  · exact counts_of (st_k0_t4 Variants.none c none i arg1 harg1 arg2 harg2 _ _ _ _ _ _ (harg1.unread x) _) (by decide) rfl rfl _ _
      fun k => (st_k0_t4_succ ..).trans (trip4 ..)
  · exact counts_of (st_k0_t5 Variants.none c none i arg1 harg1 arg2 harg2 _ _ _ _ _ _ (harg1.unread x) _) (by decide) rfl rfl _ _
      fun k => (st_k0_t5_succ ..).trans (trip5 ..)

end Cert.Proof.Radix

end
-- ==== Proof.RadixRef.lean ====
/-
  The selecting call's reference and its precondition, a row at a time: with no key below nought the 4097th of 5120 keys
  sorted upwards is the 1024th largest, and the lanes after the first two are noughts.
-/
module

public import proofs.«01_k».proof.Proof.RadixCount
public import proofs.«01_k».proof.Proof.RefValue
public import proofs.«01_k».proof.Proof.PreFacts
public import proofs.«01_k».proof.Proof.TbLanes
public import proofs.«01_k».proof.Proof.Gen.SelectReferenceIdeal
public import proofs.«01_k».proof.Proof.Gen.Pre_pre_select

@[expose] public section

noncomputable section

namespace Cert.Proof.Radix

open Idealize.ShloMosaic Idealize.ShloMosaic.ValueIdx
open Cert.SelectReferenceIdeal Cert.SelectReferenceIdeal.Gen
open Cert.Proof.RefValue

section
variable (k : IVec S20x5120 32) (w : Fin 20)

/-- Row `w`, as naturals. -/
abbrev row (j : Fin 5120) : ℕ := (k (ix2 w j)).toNat

theorem pre_eq {F : FTy → Type} [FloatOps F] : Cert.Pre_pre_select.fn (F := F) k
    = Host.reduce IntOp.andi (cmpi .sge k (broadcastInDim S20x5120 ![] Cert.Pre_pre_select.Gen.bcast_S_S20x5120 (constantI S_ 32 0#32)))
        (constantI S_ 1 1#1) Cert.Pre_pre_select.Gen.reducesTo_S20x5120_S_d0_1 Cert.Pre_pre_select.Gen.h_S_ := rfl

/-- The precondition: the keys, as naturals, are below the sign bit. -/
theorem row_small {F : FTy → Type} [FloatOps F] (h : Cert.Pre_pre_select.fn (F := F) k = fun _ => 1#1) (j : Fin 5120) : row k w j < 2 ^ 31 := by
  rw [pre_eq] at h
  haveI : Subsingleton S_.Idx := ⟨fun a b => funext fun i => i.elim0⟩
  have e : IntOp.cmpi .sge (k (ix2 w j)) 0#32 = 1#1 := Host.reduce_andi_all _ _ _ _ (fun a => a.elim0) (congrFun h _) (ix2 w j)
  rw [WordCmp.cmpi_sge_eq, WordCmp.ofBool_eq_one_iff, decide_eq_true_eq] at e
  exact (WordCmp.toInt_nonneg_iff_lt_half _).mp e

/-- The positions of row `w` in the order of their keys. -/
def upwards : Fin 5120 → Fin 5120 := sortedFrom fun a b : Fin 5120 => IntOp.cmpi .slt (k (ix2 w a)) (k (ix2 w b)) == 1#1

/-- The key the reference takes. -/
def taken : ℕ := row k w (upwards k w 4096)

section
variable (h : ∀ j, row k w j < 2 ^ 31)
include h

theorem sgt_iff_row (i j : Fin 5120) : IntOp.cmpi .sgt (k (ix2 w j)) (k (ix2 w i)) = 1#1 ↔ row k w i < row k w j := by
  rw [WordCmp.cmpi_sgt_eq, WordCmp.ofBool_eq_one_iff, decide_eq_true_eq, WordCmp.toInt_eq_toNat_of_lt_half (h i),
    WordCmp.toInt_eq_toNat_of_lt_half (h j)]
  exact Int.ofNat_lt

theorem upwards_mono {i j : Fin 5120} (hij : i ≤ j) : row k w (upwards k w i) ≤ row k w (upwards k w j) := by
  rcases hij.eq_or_lt with rfl | hij
  · exact le_rfl
  have e (a b : Fin 5120) : (IntOp.cmpi .slt (k (ix2 w a)) (k (ix2 w b)) == 1#1) = decide (row k w a < row k w b) := by
    rw [Bool.eq_iff_iff, beq_iff_eq, decide_eq_true_eq]
    exact sgt_iff_row k w h a b
  have hn := sortedFrom_noInversion (fun a b : Fin 5120 => IntOp.cmpi .slt (k (ix2 w a)) (k (ix2 w b)) == 1#1) _
    (fun a b hab => by rw [e, decide_eq_true_eq] at hab; rw [e, decide_eq_false_iff_not]; omega) (fun _ _ hab => hab)
    (fun a b c hab hbc => by rw [e, decide_eq_false_iff_not] at hab hbc ⊢; omega) i j hij
  rw [e, decide_eq_false_iff_not] at hn
  exact not_lt.mp hn

theorem taken_holds : Holds (row k w) 0 (taken k w) := by
  have inj : Function.Injective (upwards k w) := sortedFrom_injective _
  refine ⟨?_, ?_⟩
  · have hsub : (Finset.univ.filter fun x => taken k w < row k w x / 2 ^ 0) ⊆ (Finset.Ioi (4096 : Fin 5120)).image (upwards k w) := by
      intro x hx
      obtain ⟨j, rfl⟩ := sortedFrom_surjective (fun a b : Fin 5120 => IntOp.cmpi .slt (k (ix2 w a)) (k (ix2 w b)) == 1#1) x
      refine Finset.mem_image.mpr ⟨j, Finset.mem_Ioi.mpr (not_le.mp fun hj => ?_), rfl⟩
      have h1 := (Finset.mem_filter.mp hx).2
      rw [pow_zero, Nat.div_one] at h1
      exact absurd (upwards_mono k w h hj) (not_le.mpr h1)
    have h1 := (Finset.card_le_card hsub).trans Finset.card_image_le
    rw [Fin.card_Ioi] at h1
    exact lt_of_le_of_lt h1 (by decide)
  · rw [over_add_level]
    have hsub : (Finset.Ici (4096 : Fin 5120)).image (upwards k w) ⊆ Finset.univ.filter fun x => taken k w ≤ row k w x / 2 ^ 0 := by
      intro x hx
      obtain ⟨j, hj, rfl⟩ := Finset.mem_image.mp hx
      refine Finset.mem_filter.mpr ⟨Finset.mem_univ _, ?_⟩
      rw [pow_zero, Nat.div_one]
      exact upwards_mono k w h (Finset.mem_Ici.mp hj)
    have h1 := Finset.card_le_card hsub
    rw [Finset.card_image_of_injective _ inj, Fin.card_Ici] at h1
    exact le_trans (by decide) h1

end

/-! ### The reference's result -/

/-- The keys taken, a row each. -/
def thresholds : IVec S20 32 :=
  shapeCast S20 (extractStridedSlice S20x1 ![0, 4096] (Host.sort S20x5120 1 comparator_i32_d1 k) slices_S20x5120_S20x1_0_4096) shapeCasts_S20x1_S20
/-- How many keys are above them. -/
def aboves : IVec S20 32 :=
  Host.reduce IntOp.addi (extui 32 (cmpi .sgt k (broadcastInDim S20x5120 ![0, 1] bcast_S20x1_S20x5120_0_1
    (broadcastInDim S20x1 ![0] bcast_S20_S20x1_0 (thresholds k)))) natLt_1_32) (constantI S_ 32 0#32) reducesTo_S20x5120_S20_d1 h_S_
/-- Both, and noughts. -/
def padded : IVec S20x128 32 :=
  pad S20x128 ![0, 0] ![0, 126] ![0, 0] (Compact.two (thresholds k) (aboves k)) (id (constantI S_ 32 0#32)) pads_S20x2_S20x128_000_01260 h_S_
def result : IVec S20x1x128 32 := broadcastInDim S20x1x128 ![0, 2] bcast_S20x128_S20x1x128_0_2 (padded k)

theorem thresholds_at : thresholds k (ix1 w) = k (ix2 w (upwards k w 4096)) := by
  unfold thresholds
  refine (shapeCast_apply _ _ _ (ix2 w (0 : Fin 1)) ?_).trans ?_
  · rw [Shape.rowMajor_val_two, Shape.rowMajor_val_one]
    show w.val * 1 + 0 = w.val
    omega
  refine (extractStridedSlice_apply _ _ _ _ (ix2 w (4096 : Fin 5120)) fun a => ?_).trans (sort_two comparator_i32_d1 k w 4096)
  match a with
  | 0 => show w.val = 0 + w.val; omega
  | 1 => rfl

theorem aboves_at (h : ∀ j, row k w j < 2 ^ 31) : aboves k (ix1 w) = BitVec.ofNat 32 (over (row k w) 0 (taken k w)) := by
  let p : ℕ → Prop := fun n => taken k w < row k w ⟨n % 5120, Nat.mod_lt _ (by decide)⟩
  have hp (j : Fin 5120) : p j.val ↔ taken k w < row k w j := by
    show taken k w < row k w ⟨j.val % 5120, _⟩ ↔ _
    rw [show (⟨j.val % 5120, Nat.mod_lt _ (by decide)⟩ : Fin 5120) = j from Fin.ext (Nat.mod_eq_of_lt j.isLt)]
  refine (PreFacts.count_at (cmpi .sgt k (PreFacts.spread (thresholds k))) p w fun j => ?_).trans ?_
  · show IntOp.cmpi .sgt (k (ix2 w j)) (PreFacts.spread (thresholds k) (ix2 w j)) = 1#1 ↔ _
    rw [hp, PreFacts.spread_at, thresholds_at]
    exact sgt_iff_row k w h _ j
  · rw [← Select.card_taken]
    refine congrArg (fun S : Finset (Fin 5120) => BitVec.ofNat 32 S.card) (Finset.filter_congr fun j _ => ?_)
    rw [hp, pow_zero, Nat.div_one]

theorem result_at (h : ∀ j, row k w j < 2 ^ 31) (l : Fin 128) : result k (ix3 w 0 l) =
    if l.val = 0 then BitVec.ofNat 32 (taken k w)
    else if l.val = 1 then BitVec.ofNat 32 (over (row k w) 0 (taken k w)) else 0#32 := by
  unfold result
  rw [broadcastInDim_apply _ _ _ _ (ix2 w l) (fun a => by
    match a with
    | 0 => rfl
    | 1 => rfl)]
  have inside (x : Fin 2) (e : l.val = x.val) : padded k (ix2 w l) = Compact.two (thresholds k) (aboves k) (ix2 w x) :=
    pad_apply_of_inside _ _ _ _ _ _ _ (ix2 w l) (ix2 w x) fun a => by
      match a with
      | 0 => show w.val = 0 + w.val * (0 + 1); omega
      | 1 => show l.val = 0 + x.val * (0 + 1); omega
  split_ifs with h0 h1
  · rw [inside 0 h0, Compact.two_left, thresholds_at]
    exact (BitVec.setWidth_eq _).symm.trans (BitVec.ofNat_toNat 32 _).symm
  · rw [inside 1 h1, Compact.two_right, aboves_at k w h]
  · unfold padded
    refine pad_apply_of_not_inside _ _ _ _ _ _ _ _ (1 : Fin 2) fun hin => ?_
    have h2 : (l.val - 0) / (0 + 1) < 2 := hin.2.2
    omega

end

end Cert.Proof.Radix

end
-- ==== Proof.RadixEquation.lean ====
/-
  The selecting call's result: a grid point holds a row of the keys and leaves that row's threshold and count, which are the
  reference's.
-/
module

public import proofs.«01_k».proof.Proof.RadixOut
public import proofs.«01_k».proof.Proof.RadixRef
public import proofs.«01_k».proof.Proof.Gen.SelectIdeal.Value

@[expose] public section

set_option maxRecDepth 16384

noncomputable section

namespace Cert.Proof.Radix

open Idealize.ShloMosaic Idealize.ShloMosaic.ValueIdx Idealize.ShloMosaic.TcCoe Idealize.SL.Sem Idealize.ShloMosaic.StableHlo
open Cert.SelectIdeal Cert.SelectIdeal.Gen Cert.SelectIdeal.Value

variable {F : FTy → Type} [FloatOps F] (m : (ℓ : Loc nD τ sig) → Buf (Elt F) ℓ) (c : Dev nD)

/-- The keys. -/
abbrev keys : IVec S20x5120 32 := m ((c : Thread nD τ).loc main_arg0)

/-- The region finds the keys, a row a block. -/
theorem found (w : Fin 20) (j : Fin 5120) : (V m c main_v0 : IVec S20x1x5120 32) (ix3 w 0 j) = keys m c (ix2 w j) := by
  have e : V m c main_v0 = shapeCast S20x1x5120 (keys m c) shapeCasts_S20x5120_S20x1x5120 := by
    unfold V
    simp only [hostOps0, TRef.unary, TRef.toBuf, TRef.ofBuf, cast_eq]
    after_results_simp
    rfl
  rw [e]
  refine shapeCast_apply _ _ _ _ ?_
  rw [Shape.rowMajor_val_three, Shape.rowMajor_val_two]
  show w.val * 5120 + j.val = (w.val * 1 + 0) * 5120 + j.val
  omega

/-- A grid point holds its row. -/
theorem index_in : ∀ t : Fin grid0.N, win0_0.index t (0 : Fin 3) = t.val ∧ win0_0.index t (1 : Fin 3) = 0 ∧ win0_0.index t (2 : Fin 3) = 0 :=
  by decide +kernel
theorem index_out : ∀ t : Fin grid0.N, win0_1.index t (0 : Fin 3) = t.val ∧ win0_1.index t (1 : Fin 3) = 0 ∧ win0_1.index t (2 : Fin 3) = 0 :=
  by decide +kernel

theorem emb_in (t : Fin cfg0.N) (j : Fin 5120) :
    ((cfg0.win 0).blk t).view.emb (ix3 0 0 j : S1x1x5120.Idx) = (ix3 (t : Fin 20) 0 j : S20x1x5120.Idx) := by
  obtain ⟨e0, e1, e2⟩ := index_in t
  funext a
  apply Fin.ext
  match a with
  | 0 => show win0_0.index t (0 : Fin 3) * 1 + 1 * 0 = t.val; omega
  | 1 => show win0_0.index t (1 : Fin 3) * 1 + 1 * 0 = 0; omega
  | 2 => show win0_0.index t (2 : Fin 3) * 5120 + 1 * j.val = j.val; omega

theorem emb_out (t : Fin cfg0.N) (l : Fin 128) :
    ((cfg0.win 1).blk t).view.emb (ix3 0 0 l : S1x1x128.Idx) = (ix3 (t : Fin 20) 0 l : S20x1x128.Idx) := by
  obtain ⟨e0, e1, e2⟩ := index_out t
  funext a
  apply Fin.ext
  match a with
  | 0 => show win0_1.index t (0 : Fin 3) * 1 + 1 * 0 = t.val; omega
  | 1 => show win0_1.index t (1 : Fin 3) * 1 + 1 * 0 = 0; omega
  | 2 => show win0_1.index t (2 : Fin 3) * 128 + 1 * l.val = l.val; omega

theorem block_nats (t : Fin cfg0.N) : nats (F := F) (iblk m c 0 t) = row (keys m c) (t : Fin 20) := by
  funext j
  refine congrArg BitVec.toNat (?_ : (iblk m c 0 t (ix3 0 0 j : S1x1x5120.Idx) : BitVec 32) = keys m c (ix2 (t : Fin 20) j))
  show (V m c main_v0 : IVec S20x1x5120 32) (((cfg0.win 0).blk t).view.emb (ix3 0 0 j : S1x1x5120.Idx)) = _
  rw [emb_in]
  exact found m c t j

section
variable (h : ∀ w j, row (keys m c) w j < 2 ^ 31)
include h

/-- What a grid point writes back is its block of the reference's result. -/
theorem flushed_eq (t : Fin cfg0.N) :
    (dats m 0 c).flushed 1 t = ((cfg0.win 1).blk t).view.read (Elt F) (result (keys m c)) := by
  rw [flushed1_A]
  refine funext fun (y : S1x1x128.Idx) => ?_
  obtain ⟨l, rfl⟩ : ∃ l : Fin 128, y = ix3 0 0 l :=
    ⟨y 2, (eq_ix3 y).trans (congrArg₂ (fun a b : Fin 1 => ix3 a b (y 2)) (Subsingleton.elim _ _) (Subsingleton.elim _ _))⟩
  show (out0_A_1 c (grid0.coords t) (ms0_0 t) (hs0_0 t) (ms0_1 t) (hs0_1 t) (iblk m c 0 t) (ix3 0 0 l : S1x1x128.Idx) : BitVec 32)
    = result (keys m c) (((cfg0.win 1).blk t).view.emb (ix3 0 0 l : S1x1x128.Idx))
  rw [emb_out, result_at (keys m c) t (h t) l]
  obtain ⟨T, hT, e⟩ := out_at (F := F) c (grid0.coords t) (ms0_0 t) (hs0_0 t) (ms0_1 t) (hs0_1 t) (iblk m c 0 t)
  rw [block_nats] at hT e
  obtain rfl := hT.unique (taken_holds (keys m c) t (h t))
  exact e l

omit h in
theorem covered (i : S20x1x128.Idx) : ∃ t : Fin cfg0.N, (cfg0.win 1).flush t = true ∧ i ∈ ((cfg0.win 1).blk t).view.set := by
  obtain ⟨t, l, rfl⟩ : ∃ (t : Fin 20) (l : Fin 128), i = ix3 t 0 l :=
    ⟨i 0, i 2, (eq_ix3 i).trans (congrArg (fun b : Fin 1 => ix3 (i 0) b (i 2)) (Subsingleton.elim _ _))⟩
  refine ⟨t, flush0_1 _, ?_⟩
  have e := ((cfg0.win 1).blk t).view.emb_mem_set (ix3 0 0 l : S1x1x128.Idx)
  rwa [emb_out t l] at e

/-- The call's result is the reference's. -/
theorem result_eq : (dats m 0 c).arrAt 1 cfg0.N = result (keys m c) :=
  (dats m 0 c).arrAt_eq_of_cover 1 (result (keys m c)) (fun t _ => flushed_eq m c h t) (covered)

end

end Cert.Proof.Radix

end
-- ==== Proof.RankCount.lean ====
/-
  The rank of a key: how many keys go before it. It is the key's place in the stable descending sort, and the kernel's
  count block by block.
-/
module

public import proofs.«01_k».proof.Proof.Order

@[expose] public section

namespace Cert.Proof.Rank

open Idealize.ShloMosaic Cert.Proof.Select

section
variable {n : ℕ} {B : Fin n → Fin n → Bool}

/-- As many positions go before the one in place `p` as there are places before `p`. -/
theorem card_before (hB : StrictTotalBefore B) (p : Fin n) : (Finset.univ.filter fun j => B j (sortedFrom B p) = true).card = p.val := by
  have h : ∀ x y : Fin n, x < y → B (sortedFrom B x) (sortedFrom B y) = true := fun x y hxy =>
    (hB.total _ _ fun e => hxy.ne (sortedFrom_injective B e)).resolve_right fun hb => by
      have := sortedFrom_noInversion B B (fun a b h => hB.asymm a b h) (fun _ _ h => h) hB.negTrans x y hxy
      rw [hb] at this
      exact absurd this (by decide)
  have hs : (Finset.univ.filter fun j => B j (sortedFrom B p) = true) = (Finset.Iio p).image (sortedFrom B) := by
    ext j
    obtain ⟨x, rfl⟩ := sortedFrom_surjective B j
    simp only [Finset.mem_filter, Finset.mem_univ, true_and, Finset.mem_image, Finset.mem_Iio]
    refine ⟨fun hx => ⟨x, ?_, rfl⟩, fun ⟨y, hy, e⟩ => e ▸ h y p hy⟩
    rcases lt_trichotomy x p with hxp | rfl | hxp
    · exact hxp
    · rw [hB.irrefl] at hx; exact absurd hx (by decide)
    · rw [hB.asymm _ _ (h p x hxp)] at hx; exact absurd hx (by decide)
  rw [hs, Finset.card_image_of_injective _ (sortedFrom_injective B), Fin.card_Iio]

/-- Sorting the positions a sort listed gives, in place `i`, the place of position `i`. -/
theorem place_of_place (s : Fin n → Fin n) (hs : Function.Injective s) (hR : ∀ x y, B x y = true ↔ s x < s y) (i : Fin n) :
    s (sortedFrom B i) = i := by
  have hm : StrictMono fun y => s (sortedFrom B y) := fun a b hab => by
    have h := sortedFrom_noInversion B B
      (fun a b h => by rw [hR] at h; rw [← Bool.not_eq_true, hR]; exact not_lt.2 h.le) (fun _ _ h => h)
      (fun a b c h h' => by
        rw [← Bool.not_eq_true, hR] at h h' ⊢
        omega) a b hab
    rw [← Bool.not_eq_true, hR] at h
    exact lt_of_le_of_ne (not_lt.mp h) fun e => hab.ne (sortedFrom_injective _ (hs e))
  exact le_antisymm hm.apply_le hm.le_apply

end

variable (u : ℕ → BitVec 32)

/-- How many of the 1024 keys go before key `i`. -/
def rank (i : Fin 1024) : ℕ := (Finset.univ.filter fun j : Fin 1024 => before u j i = true).card

theorem rank_lt (i : Fin 1024) : rank u i < 2 ^ 31 :=
  lt_of_le_of_lt (Finset.card_filter_le _ _) (by rw [Finset.card_univ, Fintype.card_fin]; decide)

/-- What key `j` adds to the rank of key `i`, by `i`'s block: a key of an earlier block counts when it is not less, one of a later
    block when it is greater. -/
def notLess (i j : ℕ) : ℕ := if (u i).toInt ≤ (u j).toInt then 1 else 0
/-- A key counted when it is greater. -/
def more (i j : ℕ) : ℕ := if (u i).toInt < (u j).toInt then 1 else 0
/-- A key of the same block counted when it is equal and earlier. -/
def same (i j : ℕ) : ℕ := if u j = u i ∧ j < i then 1 else 0

/-- What lane `b` of the kernel's table counts for key `a` of block `r`. -/
def lane (r a b : ℕ) : ℕ :=
  (∑ k ∈ Finset.range r, notLess u (128 * r + a) (128 * k + b) + ∑ k ∈ Finset.range (8 - r), more u (128 * r + a) (128 * (r + k) + b))
    + same u (128 * r + a) (128 * r + b)

theorem lane_eq (r : Fin 8) (a b : Fin 128) : lane u r a b
    = ∑ k : Fin 8, if before u (⟨128 * k.val + b.val, by omega⟩ : Fin 1024) (⟨128 * r.val + a.val, by omega⟩ : Fin 1024) = true then 1 else 0 := by
  have hr := r.isLt
  have hval : ∀ j : ℕ, (if (u (128 * r.val + a.val)).toInt < (u j).toInt ∨ (u j = u (128 * r.val + a.val) ∧ j < 128 * r.val + a.val) then 1 else 0)
      = more u (128 * r.val + a.val) j + same u (128 * r.val + a.val) j := fun j => by
    unfold more same
    by_cases h1 : (u (128 * r.val + a.val)).toInt < (u j).toInt
    · have h2 : ¬ (u j = u (128 * r.val + a.val) ∧ j < 128 * r.val + a.val) := fun h => by rw [h.1] at h1; omega
      simp only [h1, h2, true_or, if_true, if_false]
    · simp only [h1, false_or, if_false, Nat.zero_add]
  have hall : ∀ k : Fin 8, (if before u (⟨128 * k.val + b.val, by omega⟩ : Fin 1024) (⟨128 * r.val + a.val, by omega⟩ : Fin 1024) = true then 1 else 0)
      = more u (128 * r.val + a.val) (128 * k.val + b.val) + same u (128 * r.val + a.val) (128 * k.val + b.val) := fun k => by
    rw [← hval]
    simp only [before, Bool.or_eq_true, Bool.and_eq_true, decide_eq_true_eq, Fin.lt_def]
  rw [Finset.sum_congr rfl fun k _ => hall k, Fin.sum_univ_eq_sum_range fun k => more u (128 * r.val + a.val) (128 * k + b.val) + same u (128 * r.val + a.val) (128 * k + b.val)]
  unfold lane
  obtain ⟨q, hq⟩ : ∃ q, 8 = r.val + (q + 1) := ⟨7 - r.val, by omega⟩
  rw [show 8 - r.val = q + 1 by omega, show Finset.range 8 = Finset.range (r.val + (q + 1)) from congrArg _ hq, Finset.sum_range_add _ r.val (q + 1), Finset.sum_range_succ' _ q, Finset.sum_range_succ' _ q]
  have hlow : ∀ k ∈ Finset.range r.val, more u (128 * r.val + a.val) (128 * k + b.val) + same u (128 * r.val + a.val) (128 * k + b.val)
      = notLess u (128 * r.val + a.val) (128 * k + b.val) := fun k hk => by
    have hk := Finset.mem_range.1 hk
    have hb := b.isLt
    rw [← hval]
    unfold notLess
    refine if_congr ⟨?_, fun h => ?_⟩ rfl rfl
    · rintro (h | ⟨h, -⟩)
      · exact h.le
      · rw [h]
    · rcases h.lt_or_eq with h | h
      · exact Or.inl h
      · exact Or.inr ⟨(BitVec.eq_of_toInt_eq h).symm, by omega⟩
  have hhigh : ∀ k ∈ Finset.range q, more u (128 * r.val + a.val) (128 * (r.val + (k + 1)) + b.val) + same u (128 * r.val + a.val) (128 * (r.val + (k + 1)) + b.val)
      = more u (128 * r.val + a.val) (128 * (r.val + (k + 1)) + b.val) := fun k _ => by
    have ha := a.isLt
    unfold same
    rw [if_neg (fun h => by omega), Nat.add_zero]
  rw [Finset.sum_congr rfl hlow, Finset.sum_congr rfl hhigh, Nat.add_zero]
  omega

/-- The lanes of a key's row add up to its rank. -/
theorem rank_eq (r : Fin 8) (a : Fin 128) : ∑ b : Fin 128, lane u r a b = rank u ⟨128 * r.val + a.val, by omega⟩ := by
  unfold rank
  rw [Finset.sum_congr rfl fun b _ => lane_eq u r a b, Finset.card_filter, Finset.sum_comm, ← Fintype.sum_prod_type']
  refine Fintype.sum_equiv finProdFinEquiv _ _ fun x => ?_
  have e : (⟨128 * x.1.val + x.2.val, by omega⟩ : Fin 1024) = finProdFinEquiv x := Fin.ext (Nat.add_comm _ _)
  rw [e]

end Cert.Proof.Rank

end
-- ==== Proof.RankStep.lean ====
/-
  The ranking's tables at the exact reals: what a block of 128 keys adds, what a row's loops leave, and the row that is stored.
-/
module

public import proofs.«01_k».proof.Proof.RankCount
public import proofs.«01_k».proof.Proof.RadixHist
public import proofs.«01_k».proof.Proof.Gen.RankIdeal.Value
public import Idealize.ShloMosaic.Lib.ValueLayout
public import Idealize.ShloMosaic.PureOps.Ideal.Laws

@[expose] public section

noncomputable section

namespace Cert.Proof.Rank

open Idealize.ShloMosaic Idealize.ShloMosaic.ValueIdx
open Cert.RankIdeal Cert.RankIdeal.Gen
open Cert.Proof.Radix (on_rows lane_at bit_word and_iff eq_word)

/-! ### Counts as exact reals -/

theorem sgt_word (a b : BitVec 32) : IntOp.cmpi .sgt a b = 1#1 ↔ b.toInt < a.toInt := by
  show BitVec.ofBool (b.slt a) = 1#1 ↔ _
  rw [show ∀ c : Bool, BitVec.ofBool c = 1#1 ↔ c = true from by decide, BitVec.slt_iff_toInt_lt]

/-- A test's bit, converted. -/
theorem bit_real (a : BitVec 1) (p : Prop) [Decidable p] (h : a = 1#1 ↔ p) :
    (FloatOps.sitofp .f32 (a.setWidth 32) : Ideal .f32) = ((if p then 1 else 0 : ℕ) : EReal) := by
  rw [bit_word a p h]
  show (((BitVec.ofNat 32 (if p then 1 else 0)).toInt : ℝ) : EReal) = _
  split_ifs <;> simp

/-- An exact count, converted back. -/
theorem word_of_count {N : ℕ} (h : N < 2 ^ 31) : FloatOps.fptosi (F := Ideal) (φ := .f32) 32 ((N : ℕ) : EReal) = BitVec.ofNat 32 N := by
  show BitVec.ofInt 32 (max (-(2 ^ 31 : ℕ) : ℤ) (min ((2 ^ 31 : ℕ) - 1) (if (0 : ℝ) ≤ (N : ℝ) then ⌊(N : ℝ)⌋ else ⌈(N : ℝ)⌉))) = _
  rw [if_pos (Nat.cast_nonneg N), Int.floor_natCast, min_eq_right (by omega), max_eq_right (by omega), BitVec.ofInt_natCast]

/-- A table's entry after trips that each add a count. -/
theorem entry_of (st : ℕ → FVec Ideal S128x128 .f32) (j : S128x128.Idx) (f : ℕ → ℕ) (m n : ℕ) (h0 : st 0 j = ((m : ℕ) : EReal))
    (hs : ∀ k, k < n → st (k + 1) j = st k j + ((f k : ℕ) : EReal)) : st n j = ((m + ∑ k ∈ Finset.range n, f k : ℕ) : EReal) := by
  induction n with
  | zero => rw [h0, Finset.sum_range_zero, Nat.add_zero]
  | succ n ih => rw [hs n (Nat.lt_succ_self n), ih fun k hk => hs k (Nat.lt_succ_of_lt hk), Finset.sum_range_succ, ← Nat.cast_add, Nat.add_assoc]

/-- The sum of a table's row. -/
theorem total_at (h : S128x128.Reduces [1] S128) (x : FVec Ideal S128x128 .f32) (hφ : FKind.Formats .f32)
    (hacc : (0x00000000#32 : BitVec 32) = FKind.add.neutral .f32 hφ) (a : Fin 128) :
    multiReduction .add [1] S128 x 0x00000000#32 h hφ hacc (ix1 a) = ∑ b : Fin 128, x (ix2 a b) := by
  refine (Ideal.multiReduction_add_single x _ h hφ hacc (ix1 a)).trans ?_
  refine Finset.sum_congr rfl fun l _ => congrArg x (funext fun d => Fin.ext ((Shape.Reduces.lift_val h (ix1 a) l d).trans ?_))
  match d with
  | 0 => rfl
  | 1 => rfl

/-! ### A block's contribution -/

section
variable (v w : Vec Ideal S1x1x128 .i32) (acc : FVec Ideal S128x128 .f32) (a b : Fin 128)

/-- The row's own keys down the table. -/
theorem down_at {α : Type} (x : S1x1x128.Idx → α) : broadcastTo S128x128 (shapeCast S128x1 (shapeCast S128 x shapeCasts_S1x1x128_S128) shapeCasts_S128_S128x1)
    broadcasts_S128x1_S128x128 (ix2 a b) = x (ix3 0 0 a) := by
  refine (broadcastTo_apply _ broadcasts_S128x1_S128x128 (ix2 a b) (ix2 a 0) fun d => ?_).trans
    ((shapeCast_apply _ _ (ix2 a 0) (ix1 a) ?_).trans (shapeCast_apply _ _ (ix1 a) (ix3 0 0 a) ?_))
  · match d with
    | 0 => rfl
    | 1 => rfl
  · rw [Shape.rowMajor_val_two, Shape.rowMajor_val_one]
    show a.val = a.val * 1 + 0
    omega
  · rw [Shape.rowMajor_val_three, Shape.rowMajor_val_one]
    show (0 * 1 + 0) * 128 + a.val = a.val
    omega

theorem bar_at : k0_pay3 v (ix2 a b) = v (ix3 0 0 a) := by
  unfold k0_pay3 k0_pay2
  dsimp only
  rw [shapeCast_self]
  exact down_at a b v

/-- A trip that counts the greater keys. -/
theorem more_at : k0_pay8 v acc w (ix2 a b)
    = acc (ix2 a b) + ((if (v (ix3 0 0 a) : BitVec 32).toInt < (w (ix3 0 0 b) : BitVec 32).toInt then 1 else 0 : ℕ) : EReal) := by
  refine congrArg (acc (ix2 a b) + ·) (bit_real _ _ ?_)
  show IntOp.cmpi .sgt (broadcastTo _ _ broadcasts_S1x128_S128x128 (ix2 a b)) (k0_pay3 v (ix2 a b)) = 1#1 ↔ _
  rw [on_rows, lane_at, bar_at, sgt_word]

/-- A trip that counts the keys not less. -/
theorem notLess_at (hv : -2147483648 < (v (ix3 0 0 a) : BitVec 32).toInt) : k0_pay6 v acc w (ix2 a b)
    = acc (ix2 a b) + ((if (v (ix3 0 0 a) : BitVec 32).toInt ≤ (w (ix3 0 0 b) : BitVec 32).toInt then 1 else 0 : ℕ) : EReal) := by
  refine congrArg (acc (ix2 a b) + ·) (bit_real _ _ ?_)
  show IntOp.cmpi .sgt (broadcastTo _ _ broadcasts_S1x128_S128x128 (ix2 a b)) ((k0_pay3 v (ix2 a b) : BitVec 32) - 1#32) = 1#1 ↔ _
  rw [on_rows, lane_at, bar_at, sgt_word]
  generalize (v (ix3 0 0 a) : BitVec 32) = y at hv ⊢
  have h1 := BitVec.toInt_lt (x := y)
  rw [BitVec.toInt_sub, show (1#32 : BitVec 32).toInt = 1 from rfl, Int.bmod_def]
  omega

/-- The row that is stored: the table with the row's own block added, summed along its rows. -/
theorem stored_at (N : ℕ → ℕ) (hN : ∀ b : Fin 128, acc (ix2 a b)
      + ((if (w (ix3 0 0 b) : BitVec 32) = (v (ix3 0 0 a) : BitVec 32) ∧ b.val < a.val then 1 else 0 : ℕ) : EReal) = ((N b.val : ℕ) : EReal))
    (hs : ∑ b : Fin 128, N b.val < 2 ^ 31) : k0_pay1 (k0_pay77 v acc w) (ix3 0 0 a) = BitVec.ofNat 32 (∑ b : Fin 128, N b.val) := by
  unfold k0_pay1
  refine (shapeCast_apply _ _ (ix3 0 0 a) (ix1 a) ?_).trans ?_
  · rw [Shape.rowMajor_val_three, Shape.rowMajor_val_one]
    show a.val = (0 * 1 + 0) * 128 + a.val
    omega
  refine Eq.trans ?_ (word_of_count hs)
  refine congrArg (FloatOps.fptosi (F := Ideal) (φ := .f32) 32) ((total_at _ _ _ _ a).trans ?_)
  rw [Nat.cast_sum]
  refine Finset.sum_congr rfl fun b _ => Eq.trans (congrArg (acc (ix2 a b) + ·) (bit_real _ _ ?_)) (hN b)
  show IntOp.andi (IntOp.cmpi .eq (broadcastTo _ _ broadcasts_S1x128_S128x128 (ix2 a b)) (broadcastTo S128x128 (k0_pay69 v) broadcasts_S128x1_S128x128 (ix2 a b)))
    (IntOp.cmpi .slt (BitVec.ofNat 32 (0 * 128 + b.val)) (BitVec.ofNat 32 (0 * 128 + a.val))) = 1#1 ↔ _
  have hd : broadcastTo S128x128 (k0_pay69 v) broadcasts_S128x1_S128x128 (ix2 a b) = v (ix3 0 0 a) := down_at a b v
  rw [on_rows, lane_at, hd, and_iff, Nat.zero_mul, Nat.zero_add, Nat.zero_add, eq_word, BitVec.toNat_inj, Radix.slt_iff (by omega) (by omega)]

end

end Cert.Proof.Rank

end
-- ==== Proof.RankOut.lean ====
/-
  What a point of the ranking's grid leaves in its block: each key's rank among the row's 1024.
-/
module

public import proofs.«01_k».proof.Proof.RankStep
public import Idealize.ShloMosaic.Lib.Pipeline.ValueKit.Tiles

@[expose] public section

noncomputable section

namespace Cert.Proof.Rank

open Idealize.ShloMosaic Idealize.ShloMosaic.ValueIdx Idealize.ShloMosaic.TcCoe Idealize.SL.Sem Idealize.ShloMosaic.Tactic
open Cert.RankIdeal Cert.RankIdeal.Gen

/-- A row's key at a position. -/
abbrev key (x : Vec Ideal S1x1x1024 .i32) (n : ℕ) : BitVec 32 := x (ix3 0 0 ⟨n % 1024, Nat.mod_lt _ (by decide)⟩)

/-- What is left at an index: the rank of the key there. -/
def ranks (x : Vec Ideal S1x1x1024 .i32) (y : S1x8x128.Idx) : BitVec 32 :=
  BitVec.ofNat 32 (rank (key x) ⟨128 * (y 1).val + (y 2).val, by
    have h1 : (y 1).val < 8 := (y 1).isLt
    have h2 : (y 2).val < 128 := (y 2).isLt
    omega⟩)

/-! ### Bounds and offsets -/

/-- A row's number, as the kernel computes it. -/
abbrev number (z : ℕ) (r : Fin 8) : BitVec 32 := Scalar.addi (Scalar.muli (BitVec.ofNat 32 z) 8#32) (BitVec.ofNat 32 r.val)

theorem number_eq : ∀ r : Fin 8, number 0 r = BitVec.ofNat 32 r.val := by decide

section
variable (z : BitVec 32)

/-- The trips of a row's four loops, as the kernel computes them. -/
abbrev trips1 : ℕ := Scf.trips 0#32 (Scalar.addi 0#32 (Scalar.muli (Scalar.divsi (Scalar.subi z 0#32) 1#32) 1#32)) 1#32
abbrev trips2 : ℕ := Scf.trips (Scalar.addi 0#32 (Scalar.muli (Scalar.divsi (Scalar.subi z 0#32) 1#32) 1#32)) (Scalar.addi 0#32 (Scalar.subi z 0#32)) 1#32
abbrev trips3 : ℕ := Scf.trips z (Scalar.addi z (Scalar.muli (Scalar.divsi (Scalar.subi 8#32 z) 1#32) 1#32)) 1#32
abbrev trips4 : ℕ := Scf.trips (Scalar.addi z (Scalar.muli (Scalar.divsi (Scalar.subi 8#32 z) 1#32) 1#32)) (Scalar.addi z (Scalar.subi 8#32 z)) 1#32

end

theorem trips_eq : ∀ r : Fin 8, trips1 (BitVec.ofNat 32 r.val) = r.val ∧ trips2 (BitVec.ofNat 32 r.val) = 0
    ∧ trips3 (BitVec.ofNat 32 r.val) = 8 - r.val ∧ trips4 (BitVec.ofNat 32 r.val) = 0 := by decide

theorem trips_at (z : ℕ) (hz : z = 0) (r : Fin 8) : trips1 (number z r) = r.val ∧ trips2 (number z r) = 0
    ∧ trips3 (number z r) = 8 - r.val ∧ trips4 (number z r) = 0 := by
  subst hz
  rw [number_eq r]
  exact trips_eq r

/-- The offset a trip loads at. -/
theorem offset_eq (z : BitVec 32) (k : ℕ) (h : z.toNat + k < 8) :
    (Scalar.indexCast (Scalar.muli (Scf.iv z 1#32 k) 128#32)).toNat = 128 * (z.toNat + k) := by
  show ((z + BitVec.ofNat 32 k * 1#32) * 128#32).toNat = _
  rw [BitVec.toNat_mul, BitVec.toNat_add, BitVec.toNat_mul, BitVec.toNat_ofNat]
  norm_num
  omega

theorem own_offset (z : ℕ) (hz : z = 0) (r : Fin 8) : (Scalar.indexCast (Scalar.muli (number z r) 128#32)).toNat = 128 * r.val := by
  subst hz
  rw [number_eq r]
  revert r
  decide

theorem late_offset (z : ℕ) (hz : z = 0) (r : Fin 8) (k : ℕ) (h : r.val + k < 8) :
    (Scalar.indexCast (Scalar.muli (Scf.iv (number z r) 1#32 k) 128#32)).toNat = 128 * (r.val + k) := by
  subst hz
  have e : (BitVec.ofNat 32 r.val).toNat = r.val := by rw [BitVec.toNat_ofNat]; omega
  rw [number_eq r, offset_eq _ k (by omega), e]

theorem early_offset (k : ℕ) (h : k < 8) : (Scalar.indexCast (Scalar.muli (Scf.iv 0#32 1#32 k) 128#32)).toNat = 128 * k :=
  (offset_eq 0#32 k (by rw [show (0#32 : BitVec 32).toNat = 0 from rfl]; omega)).trans
    (congrArg (128 * ·) (Nat.zero_add k))

section
variable (arg1 : Memref sig .tc .vmem S1x1x1024 .i32) (harg1 : arg1.IsWhole) (x : Vec Ideal S1x1x1024 .i32)

/-- The block of keys a load reads. -/
theorem load_at (off : Fin 3 → ℕ) (inb : ∀ a, off a + S1x1x128.size a ≤ S1x1x1024.size a) (n : ℕ) (h0 : off 0 = 0) (h1 : off 1 = 0)
    (h2 : off 2 = 128 * n) (hn : n < 8) (l : Fin 128) :
    View.readAt (Elt Ideal) arg1.view (Rect.unit (s := S1x1x1024) off S1x1x128.size inb).toLoadRect (harg1.unread x) (ix3 0 0 l)
      = key x (128 * n + l.val) := by
  rw [View.readAt_eq_ld, harg1.read_unread]
  refine congrArg x (funext fun a => Fin.ext ?_)
  match a with
  | 0 => show off 0 + 1 * 0 = 0; omega
  | 1 => show off 1 + 1 * 0 = 0; omega
  | 2 => show off 2 + 1 * l.val = (128 * n + l.val) % 1024; omega

/-- A row as its four loops leave it and the last step stores it: the ranks of its keys. -/
theorem row_of (hx : ∀ n, -2147483648 < (key x n).toInt) (r : Fin 8) {n1 n2 n3 n4 : ℕ} (ht : n1 = r.val ∧ n2 = 0 ∧ n3 = 8 - r.val ∧ n4 = 0)
    (v v' : Vec Ideal S1x1x128 .i32)
    (hv : ∀ l : Fin 128, v (ix3 0 0 l) = key x (128 * r.val + l.val)) (hv' : ∀ l : Fin 128, v' (ix3 0 0 l) = key x (128 * r.val + l.val))
    (st1 st2 st3 st4 : ℕ → FVec Ideal S128x128 .f32) (h1 : st1 0 = k0_pay5) (h2 : st2 0 = st1 n1) (h3 : st3 0 = st2 n2) (h4 : st4 0 = st3 n3)
    (b1 : Fin n1 → Vec Ideal S1x1x128 .i32) (b3 : Fin n3 → Vec Ideal S1x1x128 .i32)
    (hb1 : ∀ k, k.val < 8 → ∀ l : Fin 128, b1 k (ix3 0 0 l) = key x (128 * k.val + l.val))
    (hb3 : ∀ k, r.val + k.val < 8 → ∀ l : Fin 128, b3 k (ix3 0 0 l) = key x (128 * (r.val + k.val) + l.val))
    (s1 : ∀ k, st1 (k.val + 1) = k0_pay6 v (st1 k.val) (b1 k)) (s3 : ∀ k, st3 (k.val + 1) = k0_pay8 v (st3 k.val) (b3 k)) (a : Fin 128) :
    k0_pay1 (k0_pay77 v (st4 n4) v') (ix3 0 0 a) = BitVec.ofNat 32 (rank (key x) ⟨128 * r.val + a.val, by omega⟩) := by
  obtain ⟨rfl, rfl, rfl, rfl⟩ := ht
  have hr := r.isLt
  have e1 : ∀ b : Fin 128, st1 r.val (ix2 a b) = ((∑ k ∈ Finset.range r.val, notLess (key x) (128 * r.val + a.val) (128 * k + b.val) : ℕ) : EReal) := fun b => by
    rw [← Nat.zero_add (∑ k ∈ Finset.range r.val, _)]
    refine entry_of st1 (ix2 a b) _ 0 r.val ?_ fun k hk => ?_
    · rw [h1]
      exact Ideal.ofBits_zero_f32.trans Nat.cast_zero.symm
    · refine (congrFun (s1 ⟨k, hk⟩) (ix2 a b)).trans ((notLess_at v _ _ a b (by rw [hv]; exact hx _)).trans ?_)
      rw [hv, hb1 ⟨k, hk⟩ (by show k < 8; omega)]
      rfl
  have e3 : ∀ b : Fin 128, st3 (8 - r.val) (ix2 a b) = ((∑ k ∈ Finset.range r.val, notLess (key x) (128 * r.val + a.val) (128 * k + b.val)
      + ∑ k ∈ Finset.range (8 - r.val), more (key x) (128 * r.val + a.val) (128 * (r.val + k) + b.val) : ℕ) : EReal) := fun b => by
    refine entry_of st3 (ix2 a b) _ _ (8 - r.val) ?_ fun k hk => ?_
    · rw [h3, h2]
      exact e1 b
    · refine (congrFun (s3 ⟨k, hk⟩) (ix2 a b)).trans ((more_at v _ _ a b).trans ?_)
      rw [hv, hb3 ⟨k, hk⟩ (by show r.val + k < 8; omega)]
      rfl
  rw [h4, ← rank_eq (key x) r a]
  refine stored_at v v' (st3 (8 - r.val)) a (fun b => lane (key x) r.val a.val b) (fun b => ?_) ?_
  · rw [e3 b, hv, hv', ← Nat.cast_add]
    refine congrArg (fun n : ℕ => (n : EReal)) (congrArg (_ + ·) (if_congr (and_congr_right fun _ => ?_) rfl rfl))
    omega
  · rw [rank_eq (key x) r a]
    exact rank_lt _ _

/-- A stored row, among the rows of the block. -/
theorem piece_of (y : S1x8x128.Idx) (off : Fin 3 → ℕ) (inb : ∀ a, off a + S1x1x128.size a ≤ S1x8x128.size a) (r : Fin 8) (h1 : off 1 = r.val) (h2 : off 2 = 0)
    (p : IVec S1x1x128 32) (hp : ∀ a : Fin 128, p (ix3 0 0 a) = BitVec.ofNat 32 (rank (key x) ⟨128 * r.val + a.val, by omega⟩)) :
    View.RectAt (e := .i32) (Val := Elt Ideal) y (Rect.unit (s := S1x8x128) off S1x1x128.size inb) p (ranks x y) := by
  rintro u rfl
  have hu : u = ix3 0 0 (u 2) := funext fun d => Fin.ext (by
    match d with
    | 0 => have h0 := (u 0).isLt; exact Nat.lt_one_iff.1 h0
    | 1 => have h0 := (u 1).isLt; exact Nat.lt_one_iff.1 h0
    | 2 => rfl)
  have hu1 : (u 1).val = 0 := Nat.lt_one_iff.1 (u 1).isLt
  refine (congrArg p hu).trans ((hp (u 2)).trans ?_)
  refine congrArg (fun n => BitVec.ofNat 32 (rank (key x) n)) (Fin.ext ?_)
  show 128 * r.val + (u 2).val = 128 * (off 1 + 1 * (u 1).val) + (off 2 + 1 * (u 2).val)
  omega

end

set_option maxHeartbeats 2000000 in
/-- A grid point's block holds the ranks of the keys it was given. -/
theorem out_at (c : Dev nD) (i : grid0.Coords) (arg1 : Memref sig .tc .vmem S1x1x1024 .i32) (harg1 : arg1.IsWhole)
    (arg2 : Memref sig .tc .vmem S1x8x128 .i32) (harg2 : arg2.IsWhole) (x : Vec Ideal S1x1x1024 .i32)
    (hx : ∀ n, -2147483648 < (key x n).toInt) (y : S1x8x128.Idx) : out0_A_1 c i arg1 harg1 arg2 harg2 x y = ranks x y := by
  have hz : (i 1).val = 0 := Nat.lt_one_iff.1 (i 1).isLt
  have own : ∀ (r : Fin 8) (l : Fin 128), View.readAt (Elt Ideal) arg1.view (Rect.unit (s := S1x1x1024) (k0_off1 i (BitVec.ofNat 32 r.val)) S1x1x128.size
      (k0_off1_inb i r)).toLoadRect (harg1.unread x) (ix3 0 0 l) = key x (128 * r.val + l.val) :=
    fun r => load_at arg1 harg1 x _ _ r.val rfl rfl (own_offset _ hz r) r.isLt
  unfold out0_A_1
  rw [View.read_writes_eq_canon _ _ _ (cover0_A_1 c _ _ _ _ _ _)]
  refine View.canon_eq_of_allAt _ _ _ (cover0_A_1 c _ _ _ _ _ _ _) ?_
  unfold kernelRun0_A
  dsimp only
  sl_unfold_words
  refine View.allAt_cons _ _ _ (piece_of x y _ _ 7 rfl rfl _ (row_of x hx 7 (trips_at _ hz 7) _ _ (own 7) (own 7)
    (st_k0_t29 Variants.none c none i arg1 harg1 arg2 harg2 _ (harg1.unread x) _)
    (st_k0_t30 Variants.none c none i arg1 harg1 arg2 harg2 _ (harg1.unread x) _)
    (st_k0_t31 Variants.none c none i arg1 harg1 arg2 harg2 _ (harg1.unread x) _)
    (st_k0_t32 Variants.none c none i arg1 harg1 arg2 harg2 _ (harg1.unread x) _) rfl rfl rfl rfl _ _
    (fun k h => load_at arg1 harg1 x (k0_off30 i k) (k0_off30_inb i k) k.val rfl rfl (early_offset _ h) h)
    (fun k h => load_at arg1 harg1 x (k0_off32 i k) (k0_off32_inb i k) (7 + k.val) rfl rfl (late_offset _ hz 7 _ h) h)
    (fun k => (st_k0_t29_succ ..).trans (by unfold tripR_k0_t29 trip_k0_t29; rfl))
    (fun k => (st_k0_t31_succ ..).trans (by unfold tripR_k0_t31 trip_k0_t31; rfl)))) ?_
  refine View.allAt_cons _ _ _ (piece_of x y _ _ 6 rfl rfl _ (row_of x hx 6 (trips_at _ hz 6) _ _ (own 6) (own 6)
    (st_k0_t25 Variants.none c none i arg1 harg1 arg2 harg2 _ _ _ _ _ _ (harg1.unread x) _)
    (st_k0_t26 Variants.none c none i arg1 harg1 arg2 harg2 _ _ _ _ _ _ (harg1.unread x) _)
    (st_k0_t27 Variants.none c none i arg1 harg1 arg2 harg2 _ _ _ _ _ _ (harg1.unread x) _)
    (st_k0_t28 Variants.none c none i arg1 harg1 arg2 harg2 _ _ _ _ _ _ (harg1.unread x) _) rfl rfl rfl rfl _ _
    (fun k h => load_at arg1 harg1 x (k0_off26 i k) (k0_off26_inb i k) k.val rfl rfl (early_offset _ h) h)
    (fun k h => load_at arg1 harg1 x (k0_off28 i k) (k0_off28_inb i k) (6 + k.val) rfl rfl (late_offset _ hz 6 _ h) h)
    (fun k => (st_k0_t25_succ ..).trans (by unfold tripR_k0_t25 trip_k0_t25; rfl))
    (fun k => (st_k0_t27_succ ..).trans (by unfold tripR_k0_t27 trip_k0_t27; rfl)))) ?_
  refine View.allAt_cons _ _ _ (piece_of x y _ _ 5 rfl rfl _ (row_of x hx 5 (trips_at _ hz 5) _ _ (own 5) (own 5)
    (st_k0_t21 Variants.none c none i arg1 harg1 arg2 harg2 _ _ _ _ _ _ _ _ _ _ (harg1.unread x) _)
    (st_k0_t22 Variants.none c none i arg1 harg1 arg2 harg2 _ _ _ _ _ _ _ _ _ _ (harg1.unread x) _)
    (st_k0_t23 Variants.none c none i arg1 harg1 arg2 harg2 _ _ _ _ _ _ _ _ _ _ (harg1.unread x) _)
    (st_k0_t24 Variants.none c none i arg1 harg1 arg2 harg2 _ _ _ _ _ _ _ _ _ _ (harg1.unread x) _) rfl rfl rfl rfl _ _
    (fun k h => load_at arg1 harg1 x (k0_off22 i k) (k0_off22_inb i k) k.val rfl rfl (early_offset _ h) h)
    (fun k h => load_at arg1 harg1 x (k0_off24 i k) (k0_off24_inb i k) (5 + k.val) rfl rfl (late_offset _ hz 5 _ h) h)
    (fun k => (st_k0_t21_succ ..).trans (by unfold tripR_k0_t21 trip_k0_t21; rfl))
    (fun k => (st_k0_t23_succ ..).trans (by unfold tripR_k0_t23 trip_k0_t23; rfl)))) ?_
  refine View.allAt_cons _ _ _ (piece_of x y _ _ 4 rfl rfl _ (row_of x hx 4 (trips_at _ hz 4) _ _ (own 4) (own 4)
    (st_k0_t17 Variants.none c none i arg1 harg1 arg2 harg2 _ _ _ _ _ _ _ _ (harg1.unread x) _)
    (st_k0_t18 Variants.none c none i arg1 harg1 arg2 harg2 _ _ _ _ _ _ _ _ (harg1.unread x) _)
    (st_k0_t19 Variants.none c none i arg1 harg1 arg2 harg2 _ _ _ _ _ _ (harg1.unread x) _)
    (st_k0_t20 Variants.none c none i arg1 harg1 arg2 harg2 _ _ _ _ _ _ (harg1.unread x) _) rfl rfl rfl rfl _ _
    (fun k h => load_at arg1 harg1 x (k0_off18 i k) (k0_off18_inb i k) k.val rfl rfl (early_offset _ h) h)
    (fun k h => load_at arg1 harg1 x (k0_off20 i k) (k0_off20_inb i k) (4 + k.val) rfl rfl (late_offset _ hz 4 _ h) h)
    (fun k => (st_k0_t17_succ ..).trans (by unfold tripR_k0_t17 trip_k0_t17; rfl))
    (fun k => (st_k0_t19_succ ..).trans (by unfold tripR_k0_t19 trip_k0_t19; rfl)))) ?_
  refine View.allAt_cons _ _ _ (piece_of x y _ _ 3 rfl rfl _ (row_of x hx 3 (trips_at _ hz 3) _ _ (own 3) (own 3)
    (st_k0_t13 Variants.none c none i arg1 harg1 arg2 harg2 _ _ _ _ (harg1.unread x) _)
    (st_k0_t14 Variants.none c none i arg1 harg1 arg2 harg2 _ _ _ _ (harg1.unread x) _)
    (st_k0_t15 Variants.none c none i arg1 harg1 arg2 harg2 _ _ _ _ _ _ _ (harg1.unread x) _)
    (st_k0_t16 Variants.none c none i arg1 harg1 arg2 harg2 _ _ _ _ _ _ _ (harg1.unread x) _) rfl rfl rfl rfl _ _
    (fun k h => load_at arg1 harg1 x (k0_off14 i k) (k0_off14_inb i k) k.val rfl rfl (early_offset _ h) h)
    (fun k h => load_at arg1 harg1 x (k0_off16 i k) (k0_off16_inb i k) (3 + k.val) rfl rfl (late_offset _ hz 3 _ h) h)
    (fun k => (st_k0_t13_succ ..).trans (by unfold tripR_k0_t13 trip_k0_t13; rfl))
    (fun k => (st_k0_t15_succ ..).trans (by unfold tripR_k0_t15 trip_k0_t15; rfl)))) ?_
  refine View.allAt_cons _ _ _ (piece_of x y _ _ 2 rfl rfl _ (row_of x hx 2 (trips_at _ hz 2) _ _ (own 2) (own 2)
    (st_k0_t9 Variants.none c none i arg1 harg1 arg2 harg2 _ _ _ _ _ _ _ (harg1.unread x) _)
    (st_k0_t10 Variants.none c none i arg1 harg1 arg2 harg2 _ _ _ _ _ _ _ (harg1.unread x) _)
    (st_k0_t11 Variants.none c none i arg1 harg1 arg2 harg2 _ _ _ _ _ _ _ (harg1.unread x) _)
    (st_k0_t12 Variants.none c none i arg1 harg1 arg2 harg2 _ _ _ _ _ _ _ (harg1.unread x) _) rfl rfl rfl rfl _ _
    (fun k h => load_at arg1 harg1 x (k0_off10 i k) (k0_off10_inb i k) k.val rfl rfl (early_offset _ h) h)
    (fun k h => load_at arg1 harg1 x (k0_off12 i k) (k0_off12_inb i k) (2 + k.val) rfl rfl (late_offset _ hz 2 _ h) h)
    (fun k => (st_k0_t9_succ ..).trans (by unfold tripR_k0_t9 trip_k0_t9; rfl))
    (fun k => (st_k0_t11_succ ..).trans (by unfold tripR_k0_t11 trip_k0_t11; rfl)))) ?_
  refine View.allAt_cons _ _ _ (piece_of x y _ _ 1 rfl rfl _ (row_of x hx 1 (trips_at _ hz 1) _ _ (own 1) (own 1)
    (st_k0_t5 Variants.none c none i arg1 harg1 arg2 harg2 _ _ _ (harg1.unread x) _)
    (st_k0_t6 Variants.none c none i arg1 harg1 arg2 harg2 _ _ _ (harg1.unread x) _)
    (st_k0_t7 Variants.none c none i arg1 harg1 arg2 harg2 _ _ _ (harg1.unread x) _)
    (st_k0_t8 Variants.none c none i arg1 harg1 arg2 harg2 _ _ _ (harg1.unread x) _) rfl rfl rfl rfl _ _
    (fun k h => load_at arg1 harg1 x (k0_off6 i k) (k0_off6_inb i k) k.val rfl rfl (early_offset _ h) h)
    (fun k h => load_at arg1 harg1 x (k0_off8 i k) (k0_off8_inb i k) (1 + k.val) rfl rfl (late_offset _ hz 1 _ h) h)
    (fun k => (st_k0_t5_succ ..).trans (by unfold tripR_k0_t5 trip_k0_t5; rfl))
    (fun k => (st_k0_t7_succ ..).trans (by unfold tripR_k0_t7 trip_k0_t7; rfl)))) ?_
  refine View.allAt_cons _ _ _ (piece_of x y _ _ 0 rfl rfl _ (row_of x hx 0 (trips_at _ hz 0) _ _ (own 0) (own 0)
    (st_k0_t1 Variants.none c none i arg1 harg1 arg2 harg2 _ (harg1.unread x) _)
    (st_k0_t2 Variants.none c none i arg1 harg1 arg2 harg2 _ (harg1.unread x) _)
    (st_k0_t3 Variants.none c none i arg1 harg1 arg2 harg2 _ (harg1.unread x) _)
    (st_k0_t4 Variants.none c none i arg1 harg1 arg2 harg2 _ (harg1.unread x) _) rfl rfl rfl rfl _ _
    (fun k h => load_at arg1 harg1 x (k0_off2 i k) (k0_off2_inb i k) k.val rfl rfl (early_offset _ h) h)
    (fun k h => load_at arg1 harg1 x (k0_off4 i k) (k0_off4_inb i k) (0 + k.val) rfl rfl (late_offset _ hz 0 _ h) h)
    (fun k => (st_k0_t1_succ ..).trans (by unfold tripR_k0_t1 trip_k0_t1; rfl))
    (fun k => (st_k0_t3_succ ..).trans (by unfold tripR_k0_t3 trip_k0_t3; rfl)))) ?_
  exact View.allAt_nil _ _

end Cert.Proof.Rank

end
-- ==== Proof.RankRef.lean ====
/-
  The ranking's reference: the position of each position in the stable descending sort, which is the rank that counting gives.
-/
module

public import proofs.«01_k».proof.Proof.RankCount
public import proofs.«01_k».proof.Proof.RefValue
public import proofs.«01_k».proof.Proof.Gen.RankReferenceIdeal.Run
public import proofs.«01_k».proof.Proof.Gen.Pre_pre_rank

@[expose] public section

noncomputable section

namespace Cert.Proof.Rank

open Idealize.ShloMosaic Idealize.ShloMosaic.ValueIdx
open Cert.RankReferenceIdeal Cert.RankReferenceIdeal.Gen
open Cert.Proof.Select (negBefore negBefore_eq before before_total toInt_small)
open Cert.Proof.RefValue (sort2_two)

section
variable (k : IVec S20x1024 32) (w : Fin 20)

/-- A row's key at a position. -/
abbrev rowKey (n : ℕ) : BitVec 32 := k (ix2 w ⟨n % 1024, Nat.mod_lt _ (by decide)⟩)

theorem rowKey_fin (j : Fin 1024) : rowKey k w j.val = k (ix2 w j) :=
  congrArg (fun i => k (ix2 w i)) (Fin.ext (Nat.mod_eq_of_lt j.isLt))

theorem pre_eq {F : FTy → Type} [FloatOps F] : Cert.Pre_pre_rank.fn (F := F) k
    = Host.reduce IntOp.andi (cmpi .sgt k (broadcastInDim S20x1024 ![] Cert.Pre_pre_rank.Gen.bcast_S_S20x1024 (constantI Cert.Pre_pre_rank.S_ 32 2147483648#32)))
        (constantI Cert.Pre_pre_rank.S_ 1 1#1) Cert.Pre_pre_rank.Gen.reducesTo_S20x1024_S_d0_1 Cert.Pre_pre_rank.Gen.h_S_ := rfl

/-- The precondition: no key is the least integer. -/
theorem above_least {F : FTy → Type} [FloatOps F] (h : Cert.Pre_pre_rank.fn (F := F) k = fun _ => 1#1) (n : ℕ) : -2147483648 < (rowKey k w n).toInt := by
  rw [pre_eq] at h
  haveI : Subsingleton Cert.Pre_pre_rank.S_.Idx := ⟨fun a b => funext fun i => i.elim0⟩
  have e : IntOp.cmpi .sgt (rowKey k w n) 2147483648#32 = 1#1 := Host.reduce_andi_all _ _ _ _ (fun a => a.elim0) (congrFun h _) (ix2 w _)
  rw [WordCmp.cmpi_sgt_eq, WordCmp.ofBool_eq_one_iff, decide_eq_true_eq] at e
  exact e

/-- The positions, greatest key first. -/
def order : IVec S20x1024 32 := (Host.sort2 S20x1024 1 comparator_i32_i32_d1 (negi k) (iotaInDim S20x1024 32 1)).2

/-- Each position's place among them. -/
def places : IVec S20x1024 32 := (Host.sort2 S20x1024 1 comparator_i32_i32_d1 (order k) (iotaInDim S20x1024 32 1)).2

/-- The reference's result. -/
def result : IVec S20x8x128 32 := shapeCast S20x8x128 (places k) shapeCasts_S20x1024_S20x8x128

theorem listed_at (p : Fin 1024) : order k (ix2 w p) = BitVec.ofNat 32 (sortedFrom (negBefore (rowKey k w)) p).val := by
  refine (sort2_two comparator_i32_i32_d1 (negi k) (iotaInDim S20x1024 32 1) w p).trans ?_
  refine congrArg (fun B : Fin 1024 → Fin 1024 → Bool => BitVec.ofNat 32 (sortedFrom B p).val) (funext fun a => funext fun b => ?_)
  show (IntOp.cmpi .slt (-(k (ix2 w a))) (-(k (ix2 w b))) == 1#1) = (IntOp.cmpi .slt (-(rowKey k w a.val)) (-(rowKey k w b.val)) == 1#1)
  rw [rowKey_fin k w a, rowKey_fin k w b]

theorem places_at (hu : ∀ n, -2147483648 < (rowKey k w n).toInt) (i : Fin 1024) : places k (ix2 w i) = BitVec.ofNat 32 (rank (rowKey k w) i) := by
  refine (sort2_two comparator_i32_i32_d1 (order k) (iotaInDim S20x1024 32 1) w i).trans (congrArg (BitVec.ofNat 32) ?_)
  have hp := place_of_place (B := fun a b => IntOp.cmpi .slt (order k (ix2 w a)) (order k (ix2 w b)) == 1#1)
    (sortedFrom (before (rowKey k w))) (sortedFrom_injective _) (fun x y => by
      have hx := (sortedFrom (before (rowKey k w)) x).isLt
      have hy := (sortedFrom (before (rowKey k w)) y).isLt
      rw [listed_at, listed_at, negBefore_eq _ fun n _ => hu n, WordCmp.cmpi_slt_eq, beq_iff_eq, WordCmp.ofBool_eq_one_iff, decide_eq_true_eq,
        toInt_small (by omega), toInt_small (by omega), Fin.lt_def]
      omega) i
  unfold rank
  conv_rhs => rw [← hp]
  exact (card_before (before_total _) _).symm

theorem result_at (hu : ∀ n, -2147483648 < (rowKey k w n).toInt) (r : Fin 8) (a : Fin 128) :
    result k (ix3 w r a) = BitVec.ofNat 32 (rank (rowKey k w) ⟨128 * r.val + a.val, by omega⟩) := by
  refine (shapeCast_apply _ _ _ (ix2 w ⟨128 * r.val + a.val, by omega⟩) ?_).trans (places_at k w hu _)
  rw [Shape.rowMajor_val_three, Shape.rowMajor_val_two]
  show w.val * 1024 + (128 * r.val + a.val) = (w.val * 8 + r.val) * 128 + a.val
  omega

end

end Cert.Proof.Rank

end
-- ==== Proof.RankEquation.lean ====
/-
  The ranking call's result: a grid point holds a row of the keys and leaves that row's ranks, which are the reference's.
-/
module

public import proofs.«01_k».proof.Proof.RankOut
public import proofs.«01_k».proof.Proof.RankRef
public import proofs.«01_k».proof.Proof.Gen.RankIdeal.Value

@[expose] public section

set_option maxRecDepth 16384

noncomputable section

namespace Cert.Proof.Rank

open Idealize.ShloMosaic Idealize.ShloMosaic.ValueIdx Idealize.ShloMosaic.TcCoe Idealize.SL.Sem Idealize.ShloMosaic.StableHlo
open Cert.RankIdeal Cert.RankIdeal.Gen Cert.RankIdeal.Value

variable (m : (ℓ : Loc nD τ sig) → Buf (Elt Ideal) ℓ) (c : Dev nD)

/-- The keys. -/
abbrev keys : IVec S20x1024 32 := m ((c : Thread nD τ).loc main_arg0)

/-- The region finds the keys, a row a block. -/
theorem row_found (w : Fin 20) (j : Fin 1024) : (V m c main_v0 : IVec S20x1x1024 32) (ix3 w 0 j) = keys m c (ix2 w j) := by
  have e : V m c main_v0 = shapeCast S20x1x1024 (keys m c) shapeCasts_S20x1024_S20x1x1024 := by
    unfold V
    simp only [hostOps0, TRef.unary, TRef.toBuf, TRef.ofBuf, cast_eq]
    after_results_simp
    rfl
  rw [e]
  refine shapeCast_apply _ _ _ _ ?_
  rw [Shape.rowMajor_val_three, Shape.rowMajor_val_two]
  show w.val * 1024 + j.val = (w.val * 1 + 0) * 1024 + j.val
  omega

theorem places_of_point : ∀ t : Fin grid0.N, (win0_0.index t (0 : Fin 3) = t.val ∧ win0_0.index t (1 : Fin 3) = 0 ∧ win0_0.index t (2 : Fin 3) = 0)
    ∧ win0_1.index t (0 : Fin 3) = t.val ∧ win0_1.index t (1 : Fin 3) = 0 ∧ win0_1.index t (2 : Fin 3) = 0 := by decide +kernel

theorem row_in (t : Fin cfg0.N) (j : Fin 1024) :
    ((cfg0.win 0).blk t).view.emb (ix3 0 0 j : S1x1x1024.Idx) = (ix3 (t : Fin 20) 0 j : S20x1x1024.Idx) := by
  obtain ⟨⟨e0, e1, e2⟩, -⟩ := places_of_point t
  funext a
  apply Fin.ext
  match a with
  | 0 => show win0_0.index t (0 : Fin 3) * 1 + 1 * 0 = t.val; omega
  | 1 => show win0_0.index t (1 : Fin 3) * 1 + 1 * 0 = 0; omega
  | 2 => show win0_0.index t (2 : Fin 3) * 1024 + 1 * j.val = j.val; omega

theorem block_out (t : Fin cfg0.N) (r : Fin 8) (a : Fin 128) :
    ((cfg0.win 1).blk t).view.emb (ix3 0 r a : S1x8x128.Idx) = (ix3 (t : Fin 20) r a : S20x8x128.Idx) := by
  obtain ⟨-, e0, e1, e2⟩ := places_of_point t
  funext d
  apply Fin.ext
  match d with
  | 0 => show win0_1.index t (0 : Fin 3) * 1 + 1 * 0 = t.val; omega
  | 1 => show win0_1.index t (1 : Fin 3) * 8 + 1 * r.val = r.val; omega
  | 2 => show win0_1.index t (2 : Fin 3) * 128 + 1 * a.val = a.val; omega

theorem key_block (t : Fin cfg0.N) : key (iblk m c 0 t) = rowKey (keys m c) (t : Fin 20) := by
  funext n
  show (V m c main_v0 : IVec S20x1x1024 32) (((cfg0.win 0).blk t).view.emb (ix3 0 0 _ : S1x1x1024.Idx)) = _
  rw [row_in]
  exact row_found m c t _

section
variable (h : ∀ w n, -2147483648 < (rowKey (keys m c) w n).toInt)
include h

/-- What a grid point writes back is its block of the reference's result. -/
theorem row_flushed (t : Fin cfg0.N) :
    (dats m 0 c).flushed 1 t = ((cfg0.win 1).blk t).view.read (Elt Ideal) (result (keys m c)) := by
  rw [flushed1_A]
  refine funext fun (y : S1x8x128.Idx) => ?_
  obtain ⟨r, a, rfl⟩ : ∃ (r : Fin 8) (a : Fin 128), y = ix3 0 r a :=
    ⟨y 1, y 2, (eq_ix3 y).trans (congrArg (fun b : Fin 1 => ix3 b (y 1) (y 2)) (Subsingleton.elim _ _))⟩
  show (out0_A_1 c (grid0.coords t) (ms0_0 t) (hs0_0 t) (ms0_1 t) (hs0_1 t) (iblk m c 0 t) (ix3 0 r a : S1x8x128.Idx) : BitVec 32)
    = result (keys m c) (((cfg0.win 1).blk t).view.emb (ix3 0 r a : S1x8x128.Idx))
  rw [block_out, result_at (keys m c) t (h t) r a, out_at c (grid0.coords t) (ms0_0 t) (hs0_0 t) (ms0_1 t) (hs0_1 t) (iblk m c 0 t)
    (by rw [key_block]; exact h t)]
  unfold ranks
  rw [key_block]

omit h in
theorem all_rows (i : S20x8x128.Idx) : ∃ t : Fin cfg0.N, (cfg0.win 1).flush t = true ∧ i ∈ ((cfg0.win 1).blk t).view.set := by
  refine ⟨(i 0 : Fin 20), flush0_1 _, ?_⟩
  have e := ((cfg0.win 1).blk (i 0 : Fin 20)).view.emb_mem_set (ix3 0 (i 1) (i 2) : S1x8x128.Idx)
  rw [block_out (i 0 : Fin 20) (i 1) (i 2)] at e
  rwa [eq_ix3 i]

/-- The call's result is the reference's. -/
theorem result_eq : (dats m 0 c).arrAt 1 cfg0.N = result (keys m c) :=
  (dats m 0 c).arrAt_eq_of_cover 1 (result (keys m c)) (fun t _ => row_flushed m c h t) all_rows

end

end Cert.Proof.Rank

end
-- ==== Proof.NmsProg.lean ====
/-
  The suppression kernel's body, block by block: the program that the printed statements spell out.
-/
module

public import proofs.«01_k».proof.NmsIdeal
public import proofs.«01_k».proof.Proof.Gen.NmsIdeal

@[expose] public section

noncomputable section

namespace Cert.Proof.Nms

open Idealize.ShloMosaic Idealize.ShloMosaic.TcCoe Idealize.SL.Sem
open Cert.NmsIdeal Cert.NmsIdeal.Gen

variable {F : FTy → Type} [FloatOps F]

/-! ### Values -/

/-- A box's edge held to the image. -/
def clip {s : Shape} (x : FVec F s .f32) : FVec F s .f32 :=
  minimumf (broadcast s (Scalar.ofBits .f32 0x44480000#32)) (maximumf (broadcast s (Scalar.ofBits .f32 0x00000000#32)) x)

/-- The product of two sides, a negative side counting as none. -/
def span {s : Shape} (x1 y1 x2 y2 : FVec F s .f32) : FVec F s .f32 :=
  mulf (maximumf (subf x2 x1) (broadcast s (Scalar.ofBits .f32 0x00000000#32)))
    (maximumf (subf y2 y1) (broadcast s (Scalar.ofBits .f32 0x00000000#32)))

/-- A test's bit as a number. -/
def flag {s : Shape} (b : IVec s 1) : FVec F s .f32 := sitofp .f32 (extui 32 b Facts₀.natLt_1_32)

/-- Four edges and the area. -/
structure Edges (F : FTy → Type) (s : Shape) where
  x1 : FVec F s .f32
  y1 : FVec F s .f32
  x2 : FVec F s .f32
  y2 : FVec F s .f32
  area : FVec F s .f32

theorem slices (k : Fin 8) : S1024.Slices ![128 * k.val] S128 := by revert k; decide
theorem slices_row (k : Fin 8) : S8x128.Slices ![k.val, 0] S1x128 := by revert k; decide

/-- A block of 128 of 1024 lanes. -/
def cut (k : Fin 8) (x : FVec F S1024 .f32) : FVec F S1x128 .f32 :=
  shapeCast S1x128 (extractStridedSlice S128 ![128 * k.val] x (slices k)) Facts₀.shapeCasts_S128_S1x128

def Edges.cut (e : Edges F S1024) (k : Fin 8) : Edges F S1x128 :=
  ⟨Nms.cut k e.x1, Nms.cut k e.y1, Nms.cut k e.x2, Nms.cut k e.y2, Nms.cut k e.area⟩

/-- A column along the tile's rows, a row along its columns. -/
def down (x : FVec F S128x1 .f32) : FVec F S128x128 .f32 := broadcastTo S128x128 x Facts₀.broadcasts_S128x1_S128x128
def over (x : FVec F S1x128 .f32) : FVec F S128x128 .f32 := broadcastTo S128x128 x Facts₀.broadcasts_S1x128_S128x128

/-- The boxes' common area. -/
def meet (i : Edges F S128x1) (j : Edges F S1x128) : FVec F S128x128 .f32 :=
  span (maximumf (down i.x1) (over j.x1)) (maximumf (down i.y1) (over j.y1)) (minimumf (down i.x2) (over j.x2)) (minimumf (down i.y2) (over j.y2))

/-- Which pairs of a tile overlap by more than the threshold. -/
def hits (i : Edges F S128x1) (j : Edges F S1x128) : IVec S128x128 1 :=
  cmpf .ogt (divf (meet i j) (maximumf (subf (addf (down i.area) (over j.area)) (meet i j)) (broadcast S128x128 (Scalar.ofBits .f32 0x3089705F#32))))
    (broadcast S128x128 (Scalar.ofBits .f32 0x3E99999A#32))

/-- Which columns of a tile are before the row. -/
def before : IVec S128x128 1 :=
  cmpi .slt (iota .tc S128x128 32 [1] Facts₀.iota_S128x128_d1_w32) (iota .tc S128x128 32 [0] Facts₀.iota_S128x128_d0_w32)

/-- A row's sum of a tile over the lanes that are kept. -/
def tally (t : FVec F S128x128 .f32) (kb : FVec F S128 .f32) : FVec F S128 .f32 :=
  multiReduction .add [1] S128 (mulf t (over (shapeCast S1x128 kb Facts₀.shapeCasts_S128_S1x128))) 0x00000000#32 Facts₀.reduces_S128x128_S128 (.inl rfl) rfl

/-- Which sums are zero. -/
def unhit (x : FVec F S128 .f32) : FVec F S128 .f32 := flag (cmpf .oeq x (broadcast S128 (Scalar.ofBits .f32 0x00000000#32)))

/-- Which positions take part: a score above the threshold, among the first 1000. -/
def valid (s : FVec F S1024 .f32) : FVec F S1024 .f32 :=
  flag (andi (cmpf .ogt s (broadcast S1024 (Scalar.ofBits .f32 0x3C23D70A#32)))
    (cmpi .slt (shapeCast S1024 (iota .tc S1x1024 32 [1] Facts₀.iota_S1x1024_d1_w32) Facts₀.shapeCasts_S1x1024_S1024) (broadcast S1024 1000#32)))

/-- A block of the positions that take part. -/
def validCut (k : Fin 8) (v : FVec F S1024 .f32) : FVec F S128 .f32 :=
  shapeCast S128 (extractStridedSlice S1x128 ![k.val, 0] (shapeCast S8x128 v Facts₀.shapeCasts_S1024_S8x128) (slices_row k)) Facts₀.shapeCasts_S1x128_S128

/-! ### The program -/

abbrev P (F : FTy → Type) [FloatOps F] (α : Type) := Prog (TpuEff nD τ sig (Elt F) (Λ₀ F) .tc) α

/-- A value for each of n numbers, in turn. -/
def collect {α : Type} : (n : ℕ) → (Fin n → P F α) → P F (Fin n → α)
  | 0, _ => pure Fin.elim0
  | n + 1, f => do
    let a ← f 0
    let r ← collect n fun i => f i.succ
    pure (Fin.cons a r)

/-- A step for each of a list, in turn. -/
def each {ι : Type} : List ι → (ι → P F PUnit) → P F PUnit
  | [], _ => pure ⟨⟩
  | a :: l, f => do
    f a
    each l f

section
variable (arg1 : Memref sig .tc .vmem S1x8x1024 .f32) (arg2 : Memref sig .tc .vmem S1x1024x8 .f32)
  (arg3 : Memref sig .tc .vmem S1x8x1024 .f32) (arg4 : Memref sig .tc .vmem S1024 .f32)

theorem inb_row (r : Fin 8) : ∀ a, (![0, r.val, 0] : Fin 3 → Nat) a + S1x1x1024.size a ≤ S1x8x1024.size a := by revert r; decide
theorem inb_col (k c : Fin 8) : ∀ a, (![0, 128 * k.val, c.val] : Fin 3 → Nat) a + S1x128x1.size a ≤ S1x1024x8.size a := by revert k c; decide
theorem inb_sup (k : Fin 8) : ∀ a, (![128 * k.val] : Fin 1 → Nat) a + S128.size a ≤ S1024.size a := by revert k; decide
theorem inb_keep (k : Fin 8) : ∀ a, (![0, 5, 128 * k.val] : Fin 3 → Nat) a + S1x1x128.size a ≤ S1x8x1024.size a := by revert k; decide

/-- A row of a block of the boxes. -/
abbrev rowRect (r : Fin 8) : Rect S1x8x1024 := Rect.unit (s := S1x8x1024) ![0, r.val, 0] S1x1x1024.size (inb_row r)
/-- A column of a block of 128 boxes. -/
abbrev colRect (k c : Fin 8) : Rect S1x1024x8 := Rect.unit (s := S1x1024x8) ![0, 128 * k.val, c.val] S1x128x1.size (inb_col k c)
/-- A block's sums. -/
abbrev supRect (k : Fin 8) : Rect S1024 := Rect.unit (s := S1024) ![128 * k.val] S128.size (inb_sup k)
/-- A block's flags. -/
abbrev keepRect (k : Fin 8) : Rect S1x8x1024 := Rect.unit (s := S1x8x1024) ![0, 5, 128 * k.val] S1x1x128.size (inb_keep k)

def loadRow (m : Memref sig .tc .vmem S1x8x1024 .f32) (r : Fin 8) : P F (FVec F S1024 .f32) := do
  let x : Vec F S1x1x1024 .f32 ← Prog.lift (.load m (rowRect r).toLoadRect (View.loadsAt_vmem Facts₀.h_S1x1x1024))
  pure (shapeCast S1024 x Facts₀.shapeCasts_S1x1x1024_S1024)

def loadCol (k c : Fin 8) : P F (FVec F S128x1 .f32) := do
  let x : Vec F S1x128x1 .f32 ← Prog.lift (.load arg2 (colRect k c).toLoadRect (View.loadsAt_vmem Facts₀.h_S1x128x1))
  pure (shapeCast S128x1 (clip (shapeCast S128 x Facts₀.shapeCasts_S1x128x1_S128)) Facts₀.shapeCasts_S128_S128x1)

def loadEdges (k : Fin 8) : P F (Edges F S128x1) := do
  let x1 ← loadCol arg2 k 0
  let y1 ← loadCol arg2 k 1
  let x2 ← loadCol arg2 k 2
  let y2 ← loadCol arg2 k 3
  pure ⟨x1, y1, x2, y2, span x1 y1 x2 y2⟩

/-- The loop's call at a block. -/
def settle (i : grid0.Coords) (k : Fin 8) (d : FVec F S128x128 .f32) (b x y : FVec F S128 .f32) : P F (FVec F S128 .f32 × FVec F S128 .f32) :=
  match k with
  | 0 => Prog.lift (.call (1 : (Λ₀ F).Label) ⟨i, d, b, x, y⟩)
  | 1 => Prog.lift (.call (2 : (Λ₀ F).Label) ⟨i, d, b, x, y⟩)
  | 2 => Prog.lift (.call (3 : (Λ₀ F).Label) ⟨i, d, b, x, y⟩)
  | 3 => Prog.lift (.call (4 : (Λ₀ F).Label) ⟨i, d, b, x, y⟩)
  | 4 => Prog.lift (.call (5 : (Λ₀ F).Label) ⟨i, d, b, x, y⟩)
  | 5 => Prog.lift (.call (6 : (Λ₀ F).Label) ⟨i, d, b, x, y⟩)
  | 6 => Prog.lift (.call (7 : (Λ₀ F).Label) ⟨i, d, b, x, y⟩)
  | 7 => Prog.lift (.call (8 : (Λ₀ F).Label) ⟨i, d, b, x, y⟩)

/-- A tile's sums, added to a later block's. -/
def spread (rows : Edges F S1024) (cols : Fin 8 → Edges F S128x1) (k : Fin 8) (kb : FVec F S128 .f32) (r : Fin 8) : P F PUnit := do
  let s : Vec F S128 .f32 ← Prog.lift (.load arg4 (supRect r).toLoadRect (View.loadsAt_vmem Facts₀.h_S128))
  let _ ← Prog.lift (.load arg4 (supRect r).toLoadRect (View.loadsAt_vmem Facts₀.h_S128))
  Prog.lift (.store arg4 (supRect r) (shapeCast S128 (addf s (tally (flag (hits (cols r) (rows.cut k))) kb)) Facts₀.shapeCasts_S128_S128)
    Finset.univ (View.stores_vmem_bits_univ Facts₀.h_S128 rfl) (.inl rfl))

/-- The blocks after one. -/
def later (k : Fin 8) : List (Fin 8) := (List.finRange 8).drop (k.val + 1)

/-- What a block's boxes start from: the ones that take part and that no earlier block suppresses. -/
def start (v : FVec F S1024 .f32) (k : Fin 8) (s : FVec F S128 .f32) : FVec F S128 .f32 := mulf (validCut k v) (unhit s)

/-- One block. -/
def block (i : grid0.Coords) (rows : Edges F S1024) (cols : Fin 8 → Edges F S128x1) (v : FVec F S1024 .f32) (k : Fin 8) : P F PUnit := do
  let s : Vec F S128 .f32 ← Prog.lift (.load arg4 (supRect k).toLoadRect (View.loadsAt_vmem Facts₀.h_S128))
  let kb ← settle i k (flag (andi (hits (cols k) (rows.cut k)) before)) (start v k s) (start v k s)
    (subf (start v k s) (broadcast S128 (Scalar.ofBits .f32 0x3F800000#32)))
  let _ ← Prog.lift (.load arg3 (keepRect k).toLoadRect (View.loadsAt_vmem Facts₀.h_S1x1x128))
  Prog.lift (.store arg3 (keepRect k) (shapeCast S1x1x128 kb.1 Facts₀.shapeCasts_S128_S1x1x128)
    Finset.univ (View.stores_vmem_bits_univ Facts₀.h_S1x1x128 rfl) (.inl rfl))
  each (later k) (spread arg4 rows cols k kb.1)

/-- A row written. -/
def putRow (r : Fin 8) (x : FVec F S1024 .f32) : P F PUnit := do
  let _ ← Prog.lift (.load arg3 (rowRect r).toLoadRect (View.loadsAt_vmem Facts₀.h_S1x1x1024))
  Prog.lift (.store arg3 (rowRect r) (shapeCast S1x1x1024 x Facts₀.shapeCasts_S1024_S1x1x1024)
    Finset.univ (View.stores_vmem_bits_univ Facts₀.h_S1x1x1024 rfl) (.inl rfl))

/-- The whole body. -/
def body (i : grid0.Coords) : P F PUnit := do
  let x1 ← loadRow arg1 0
  let y1 ← loadRow arg1 1
  let x2 ← loadRow arg1 2
  let y2 ← loadRow arg1 3
  let s ← loadRow arg1 4
  let cols ← collect 8 (loadEdges arg2)
  let _ ← Prog.lift (.load arg4 (Rect.unit (s := S1024) ![0] S1024.size Facts₀.inb_S1024_S1024_0).toLoadRect (View.loadsAt_vmem Facts₀.h_S1024))
  Prog.lift (.store arg4 (Rect.unit (s := S1024) ![0] S1024.size Facts₀.inb_S1024_S1024_0)
    (shapeCast S1024 (broadcast S1024 (Scalar.ofBits .f32 0x00000000#32)) Facts₀.shapeCasts_S1024_S1024)
    Finset.univ (View.stores_vmem_bits_univ Facts₀.h_S1024 rfl) (.inl rfl))
  each (List.finRange 8) (block arg3 arg4 i ⟨clip x1, clip y1, clip x2, clip y2, span (clip x1) (clip y1) (clip x2) (clip y2)⟩ cols (valid s))
  let kept ← loadRow arg3 5
  putRow arg3 0 (mulf (clip x1) kept)
  putRow arg3 1 (mulf (clip y1) kept)
  putRow arg3 2 (mulf (clip x2) kept)
  putRow arg3 3 (mulf (clip y2) kept)
  putRow arg3 4 (mulf s kept)
  putRow arg3 6 (broadcast S1024 (Scalar.ofBits .f32 0x00000000#32))
  putRow arg3 7 (broadcast S1024 (Scalar.ofBits .f32 0x00000000#32))

end

end Cert.Proof.Nms

end
-- ==== Proof.NmsGreedy.lean ====
/-
  Greedy suppression: a position is kept if it takes part and no kept position before it overlaps it. That equation has one solution, and rounds
  of it settle to the solution from the front.
-/
module

public import Idealize.ShloMosaic.PureOps.Reduce

@[expose] public section

namespace Cert.Proof.Nms

variable (v : ℕ → Prop) (o : ℕ → ℕ → Prop)

/-- Whether a position is kept. -/
def kept (i : ℕ) : Prop := v i ∧ ∀ j, (_ : j < i) → o i j → ¬ kept j
termination_by i

/-- One round: the positions that none of the given ones before suppresses. -/
def after (g : ℕ → Prop) (i : ℕ) : Prop := v i ∧ ∀ j < i, o i j → ¬ g j

theorem kept_iff (i : ℕ) : kept v o i ↔ after v o (kept v o) i := by
  rw [kept]
  rfl

/-- A round takes what is right below a position to what is right up to it. -/
theorem after_upto {g : ℕ → Prop} {m : ℕ} (h : ∀ i < m, (g i ↔ kept v o i)) (i : ℕ) (hi : i < m + 1) : after v o g i ↔ kept v o i := by
  rw [kept_iff]
  exact and_congr_right fun _ => forall_congr' fun j => forall_congr' fun hj => imp_congr_right fun _ => not_congr (h j (by omega))

/-- What a round does not change is what is kept. -/
theorem kept_of_fixed {g : ℕ → Prop} {n : ℕ} (h : ∀ i < n, (g i ↔ after v o g i)) : ∀ i < n, (g i ↔ kept v o i) := by
  suffices ∀ m ≤ n, ∀ i < m, (g i ↔ kept v o i) from this n le_rfl
  intro m
  induction m with
  | zero => exact fun _ i hi => absurd hi (Nat.not_lt_zero i)
  | succ m ih => exact fun hm i hi => (h i (by omega)).trans (after_upto v o (ih (by omega)) i hi)

/-- What is kept past some first positions, from what those leave. -/
theorem kept_past (b x : ℕ) : kept (fun x => v (b + x) ∧ ∀ j < b, o (b + x) j → ¬ kept v o j) (fun x y => o (b + x) (b + y)) x ↔ kept v o (b + x) := by
  refine (kept_of_fixed _ _ (g := fun x => kept v o (b + x)) (n := x + 1) (fun i _ => (kept_iff v o (b + i)).trans ?_) x (Nat.lt_succ_self x)).symm
  unfold after
  constructor
  · exact fun ⟨h, k⟩ => ⟨⟨h, fun j hj => k j (by omega)⟩, fun j hj => k (b + j) (by omega)⟩
  · rintro ⟨⟨h, k⟩, l⟩
    refine ⟨h, fun j hj => ?_⟩
    rcases Nat.lt_or_ge j b with hb | hb
    · exact k j hb
    · obtain ⟨d, rfl⟩ := Nat.exists_eq_add_of_le hb
      exact l d (by omega)

end Cert.Proof.Nms
-- ==== Proof.NmsLane.lean ====
/-
  The suppression kernel's vectors, lane by lane, over the extended reals: flags as zeros and ones, a tile's sums as counts, one round of a block.
-/
module

public import proofs.«01_k».proof.Proof.NmsProg
public import proofs.«01_k».proof.Proof.NmsGreedy
public import proofs.«01_k».proof.Proof.RankStep

@[expose] public section

noncomputable section

namespace Cert.Proof.Nms

open Idealize.ShloMosaic Idealize.ShloMosaic.ValueIdx
open Cert.NmsIdeal Cert.NmsIdeal.Gen
open scoped Classical

/-! ### Flags as numbers -/

/-- One for what holds, zero for what does not. -/
def num (p : Prop) : EReal := ((if p then 1 else 0 : ℕ) : EReal)

theorem num_congr {p q : Prop} (h : p ↔ q) : num p = num q := congrArg num (propext h)

theorem num_inj {p q : Prop} : num p = num q ↔ (p ↔ q) := by
  unfold num
  rw [Nat.cast_inj]
  by_cases hp : p <;> by_cases hq : q <;> simp [hp, hq]

theorem num_mul (p q : Prop) : num p * num q = num (p ∧ q) := by
  unfold num
  by_cases hp : p <;> by_cases hq : q <;> simp [hp, hq]

theorem num_real (p : Prop) : num p = ((if p then 1 else 0 : ℝ) : EReal) := by
  unfold num
  split_ifs <;> simp

/-- A bit as a number. -/
theorem flag_at {s : Shape} (b : IVec s 1) (i : s.Idx) {p : Prop} (h : b i = 1#1 ↔ p) : flag (F := Ideal) b i = num p := Rank.bit_real _ _ h

/-- How many of 128 lanes satisfy something. -/
def count (p : Fin 128 → Prop) : ℕ := ∑ b, if p b then 1 else 0

theorem count_eq_zero (p : Fin 128 → Prop) : count p = 0 ↔ ∀ b, ¬ p b := by
  unfold count
  rw [Finset.sum_eq_zero_iff]
  exact ⟨fun h b hb => by have := h b (Finset.mem_univ b); rw [if_pos hb] at this; omega, fun h b _ => if_neg (h b)⟩

/-- A zero test of a whole number. -/
theorem eq_zero_at (x : FVec Ideal S128 .f32) (i : S128.Idx) (n : ℕ) (h : x i = (n : EReal)) : unhit x i = num (n = 0) := by
  refine flag_at _ _ ?_
  show BitVec.ofBool (decide (x i = Ideal.ofBits .f32 0x00000000#32)) = 1#1 ↔ _
  rw [Ideal.ofBits_zero_f32, h, show ∀ c : Bool, BitVec.ofBool c = 1#1 ↔ c = true from by decide, decide_eq_true_iff]
  exact Nat.cast_eq_zero

/-! ### Tiles -/

theorem down_at (x : FVec Ideal S128x1 .f32) (a b : Fin 128) : down x (ix2 a b) = x (ix2 a 0) := by
  refine broadcastTo_apply _ _ (ix2 a b) (ix2 a 0) fun d => ?_
  match d with
  | 0 => rfl
  | 1 => rfl

theorem over_at (x : FVec Ideal S1x128 .f32) (a b : Fin 128) : over x (ix2 a b) = x (ix2 0 b) := Radix.on_rows _ x a b

theorem row_at (x : FVec Ideal S128 .f32) (b : Fin 128) : shapeCast S1x128 x Facts₀.shapeCasts_S128_S1x128 (ix2 0 b) = x (ix1 b) :=
  shapeCast_apply _ _ (ix2 0 b) (ix1 b) (by
    rw [Shape.rowMajor_val_two, Shape.rowMajor_val_one]; show b.val = 0 * 128 + b.val; omega)

/-- A row's sum of a tile of flags over lanes of flags is a count. -/
theorem tally_at (t : FVec Ideal S128x128 .f32) (kb : FVec Ideal S128 .f32) (a : Fin 128) (T K : Fin 128 → Prop)
    (ht : ∀ b, t (ix2 a b) = num (T b)) (hk : ∀ b, kb (ix1 b) = num (K b)) : tally t kb (ix1 a) = ((count fun b => T b ∧ K b : ℕ) : EReal) := by
  refine (Rank.total_at _ _ _ _ a).trans ?_
  unfold count
  rw [Nat.cast_sum]
  refine Finset.sum_congr rfl fun b _ => ?_
  show t (ix2 a b) * over _ (ix2 a b) = num _
  rw [over_at, row_at, ht, hk, num_mul]

/-! ### One round -/

/-- What a block's vector becomes in a round. -/
def next (d : FVec Ideal S128x128 .f32) (b x : FVec Ideal S128 .f32) : FVec Ideal S128 .f32 := mulf b (unhit (tally d x))

/-- Flags in the lanes of a block. -/
def Lanes (x : FVec Ideal S128 .f32) (g : ℕ → Prop) : Prop := ∀ a : Fin 128, x (ix1 a) = num (g a.val)

/-- Flags of the pairs of a block, the first after the second. -/
def Pairs (d : FVec Ideal S128x128 .f32) (o : ℕ → ℕ → Prop) : Prop := ∀ a b : Fin 128, d (ix2 a b) = num (o a.val b.val ∧ b.val < a.val)

theorem next_lanes {d : FVec Ideal S128x128 .f32} {b x : FVec Ideal S128 .f32} {o : ℕ → ℕ → Prop} {v g : ℕ → Prop} (hd : Pairs d o) (hb : Lanes b v)
    (hx : Lanes x g) : Lanes (next d b x) (after v o g) := by
  intro a
  show b (ix1 a) * unhit (tally d x) (ix1 a) = _
  rw [eq_zero_at _ _ _ (tally_at d x a _ _ (hd a) hx), hb a, num_mul]
  refine num_congr (and_congr_right fun _ => (count_eq_zero _).trans ?_)
  exact ⟨fun h j hj ho hg => h ⟨j, hj.trans a.isLt⟩ ⟨⟨ho, hj⟩, hg⟩, fun h j hj => h j.val hj.1.2 hj.1.1 hj.2⟩

/-- Whether two vectors differ, as the kernel tests it. -/
def test (x y : FVec Ideal S128 .f32) : BitVec 1 :=
  Scalar.cmpf .ogt (extractAt ![0, 0] (shapeCast S1x1 (multiReduction .add [1] S1 (shapeCast S1x128 (absf (subf x y)) Facts₀.shapeCasts_S128_S1x128) 0x00000000#32
    Facts₀.reduces_S1x128_S1 (.inl rfl) rfl) Facts₀.shapeCasts_S1_S1x1) Facts₀.inpos_S1x1_p0_0) (Scalar.ofBits .f32 0x00000000#32)

theorem one_total (x : FVec Ideal S1x128 .f32) : multiReduction .add [1] S1 x 0x00000000#32 Facts₀.reduces_S1x128_S1 (.inl rfl) rfl (ix1 0) = ∑ b : Fin 128, x (ix2 0 b) := by
  refine (Ideal.multiReduction_add_single x _ Facts₀.reduces_S1x128_S1 (.inl rfl) rfl (ix1 0)).trans ?_
  refine Finset.sum_congr rfl fun l _ => congrArg x (funext fun d => Fin.ext ((Shape.Reduces.lift_val Facts₀.reduces_S1x128_S1 (ix1 0) l d).trans ?_))
  match d with
  | 0 => rfl
  | 1 => rfl

/-- The distance of two reals is zero only if they are equal. -/
theorem dist_pos (a b : ℝ) : 0 ≤ max ((a : EReal) - b) (-((a : EReal) - b)) ∧ (0 < max ((a : EReal) - b) (-((a : EReal) - b)) ↔ (a : EReal) ≠ b) := by
  rw [← EReal.coe_sub, ← EReal.coe_neg, ← EReal.coe_zero]
  have e : max (((a - b : ℝ)) : EReal) ((-(a - b) : ℝ) : EReal) = ((|a - b| : ℝ) : EReal) := by
    rcases le_total 0 (a - b) with h | h
    · rw [abs_of_nonneg h, max_eq_left (EReal.coe_le_coe_iff.2 (by linarith))]
    · rw [abs_of_nonpos h, max_eq_right (EReal.coe_le_coe_iff.2 (by linarith))]
  rw [e, EReal.coe_le_coe_iff, EReal.coe_lt_coe_iff, abs_pos, sub_ne_zero, Ne, Ne, EReal.coe_eq_coe_iff]
  exact ⟨abs_nonneg _, Iff.rfl⟩

theorem test_iff (x y : FVec Ideal S128 .f32) (f g : Fin 128 → ℝ) (hx : ∀ a, x (ix1 a) = f a) (hy : ∀ a, y (ix1 a) = g a) :
    test x y = 1#1 ↔ ∃ a : Fin 128, x (ix1 a) ≠ y (ix1 a) := by
  have e : test x y = BitVec.ofBool (decide (0 < ∑ b : Fin 128, max (x (ix1 b) - y (ix1 b)) (-(x (ix1 b) - y (ix1 b))))) := by
    unfold test
    show BitVec.ofBool (decide (Ideal.ofBits .f32 0x00000000#32 < shapeCast S1x1 _ Facts₀.shapeCasts_S1_S1x1 (ix2 0 0))) = _
    rw [Ideal.ofBits_zero_f32, shapeCast_apply _ Facts₀.shapeCasts_S1_S1x1 (ix2 0 0) (ix1 0) (by rw [Shape.rowMajor_val_two, Shape.rowMajor_val_one]; rfl), one_total]
    refine congrArg (fun z : EReal => BitVec.ofBool (decide (0 < z))) (Finset.sum_congr rfl fun b _ => ?_)
    rw [row_at]
    rfl
  rw [e, show ∀ c : Bool, BitVec.ofBool c = 1#1 ↔ c = true from by decide, decide_eq_true_iff]
  have hd := fun a : Fin 128 => by have := dist_pos (f a) (g a); rwa [← hx, ← hy] at this
  constructor
  · intro h
    by_contra hc
    refine absurd h (not_lt.2 (le_of_eq (Finset.sum_eq_zero fun b _ => ?_)))
    exact le_antisymm (not_lt.1 fun hb => hc ⟨b, (hd b).2.1 hb⟩) (hd b).1
  · rintro ⟨a, ha⟩
    exact ((hd a).2.2 ha).trans_le (Finset.single_le_sum (f := fun b : Fin 128 => max (x (ix1 b) - y (ix1 b)) (-(x (ix1 b) - y (ix1 b)))) (fun b _ => (hd b).1) (Finset.mem_univ a))

end Cert.Proof.Nms

end
-- ==== Proof.NmsWhile.lean ====
/-
  The loop that settles a block: each label's function is the same turn, and from a block's start it returns the flags of the boxes that are kept.
-/
module

public import proofs.«01_k».proof.Proof.NmsLane
public import proofs.«01_k».proof.Proof.Gen.NmsIdeal.Points
public import Idealize.ShloMosaic.Lib.Pipeline.Frame
public import Idealize.ShloMosaic.Lib.Tactic
public import Idealize.ShloMosaic.Lib.IdealHost

@[expose] public section

noncomputable section

namespace Cert.Proof.Nms

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.NmsIdeal Cert.NmsIdeal.Gen
open scoped Classical

/-- The recursion measure: how many rounds may still come. -/
abbrev 𝒱₀ : Variants := Variants.nat

local notation "𝕄" => MT nD τ sig Unit (Elt Ideal) ℕ (URounds (GSem nD τ sig) Unit) ℕ

/-! ### What the loop keeps -/

/-- Flags that are right in the first lanes. -/
def Upto (v : ℕ → Prop) (o : ℕ → ℕ → Prop) (n : ℕ) (g : ℕ → Prop) : Prop := ∀ i < n, (g i ↔ kept v o i)

/-- With n rounds at most to come: the current vector is right in one lane more than the previous one, of which it is the round; before the first
    round the previous vector only differs. -/
def Inv (v : ℕ → Prop) (o : ℕ → ℕ → Prop) (n : ℕ) (x y : FVec Ideal S128 .f32) : Prop :=
  ∃ g, Lanes x g ∧ Upto v o (129 - n) g ∧
    ((0 < n ∧ (∃ a : Fin 128, x (ix1 a) ≠ y (ix1 a)) ∧ ∃ r : Fin 128 → ℝ, ∀ a, y (ix1 a) = r a)
      ∨ ∃ p, Lanes y p ∧ Upto v o (128 - n) p ∧ ∀ i < 128, (g i ↔ after v o p i))

section
variable {v : ℕ → Prop} {o : ℕ → ℕ → Prop} {d : FVec Ideal S128x128 .f32} {b x y : FVec Ideal S128 .f32} {n : ℕ}

theorem Lanes.real {g : ℕ → Prop} (h : Lanes x g) (a : Fin 128) : x (ix1 a) = (((if g a.val then 1 else 0 : ℝ)) : EReal) := (h a).trans (num_real _)

theorem Inv.test_iff (h : Inv v o n x y) : test x y = 1#1 ↔ ∃ a : Fin 128, x (ix1 a) ≠ y (ix1 a) := by
  obtain ⟨g, hx, -, ⟨-, -, r, hr⟩ | ⟨p, hy, -⟩⟩ := h
  · exact Nms.test_iff x y _ r hx.real hr
  · exact Nms.test_iff x y _ _ hx.real hy.real

/-- While the vectors differ, a round takes the invariant one round on. -/
theorem Inv.turn (hd : Pairs d o) (hb : Lanes b v) (h : Inv v o n x y) (ht : test x y = 1#1) : ∃ k, n = k + 1 ∧ Inv v o k (next d b x) x := by
  obtain ⟨a, ha⟩ := h.test_iff.1 ht
  obtain ⟨g, hx, hg, h⟩ := h
  have hn : 0 < n := by
    rcases h with ⟨hn, -⟩ | ⟨p, hy, hp, -⟩
    · exact hn
    · rcases Nat.eq_zero_or_pos n with rfl | hn
      · exact absurd ((hx a).trans ((num_congr ((hg a.val (by omega)).trans (hp a.val (by omega)).symm)).trans (hy a).symm)) ha
      · exact hn
  obtain ⟨k, rfl⟩ := Nat.exists_eq_add_of_lt hn
  refine ⟨k, by omega, after v o g, next_lanes hd hb hx, fun i hi => after_upto v o hg i (by omega), Or.inr ⟨g, hx, fun i hi => hg i (by omega), fun _ _ => Iff.rfl⟩⟩

/-- When they agree, the flags are those of the boxes that are kept. -/
theorem Inv.done (h : Inv v o n x y) (ht : ¬ test x y = 1#1) : Lanes x (kept v o) := by
  have he : ∀ a : Fin 128, x (ix1 a) = y (ix1 a) := fun a => by
    by_contra hc
    exact ht (h.test_iff.2 ⟨a, hc⟩)
  obtain ⟨g, hx, -, ⟨-, ⟨a, ha⟩, -⟩ | ⟨p, hy, -, hr⟩⟩ := h
  · exact absurd (he a) ha
  · have hgp : ∀ i < 128, (g i ↔ p i) := fun i hi => num_inj.1 ((hx ⟨i, hi⟩).symm.trans ((he ⟨i, hi⟩).trans (hy ⟨i, hi⟩)))
    have hk := kept_of_fixed v o (g := g) (n := 128) fun i hi => (hr i hi).trans
      (and_congr_right fun _ => forall_congr' fun j => forall_congr' fun hj => imp_congr_right fun _ => not_congr (hgp j (by omega)).symm)
    exact fun a => (hx a).trans (num_congr (hk a.val a.isLt))

/-- What a block's vector is before the first round. -/
def less (b : FVec Ideal S128 .f32) : FVec Ideal S128 .f32 := subf b (broadcast S128 (Scalar.ofBits .f32 0x3F800000#32))

/-- The first vectors: the start, and the start less one. -/
theorem Inv.first (hb : Lanes b v) : Inv v o 128 b (less b) := by
  have h1 : Ideal.ofBits .f32 0x3F800000#32 = ((1 : ℝ) : EReal) := Ideal.ofBits_one_f32
  have hr : ∀ a : Fin 128, less b (ix1 a) = (((if v a.val then 1 else 0) - 1 : ℝ) : EReal) := fun a => by
    show b (ix1 a) - Ideal.ofBits .f32 0x3F800000#32 = _
    rw [h1, hb.real a, EReal.coe_sub]
  refine ⟨v, hb, fun i hi => ?_, Or.inl ⟨by omega, ⟨0, ?_⟩, _, hr⟩⟩
  · rw [show i = 0 by omega, kept_iff]
    exact ⟨fun h => ⟨h, fun j hj => absurd hj (Nat.not_lt_zero j)⟩, fun h => h.1⟩
  · rw [hr 0, hb.real 0, Ne, EReal.coe_eq_coe_iff]
    intro h
    linarith
end

/-! ### The labels -/

/-- One turn of a label's function. -/
def turn (k : Fin 8) (i : grid0.Coords) (d : FVec Ideal S128x128 .f32) (b x y : FVec Ideal S128 .f32) : P Ideal (FVec Ideal S128 .f32 × FVec Ideal S128 .f32) :=
  if test x y = 1#1 then settle i k d b (next d b x) x else pure (x, y)

/-- What a label's call comes to: some pair, of which the first has the given flags. -/
def spec (g : ℕ → Prop) : sWPT 𝕄 (FVec Ideal S128 .f32 × FVec Ideal S128 .f32) := do
  let r ← sWPT.arbitrary
  sWPT.assume (Lanes r.1 g)
  pure r

theorem spec_apply (g : ℕ → Prop) (K : FVec Ideal S128 .f32 × FVec Ideal S128 .f32 → sProp 𝕄) :
    spec g K = iprop(∀ r : FVec Ideal S128 .f32 × FVec Ideal S128 .f32, ⌜Lanes r.1 g⌝ -∗ K r) := rfl

/-- A call and nothing after it. -/
theorem wp_called (c : Dev nD) (bd : Option ℕ) (E : Set ℕ) {ℓ : (Λ₀ Ideal).Label} {a : (Λ₀ Ideal).Args ℓ} (S : sWPT 𝕄 ((Λ₀ Ideal).Result ℓ)) (n : ℕ)
    (hv : ∀ u ∈ bd, 𝒱₀.lt n u) (hS : S ≤ wp frame (wpE (defs₀ (F := Ideal)) 𝒱₀ (c : Thread nD τ) (some n)) E (defs₀ (F := Ideal) .tc ℓ a))
    (K : (Λ₀ Ideal).Result ℓ → sProp 𝕄) :
    S K ⊢ wp frame (wpE (defs₀ (F := Ideal)) 𝒱₀ (c : Thread nD τ) bd) E (Prog.lift (.call ℓ a)) K := by
  refine .trans ?_ (wp_call_spec 𝒱₀ (c : Thread nD τ) bd E S n hv hS)
  refine S.monotone fun r => ?_
  show K r ⊢ wp frame (wpE (defs₀ (F := Ideal)) 𝒱₀ (c : Thread nD τ) bd) E (Prog.ret r) K
  rw [wp_ret]
  iintro H
  imodintro
  iexact H

/-- A block's call, answered by what its turn meets. -/
theorem wp_settle (c : Dev nD) (bd : Option ℕ) (E : Set ℕ) (S : sWPT 𝕄 (FVec Ideal S128 .f32 × FVec Ideal S128 .f32)) (n : ℕ) (hv : ∀ u ∈ bd, 𝒱₀.lt n u)
    (k : Fin 8) (i : grid0.Coords) (d : FVec Ideal S128x128 .f32) (b x y : FVec Ideal S128 .f32)
    (hS : S ≤ wp frame (wpE (defs₀ (F := Ideal)) 𝒱₀ (c : Thread nD τ) (some n)) E (turn k i d b x y)) (K : FVec Ideal S128 .f32 × FVec Ideal S128 .f32 → sProp 𝕄) :
    S K ⊢ wp frame (wpE (defs₀ (F := Ideal)) 𝒱₀ (c : Thread nD τ) bd) E (settle i k d b x y) K :=
  match k with
  | 0 => wp_called c bd E (ℓ := (1 : (Λ₀ Ideal).Label)) (a := ⟨i, d, b, x, y⟩) S n hv hS K
  | 1 => wp_called c bd E (ℓ := (2 : (Λ₀ Ideal).Label)) (a := ⟨i, d, b, x, y⟩) S n hv hS K
  | 2 => wp_called c bd E (ℓ := (3 : (Λ₀ Ideal).Label)) (a := ⟨i, d, b, x, y⟩) S n hv hS K
  | 3 => wp_called c bd E (ℓ := (4 : (Λ₀ Ideal).Label)) (a := ⟨i, d, b, x, y⟩) S n hv hS K
  | 4 => wp_called c bd E (ℓ := (5 : (Λ₀ Ideal).Label)) (a := ⟨i, d, b, x, y⟩) S n hv hS K
  | 5 => wp_called c bd E (ℓ := (6 : (Λ₀ Ideal).Label)) (a := ⟨i, d, b, x, y⟩) S n hv hS K
  | 6 => wp_called c bd E (ℓ := (7 : (Λ₀ Ideal).Label)) (a := ⟨i, d, b, x, y⟩) S n hv hS K
  | 7 => wp_called c bd E (ℓ := (8 : (Λ₀ Ideal).Label)) (a := ⟨i, d, b, x, y⟩) S n hv hS K

/-- With n rounds at most to come, the turn returns the flags of what is kept. -/
theorem turn_meets (c : Dev nD) (E : Set ℕ) (k : Fin 8) (i : grid0.Coords) {v : ℕ → Prop} {o : ℕ → ℕ → Prop} {d : FVec Ideal S128x128 .f32}
    {b : FVec Ideal S128 .f32} (hd : Pairs d o) (hb : Lanes b v) : ∀ (n : ℕ) (x y : FVec Ideal S128 .f32), Inv v o n x y →
    ∀ K, spec (kept v o) K ⊢ wp frame (wpE (defs₀ (F := Ideal)) 𝒱₀ (c : Thread nD τ) (some n)) E (turn k i d b x y) K := by
  intro n
  induction n with
  | zero =>
    intro x y h K
    unfold turn
    have ht : ¬ test x y = 1#1 := fun ht => by
      obtain ⟨k, hk, -⟩ := h.turn hd hb ht
      omega
    rw [if_neg ht, spec_apply, Prog.pure_eq_ret, wp_ret]
    iintro H
    imodintro
    iapply H
    ipureintro
    exact h.done ht
  | succ n ih =>
    intro x y h K
    unfold turn
    by_cases ht : test x y = 1#1
    · rw [if_pos ht]
      obtain ⟨k', hk, h'⟩ := h.turn hd hb ht
      obtain rfl : k' = n := by omega
      exact wp_settle c _ E _ k' (fun u hu => by cases hu; exact Nat.lt_succ_self k') k i d b _ _ (ih _ _ h') K
    · rw [if_neg ht, spec_apply, Prog.pure_eq_ret, wp_ret]
      iintro H
      imodintro
      iapply H
      ipureintro
      exact h.done ht

/-- A block's loop, from its start. -/
theorem wp_settled (c : Dev nD) (E : Set ℕ) (k : Fin 8) (i : grid0.Coords) {v : ℕ → Prop} {o : ℕ → ℕ → Prop} {d : FVec Ideal S128x128 .f32}
    {b : FVec Ideal S128 .f32} (hd : Pairs d o) (hb : Lanes b v) (K : FVec Ideal S128 .f32 × FVec Ideal S128 .f32 → sProp 𝕄) :
    iprop(∀ r : FVec Ideal S128 .f32 × FVec Ideal S128 .f32, ⌜Lanes r.1 (kept v o)⌝ -∗ K r)
      ⊢ wp frame (wpE (defs₀ (F := Ideal)) 𝒱₀ (c : Thread nD τ) none) E (settle i k d b b (less b)) K :=
  wp_settle c none E (spec (kept v o)) 128 (fun u hu => nomatch hu) k i d b b (less b) (turn_meets c E k i hd hb 128 b (less b) (Inv.first hb)) K

end Cert.Proof.Nms

end
-- ==== Proof.NmsMem.lean ====
/-
  Loads and stores of a buffer that is owned at known contents, and programs over a list of steps.
-/
module

public import proofs.«01_k».proof.Proof.NmsWhile

@[expose] public section

noncomputable section

namespace Cert.Proof.Nms

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.NmsIdeal Cert.NmsIdeal.Gen

local notation "𝕄" => MT nD τ sig Unit (Elt Ideal) ℕ (URounds (GSem nD τ sig) Unit) ℕ

/-- What has to hold for a program, at a core, to end in K. -/
def W (c : Dev nD) {α : Type} (p : P Ideal α) (K : α → sProp 𝕄) : sProp 𝕄 :=
  wp frame (wpE (defs₀ (F := Ideal)) 𝒱₀ (c : Thread nD τ) none) Set.univ p K

/-- A buffer at contents. -/
def buf (c : Dev nD) {s : Shape} (m : Memref sig .tc .vmem s .f32) (X : s.Idx → EReal) : sProp 𝕄 :=
  owns (c : Thread nD τ) m fullShare (X : s.Idx → Elt Ideal .f32)

variable (c : Dev nD)

theorem wp_pure {α : Type} (a : α) (K : α → sProp 𝕄) : K a ⊢ W c (pure a) K := by
  unfold W
  rw [Prog.pure_eq_ret, wp_ret]
  iintro H
  imodintro
  iexact H

theorem wp_then {α β : Type} (p : P Ideal α) (k : α → P Ideal β) (K : β → sProp 𝕄) : W c p (fun a => W c (k a) K) ⊢ W c (p >>= k) K := by
  unfold W
  rw [wp_bind]

/-- A block's loop, from its start. -/
theorem wp_loop (k : Fin 8) (i : grid0.Coords) {v : ℕ → Prop} {o : ℕ → ℕ → Prop} {d : FVec Ideal S128x128 .f32} {b : FVec Ideal S128 .f32} (hd : Pairs d o)
    (hb : Lanes b v) (K : FVec Ideal S128 .f32 × FVec Ideal S128 .f32 → sProp 𝕄) :
    iprop(∀ r : FVec Ideal S128 .f32 × FVec Ideal S128 .f32, ⌜Lanes r.1 (kept v o)⌝ -∗ K r) ⊢ W c (settle i k d b b (less b)) K := by
  unfold W
  exact wp_settled c Set.univ k i hd hb K

section
variable {s : Shape} (m : Memref sig .tc .vmem s .f32) (r : Rect s)

/-- A load reads the rectangle. -/
theorem wp_read (hl : m.view.LoadsAt r.toLoadRect) (X : s.Idx → EReal) (K : (r.shape.Idx → EReal) → sProp 𝕄) :
    iprop(buf c m X ∗ (buf c m X -∗ K fun i => X (r.idx i))) ⊢ W c (Prog.lift (.load m r.toLoadRect hl)) K := by
  unfold buf owns W
  simp only [Prog.lift]
  iintro ⟨⟨%f, %hf, H⟩, HK⟩
  have e : m.view.readAt (Elt Ideal) r.toLoadRect f = fun i => X (r.idx i) := by rw [← hf]; rfl
  iapply (wp_load 𝒱₀ (c : Thread nD τ) none Set.univ (m := m) (r := r.toLoadRect) (m.view.setOn_subset_set _)) $$ H
  iintro H
  rw [e, wp_ret]
  imodintro
  iapply HK
  iexists f
  isplitr
  · ipureintro; exact hf
  · iexact H

/-- A store changes the rectangle. -/
theorem wp_write (w : r.shape.Idx → EReal) (hx : (m.access r).Stores Finset.univ) (hm : (Finset.univ : Finset r.shape.Idx) = Finset.univ ∨ ∀ a, r.stride a = 1)
    (X : s.Idx → EReal) (K : PUnit → sProp 𝕄) :
    iprop(buf c m X ∗ (∀ Y : s.Idx → EReal, ⌜(∀ i, Y (r.idx i) = w i) ∧ ∀ y, (∀ i, r.idx i ≠ y) → Y y = X y⌝ -∗ buf c m Y -∗ K ⟨⟩))
      ⊢ W c (Prog.lift (.store m r (w : r.shape.Idx → Elt Ideal .f32) Finset.univ hx hm)) K := by
  unfold buf owns W
  simp only [Prog.lift]
  iintro ⟨⟨%f, %hf, H⟩, HK⟩
  iapply (wp_store 𝒱₀ (c : Thread nD τ) none Set.univ (m := m) (r := r) (Mk := Finset.univ) (Memref.setOn_access_subset m r Finset.univ)) $$ H
  iintro H
  rw [wp_ret]
  imodintro
  iapply HK $$ %(m.view.read (Elt Ideal) ((m.access r).write (Elt Ideal) f w Finset.univ))
  · ipureintro
    refine ⟨fun i => View.read_slice_write_emb r f w (Finset.mem_univ i), fun y hy => ?_⟩
    rw [← hf]
    refine View.read_slice_write_of_not_mem r f w Finset.univ fun h => ?_
    obtain ⟨i, -, hi⟩ := Finset.mem_map.1 h
    exact hy i hi
  iexists ((m.access r).write (Elt Ideal) f w Finset.univ)
  isplitr
  · ipureintro; rfl
  · iexact H
end

/-- Values collected one by one, from what each comes to. -/
theorem wp_collect {α : Type} (R : sProp 𝕄) : ∀ (n : ℕ) (f : Fin n → P Ideal α) (v : Fin n → α)
    (_ : ∀ i K, iprop(R ∗ (R -∗ K (v i))) ⊢ W c (f i) K) (K : (Fin n → α) → sProp 𝕄), iprop(R ∗ (R -∗ K v)) ⊢ W c (collect n f) K
  | 0, f, v, _, K => by
    obtain rfl : v = Fin.elim0 := funext fun i => i.elim0
    refine .trans ?_ (wp_pure c Fin.elim0 K)
    iintro ⟨H, HK⟩
    iapply HK
    iexact H
  | n + 1, f, v, h, K => by
    unfold collect
    refine .trans (.trans ?_ (h 0 _)) (wp_then c _ _ K)
    iintro ⟨H, HK⟩
    isplitl [H]; · iexact H
    iintro H
    iapply (wp_then c)
    iapply (wp_collect R n (fun i => f i.succ) (fun i => v i.succ) fun i K => h i.succ K)
    isplitl [H]; · iexact H
    iintro H
    iapply (wp_pure c)
    have e : (Fin.cons (v 0) fun i => v i.succ : Fin (n + 1) → α) = v := Fin.cons_self_tail v
    rw [e]
    iapply HK
    iexact H

/-- Steps one by one, from what each makes of the steps that remain. -/
theorem wp_each {ι : Type} (I : List ι → sProp 𝕄) (f : ι → P Ideal PUnit) (l₀ : List ι)
    (h : ∀ a l, a :: l <:+ l₀ → ∀ K, iprop(I (a :: l) ∗ (I l -∗ K ⟨⟩)) ⊢ W c (f a) K) :
    ∀ (l : List ι) (_ : l <:+ l₀) (K : PUnit → sProp 𝕄), iprop(I l ∗ (I [] -∗ K ⟨⟩)) ⊢ W c (each l f) K
  | [], _, K => by
    refine .trans ?_ (wp_pure c ⟨⟩ K)
    iintro ⟨H, HK⟩
    iapply HK
    iexact H
  | a :: l, hl, K => by
    unfold each
    refine .trans (.trans ?_ (h a l hl _)) (wp_then c _ _ K)
    iintro ⟨H, HK⟩
    isplitl [H]; · iexact H
    iintro H
    iapply (wp_each I f l₀ h l ((List.suffix_cons a l).trans hl))
    isplitl [H]; · iexact H
    iexact HK

end Cert.Proof.Nms

end
-- ==== Proof.NmsBoxes.lean ====
/-
  The suppression kernel's boxes: what a block of rows and a block of columns say of each box, which pairs overlap, which boxes take part, and the
  block of results that greedy suppression gives.
-/
module

public import proofs.«01_k».proof.Proof.NmsLane

@[expose] public section

noncomputable section

namespace Cert.Proof.Nms

open Idealize.ShloMosaic Idealize.ShloMosaic.ValueIdx
open Cert.NmsIdeal Cert.NmsIdeal.Gen
open scoped Classical

/-! ### One box, two boxes -/

/-- Four edges and the area, of one box. -/
structure Box where
  x1 : Ideal .f32
  y1 : Ideal .f32
  x2 : Ideal .f32
  y2 : Ideal .f32
  area : Ideal .f32

def hold (x : Ideal .f32) : Ideal .f32 :=
  FloatOps.minimumf (FloatOps.ofBits .f32 0x44480000#32) (FloatOps.maximumf (FloatOps.ofBits .f32 0x00000000#32) x)

def product (x1 y1 x2 y2 : Ideal .f32) : Ideal .f32 :=
  FloatOps.mulf (FloatOps.maximumf (FloatOps.subf x2 x1) (FloatOps.ofBits .f32 0x00000000#32))
    (FloatOps.maximumf (FloatOps.subf y2 y1) (FloatOps.ofBits .f32 0x00000000#32))

/-- A box by its edges, held to the image. -/
def Box.of (a b c d : Ideal .f32) : Box := ⟨hold a, hold b, hold c, hold d, product (hold a) (hold b) (hold c) (hold d)⟩

def shared (p q : Box) : Ideal .f32 :=
  product (FloatOps.maximumf p.x1 q.x1) (FloatOps.maximumf p.y1 q.y1) (FloatOps.minimumf p.x2 q.x2) (FloatOps.minimumf p.y2 q.y2)

/-- Whether two boxes overlap by more than the threshold. -/
def overlap (p q : Box) : BitVec 1 :=
  FloatOps.cmpf .ogt (FloatOps.divf (shared p q)
    (FloatOps.maximumf (FloatOps.subf (FloatOps.addf p.area q.area) (shared p q)) (FloatOps.ofBits .f32 0x3089705F#32))) (FloatOps.ofBits .f32 0x3E99999A#32)

/-- Whether a score is high enough. -/
def strong (s : Ideal .f32) : BitVec 1 := FloatOps.cmpf .ogt s (FloatOps.ofBits .f32 0x3C23D70A#32)

/-! ### A class's boxes -/

/-- A position as a lane. -/
def lane (q : ℕ) : Fin 1024 := Fin.ofNat 1024 q

theorem lane_of {q : ℕ} (h : q < 1024) : lane q = ⟨q, h⟩ := Fin.ext (Nat.mod_eq_of_lt h)

section
variable (X : FVec Ideal S1x8x1024 .f32) (Z : FVec Ideal S1x1024x8 .f32)

def boxX (q : ℕ) : Box := Box.of (X (ix3 0 0 (lane q))) (X (ix3 0 1 (lane q))) (X (ix3 0 2 (lane q))) (X (ix3 0 3 (lane q)))
def boxZ (q : ℕ) : Box := Box.of (Z (ix3 0 (lane q) 0)) (Z (ix3 0 (lane q) 1)) (Z (ix3 0 (lane q) 2)) (Z (ix3 0 (lane q) 3))

/-- Which positions take part. -/
def part (q : ℕ) : Prop := strong (X (ix3 0 4 (lane q))) = 1#1 ∧ q < 1000

/-- Which positions overlap. -/
def clash (p q : ℕ) : Prop := overlap (boxZ Z p) (boxX X q) = 1#1

/-- Which positions are kept. -/
abbrev keeps (q : ℕ) : Prop := kept (part X) (clash X Z) q

/-- The block of results: the edges, the score and the flag of the kept boxes, and two rows of zeros. -/
def outcome : FVec Ideal S1x8x1024 .f32 := fun i =>
  if (i 1).val < 4 then hold (X i) * num (keeps X Z (i 2).val)
  else if (i 1).val = 4 then X i * num (keeps X Z (i 2).val)
  else if (i 1).val = 5 then num (keeps X Z (i 2).val)
  else (FloatOps.ofBits .f32 0x00000000#32 : Ideal .f32)

/-! ### What the loads give -/

def rowOf (r : Fin 8) : FVec Ideal S1024 .f32 :=
  shapeCast S1024 ((fun i => X ((rowRect r).idx i)) : FVec Ideal S1x1x1024 .f32) Facts₀.shapeCasts_S1x1x1024_S1024

def colOf (k c : Fin 8) : FVec Ideal S128x1 .f32 :=
  shapeCast S128x1 (clip (shapeCast S128 ((fun i => Z ((colRect k c).idx i)) : FVec Ideal S1x128x1 .f32) Facts₀.shapeCasts_S1x128x1_S128))
    Facts₀.shapeCasts_S128_S128x1

def edgesOf (k : Fin 8) : Edges Ideal S128x1 :=
  ⟨colOf Z k 0, colOf Z k 1, colOf Z k 2, colOf Z k 3, span (colOf Z k 0) (colOf Z k 1) (colOf Z k 2) (colOf Z k 3)⟩

def rowEdges : Edges Ideal S1024 :=
  ⟨clip (rowOf X 0), clip (rowOf X 1), clip (rowOf X 2), clip (rowOf X 3),
    span (clip (rowOf X 0)) (clip (rowOf X 1)) (clip (rowOf X 2)) (clip (rowOf X 3))⟩

theorem rowOf_at (r : Fin 8) (q : Fin 1024) : rowOf X r (ix1 q) = X (ix3 0 r q) := by
  unfold rowOf
  refine (shapeCast_apply _ _ (ix1 q) (ix3 0 0 q) (by
    rw [Shape.rowMajor_val_three, Shape.rowMajor_val_one]; show (0 * 1 + 0) * 1024 + q.val = q.val; omega)).trans ?_
  refine congrArg X (funext fun d => Fin.ext ?_)
  match d with
  | 0 => rfl
  | 1 => show r.val + 1 * 0 = r.val; omega
  | 2 => show 0 + 1 * q.val = q.val; omega

/-- A block's position. -/
def spot (k : Fin 8) (a : Fin 128) : Fin 1024 := ⟨128 * k.val + a.val, by omega⟩

theorem lane_spot (k : Fin 8) (a : Fin 128) : lane (128 * k.val + a.val) = spot k a := lane_of _

theorem colOf_at (k c : Fin 8) (a : Fin 128) : colOf Z k c (ix2 a 0) = hold (Z (ix3 0 (spot k a) c)) := by
  unfold colOf
  refine (shapeCast_apply _ _ (ix2 a 0) (ix1 a) (by
    rw [Shape.rowMajor_val_two, Shape.rowMajor_val_one]; show a.val = a.val * 1 + 0; omega)).trans ?_
  refine congrArg hold ((shapeCast_apply _ _ (ix1 a) (ix3 0 a 0) (by
    rw [Shape.rowMajor_val_three, Shape.rowMajor_val_one]; show (0 * 128 + a.val) * 1 + 0 = a.val; omega)).trans ?_)
  refine congrArg Z (funext fun d => Fin.ext ?_)
  match d with
  | 0 => rfl
  | 1 => show 128 * k.val + 1 * a.val = 128 * k.val + a.val; omega
  | 2 => show c.val + 1 * 0 = c.val; omega

theorem cut_at (k : Fin 8) (x : FVec Ideal S1024 .f32) (b : Fin 128) : cut k x (ix2 0 b) = x (ix1 (spot k b)) := by
  unfold cut
  rw [row_at]
  refine congrArg x (funext fun d => Fin.ext ?_)
  match d with
  | 0 => rfl

/-- The edges at one index. -/
def Edges.at {s : Shape} (e : Edges Ideal s) (i : s.Idx) : Box := ⟨e.x1 i, e.y1 i, e.x2 i, e.y2 i, e.area i⟩

theorem edgesOf_at (k : Fin 8) (a : Fin 128) : (edgesOf Z k).at (ix2 a 0) = boxZ Z (128 * k.val + a.val) := by
  have e : (edgesOf Z k).at (ix2 a 0) = ⟨colOf Z k 0 (ix2 a 0), colOf Z k 1 (ix2 a 0), colOf Z k 2 (ix2 a 0), colOf Z k 3 (ix2 a 0),
    product (colOf Z k 0 (ix2 a 0)) (colOf Z k 1 (ix2 a 0)) (colOf Z k 2 (ix2 a 0)) (colOf Z k 3 (ix2 a 0))⟩ := rfl
  rw [e]
  simp only [colOf_at]
  unfold boxZ
  rw [lane_spot]
  rfl

theorem rowEdges_at (k : Fin 8) (b : Fin 128) : ((rowEdges X).cut k).at (ix2 0 b) = boxX X (128 * k.val + b.val) := by
  have e : ((rowEdges X).cut k).at (ix2 0 b) = ⟨cut k (clip (rowOf X 0)) (ix2 0 b), cut k (clip (rowOf X 1)) (ix2 0 b), cut k (clip (rowOf X 2)) (ix2 0 b),
    cut k (clip (rowOf X 3)) (ix2 0 b), cut k (span (clip (rowOf X 0)) (clip (rowOf X 1)) (clip (rowOf X 2)) (clip (rowOf X 3))) (ix2 0 b)⟩ := rfl
  rw [e]
  simp only [cut_at]
  have h : ∀ r, clip (rowOf X r) (ix1 (spot k b)) = hold (X (ix3 0 r (spot k b))) := fun r => congrArg hold (rowOf_at X r (spot k b))
  have hs : span (clip (rowOf X 0)) (clip (rowOf X 1)) (clip (rowOf X 2)) (clip (rowOf X 3)) (ix1 (spot k b))
    = product (clip (rowOf X 0) (ix1 (spot k b))) (clip (rowOf X 1) (ix1 (spot k b))) (clip (rowOf X 2) (ix1 (spot k b))) (clip (rowOf X 3) (ix1 (spot k b))) := rfl
  rw [hs]
  simp only [h]
  unfold boxX
  rw [lane_spot]
  rfl

theorem hits_at (i : Edges Ideal S128x1) (j : Edges Ideal S1x128) (a b : Fin 128) : hits i j (ix2 a b) = overlap (i.at (ix2 a 0)) (j.at (ix2 0 b)) := by
  have e : hits i j (ix2 a b) = overlap ⟨down i.x1 (ix2 a b), down i.y1 (ix2 a b), down i.x2 (ix2 a b), down i.y2 (ix2 a b), down i.area (ix2 a b)⟩
    ⟨over j.x1 (ix2 a b), over j.y1 (ix2 a b), over j.x2 (ix2 a b), over j.y2 (ix2 a b), over j.area (ix2 a b)⟩ := rfl
  rw [e]
  simp only [down_at, over_at]
  rfl

/-- A tile's flags. -/
theorem tile_at (r k : Fin 8) (a b : Fin 128) :
    flag (F := Ideal) (hits (edgesOf Z r) ((rowEdges X).cut k)) (ix2 a b) = num (clash X Z (128 * r.val + a.val) (128 * k.val + b.val)) := by
  refine flag_at _ _ ?_
  rw [hits_at, edgesOf_at, rowEdges_at]
  exact Iff.rfl

/-- A diagonal tile's flags. -/
theorem diag_pairs (k : Fin 8) : Pairs (flag (F := Ideal) (andi (hits (edgesOf Z k) ((rowEdges X).cut k)) before))
    fun x y => clash X Z (128 * k.val + x) (128 * k.val + y) := by
  intro a b
  refine flag_at _ _ ?_
  show IntOp.andi (hits (edgesOf Z k) ((rowEdges X).cut k) (ix2 a b)) (IntOp.cmpi .slt (BitVec.ofNat 32 (0 * 128 + b.val)) (BitVec.ofNat 32 (0 * 128 + a.val))) = 1#1 ↔ _
  rw [Radix.and_iff, hits_at, edgesOf_at, rowEdges_at, Radix.slt_iff (by omega) (by omega), Nat.zero_mul, Nat.zero_add, Nat.zero_add]
  exact Iff.rfl

theorem valid_at (q : Fin 1024) : valid (rowOf X 4) (ix1 q) = num (part X q.val) := by
  refine flag_at _ _ ?_
  have hq : shapeCast S1024 (iota .tc S1x1024 32 [1] Facts₀.iota_S1x1024_d1_w32) Facts₀.shapeCasts_S1x1024_S1024 (ix1 q) = BitVec.ofNat 32 (0 * 1024 + q.val) :=
    shapeCast_apply _ _ (ix1 q) (ix2 0 q) (by rw [Shape.rowMajor_val_two, Shape.rowMajor_val_one]; show 0 * 1024 + q.val = q.val; omega)
  show IntOp.andi (strong (rowOf X 4 (ix1 q))) (IntOp.cmpi .slt (shapeCast S1024 _ Facts₀.shapeCasts_S1x1024_S1024 (ix1 q)) (BitVec.ofNat 32 1000)) = 1#1 ↔ _
  rw [hq, Radix.and_iff, rowOf_at, Radix.slt_iff (by omega) (by omega), Nat.zero_mul, Nat.zero_add]
  unfold part
  rw [lane_of q.isLt]

theorem validCut_at (k : Fin 8) (v : FVec Ideal S1024 .f32) (a : Fin 128) : validCut k v (ix1 a) = v (ix1 (spot k a)) := by
  unfold validCut
  refine (shapeCast_apply _ _ (ix1 a) (ix2 0 a) (by
    rw [Shape.rowMajor_val_two, Shape.rowMajor_val_one]; show 0 * 128 + a.val = a.val; omega)).trans ?_
  refine (congrArg (shapeCast S8x128 v Facts₀.shapeCasts_S1024_S8x128) (?_ : _ = ix2 k a)).trans ?_
  · refine funext fun d => Fin.ext ?_
    match d with
    | 0 => show k.val + 0 = k.val; omega
    | 1 => show 0 + a.val = a.val; omega
  · refine shapeCast_apply _ _ (ix2 k a) (ix1 (spot k a)) ?_
    rw [Shape.rowMajor_val_two, Shape.rowMajor_val_one]
    show 128 * k.val + a.val = k.val * 128 + a.val
    omega

/-! ### The sums of a block -/

/-- The sums of a block are counts, zero where no kept box of the first positions overlaps. -/
def Good (n : ℕ) (r : Fin 8) (u : FVec Ideal S128 .f32) : Prop :=
  ∀ a : Fin 128, ∃ m : ℕ, u (ix1 a) = ((m : ℕ) : EReal) ∧ (m = 0 ↔ ∀ q < 128 * n, clash X Z (128 * r.val + a.val) q → ¬ keeps X Z q)

theorem good_zero (r : Fin 8) (u : FVec Ideal S128 .f32) (h : ∀ a, u (ix1 a) = 0) : Good X Z 0 r u :=
  fun a => ⟨0, by rw [h, Nat.cast_zero], fun _ q hq => absurd hq (by omega), fun _ => rfl⟩

/-- A tile's sums added. -/
theorem good_add (r k : Fin 8) (u kb : FVec Ideal S128 .f32) (h : Good X Z k.val r u) (hk : Lanes kb fun x => keeps X Z (128 * k.val + x)) :
    Good X Z (k.val + 1) r (addf u (tally (flag (hits (edgesOf Z r) ((rowEdges X).cut k))) kb)) := by
  intro a
  obtain ⟨m, hm, hz⟩ := h a
  refine ⟨m + count fun b => clash X Z (128 * r.val + a.val) (128 * k.val + b.val) ∧ keeps X Z (128 * k.val + b.val), ?_, ?_⟩
  · show u (ix1 a) + tally _ kb (ix1 a) = _
    rw [tally_at _ kb a _ _ (tile_at X Z r k a) hk, hm, Nat.cast_add]
  · rw [Nat.add_eq_zero_iff, hz, count_eq_zero]
    constructor
    · rintro ⟨h1, h2⟩ q hq ho hg
      rcases Nat.lt_or_ge q (128 * k.val) with hb | hb
      · exact h1 q hb ho hg
      · obtain ⟨d, rfl⟩ := Nat.exists_eq_add_of_le hb
        exact h2 ⟨d, by omega⟩ ⟨ho, hg⟩
    · exact fun h => ⟨fun q hq => h q (by omega), fun b hb => h (128 * k.val + b.val) (by omega) hb.1 hb.2⟩

/-- What a block starts from. -/
theorem start_lanes (k : Fin 8) (u : FVec Ideal S128 .f32) (h : Good X Z k.val k u) : Lanes (start (valid (rowOf X 4)) k u)
    fun x => part X (128 * k.val + x) ∧ ∀ q < 128 * k.val, clash X Z (128 * k.val + x) q → ¬ keeps X Z q := by
  intro a
  obtain ⟨m, hm, hz⟩ := h a
  show validCut k _ (ix1 a) * unhit u (ix1 a) = _
  rw [validCut_at, valid_at, eq_zero_at _ _ _ hm, num_mul]
  exact num_congr (and_congr_right fun _ => hz)

/-- What a block keeps. -/
theorem settled_lanes (k : Fin 8) (kb : FVec Ideal S128 .f32) (h : Lanes kb (kept (fun x => part X (128 * k.val + x) ∧ ∀ q < 128 * k.val, clash X Z (128 * k.val + x) q → ¬ keeps X Z q)
    fun x y => clash X Z (128 * k.val + x) (128 * k.val + y))) : Lanes kb fun x => keeps X Z (128 * k.val + x) :=
  fun a => (h a).trans (num_congr (kept_past (part X) (clash X Z) (128 * k.val) a.val))

end

end Cert.Proof.Nms

end
-- ==== Proof.NmsSteps.lean ====
/-
  The suppression kernel's body: from a block of rows and a block of columns it leaves the block of results.
-/
module

public import proofs.«01_k».proof.Proof.NmsMem
public import proofs.«01_k».proof.Proof.NmsBoxes

@[expose] public section

noncomputable section

namespace Cert.Proof.Nms

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.NmsIdeal Cert.NmsIdeal.Gen
open scoped Classical

local notation "𝕄" => MT nD τ sig Unit (Elt Ideal) ℕ (URounds (GSem nD τ sig) Unit) ℕ

/-! ### What a store leaves -/

/-- A block's sums, of all sums. -/
def supOf (U : FVec Ideal S1024 .f32) (k : Fin 8) : FVec Ideal S128 .f32 := fun i => U ((supRect k).idx i)

theorem sup_idx (k : Fin 8) (a : Fin 128) : (supRect k).idx (ix1 a) = ix1 (spot k a) := funext fun d => Fin.ext (by
  match d with
  | 0 => show 128 * k.val + 1 * a.val = 128 * k.val + a.val; omega)

theorem supOf_at (U : FVec Ideal S1024 .f32) (k : Fin 8) (a : Fin 128) : supOf U k (ix1 a) = U (ix1 (spot k a)) := congrArg U (sup_idx k a)

/-- Positions of different blocks are different. -/
theorem spot_ne {k r : Fin 8} (h : k ≠ r) (a b : Fin 128) : spot k a ≠ spot r b := fun e => h (Fin.ext (by
  have := congrArg Fin.val e
  change 128 * k.val + a.val = 128 * r.val + b.val at this
  omega))

theorem supOf_other {U V : FVec Ideal S1024 .f32} {k r : Fin 8} (h : ∀ y, (∀ i, (supRect k).idx i ≠ y) → V y = U y) (hr : k ≠ r) : supOf V r = supOf U r := by
  funext i
  obtain ⟨b, rfl⟩ : ∃ b, i = ix1 b := ⟨i 0, funext fun d => by match d with | 0 => rfl⟩
  rw [supOf_at, supOf_at]
  refine h _ fun j e => ?_
  obtain ⟨a, rfl⟩ : ∃ a, j = ix1 a := ⟨j 0, funext fun d => by match d with | 0 => rfl⟩
  rw [sup_idx] at e
  exact spot_ne hr a b (congrFun e 0)

/-- A row of a block replaced. -/
def put (Y : FVec Ideal S1x8x1024 .f32) (r : Fin 8) (x : FVec Ideal S1024 .f32) : FVec Ideal S1x8x1024 .f32 :=
  fun i => if (i 1).val = r.val then x (ix1 (i 2)) else Y i

theorem row_idx (r : Fin 8) (q : Fin 1024) : (rowRect r).idx (ix3 0 0 q) = ix3 0 r q := funext fun d => Fin.ext (by
  match d with
  | 0 => rfl
  | 1 => show r.val + 1 * 0 = r.val; omega
  | 2 => show 0 + 1 * q.val = q.val; omega)

theorem idx_row (i : S1x1x1024.Idx) : ∃ q : Fin 1024, i = ix3 0 0 q := ⟨i 2, funext fun d => by
  match d with
  | 0 => exact Subsingleton.elim (α := Fin 1) _ _
  | 1 => exact Subsingleton.elim (α := Fin 1) _ _
  | 2 => rfl⟩

theorem idx_block (i : S1x8x1024.Idx) : ∃ (r : Fin 8) (q : Fin 1024), i = ix3 0 r q := ⟨i 1, i 2, funext fun d => by
  match d with
  | 0 => exact Subsingleton.elim (α := Fin 1) _ _
  | 1 => rfl
  | 2 => rfl⟩

theorem put_of {Y V : FVec Ideal S1x8x1024 .f32} {r : Fin 8} {x : FVec Ideal S1024 .f32} (hx : ∀ i, V ((rowRect r).idx i) = shapeCast S1x1x1024 x Facts₀.shapeCasts_S1024_S1x1x1024 i)
    (h : ∀ y, (∀ i, (rowRect r).idx i ≠ y) → V y = Y y) : V = put Y r x := by
  funext i
  obtain ⟨p, q, rfl⟩ := idx_block i
  show _ = if p.val = r.val then x (ix1 q) else Y (ix3 0 p q)
  by_cases hi : p.val = r.val
  · rw [if_pos hi, show p = r from Fin.ext hi, ← row_idx, hx]
    refine shapeCast_apply _ _ (ix3 0 0 q) (ix1 q) ?_
    rw [Shape.rowMajor_val_three, Shape.rowMajor_val_one]
    show q.val = (0 * 1 + 0) * 1024 + q.val
    omega
  · rw [if_neg hi]
    refine h _ fun j e => hi ?_
    obtain ⟨s, rfl⟩ := idx_row j
    rw [row_idx] at e
    exact congrArg Fin.val (congrFun e.symm 1)

theorem keep_idx (k : Fin 8) (a : Fin 128) : (keepRect k).idx (ix3 0 0 a) = ix3 0 5 (spot k a) := funext fun d => Fin.ext (by
  match d with
  | 0 => rfl
  | 1 => rfl
  | 2 => show 128 * k.val + 1 * a.val = 128 * k.val + a.val; omega)

variable (c : Dev nD) (X : FVec Ideal S1x8x1024 .f32) (Z : FVec Ideal S1x1024x8 .f32)

/-! ### The loads -/

theorem wp_loadRow (m : Memref sig .tc .vmem S1x8x1024 .f32) (r : Fin 8) (Y : FVec Ideal S1x8x1024 .f32) (K : FVec Ideal S1024 .f32 → sProp 𝕄) :
    iprop(buf c m Y ∗ (buf c m Y -∗ K (rowOf Y r))) ⊢ W c (loadRow m r) K := by
  unfold loadRow
  refine .trans ?_ (wp_then c _ _ K)
  refine .trans ?_ (wp_read c m (rowRect r) _ Y _)
  exact sep_mono_right (wand_mono_right (wp_pure c (rowOf Y r) K))

theorem wp_loadCol (m : Memref sig .tc .vmem S1x1024x8 .f32) (k d : Fin 8) (K : FVec Ideal S128x1 .f32 → sProp 𝕄) :
    iprop(buf c m Z ∗ (buf c m Z -∗ K (colOf Z k d))) ⊢ W c (loadCol m k d) K := by
  unfold loadCol
  refine .trans ?_ (wp_then c _ _ K)
  refine .trans ?_ (wp_read c m (colRect k d) _ Z _)
  exact sep_mono_right (wand_mono_right (wp_pure c (colOf Z k d) K))

theorem wp_loadEdges (m : Memref sig .tc .vmem S1x1024x8 .f32) (k : Fin 8) (K : Edges Ideal S128x1 → sProp 𝕄) :
    iprop(buf c m Z ∗ (buf c m Z -∗ K (edgesOf Z k))) ⊢ W c (loadEdges m k) K := by
  unfold loadEdges edgesOf
  iintro ⟨H, HK⟩
  iapply (wp_then c)
  iapply (wp_loadCol c Z m k 0)
  isplitl [H]; · iexact H
  iintro H
  iapply (wp_then c)
  iapply (wp_loadCol c Z m k 1)
  isplitl [H]; · iexact H
  iintro H
  iapply (wp_then c)
  iapply (wp_loadCol c Z m k 2)
  isplitl [H]; · iexact H
  iintro H
  iapply (wp_then c)
  iapply (wp_loadCol c Z m k 3)
  isplitl [H]; · iexact H
  iintro H
  iapply (wp_pure c)
  iapply HK
  iexact H

/-! ### The stores -/

theorem wp_putRow (m : Memref sig .tc .vmem S1x8x1024 .f32) (r : Fin 8) (x : FVec Ideal S1024 .f32) (Y : FVec Ideal S1x8x1024 .f32) (K : PUnit → sProp 𝕄) :
    iprop(buf c m Y ∗ (buf c m (put Y r x) -∗ K ⟨⟩)) ⊢ W c (putRow m r x) K := by
  unfold putRow
  iintro ⟨H, HK⟩
  iapply (wp_then c)
  iapply (wp_read c m (rowRect r))
  isplitl [H]; · iexact H
  iintro H
  iapply (wp_write c m (rowRect r))
  isplitl [H]; · iexact H
  iintro %V %hV H
  rw [put_of hV.1 hV.2]
  iapply HK
  iexact H

/-- The sums while a block's tiles are added: the blocks still to come are as before. -/
def Spreading (k : Fin 8) (l : List (Fin 8)) (U : FVec Ideal S1024 .f32) : Prop :=
  ∀ r, k < r → Good X Z (if r ∈ l then k.val else k.val + 1) r (supOf U r)

theorem later_spec : ∀ k : Fin 8, (later k).Nodup ∧ ∀ r, r ∈ later k ↔ k < r := by decide

theorem wp_spread (arg4 : Memref sig .tc .vmem S1024 .f32) (k : Fin 8) (kb : FVec Ideal S128 .f32) (hk : Lanes kb fun x => keeps X Z (128 * k.val + x))
    (r : Fin 8) (l : List (Fin 8)) (hl : r :: l <:+ later k) (K : PUnit → sProp 𝕄) :
    iprop((∃ U : FVec Ideal S1024 .f32, buf c arg4 U ∗ ⌜Spreading X Z k (r :: l) U⌝) ∗ ((∃ U : FVec Ideal S1024 .f32, buf c arg4 U ∗ ⌜Spreading X Z k l U⌝) -∗ K ⟨⟩))
      ⊢ W c (spread arg4 (rowEdges X) (edgesOf Z) k kb r) K := by
  unfold spread
  iintro ⟨⟨%U, H, %hU⟩, HK⟩
  iapply (wp_then c)
  iapply (wp_read c arg4 (supRect r))
  isplitl [H]; · iexact H
  iintro H
  iapply (wp_then c)
  iapply (wp_read c arg4 (supRect r))
  isplitl [H]; · iexact H
  iintro H
  iapply (wp_write c arg4 (supRect r))
  isplitl [H]; · iexact H
  iintro %V %hV H
  iapply HK
  iexists V
  isplitl [H]; · iexact H
  ipureintro
  have hr : k < r := ((later_spec k).2 r).1 (hl.subset List.mem_cons_self)
  have hn : r ∉ l := (List.nodup_cons.1 ((later_spec k).1.sublist hl.sublist)).1
  intro x hx
  by_cases e : r = x
  · subst e
    have h := hU r hr
    rw [if_pos List.mem_cons_self] at h
    rw [if_neg hn, show supOf V r = addf (supOf U r) (tally (flag (hits (edgesOf Z r) ((rowEdges X).cut k))) kb) from ?_]
    · exact good_add X Z r k _ kb h hk
    · refine funext fun i => (hV.1 i).trans ?_
      rw [shapeCast_self]
      rfl
  · have h := hU x hx
    rw [supOf_other hV.2 e]
    have hm : x ∈ r :: l ↔ x ∈ l := ⟨fun h => (List.mem_cons.1 h).resolve_left fun he => e he.symm, fun h => List.mem_cons_of_mem r h⟩
    rwa [if_congr hm rfl rfl] at h

/-! ### One block -/

/-- After some blocks: the later blocks' sums, and the flags of the first positions. -/
def Done (n : ℕ) (U : FVec Ideal S1024 .f32) (Y : FVec Ideal S1x8x1024 .f32) : Prop :=
  (∀ r : Fin 8, n ≤ r.val → Good X Z n r (supOf U r)) ∧ ∀ q < 128 * n, Y (ix3 0 5 (lane q)) = num (keeps X Z q)

theorem done_keep {k : Fin 8} {U V : FVec Ideal S1024 .f32} {Y T : FVec Ideal S1x8x1024 .f32} {kb : FVec Ideal S128 .f32} (h : Done X Z k.val U Y)
    (hk : Lanes kb fun x => keeps X Z (128 * k.val + x)) (hV : Spreading X Z k [] V)
    (hx : ∀ i, T ((keepRect k).idx i) = shapeCast S1x1x128 kb Facts₀.shapeCasts_S128_S1x1x128 i) (ho : ∀ y, (∀ i, (keepRect k).idx i ≠ y) → T y = Y y) :
    Done X Z (k.val + 1) V T := by
  refine ⟨fun r hr => ?_, fun q hq => ?_⟩
  · have := hV r (by rw [Fin.lt_def]; omega)
    rwa [if_neg List.not_mem_nil] at this
  · rcases Nat.lt_or_ge q (128 * k.val) with hb | hb
    · rw [← h.2 q hb]
      refine ho _ fun i e => ?_
      have := congrArg Fin.val (congrFun e 2)
      rw [lane_of (by omega)] at this
      change 128 * k.val + 1 * (i 2).val = q at this
      omega
    · obtain ⟨d, rfl⟩ := Nat.exists_eq_add_of_le hb
      have hd : d < 128 := by omega
      rw [show lane (128 * k.val + d) = spot k ⟨d, hd⟩ from lane_spot k ⟨d, hd⟩, ← keep_idx, hx]
      refine (shapeCast_apply _ _ (ix3 0 0 ⟨d, hd⟩) (ix1 ⟨d, hd⟩) ?_).trans (hk ⟨d, hd⟩)
      rw [Shape.rowMajor_val_three, Shape.rowMajor_val_one]
      show d = (0 * 1 + 0) * 128 + d
      omega

theorem wp_block (arg3 : Memref sig .tc .vmem S1x8x1024 .f32) (arg4 : Memref sig .tc .vmem S1024 .f32) (i : grid0.Coords) (k : Fin 8)
    (U : FVec Ideal S1024 .f32) (Y : FVec Ideal S1x8x1024 .f32) (h : Done X Z k.val U Y) (K : PUnit → sProp 𝕄) :
    iprop(buf c arg4 U ∗ buf c arg3 Y ∗ (∀ V : FVec Ideal S1024 .f32, ∀ T : FVec Ideal S1x8x1024 .f32, ⌜Done X Z (k.val + 1) V T⌝ -∗ buf c arg4 V -∗ buf c arg3 T -∗ K ⟨⟩))
      ⊢ W c (block arg3 arg4 i (rowEdges X) (edgesOf Z) (valid (rowOf X 4)) k) K := by
  unfold block
  iintro ⟨HU, HY, HK⟩
  iapply (wp_then c)
  iapply (wp_read c arg4 (supRect k))
  isplitl [HU]; · iexact HU
  iintro HU
  iapply (wp_then c)
  iapply (wp_loop c k i (diag_pairs X Z k) (start_lanes X Z k (supOf U k) (h.1 k le_rfl)))
  iintro %kb %hb
  have hk := settled_lanes X Z k kb.1 hb
  iapply (wp_then c)
  iapply (wp_read c arg3 (keepRect k))
  isplitl [HY]; · iexact HY
  iintro HY
  iapply (wp_then c)
  iapply (wp_write c arg3 (keepRect k))
  isplitl [HY]; · iexact HY
  iintro %T %hT HY
  iapply (wp_each c (fun l => iprop(∃ U : FVec Ideal S1024 .f32, buf c arg4 U ∗ ⌜Spreading X Z k l U⌝)) _ (later k)
    (fun r l hl K => wp_spread c X Z arg4 k kb.1 hk r l hl K) (later k) (List.suffix_refl _))
  isplitl [HU]
  · iexists U
    isplitl [HU]; · iexact HU
    ipureintro
    intro r hr
    rw [if_pos (((later_spec k).2 r).2 hr)]
    exact h.1 r (le_of_lt hr)
  iintro ⟨%V, HU, %hV⟩
  iapply HK $$ %V %T %(done_keep X Z h hk hV hT.1 hT.2) HU HY

/-! ### The whole body -/

theorem place_of_suffix {a : Fin 8} {l : List (Fin 8)} (h : a :: l <:+ List.finRange 8) : 8 - (a :: l).length = a.val ∧ 8 - l.length = a.val + 1 := by
  obtain ⟨t, ht⟩ := h
  have hlen := congrArg List.length ht
  rw [List.length_append, List.length_cons, List.length_finRange] at hlen
  have ha : (List.finRange 8)[t.length]? = some a := by rw [← ht]; simp
  have hv : a.val = t.length := by
    rw [List.getElem?_eq_getElem (by rw [List.length_finRange]; omega), List.getElem_finRange, Option.some.injEq] at ha
    rw [← ha]
    rfl
  rw [List.length_cons]
  omega

theorem outcome_eq (Y : FVec Ideal S1x8x1024 .f32) (h : ∀ q : Fin 1024, Y (ix3 0 5 q) = num (keeps X Z q.val)) :
    put (put (put (put (put (put (put Y 0 (mulf (clip (rowOf X 0)) (rowOf Y 5))) 1 (mulf (clip (rowOf X 1)) (rowOf Y 5))) 2 (mulf (clip (rowOf X 2)) (rowOf Y 5)))
      3 (mulf (clip (rowOf X 3)) (rowOf Y 5))) 4 (mulf (rowOf X 4) (rowOf Y 5))) 6 (broadcast S1024 (Scalar.ofBits .f32 0x00000000#32)))
      7 (broadcast S1024 (Scalar.ofBits .f32 0x00000000#32)) = outcome X Z := by
  funext i
  obtain ⟨r, q, rfl⟩ := idx_block i
  have hk : rowOf Y 5 (ix1 q) = num (keeps X Z q.val) := (rowOf_at Y 5 q).trans (h q)
  have hc : ∀ r : Fin 8, mulf (clip (rowOf X r)) (rowOf Y 5) (ix1 q) = hold (X (ix3 0 r q)) * num (keeps X Z q.val) := fun r => by
    show hold (rowOf X r (ix1 q)) * rowOf Y 5 (ix1 q) = _
    rw [hk, rowOf_at]
  have hs : mulf (rowOf X 4) (rowOf Y 5) (ix1 q) = X (ix3 0 4 q) * num (keeps X Z q.val) := by
    show rowOf X 4 (ix1 q) * rowOf Y 5 (ix1 q) = _
    rw [hk, rowOf_at]
  fin_cases r
  · exact hc 0
  · exact hc 1
  · exact hc 2
  · exact hc 3
  · exact hs
  · exact h q
  · rfl
  · rfl

theorem wp_body (arg1 : Memref sig .tc .vmem S1x8x1024 .f32) (arg2 : Memref sig .tc .vmem S1x1024x8 .f32) (arg3 : Memref sig .tc .vmem S1x8x1024 .f32)
    (arg4 : Memref sig .tc .vmem S1024 .f32) (i : grid0.Coords) (Y : FVec Ideal S1x8x1024 .f32) (U : FVec Ideal S1024 .f32) (K : PUnit → sProp 𝕄) :
    iprop(buf c arg1 X ∗ buf c arg2 Z ∗ buf c arg3 Y ∗ buf c arg4 U
      ∗ (∀ V : FVec Ideal S1024 .f32, buf c arg1 X -∗ buf c arg2 Z -∗ buf c arg3 (outcome X Z) -∗ buf c arg4 V -∗ K ⟨⟩))
      ⊢ W c (body arg1 arg2 arg3 arg4 i) K := by
  unfold body
  iintro ⟨HX, HZ, HY, HU, HK⟩
  iapply (wp_then c); iapply (wp_loadRow c arg1 0); isplitl [HX]; · iexact HX
  iintro HX
  iapply (wp_then c); iapply (wp_loadRow c arg1 1); isplitl [HX]; · iexact HX
  iintro HX
  iapply (wp_then c); iapply (wp_loadRow c arg1 2); isplitl [HX]; · iexact HX
  iintro HX
  iapply (wp_then c); iapply (wp_loadRow c arg1 3); isplitl [HX]; · iexact HX
  iintro HX
  iapply (wp_then c); iapply (wp_loadRow c arg1 4); isplitl [HX]; · iexact HX
  iintro HX
  iapply (wp_then c); iapply (wp_collect c (buf c arg2 Z) 8 (loadEdges arg2) (edgesOf Z) (fun k K => wp_loadEdges c Z arg2 k K)); isplitl [HZ]; · iexact HZ
  iintro HZ
  iapply (wp_then c); iapply (wp_read c arg4); isplitl [HU]; · iexact HU
  iintro HU
  iapply (wp_then c); iapply (wp_write c arg4); isplitl [HU]; · iexact HU
  iintro %V %hV HU
  iapply (wp_then c)
  iapply (wp_each c (fun l => iprop(∃ U : FVec Ideal S1024 .f32, ∃ Y : FVec Ideal S1x8x1024 .f32, buf c arg4 U ∗ buf c arg3 Y ∗ ⌜Done X Z (8 - l.length) U Y⌝)) _
    (List.finRange 8) (fun k l hl K => by
      rw [(place_of_suffix hl).1, (place_of_suffix hl).2]
      iintro ⟨⟨%U, %Y, HU, HY, %h⟩, HK⟩
      iapply (wp_block c X Z arg3 arg4 i k U Y h)
      isplitl [HU]; · iexact HU
      isplitl [HY]; · iexact HY
      iintro %V %T %hT HU HY
      iapply HK
      iexists V
      iexists T
      isplitl [HU]; · iexact HU
      isplitl [HY]; · iexact HY
      ipureintro; exact hT) (List.finRange 8) (List.suffix_refl _))
  isplitl [HU HY]
  · iexists V
    iexists Y
    isplitl [HU]; · iexact HU
    isplitl [HY]; · iexact HY
    ipureintro
    rw [List.length_finRange]
    refine ⟨fun r _ => good_zero X Z r _ fun a => ?_, fun q hq => absurd hq (by omega)⟩
    rw [supOf_at, show (ix1 (spot r a) : S1024.Idx) = (Rect.unit (s := S1024) ![0] S1024.size Facts₀.inb_S1024_S1024_0).idx (ix1 (spot r a)) from
      funext fun d => Fin.ext (by match d with | 0 => show _ = 0 + 1 * _; omega), hV.1, shapeCast_self]
    exact Ideal.ofBits_zero_f32
  iintro ⟨%U', %Y', HU, HY, %hd⟩
  have hkeep : ∀ q : Fin 1024, Y' (ix3 0 5 q) = num (keeps X Z q.val) := fun q => by
    have := hd.2 q.val q.isLt
    rwa [lane_of q.isLt] at this
  iapply (wp_then c); iapply (wp_loadRow c arg3 5); isplitl [HY]; · iexact HY
  iintro HY
  iapply (wp_then c); iapply (wp_putRow c arg3 0); isplitl [HY]; · iexact HY
  iintro HY
  iapply (wp_then c); iapply (wp_putRow c arg3 1); isplitl [HY]; · iexact HY
  iintro HY
  iapply (wp_then c); iapply (wp_putRow c arg3 2); isplitl [HY]; · iexact HY
  iintro HY
  iapply (wp_then c); iapply (wp_putRow c arg3 3); isplitl [HY]; · iexact HY
  iintro HY
  iapply (wp_then c); iapply (wp_putRow c arg3 4); isplitl [HY]; · iexact HY
  iintro HY
  iapply (wp_then c); iapply (wp_putRow c arg3 6); isplitl [HY]; · iexact HY
  iintro HY
  iapply (wp_putRow c arg3 7); isplitl [HY]; · iexact HY
  iintro HY
  rw [outcome_eq X Z Y' hkeep]
  iapply HK $$ %U' HX HZ HY HU

end Cert.Proof.Nms

end
-- ==== Proof.NmsBody.lean ====
/-
  The printed body of the suppression kernel is the program block by block.
-/
module

public import proofs.«01_k».proof.Proof.NmsProg
public import Idealize.ShloMosaic.Lib.Pipeline.Regions

@[expose] public section

noncomputable section

namespace Cert.Proof.Nms

open Idealize.ShloMosaic Idealize.ShloMosaic.TcCoe Idealize.SL.Sem
open Cert.NmsIdeal Cert.NmsIdeal.Gen

variable {F : FTy → Type} [FloatOps F]

theorem body_eq (i : grid0.Coords) (arg1 : Memref sig .tc .vmem S1x8x1024 .f32) (harg1 : arg1.IsWhole) (arg2 : Memref sig .tc .vmem S1x1024x8 .f32)
    (harg2 : arg2.IsWhole) (arg3 : Memref sig .tc .vmem S1x8x1024 .f32) (harg3 : arg3.IsWhole) (arg4 : Memref sig .tc .vmem S1024 .f32) (harg4 : arg4.IsWhole) :
    cc0__nms_body (F := F) i arg1 harg1 arg2 harg2 arg3 harg3 arg4 harg4 = body arg1 arg2 arg3 arg4 i := by
  chain_rfl

end Cert.Proof.Nms

end
-- ==== Proof.NmsLaunch.lean ====
/-
  The suppression call's run: each grid point leaves its class's block of results, so the call leaves all of them.
-/
module

public import proofs.«01_k».proof.Proof.NmsSteps
public import proofs.«01_k».proof.Proof.NmsBody
public import proofs.«01_k».proof.Proof.Gen.NmsIdeal.Launch
public import Idealize.ShloMosaic.Lib.Pipeline.FrameBody
public import Idealize.ShloMosaic.Lib.Pipeline.Value
public import Idealize.ShloMosaic.Lib.Claim

@[expose] public section

noncomputable section

namespace Cert.Proof.Nms

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.NmsIdeal Cert.NmsIdeal.Gen

local notation "𝕄" => MT nD τ sig Unit (Elt Ideal) ℕ (UR sig nD τ) ℕ

variable (m : (ℓ : Loc nD τ sig) → Buf (Elt Ideal) ℓ) (ρ : Dev nD → PrngReg)

/-- The buffers as the region finds them: as launched. -/
abbrev V (c : Dev nD) (b : Ref sig .tc) : Buf (Elt Ideal) ((c : Thread nD τ).loc b) := m ((c : Thread nD τ).loc b)

/-- A class's block of rows, and of columns. -/
def rowsAt (c : Dev nD) (t : Fin (cfg0 (F := Ideal)).N) : FVec Ideal S1x8x1024 .f32 := (((cfg0 (F := Ideal)).win 0).blk t).view.read (Elt Ideal) (V m c main_arg0)
def colsAt (c : Dev nD) (t : Fin (cfg0 (F := Ideal)).N) : FVec Ideal S1x1024x8 .f32 := (((cfg0 (F := Ideal)).win 1).blk t).view.read (Elt Ideal) (V m c main_arg1)

/-! ### The pipeline's data -/

def dats (_ : Fin 1) (c : Dev nD) : Dat τ (Elt Ideal) Unit ℕ (UR sig nD τ) ℕ (cfg0 (F := Ideal)) c where
  A w := V m c (Pipeline.arrRef spec0 w)
  after w t := match w with
    | ⟨0, _⟩ => rowsAt m c t
    | ⟨1, _⟩ => colsAt m c t
    | ⟨2, _⟩ => outcome (rowsAt m c t) (colsAt m c t)
  Φ _ := Pipeline.ΦA spec0 c
  q _ := fullShare
  owed _ := 0

section
variable (c : Dev nD) (t : Fin (cfg0 (F := Ideal)).N)

theorem before_rows (d) : (dats m 0 c).before 0 t d = rowsAt m c t := by
  unfold Dat.before
  rw [if_pos (fetch0_0 t)]
  rfl

theorem before_cols (d) : (dats m 0 c).before 1 t d = colsAt m c t := by
  unfold Dat.before
  rw [if_pos (fetch0_1 t)]
  rfl

def bodyPre : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body : bodyPre m c t ⊢ wp frame (wpE (defs₀ (F := Ideal)) 𝒱₀ (c : Thread nD τ) none) Set.univ (bodyAt0 t) (fun _ => bodyPost m c t) := by
  unfold bodyAt0
  rw [body_eq]
  show _ ⊢ W c _ _
  unfold bodyPre bodyPost
  simp only [before_rows, before_cols]
  rw [show (dats m 0 c).Φ t.succ = (dats m 0 c).Φ t.castSucc from rfl, show (dats m 0 c).owesAt () t.succ = (dats m 0 c).owesAt () t.castSucc from rfl,
    show (dats m 0 c).Φ t.castSucc = Pipeline.ΦA spec0 c from rfl]
  unfold Pipeline.ΦA
  rw [scopedRest0_eq]
  iintro ⟨⟨⟨%u, Hu⟩, Hr⟩, Ho, ⟨%d0, H0⟩, ⟨%d1, H1⟩, ⟨%d2, H2⟩⟩
  iapply (wp_body c (rowsAt m c t) (colsAt m c t) (st0_0 t) (st0_1 t) (st0_2 t) (Memref.whole cc0_scratch0) (grid0.coords t) ((dats m 0 c).before 2 t d2) u)
  unfold buf
  isplitl [H0]; · iexact H0
  isplitl [H1]; · iexact H1
  isplitl [H2]; · iexact H2
  isplitl [Hu]
  · rw [owns_whole]; iexact Hu
  iintro %v; rw [owns_whole]; iintro H0 H1 H2 Hu
  isplitl [Hu Hr]
  · isplitl [Hu]
    · iexists v; iexact Hu
    · iexact Hr
  isplitl [Ho]; · iexact Ho
  isplitl [H0]; · iexact H0
  isplitl [H1]; · iexact H1
  iexact H2

theorem defs₀_row : defs₀ (F := Ideal) .tc (cfg0 (F := Ideal)).body ((cfg0 (F := Ideal)).bodyArgs t ((cfg0 (F := Ideal)).slots t)) = bodyAt0 t := by
  unfold defs₀
  rw [Defs.onTc_tc]
end

theorem body_obligation (c : Dev nD) : BodyObligation (dats m 0 c) (defs₀ (F := Ideal)) 𝒱₀ () Set.univ := fun t => by
  rw [bigSep_W0, bigSep_W0, defs₀_row]
  exact triple_restated (sound_body m c t) rfl .rfl fun _ => .rfl

/-! ### The run -/

theorem hmain : Pipeline.HMain (Ix := Unit) (Name := ℕ) (U := UR sig nD τ) (Lvl := ℕ) (cfgs (F := Ideal)) 0 defs₀ 𝒱₀ m main (V m) :=
  Pipeline.hmain_region _ 0 defs₀ 𝒱₀ m main fun _ => rfl

-- the launch theorem's implicit arguments are found by unifying its conclusion with this one
set_option backward.isDefEq.respectTransparency.types false in
theorem run_region : θ_run defs (onTc (τ := τ) (main (F := Ideal))) (s₀ m ρ) (fun r => (Pipeline.FramePost (cfgs (F := Ideal)) (dats m) 0 (V m)) r ∧ r.2.sem = fun _ => 0) :=
  Pipeline.θ_run_frame (Q' := _) (cfgs (F := Ideal)) (dats m) (0 : Fin 1) launch0 defs₀ 𝒱₀ m ρ main
    (hbody := fun c => (body_obligation m c).loose) (hshare := fun c => (dats m 0 c).share_full fun _ => rfl)
    (howed := fun _ _ => rfl) (V := V m) (hmain := hmain m) (hA := fun _ _ => rfl) (hΦ := fun _ _ => rfl)

/-! ### The results -/

/-- The boxes as rows, and as columns. -/
abbrev rows (c : Dev nD) : FVec Ideal S20x8x1024 .f32 := m ((c : Thread nD τ).loc main_arg0)
abbrev cols (c : Dev nD) : FVec Ideal S20x1024x8 .f32 := m ((c : Thread nD τ).loc main_arg1)

/-- One class's block of the rows, and of the columns. -/
def rowsOf (X : FVec Ideal S20x8x1024 .f32) (w : Fin 20) : FVec Ideal S1x8x1024 .f32 := fun i => X (ix3 w (i 1) (i 2))
def colsOf (Z : FVec Ideal S20x1024x8 .f32) (w : Fin 20) : FVec Ideal S1x1024x8 .f32 := fun i => Z (ix3 w (i 1) (i 2))

/-- Every class's block of results. -/
def results (X : FVec Ideal S20x8x1024 .f32) (Z : FVec Ideal S20x1024x8 .f32) : FVec Ideal S20x8x1024 .f32 :=
  fun i => outcome (rowsOf X (i 0)) (colsOf Z (i 0)) (ix3 0 (i 1) (i 2))

theorem places_of_point : ∀ t : Fin grid0.N, (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ win0_2.index t (0 : Fin 3) = t.val ∧ win0_2.index t (1 : Fin 3) = 0 ∧ win0_2.index t (2 : Fin 3) = 0 := by decide +kernel

section
variable (t : Fin (cfg0 (F := Ideal)).N)

theorem rows_place (r : Fin 8) (q : Fin 1024) :
    (((cfg0 (F := Ideal)).win 0).blk t).view.emb (ix3 0 r q : S1x8x1024.Idx) = (ix3 (t : Fin 20) r q : S20x8x1024.Idx) := by
  obtain ⟨⟨e0, e1, e2⟩, -⟩ := places_of_point t
  funext d
  apply Fin.ext
  match d with
  | 0 => show win0_0.index t (0 : Fin 3) * 1 + 1 * 0 = t.val; omega
  | 1 => show win0_0.index t (1 : Fin 3) * 8 + 1 * r.val = r.val; omega
  | 2 => show win0_0.index t (2 : Fin 3) * 1024 + 1 * q.val = q.val; omega

theorem cols_place (q : Fin 1024) (r : Fin 8) :
    (((cfg0 (F := Ideal)).win 1).blk t).view.emb (ix3 0 q r : S1x1024x8.Idx) = (ix3 (t : Fin 20) q r : S20x1024x8.Idx) := by
  obtain ⟨-, ⟨e0, e1, e2⟩, -⟩ := places_of_point t
  funext d
  apply Fin.ext
  match d with
  | 0 => show win0_1.index t (0 : Fin 3) * 1 + 1 * 0 = t.val; omega
  | 1 => show win0_1.index t (1 : Fin 3) * 1024 + 1 * q.val = q.val; omega
  | 2 => show win0_1.index t (2 : Fin 3) * 8 + 1 * r.val = r.val; omega

theorem out_place (r : Fin 8) (q : Fin 1024) :
    (((cfg0 (F := Ideal)).win 2).blk t).view.emb (ix3 0 r q : S1x8x1024.Idx) = (ix3 (t : Fin 20) r q : S20x8x1024.Idx) := by
  obtain ⟨-, -, e0, e1, e2⟩ := places_of_point t
  funext d
  apply Fin.ext
  match d with
  | 0 => show win0_2.index t (0 : Fin 3) * 1 + 1 * 0 = t.val; omega
  | 1 => show win0_2.index t (1 : Fin 3) * 8 + 1 * r.val = r.val; omega
  | 2 => show win0_2.index t (2 : Fin 3) * 1024 + 1 * q.val = q.val; omega

theorem rowsAt_eq (c : Dev nD) : rowsAt m c t = rowsOf (rows m c) (t : Fin 20) := by
  funext i
  obtain ⟨r, q, rfl⟩ := idx_block i
  show rows m c ((((cfg0 (F := Ideal)).win 0).blk t).view.emb (ix3 0 r q : S1x8x1024.Idx)) = _
  rw [rows_place]
  rfl

theorem colsAt_eq (c : Dev nD) : colsAt m c t = colsOf (cols m c) (t : Fin 20) := by
  funext (i : S1x1024x8.Idx)
  obtain ⟨q, r, rfl⟩ : ∃ (q : Fin 1024) (r : Fin 8), i = ix3 0 q r :=
    ⟨i 1, i 2, (eq_ix3 i).trans (congrArg (fun b : Fin 1 => ix3 b (i 1) (i 2)) (Subsingleton.elim _ _))⟩
  show cols m c ((((cfg0 (F := Ideal)).win 1).blk t).view.emb (ix3 0 q r : S1x1024x8.Idx)) = _
  rw [cols_place]
  rfl

theorem out_flushed (c : Dev nD) : (dats m 0 c).flushed 2 t = (((cfg0 (F := Ideal)).win 2).blk t).view.read (Elt Ideal) (results (rows m c) (cols m c)) := by
  have e : (dats m 0 c).flushed 2 t = ((cfg0 (F := Ideal)).win 2).cut (grid0.coords t) (outcome (rowsAt m c t) (colsAt m c t)) := rfl
  rw [e]
  refine funext fun (y : S1x8x1024.Idx) => ?_
  obtain ⟨r, q, rfl⟩ := idx_block y
  show outcome (rowsAt m c t) (colsAt m c t) (ix3 0 r q) = results (rows m c) (cols m c) ((((cfg0 (F := Ideal)).win 2).blk t).view.emb (ix3 0 r q : S1x8x1024.Idx))
  rw [out_place, rowsAt_eq, colsAt_eq]
  rfl
end

theorem all_blocks (i : S20x8x1024.Idx) : ∃ t : Fin (cfg0 (F := Ideal)).N, ((cfg0 (F := Ideal)).win 2).flush t = true ∧ i ∈ (((cfg0 (F := Ideal)).win 2).blk t).view.set := by
  refine ⟨(i 0 : Fin 20), flush0_2 _, ?_⟩
  have e := (((cfg0 (F := Ideal)).win 2).blk (i 0 : Fin 20)).view.emb_mem_set (ix3 0 (i 1) (i 2) : S1x8x1024.Idx)
  rw [out_place (i 0 : Fin 20) (i 1) (i 2)] at e
  rwa [eq_ix3 i]

theorem results_eq (c : Dev nD) : (dats m 0 c).arrAt 2 (cfg0 (F := Ideal)).N = results (rows m c) (cols m c) :=
  (dats m 0 c).arrAt_eq_of_cover 2 (results (rows m c) (cols m c)) (fun t _ => out_flushed m t c) all_blocks

/-- The call runs: it leaves the results, and the arguments as they were. -/
theorem run_main : θ_run defs (onTc (τ := τ) (main (F := Ideal))) ⟨m, fun _ => 0, ρ⟩ (fun r => (∀ c : Dev nD,
      r.2.mem ((c : Thread nD τ).loc main_v0) = results (rows m c) (cols m c)
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun r h => ⟨fun c => ⟨((h.1 c).1 2).trans (results_eq m c),
    ((h.1 c).1 0).trans ((dats m 0 c).arrAt_in 0 rfl _), ((h.1 c).1 1).trans ((dats m 0 c).arrAt_in 1 rfl _)⟩, h.2⟩) (run_region m ρ)

end Cert.Proof.Nms

end
-- ==== Proof.NmsRefTerms.lean ====
/-
  What the suppression call's reference holds at its loop's entry: the boxes' overlaps, the boxes taking part, their places,
  and nothing kept yet.
-/
module

public import proofs.«01_k».proof.Proof.NmsLaunch
public import proofs.«01_k».proof.Proof.Gen.NmsReferenceIdeal.Run

@[expose] public section

noncomputable section

namespace Cert.Proof.Nms.Ref

open Idealize.ShloMosaic Idealize.ShloMosaic.TcCoe Idealize.ShloMosaic.StableHlo
open Cert.NmsReferenceIdeal Cert.NmsReferenceIdeal.Gen Cert.NmsReferenceIdeal.Value

variable (x : FVec Ideal S20x8x1024 .f32)

/-- The coordinates, clipped. -/
def clipped : FVec Ideal S20x4x1024 .f32 :=
  minimumf (broadcastInDim S20x4x1024 ![] bcast_S_S20x4x1024 (id (constant S_ .f32 0x44480000#32)))
    (maximumf (broadcastInDim S20x4x1024 ![] bcast_S_S20x4x1024 (id (constant S_ .f32 0x00000000#32)))
      (extractStridedSlice S20x4x1024 ![0, 0, 0] x slices_S20x8x1024_S20x4x1024_0_0_0))

/-- One coordinate of every box. -/
def left : FVec Ideal S20x1024 .f32 := shapeCast S20x1024 (extractStridedSlice S20x1x1024 ![0, 0, 0] (clipped x) slices_S20x4x1024_S20x1x1024_0_0_0) shapeCasts_S20x1x1024_S20x1024
def top : FVec Ideal S20x1024 .f32 := shapeCast S20x1024 (extractStridedSlice S20x1x1024 ![0, 1, 0] (clipped x) slices_S20x4x1024_S20x1x1024_0_1_0) shapeCasts_S20x1x1024_S20x1024
def right : FVec Ideal S20x1024 .f32 := shapeCast S20x1024 (extractStridedSlice S20x1x1024 ![0, 2, 0] (clipped x) slices_S20x4x1024_S20x1x1024_0_2_0) shapeCasts_S20x1x1024_S20x1024
def bottom : FVec Ideal S20x1024 .f32 := shapeCast S20x1024 (extractStridedSlice S20x1x1024 ![0, 3, 0] (clipped x) slices_S20x4x1024_S20x1x1024_0_3_0) shapeCasts_S20x1x1024_S20x1024

/-- A value of every box, along the pairs' second place and along their third. -/
def down (y : FVec Ideal S20x1024 .f32) : FVec Ideal S20x1024x1024 .f32 :=
  broadcastInDim S20x1024x1024 ![0, 1, 2] bcast_S20x1024x1_S20x1024x1024_0_1_2 (broadcastInDim S20x1024x1 ![0, 1] bcast_S20x1024_S20x1024x1_0_1 y)
def across (y : FVec Ideal S20x1024 .f32) : FVec Ideal S20x1024x1024 .f32 :=
  broadcastInDim S20x1024x1024 ![0, 1, 2] bcast_S20x1x1024_S20x1024x1024_0_1_2 (broadcastInDim S20x1x1024 ![0, 2] bcast_S20x1024_S20x1x1024_0_2 y)

/-- One number for every pair, and for every box. -/
def pairs (b : BitVec 32) : FVec Ideal S20x1024x1024 .f32 := broadcastInDim S20x1024x1024 ![] bcast_S_S20x1024x1024 (constant S_ .f32 b)
def each (b : BitVec 32) : FVec Ideal S20x1024 .f32 := broadcastInDim S20x1024 ![] bcast_S_S20x1024 (constant S_ .f32 b)

def area : FVec Ideal S20x1024 .f32 := mulf (maximumf (subf (right x) (left x)) (each 0x00000000#32)) (maximumf (subf (bottom x) (top x)) (each 0x00000000#32))
def inter : FVec Ideal S20x1024x1024 .f32 :=
  mulf (maximumf (subf (minimumf (down (right x)) (across (right x))) (maximumf (down (left x)) (across (left x)))) (pairs 0x00000000#32))
    (maximumf (subf (minimumf (down (bottom x)) (across (bottom x))) (maximumf (down (top x)) (across (top x)))) (pairs 0x00000000#32))
/-- Whether two boxes overlap. -/
def over : IVec S20x1024x1024 1 :=
  cmpf .ogt (Host.divf (inter x) (maximumf (subf (addf (down (area x)) (across (area x))) (inter x)) (pairs 0x3089705F#32))) (pairs 0x3E99999A#32)
/-- Whether a box takes part. -/
def valid : IVec S20x1024 1 :=
  andi (cmpf .ogt (shapeCast S20x1024 (extractStridedSlice S20x1x1024 ![0, 4, 0] x slices_S20x8x1024_S20x1x1024_0_4_0) shapeCasts_S20x1x1024_S20x1024) (each 0x3C23D70A#32))
    (broadcastInDim S20x1024 ![0, 1] bcast_S1x1024_S20x1024_0_1 (broadcastInDim S1x1024 ![1] bcast_S1024_S1x1024_1
      (cmpi .slt (iotaInDim S1024 32 0) (broadcastInDim S1024 ![] bcast_S_S1024 (constantI S_ 32 1000#32)))))

variable (m : (ℓ : Loc nD τ sig) → Buf (Elt Ideal) ℓ) (c : Dev nD)

/-- The boxes as the reference is given them. -/
abbrev given : FVec Ideal S20x8x1024 .f32 := m ((c.tc : Thread nD τ).loc main_arg0)

theorem entry_places : entryContents preI m c (Proc.devRef .tc main_v66_2) = (iotaInDim S1024 32 0 : IVec S1024 32) := by
  simp only [entryContents, afterL_cons, afterL_nil]
  after_reads_simp
  rfl

theorem entry_turn : entryContents preI m c (Proc.devRef .tc main_v66_4) = (constantI S_ 32 0#32 : IVec S_ 32) := by
  simp only [entryContents, afterL_cons, afterL_nil]
  after_reads_simp
  rfl

theorem entry_kept : entryContents preI m c (Proc.devRef .tc main_v66_5) = (broadcastInDim S20x1024 ![] bcast_S_S20x1024 (constantI S_ 1 0#1) : IVec S20x1024 1) := by
  simp only [entryContents, afterL_cons, afterL_nil]
  after_reads_simp
  rfl

theorem entry_valid : entryContents preI m c (Proc.devRef .tc main_v66_1) = valid (given m c) := by
  simp only [entryContents, afterL_cons, afterL_nil]
  after_reads_simp
  rfl

set_option maxHeartbeats 4000000 in
theorem entry_over : entryContents preI m c (Proc.devRef .tc main_v66_0) = over (given m c) := by
  simp only [entryContents, afterL_cons, afterL_nil]
  after_reads_simp
  rfl

end Cert.Proof.Nms.Ref

end
-- ==== Proof.NmsRefAt.lean ====
/-
  The suppression call's reference, pair by pair: which boxes overlap and which take part are as for a class's block of rows.
-/
module

public import proofs.«01_k».proof.Proof.NmsRefTerms

@[expose] public section

noncomputable section

namespace Cert.Proof.Nms.Ref

open Idealize.ShloMosaic Idealize.ShloMosaic.ValueIdx
open Cert.NmsReferenceIdeal Cert.NmsReferenceIdeal.Gen

variable (x : FVec Ideal S20x8x1024 .f32) (w : Fin 20) (p q : Fin 1024)

/-- A row's coordinate among the eight rows. -/
abbrev among (r : Fin 4) : Fin 8 := ⟨r.val, by omega⟩

theorem clipped_at (r : Fin 4) : clipped x (ix3 w r q) = hold (x (ix3 w (among r) q)) := by
  refine congrArg hold (extractStridedSlice_apply _ _ _ _ _ fun a => ?_)
  match a with
  | 0 => exact (Nat.zero_add _).symm
  | 1 => exact (Nat.zero_add _).symm
  | 2 => exact (Nat.zero_add _).symm

/-- One row of a class, from a slice. -/
theorem slice_at {α : Type} {n : ℕ} (y : (⟨3, ![20, n, 1024]⟩ : Shape).Idx → α) (r : Fin n) (h : (⟨3, ![20, n, 1024]⟩ : Shape).Slices ![0, r.val, 0] S20x1x1024) :
    shapeCast S20x1024 (extractStridedSlice S20x1x1024 ![0, r.val, 0] y h) shapeCasts_S20x1x1024_S20x1024 (ix2 w q) = y (ix3 w r q) := by
  refine (shapeCast_apply _ _ (ix2 w q) (ix3 w 0 q) (by
    rw [Shape.rowMajor_val_three, Shape.rowMajor_val_two]; show (w.val * 1 + 0) * 1024 + q.val = w.val * 1024 + q.val; omega)).trans ?_
  refine extractStridedSlice_apply _ _ _ _ _ fun a => ?_
  match a with
  | 0 => exact (Nat.zero_add _).symm
  | 1 => rfl
  | 2 => exact (Nat.zero_add _).symm

theorem left_at : left x (ix2 w q) = hold (x (ix3 w 0 q)) := (slice_at w q (clipped x) 0 _).trans (clipped_at x w q 0)
theorem top_at : top x (ix2 w q) = hold (x (ix3 w 1 q)) := (slice_at w q (clipped x) 1 _).trans (clipped_at x w q 1)
theorem right_at : right x (ix2 w q) = hold (x (ix3 w 2 q)) := (slice_at w q (clipped x) 2 _).trans (clipped_at x w q 2)
theorem bottom_at : bottom x (ix2 w q) = hold (x (ix3 w 3 q)) := (slice_at w q (clipped x) 3 _).trans (clipped_at x w q 3)

theorem area_at : area x (ix2 w q) = product (left x (ix2 w q)) (top x (ix2 w q)) (right x (ix2 w q)) (bottom x (ix2 w q)) := rfl

theorem down_at (y : FVec Ideal S20x1024 .f32) : down y (ix3 w p q) = y (ix2 w p) :=
  (broadcastInDim_apply _ _ _ _ (ix3 w p 0) fun a => by
    match a with
    | 0 => rfl
    | 1 => rfl
    | 2 => rfl).trans (broadcastInDim_apply _ _ _ _ (ix2 w p) fun a => by
    match a with
    | 0 => rfl
    | 1 => rfl)

theorem across_at (y : FVec Ideal S20x1024 .f32) : across y (ix3 w p q) = y (ix2 w q) :=
  (broadcastInDim_apply _ _ _ _ (ix3 w 0 q) fun a => by
    match a with
    | 0 => rfl
    | 1 => rfl
    | 2 => rfl).trans (broadcastInDim_apply _ _ _ _ (ix2 w q) fun a => by
    match a with
    | 0 => rfl
    | 1 => rfl)

/-- A box of the reference. -/
def box : Box := ⟨left x (ix2 w q), top x (ix2 w q), right x (ix2 w q), bottom x (ix2 w q), area x (ix2 w q)⟩

theorem box_eq : box x w q = boxX (rowsOf x w) q.val := by
  unfold box boxX
  rw [area_at, left_at, top_at, right_at, bottom_at, lane_of q.isLt]
  rfl

theorem over_at : over x (ix3 w p q) = overlap (boxX (rowsOf x w) p.val) (boxX (rowsOf x w) q.val) := by
  have e : over x (ix3 w p q) = overlap
      ⟨down (left x) (ix3 w p q), down (top x) (ix3 w p q), down (right x) (ix3 w p q), down (bottom x) (ix3 w p q), down (area x) (ix3 w p q)⟩
      ⟨across (left x) (ix3 w p q), across (top x) (ix3 w p q), across (right x) (ix3 w p q), across (bottom x) (ix3 w p q), across (area x) (ix3 w p q)⟩ := rfl
  rw [e]
  simp only [down_at, across_at]
  rw [← box_eq, ← box_eq]
  rfl

theorem valid_at : valid x (ix2 w q) = 1#1 ↔ part (rowsOf x w) q.val := by
  have e : broadcastInDim S20x1024 ![0, 1] bcast_S1x1024_S20x1024_0_1 (broadcastInDim S1x1024 ![1] bcast_S1024_S1x1024_1
      (cmpi .slt (iotaInDim S1024 32 0) (broadcastInDim S1024 ![] bcast_S_S1024 (constantI S_ 32 1000#32)))) (ix2 w q)
      = IntOp.cmpi .slt (BitVec.ofNat 32 q.val) (BitVec.ofNat 32 1000) :=
    (broadcastInDim_apply _ _ _ _ (ix2 0 q) fun a => by
      match a with
      | 0 => rfl
      | 1 => rfl).trans (broadcastInDim_apply _ _ _ _ (ix1 q) fun a => by
      match a with
      | 0 => rfl)
  unfold valid
  show IntOp.andi (strong (shapeCast S20x1024 (extractStridedSlice S20x1x1024 ![0, 4, 0] x slices_S20x8x1024_S20x1x1024_0_4_0) shapeCasts_S20x1x1024_S20x1024 (ix2 w q))) _ = 1#1 ↔ _
  rw [e, Radix.and_iff, Radix.slt_iff (by omega) (by omega)]
  unfold part
  rw [lane_of q.isLt]
  refine and_congr_left' (Eq.congr_left (congrArg strong ?_))
  exact slice_at w q x 4 slices_S20x8x1024_S20x1x1024_0_4_0

end Cert.Proof.Nms.Ref

end
-- ==== Proof.NmsRef.lean ====
/-
  The suppression call's reference, turn by turn: after some turns it has settled those first boxes, and at the end it gives the kept boxes.
-/
module

public import proofs.«01_k».proof.Proof.NmsRefAt
public import Idealize.ShloMosaic.Lib.DynamicIndex

@[expose] public section

noncomputable section

namespace Cert.Proof.Nms.Ref

open Idealize.ShloMosaic Idealize.ShloMosaic.TcCoe Idealize.ShloMosaic.StableHlo Idealize.ShloMosaic.ValueIdx
open Cert.NmsReferenceIdeal Cert.NmsReferenceIdeal.Gen Cert.NmsReferenceIdeal.Value

theorem or_iff : ∀ a b : BitVec 1, IntOp.ori a b = 1#1 ↔ a = 1#1 ∨ b = 1#1 := by decide +kernel
theorem not_iff : ∀ a : BitVec 1, ~~~a = 1#1 ↔ ¬ a = 1#1 := by decide +kernel

/-- A row's disjunction. -/
theorem any_at (y : IVec S20x1024 1) (w : Fin 20) :
    Host.reduce IntOp.ori y (constantI S_ 1 0#1) reducesTo_S20x1024_S20_d1 h_S_ (ix1 w) = 1#1 ↔ ∃ j, y (ix2 w j) = 1#1 := by
  have hr : S20x1024.Reduces [1] S20 := by decide
  have hl : ∀ j, hr.lift (ix1 w) j = ix2 w j := fun j => funext fun a => Fin.ext ((Shape.Reduces.lift_val hr (ix1 w) j a).trans (by
    match a with
    | 0 => rfl
    | 1 => rfl))
  have hs : ∀ S : Finset (Fin 1024), S.fold IntOp.ori 0#1 (fun j => y (ix2 w j)) = 1#1 ↔ ∃ j ∈ S, y (ix2 w j) = 1#1 := by
    intro S
    induction S using Finset.induction_on with
    | empty => simp
    | insert j S hj ih => rw [Finset.fold_insert hj, or_iff, ih, Finset.exists_mem_insert]
  rw [Host.reduce_eq_fold_single IntOp.ori _ _ reducesTo_S20x1024_S20_d1 hr]
  refine (Eq.congr_left (?_ : _ = (Finset.univ : Finset (Fin 1024)).fold IntOp.ori 0#1 fun j => y (ix2 w j))).trans ((hs _).trans ⟨fun ⟨j, _, h⟩ => ⟨j, h⟩, fun ⟨j, h⟩ => ⟨j, Finset.mem_univ j, h⟩⟩)
  exact Finset.fold_congr fun j _ => congrArg y (hl j)

/-! ### One turn -/

section
variable (k : ℕ) (v : IVec S20x1024 1) (o : IVec S20x1024x1024 1) (g : IVec S20x1024 1) (w : Fin 20) (q : Fin 1024)

/-- The turn's number, as a word. -/
abbrev turnWord : IVec S_ 32 := constantI S_ 32 (BitVec.ofNat 32 k)
/-- The turn's number, as the slices take it. -/
def start : IVec S_ 32 := select (cmpi .slt (turnWord k) (constantI S_ 32 0#32)) (addi (id (turnWord k)) (constantI S_ 32 1024#32)) (turnWord k)

/-- Whether each class's box of the turn takes part. -/
def partOf : IVec S20 1 :=
  shapeCast S20 (Host.dynamicSlice S20x1 v (fun a => ((![constantI S_ 32 0#32, start k] : Fin 2 → IVec S_ 32) a (Shape.Idx.first h_S_)).toInt) sliceFits_S20x1024_S20x1) shapeCasts_S20x1_S20
/-- Which boxes each class's box of the turn overlaps. -/
def overOf : IVec S20x1024 1 :=
  shapeCast S20x1024 (Host.dynamicSlice S20x1x1024 o (fun a => ((![constantI S_ 32 0#32, start k, constantI S_ 32 0#32] : Fin 3 → IVec S_ 32) a (Shape.Idx.first h_S_)).toInt) sliceFits_S20x1024x1024_S20x1x1024) shapeCasts_S20x1x1024_S20x1024
/-- What a turn settles. -/
def settle : IVec S20 1 := andi (partOf k v) (noti (Host.reduce IntOp.ori (andi (overOf k o) g) (constantI S_ 1 0#1) reducesTo_S20x1024_S20_d1 h_S_))
/-- What a turn leaves. -/
def turn : IVec S20x1024 1 :=
  select (broadcastInDim S20x1024 ![1] bcast_S1024_S20x1024_1 (cmpi .eq (iotaInDim S1024 32 0) (broadcastInDim S1024 ![] bcast_S_S1024 (turnWord k))))
    (broadcastInDim S20x1024 ![0, 1] bcast_S20x1_S20x1024_0_1 (broadcastInDim S20x1 ![0] bcast_S20_S20x1_0 (settle k v o g))) g

variable {k} (hk : k < 1024)
include hk

theorem start_at (i : S_.Idx) : (start k i).toInt = (k : Int) := toInt_wrap_ofNat k (by omega)

theorem partOf_at : partOf k v (ix1 w) = v (ix2 w ⟨k, hk⟩) := by
  unfold partOf
  refine (shapeCast_apply _ _ (ix1 w) (ix2 w 0) (by
    rw [Shape.rowMajor_val_two, Shape.rowMajor_val_one]; show w.val * 1 + 0 = w.val; omega)).trans ?_
  rw [Host.dynamicSlice_eq_extractStridedSlice S20x1 v _ ![0, k] _ ⟨rfl, fun a => by
      match a with
      | 0 => show 0 + 20 ≤ 20; omega
      | 1 => show k + 1 ≤ 1024; omega⟩ fun a => by
      match a with
      | 0 => rfl
      | 1 => exact start_at hk _]
  refine extractStridedSlice_apply _ _ _ _ _ fun a => ?_
  match a with
  | 0 => exact (Nat.zero_add _).symm
  | 1 => rfl

theorem overOf_at : overOf k o (ix2 w q) = o (ix3 w ⟨k, hk⟩ q) := by
  unfold overOf
  refine (shapeCast_apply _ _ (ix2 w q) (ix3 w 0 q) (by
    rw [Shape.rowMajor_val_three, Shape.rowMajor_val_two]; show (w.val * 1 + 0) * 1024 + q.val = w.val * 1024 + q.val; omega)).trans ?_
  rw [Host.dynamicSlice_eq_extractStridedSlice S20x1x1024 o _ ![0, k, 0] _ ⟨rfl, fun a => by
      match a with
      | 0 => show 0 + 20 ≤ 20; omega
      | 1 => show k + 1 ≤ 1024; omega
      | 2 => show 0 + 1024 ≤ 1024; omega⟩ fun a => by
      match a with
      | 0 => rfl
      | 1 => exact start_at hk _
      | 2 => rfl]
  refine extractStridedSlice_apply _ _ _ _ _ fun a => ?_
  match a with
  | 0 => exact (Nat.zero_add _).symm
  | 1 => rfl
  | 2 => exact (Nat.zero_add _).symm

theorem settle_at : settle k v o g (ix1 w) = 1#1 ↔ v (ix2 w ⟨k, hk⟩) = 1#1 ∧ ¬ ∃ j, o (ix3 w ⟨k, hk⟩ j) = 1#1 ∧ g (ix2 w j) = 1#1 := by
  show IntOp.andi (partOf k v (ix1 w)) (~~~(Host.reduce IntOp.ori (andi (overOf k o) g) (constantI S_ 1 0#1) reducesTo_S20x1024_S20_d1 h_S_ (ix1 w))) = 1#1 ↔ _
  rw [Radix.and_iff, not_iff, any_at, partOf_at v w hk]
  refine and_congr_right fun _ => not_congr (exists_congr fun j => ?_)
  show IntOp.andi (overOf k o (ix2 w j)) (g (ix2 w j)) = 1#1 ↔ _
  rw [Radix.and_iff, overOf_at o w j hk]

theorem turn_at : turn k v o g (ix2 w q) = if q.val = k then settle k v o g (ix1 w) else g (ix2 w q) := by
  have e : turn k v o g (ix2 w q) = if IntOp.cmpi .eq (BitVec.ofNat 32 q.val) (BitVec.ofNat 32 k) = 1 then settle k v o g (ix1 w) else g (ix2 w q) := by
    unfold turn
    refine congrArg₂ (fun (c : BitVec 1) (s : BitVec 1) => if c = 1 then s else g (ix2 w q)) ?_ ?_
    · exact broadcastInDim_apply _ _ _ _ (ix1 q) fun a => by
        match a with
        | 0 => rfl
    · exact (broadcastInDim_apply _ _ _ _ (ix2 w 0) fun a => by
        match a with
        | 0 => rfl
        | 1 => rfl).trans (broadcastInDim_apply _ _ _ _ (ix1 w) fun a => by
        match a with
        | 0 => rfl)
  rw [e]
  refine if_congr ((WordCmp.ofBool_eq_one_iff _).trans ?_) rfl rfl
  rw [beq_iff_eq]
  refine ⟨fun h => ?_, fun h => by rw [h]⟩
  have := congrArg BitVec.toNat h
  rwa [BitVec.toNat_ofNat, BitVec.toNat_ofNat, Nat.mod_eq_of_lt (by omega), Nat.mod_eq_of_lt (by omega)] at this

end

/-! ### All turns -/

variable (m : (ℓ : Loc nD τ sig) → Buf (Elt Ideal) ℓ) (c : Dev nD)

/-- The buffers after some turns. -/
abbrev later (n : ℕ) : Valuation τ sig (Elt Ideal) := STEP^[n] (entryContents preI m c)

theorem later_succ (n : ℕ) : later m c (n + 1) = STEP (later m c n) := Function.iterate_succ_apply' ..

theorem later_over (n : ℕ) : later m c n (Proc.devRef .tc main_v66_0) = over (given m c) := by
  induction n with
  | zero => exact entry_over m c
  | succ n ih => rw [later_succ, STEP_main_v66_0, ih]

theorem later_valid (n : ℕ) : later m c n (Proc.devRef .tc main_v66_1) = valid (given m c) := by
  induction n with
  | zero => exact entry_valid m c
  | succ n ih => rw [later_succ, STEP_main_v66_1, ih]

theorem later_places (n : ℕ) : later m c n (Proc.devRef .tc main_v66_2) = (iotaInDim S1024 32 0 : IVec S1024 32) := by
  induction n with
  | zero => exact entry_places m c
  | succ n ih => rw [later_succ, STEP_main_v66_2, ih]

theorem later_turn (n : ℕ) : later m c n (Proc.devRef .tc main_v66_4) = turnWord n := by
  induction n with
  | zero => exact entry_turn m c
  | succ n ih =>
    rw [later_succ, STEP_main_v66_4, step_main_v66_4, ih]
    exact funext fun _ => (BitVec.ofNat_add n 1).symm

theorem later_kept (n : ℕ) : later m c (n + 1) (Proc.devRef .tc main_v66_5)
    = turn n (valid (given m c)) (over (given m c)) (later m c n (Proc.devRef .tc main_v66_5)) := by
  rw [later_succ, STEP_main_v66_5, step_main_v66_5, later_over, later_valid, later_places, later_turn]
  rfl

/-- Which boxes of a class are kept. -/
abbrev chosen (x : FVec Ideal S20x8x1024 .f32) (w : Fin 20) (q : ℕ) : Prop :=
  kept (part (rowsOf x w)) (fun p q => overlap (boxX (rowsOf x w) p) (boxX (rowsOf x w) q) = 1#1) q

/-- After some turns those first boxes are settled and no other is kept. -/
theorem settled (w : Fin 20) : ∀ n ≤ 1024, ∀ q : Fin 1024,
    (later m c n (Proc.devRef .tc main_v66_5) : IVec S20x1024 1) (ix2 w q) = 1#1 ↔ q.val < n ∧ chosen (given m c) w q.val := by
  intro n
  induction n with
  | zero =>
    intro _ q
    have e : (later m c 0 (Proc.devRef .tc main_v66_5) : IVec S20x1024 1) (ix2 w q) = 0#1 := congrFun (entry_kept m c) _
    rw [e]
    exact ⟨fun h => absurd (congrArg BitVec.toNat h) Nat.zero_ne_one, fun h => absurd h.1 (Nat.not_lt_zero _)⟩
  | succ n ih =>
    intro hn q
    have hn' : n < 1024 := by omega
    rw [later_kept, turn_at _ _ _ w q hn']
    split_ifs with hq
    · subst hq
      rw [settle_at _ _ _ w q.isLt, valid_at, chosen, kept_iff]
      refine Iff.trans (and_congr_right fun _ => ?_) (and_iff_right (Nat.lt_succ_self _)).symm
      constructor
      · intro h j hj ho hc
        refine h ⟨⟨j, by omega⟩, ?_, (ih (by omega) _).2 ⟨hj, hc⟩⟩
        rw [over_at]
        exact ho
      · rintro h ⟨j, ho, hg⟩
        rw [over_at] at ho
        have := (ih (by omega) j).1 hg
        exact h j.val this.1 ho this.2
    · rw [ih (by omega) q]
      exact and_congr_left' (by omega)

end Cert.Proof.Nms.Ref

end
-- ==== Proof.NmsEquation.lean ====
/-
  The suppression call's results are its reference's, on boxes given as rows and as columns.
-/
module

public import proofs.«01_k».proof.Proof.NmsRef
public import proofs.«01_k».proof.Proof.Gen.Pre_pre_nms
public import Idealize.ShloMosaic.Lib.ReduceAll

@[expose] public section

noncomputable section

namespace Cert.Proof.Nms.Ref

open Idealize.ShloMosaic Idealize.ShloMosaic.TcCoe Idealize.ShloMosaic.StableHlo Idealize.ShloMosaic.ValueIdx
open Cert.NmsReferenceIdeal Cert.NmsReferenceIdeal.Gen Cert.NmsReferenceIdeal.Value
open scoped Classical

/-! ### The precondition -/

section
variable (x : FVec Ideal S20x8x1024 .f32) (z : FVec Ideal S20x1024x8 .f32) (h : Cert.Pre_pre_nms.fn (F := Ideal) x z = fun _ => 1#1)
include h

/-- Rows and columns give the same coordinates. -/
theorem same_at (w : Fin 20) (q : Fin 1024) (r : Fin 4) : z (ix3 w q (among r)) = x (ix3 w (among r) q) := by
  haveI : Subsingleton Cert.Pre_pre_nms.S_.Idx := ⟨fun a b => funext fun i => i.elim0⟩
  have e : FloatOps.cmpf .oeq (extractStridedSlice Cert.Pre_pre_nms.S20x1024x4 ![0, 0, 0] z Cert.Pre_pre_nms.Facts.slices_S20x1024x8_S20x1024x4_0_0_0 (ix3 w q r))
      (extractStridedSlice Cert.Pre_pre_nms.S20x1024x4 ![0, 0, 0] (transpose Cert.Pre_pre_nms.S20x1024x8 [0, 2, 1] x
        Cert.Pre_pre_nms.Facts.transposes_S20x8x1024_S20x1024x8_0_2_1) Cert.Pre_pre_nms.Facts.slices_S20x1024x8_S20x1024x4_0_0_0 (ix3 w q r)) = 1#1 :=
    Host.reduce_andi_all _ _ _ _ (fun a => a.elim0) (congrFun h _) (ix3 w q r)
  have place : ∀ a : Fin 3, ((ix3 w q (among r) : Cert.Pre_pre_nms.S20x1024x8.Idx) a).val = (![0, 0, 0] : Fin 3 → ℕ) a + ((ix3 w q r : Cert.Pre_pre_nms.S20x1024x4.Idx) a).val := fun a => by
    match a with
    | 0 => exact (Nat.zero_add _).symm
    | 1 => exact (Nat.zero_add _).symm
    | 2 => exact (Nat.zero_add _).symm
  rw [extractStridedSlice_apply _ _ _ _ (ix3 w q (among r)) place, extractStridedSlice_apply _ _ _ _ (ix3 w q (among r)) place,
    transpose_apply _ _ _ (ix3 w q (among r)) (ix3 w (among r) q) fun b => by
      match b with
      | 0 => rfl
      | 1 => rfl
      | 2 => rfl] at e
  exact of_decide_eq_true ((WordCmp.ofBool_eq_one_iff _).1 e)

theorem box_same (w : Fin 20) (p : ℕ) : boxZ (colsOf z w) p = boxX (rowsOf x w) p := by
  have e : ∀ r : Fin 4, colsOf z w (ix3 0 (lane p) (among r)) = rowsOf x w (ix3 0 (among r) (lane p)) := same_at x z h w (lane p)
  unfold boxZ boxX
  rw [show colsOf z w (ix3 0 (lane p) 0) = _ from e 0, show colsOf z w (ix3 0 (lane p) 1) = _ from e 1,
    show colsOf z w (ix3 0 (lane p) 2) = _ from e 2, show colsOf z w (ix3 0 (lane p) 3) = _ from e 3]
  rfl

theorem keeps_same (w : Fin 20) (q : ℕ) : keeps (rowsOf x w) (colsOf z w) q = chosen x w q := by
  refine congrArg (kept (part (rowsOf x w)) · q) (funext fun p => funext fun j => ?_)
  unfold clash
  rw [box_same x z h]

end

/-! ### The results' parts -/

/-- A bit as a number. -/
theorem num_of_bit (a : BitVec 1) {p : Prop} (h : a = 1#1 ↔ p) : (FloatOps.uitofp .f32 a : Ideal .f32) = num p := by
  show ((a.toNat : ℝ) : EReal) = num p
  have ha : a.toNat = if p then 1 else 0 := by
    split_ifs with hp
    · rw [h.2 hp]; rfl
    · have : a.toNat ≠ 1 := fun e => hp (h.1 (BitVec.eq_of_toNat_eq e))
      have := a.isLt
      omega
  rw [ha, num_real]
  split_ifs <;> simp

section
variable (x : FVec Ideal S20x8x1024 .f32) (g : IVec S20x1024 1) (w : Fin 20) (q : Fin 1024)

/-- The flags, as a row. -/
def flags : FVec Ideal S20x1x1024 .f32 := broadcastInDim S20x1x1024 ![0, 2] bcast_S20x1024_S20x1x1024_0_2 (uitofp .f32 g)
/-- The flags, along the coordinates. -/
def flags4 : FVec Ideal S20x4x1024 .f32 := broadcastInDim S20x4x1024 ![0, 1, 2] bcast_S20x1x1024_S20x4x1024_0_1_2 (flags g)
/-- The scores. -/
def scores : FVec Ideal S20x1x1024 .f32 := extractStridedSlice S20x1x1024 ![0, 4, 0] x slices_S20x8x1024_S20x1x1024_0_4_0
def zeros : FVec Ideal S20x2x1024 .f32 := broadcastInDim S20x2x1024 ![] bcast_S_S20x2x1024 (constant S_ .f32 0x00000000#32)

/-- The results' parts, and the results. -/
def parts : List ((s : Shape) × (s.Idx → Ideal .f32)) :=
  [⟨S20x4x1024, mulf (clipped x) (flags4 g)⟩, ⟨S20x1x1024, mulf (scores x) (flags g)⟩, ⟨S20x1x1024, flags g⟩, ⟨S20x2x1024, zeros⟩]
def joined : FVec Ideal S20x8x1024 .f32 := concatenate S20x8x1024 1 (parts x g) concatenates_S20x4x1024_S20x1x1024_S20x1x1024_S20x2x1024_S20x8x1024_d1

theorem joined_at (k : ℕ) (hk : k < 4) {n : ℕ} (y : FVec Ideal ⟨3, ![20, n, 1024]⟩ .f32) (hy : (parts x g)[k]'hk = ⟨⟨3, ![20, n, 1024]⟩, y⟩) (pre : ℕ)
    (hpre : ((((parts x g).take k).map (·.1)).map fun s => if h : s.rank = 3 then s.size ((1 : Fin 3).cast h.symm) else 0).sum = pre)
    (r : Fin 8) (s : Fin n) (hs : pre + s.val = r.val) : joined x g (ix3 w r q) = y (ix3 w s q) :=
  concatenate_apply_piece (t := S20x8x1024) 1 (parts x g) _ (ix3 w r q) k hk _ y hy rfl pre hpre (ix3 w s q) (fun b hb => by
    match b with
    | 0 => rfl
    | 1 => exact absurd rfl hb
    | 2 => rfl) hs

theorem flags_at : flags g (ix3 w 0 q) = FloatOps.uitofp .f32 (g (ix2 w q)) := broadcastInDim_apply _ _ _ _ (ix2 w q) fun a => by
  match a with
  | 0 => rfl
  | 1 => rfl

theorem flags4_at (r : Fin 4) : flags4 g (ix3 w r q) = FloatOps.uitofp .f32 (g (ix2 w q)) := (broadcastInDim_apply _ _ _ _ (ix3 w 0 q) fun a => by
  match a with
  | 0 => rfl
  | 1 => rfl
  | 2 => rfl).trans (flags_at g w q)

theorem scores_at : scores x (ix3 w 0 q) = x (ix3 w 4 q) := extractStridedSlice_apply _ _ _ _ _ fun a => by
  match a with
  | 0 => exact (Nat.zero_add _).symm
  | 1 => rfl
  | 2 => exact (Nat.zero_add _).symm

/-- The joined parts are the results, where the bits say which boxes are kept. -/
theorem joined_eq (z : FVec Ideal S20x1024x8 .f32) (hpre : Cert.Pre_pre_nms.fn (F := Ideal) x z = fun _ => 1#1)
    (hg : ∀ w q, g (ix2 w q) = 1#1 ↔ chosen x w q.val) : joined x g = results x z := by
  funext i
  obtain ⟨w, r, q, rfl⟩ : ∃ (w : Fin 20) (r : Fin 8) (q : Fin 1024), i = ix3 w r q := ⟨i 0, i 1, i 2, eq_ix3 i⟩
  have hf : (FloatOps.uitofp .f32 (g (ix2 w q)) : Ideal .f32) = num (keeps (rowsOf x w) (colsOf z w) q.val) :=
    num_of_bit _ ((hg w q).trans (iff_of_eq (keeps_same x z hpre w q.val).symm))
  show _ = if r.val < 4 then hold (x (ix3 w r q)) * num (keeps (rowsOf x w) (colsOf z w) q.val)
    else if r.val = 4 then x (ix3 w r q) * num (keeps (rowsOf x w) (colsOf z w) q.val)
    else if r.val = 5 then num (keeps (rowsOf x w) (colsOf z w) q.val)
    else (FloatOps.ofBits .f32 0x00000000#32 : Ideal .f32)
  rw [← hf]
  split_ifs with h4 h5 h6
  · refine (joined_at x g w q 0 (by omega) _ rfl 0 rfl r ⟨r.val, h4⟩ (Nat.zero_add _)).trans ?_
    show clipped x (ix3 w ⟨r.val, h4⟩ q) * flags4 g (ix3 w ⟨r.val, h4⟩ q) = _
    rw [clipped_at, flags4_at]
  · refine (joined_at x g w q 1 (by omega) _ rfl 4 rfl r 0 (by rw [h5]; rfl)).trans ?_
    show scores x (ix3 w 0 q) * flags g (ix3 w 0 q) = _
    rw [scores_at, flags_at, show r = 4 from Fin.ext h5]
  · exact (joined_at x g w q 2 (by omega) _ rfl 5 rfl r 0 (by rw [h6]; rfl)).trans (flags_at g w q)
  · exact joined_at x g w q 3 (by omega) _ rfl 6 rfl r ⟨r.val - 6, by omega⟩ (by show 6 + (r.val - 6) = r.val; omega)

end

variable (m : (ℓ : Loc nD τ sig) → Buf (Elt Ideal) ℓ) (c : Dev nD)

theorem out_eq (z : FVec Ideal S20x1024x8 .f32) (hpre : Cert.Pre_pre_nms.fn (F := Ideal) (given m c) z = fun _ => 1#1) :
    out_main_v76 (later m c 1024) = results (given m c) z := by
  refine Eq.trans ?_ (joined_eq (given m c) (later m c 1024 (Proc.devRef .tc main_v66_5)) z hpre fun w q =>
    (settled m c w 1024 le_rfl q).trans (and_iff_right q.isLt))
  unfold out_main_v76
  rw [show later m c 1024 (Proc.devRef .tc main_arg0) = given m c from iter_main_arg0 m c 1024]
  rfl

end Cert.Proof.Nms.Ref

end
-- ==== Proof.lean ====
/-
  The proof of `Cert.Claim`, a pair at a time. The SparseCore calls' runs (proof/Proof/Launch.lean, SortLaunch.lean) give both
  frames and the rows the tiles leave; the TensorCore calls' runs give their frames and the blocks they write; a reference's run
  gives its frame and its results; Equation.lean, SortEquation.lean, RadixEquation.lean and RankEquation.lean set the one equal to
  the other.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_pre
public import proofs.«01_k».proof.Proof.Gen.Sort
public import proofs.«01_k».proof.Proof.Gen.SortIdeal
public import proofs.«01_k».proof.Proof.Gen.SortIdeal.Skeleton
public import proofs.«01_k».proof.Proof.Gen.SortReferenceIdeal
public import proofs.«01_k».proof.Proof.Gen.SortReferenceIdeal.Run
public import proofs.«01_k».proof.Proof.Gen.Pre_pre_sort
public import proofs.«01_k».proof.Proof.Gen.Select
public import proofs.«01_k».proof.Proof.Gen.Select.Frame
public import proofs.«01_k».proof.Proof.Gen.SelectIdeal
public import proofs.«01_k».proof.Proof.Gen.SelectIdeal.Value
public import proofs.«01_k».proof.Proof.Gen.SelectReferenceIdeal
public import proofs.«01_k».proof.Proof.Gen.SelectReferenceIdeal.Run
public import proofs.«01_k».proof.Proof.Gen.Pre_pre_select
public import proofs.«01_k».proof.Proof.Gen.Rank
public import proofs.«01_k».proof.Proof.Gen.Rank.Frame
public import proofs.«01_k».proof.Proof.Gen.RankIdeal
public import proofs.«01_k».proof.Proof.Gen.RankIdeal.Value
public import proofs.«01_k».proof.Proof.Gen.RankReferenceIdeal
public import proofs.«01_k».proof.Proof.Gen.RankReferenceIdeal.Run
public import proofs.«01_k».proof.Proof.Gen.Pre_pre_rank
public import proofs.«01_k».proof.Proof.Gen.NmsIdeal
public import proofs.«01_k».proof.Proof.Gen.NmsIdeal.Skeleton
public import proofs.«01_k».proof.Proof.Gen.NmsIdeal.Launch
public import proofs.«01_k».proof.Proof.Gen.NmsIdeal.Points
public import proofs.«01_k».proof.Proof.Gen.NmsReferenceIdeal
public import proofs.«01_k».proof.Proof.Gen.NmsReferenceIdeal.Run
public import proofs.«01_k».proof.Proof.Gen.Pre_pre_nms
public import proofs.«01_k».proof.Proof.Equation
public import proofs.«01_k».proof.Proof.SortEquation
public import proofs.«01_k».proof.Proof.RadixEquation
public import proofs.«01_k».proof.Proof.RankEquation
public import proofs.«01_k».proof.Proof.NmsEquation
public import Idealize.ShloMosaic.Lib.Quiescent

@[expose] public section

noncomputable section

namespace Cert.Proof

open Idealize.ShloMosaic Idealize.SL.Sem

theorem frame_kernel : Cert.quiescent_Kernel := fun m ρ _ =>
  (θ_run (Cert.KernelIdeal.defs (F := Bits)) (Cert.KernelIdeal.threads (F := Bits)) ⟨m, fun _ => 0, ρ⟩).mono
    (fun _ h => ⟨fun c => (h.1 c).1, h.2⟩) (Compact.run_main (F := Bits) m ρ)

theorem frame_kernelIdeal : Cert.quiescent_KernelIdeal := fun m ρ _ =>
  (θ_run (Cert.KernelIdeal.defs (F := Ideal)) (Cert.KernelIdeal.threads (F := Ideal)) ⟨m, fun _ => 0, ρ⟩).mono
    (fun _ h => ⟨fun c => (h.1 c).1, h.2⟩) (Compact.run_main (F := Ideal) m ρ)

theorem frame_reference : Cert.quiescent_ReferenceIdeal := fun m ρ _ =>
  (θ_run _ _ _).mono (fun _ h => ⟨fun c => (h c).2.2, sem_eq_zero_of_no_sems rfl _⟩) (Cert.ReferenceIdeal.Value.run (F := Ideal) m ρ)

theorem equal : Cert.algebraic_KernelIdeal_ReferenceIdeal := by
  intro m g m' g' hpre hargs
  have hrow := fun d w => PreFacts.rowPre (F := Ideal) _ _ _ _ (hpre d) w
  refine ⟨fun d => RefValue.takeK (m (Compact.kLoc d)) (RefValue.idx (m (Compact.kLoc d))),
    fun d => RefValue.flatV (F := Ideal) (m (Compact.wLoc d)) (RefValue.idx (m (Compact.kLoc d))), ?_, ?_⟩
  · refine (θ_run (Cert.KernelIdeal.defs (F := Ideal)) (Cert.KernelIdeal.threads (F := Ideal)) ⟨m, fun _ => 0, g⟩).mono
      (fun r h c => ?_) (Compact.run_main (F := Ideal) m g)
    obtain ⟨ha, ok⟩ := h.1 c
    exact ⟨Equation.keys_eq (F := Ideal) m c (hrow c) _ _ ok, Equation.vals_eq (F := Ideal) m c (hrow c) _ _ ok, ha⟩
  · refine (θ_run _ _ _).mono (fun r h c => ?_) (Cert.ReferenceIdeal.Value.run (F := Ideal) m' g')
    obtain ⟨h0, h1, ha⟩ := h c
    obtain ⟨e0, e1, -⟩ := hargs c
    refine ⟨h0.trans ?_, h1.trans ?_, ha⟩
    · rw [e0]
    · unfold Cert.ReferenceIdeal.Value.res_main_v7
      rw [e0, e1]; rfl

theorem sorted_ranks {m : (ℓ : Loc Cert.SortIdeal.nD Cert.SortIdeal.τ Cert.SortIdeal.sig) → Buf (Elt Ideal) ℓ} (h : Cert.Pre_SortIdeal m)
    (d : Dev Cert.SortIdeal.nD) (w : Fin 20) (p : Fin 1024) :
    m (Scatter.rLoc d) (ValueIdx.ix2 w (Scatter.sorted (m (Scatter.rLoc d)) w p)) = BitVec.ofNat 32 p.val :=
  Scatter.sorted_rank (F := Ideal) _ w (h d) p

theorem frame_sort : Cert.quiescent_Sort := fun m ρ hpre =>
  (θ_run (Cert.SortIdeal.defs (F := Bits)) (Cert.SortIdeal.threads (F := Bits)) ⟨m, fun _ => 0, ρ⟩).mono
    (fun _ h => ⟨fun c => (h.1 c).1, h.2⟩)
    (Scatter.run_main (F := Bits) m ρ fun d w => Scatter.ranks_of (F := Bits) (Scatter.sorted_rank (F := Bits) _ w (hpre d)))

theorem frame_sortIdeal : Cert.quiescent_SortIdeal := fun m ρ hpre =>
  (θ_run (Cert.SortIdeal.defs (F := Ideal)) (Cert.SortIdeal.threads (F := Ideal)) ⟨m, fun _ => 0, ρ⟩).mono
    (fun _ h => ⟨fun c => (h.1 c).1, h.2⟩)
    (Scatter.run_main (F := Ideal) m ρ fun d w => Scatter.ranks_of (F := Ideal) (sorted_ranks hpre d w))

theorem frame_sortReference : Cert.quiescent_SortReferenceIdeal := fun m ρ _ =>
  (θ_run _ _ _).mono (fun _ h => ⟨fun c => (h c).2.2, sem_eq_zero_of_no_sems rfl _⟩) (Cert.SortReferenceIdeal.Value.run (F := Ideal) m ρ)

theorem equal_sort : Cert.algebraic_SortIdeal_SortReferenceIdeal := by
  intro m g m' g' hpre hargs
  refine ⟨fun d => Scatter.refRows (F := Ideal) (m (Scatter.rLoc d)) (m (Scatter.cLoc d)),
    fun d => Scatter.refPlaces (F := Ideal) (m (Scatter.rLoc d)) (m (Scatter.cLoc d)), ?_, ?_⟩
  · refine (θ_run (Cert.SortIdeal.defs (F := Ideal)) (Cert.SortIdeal.threads (F := Ideal)) ⟨m, fun _ => 0, g⟩).mono
      (fun r h c => ?_) (Scatter.run_main (F := Ideal) m g fun d w => Scatter.ranks_of (F := Ideal) (sorted_ranks hpre d w))
    obtain ⟨ha, go, gp, ho, hp, ok⟩ := h.1 c
    exact ⟨ho.trans (Scatter.rows_eq (sorted_ranks hpre c) ok), hp.trans (Scatter.places_eq (sorted_ranks hpre c) ok), ha⟩
  · refine (θ_run _ _ _).mono (fun r h c => ?_) (Cert.SortReferenceIdeal.Value.run (F := Ideal) m' g')
    obtain ⟨h0, h1, ha⟩ := h c
    obtain ⟨e0, e1⟩ := hargs c
    refine ⟨h0.trans ?_, h1.trans ?_, ha⟩
    · rw [e0, e1]
    · rw [e0, e1]

theorem frame_select : Cert.quiescent_Select := fun m ρ _ => Cert.Select.Gen.frame (F := Bits) m ρ

theorem frame_selectIdeal : Cert.quiescent_SelectIdeal := fun m ρ _ => Cert.SelectIdeal.Gen.frame (F := Ideal) m ρ

theorem frame_selectReference : Cert.quiescent_SelectReferenceIdeal := fun m ρ _ =>
  (θ_run _ _ _).mono (fun _ h => ⟨fun c => (h c).2, sem_eq_zero_of_no_sems rfl _⟩) (Cert.SelectReferenceIdeal.Value.run (F := Ideal) m ρ)

theorem equal_select : Cert.algebraic_SelectIdeal_SelectReferenceIdeal := by
  intro m g m' g' hpre hargs
  refine ⟨fun d => Radix.result (Radix.keys (F := Ideal) m d), ?_, ?_⟩
  · refine (θ_run _ _ _).mono (fun r h c => ?_) (Cert.SelectIdeal.Value.run_blocks (F := Ideal) m g)
    exact ⟨(h c).1.trans (Radix.result_eq m c fun w => Radix.row_small _ w (hpre c)), (h c).2⟩
  · refine (θ_run _ _ _).mono (fun r h c => ?_) (Cert.SelectReferenceIdeal.Value.run (F := Ideal) m' g')
    refine ⟨(h c).1.trans ?_, (h c).2⟩
    rw [hargs c]
    rfl

theorem frame_rank : Cert.quiescent_Rank := fun m ρ _ => Cert.Rank.Gen.frame (F := Bits) m ρ

theorem frame_rankIdeal : Cert.quiescent_RankIdeal := fun m ρ _ => Cert.RankIdeal.Gen.frame (F := Ideal) m ρ

theorem frame_rankReference : Cert.quiescent_RankReferenceIdeal := fun m ρ _ =>
  (θ_run _ _ _).mono (fun _ h => ⟨fun c => (h c).2, sem_eq_zero_of_no_sems rfl _⟩) (Cert.RankReferenceIdeal.Value.run (F := Ideal) m ρ)

theorem equal_rank : Cert.algebraic_RankIdeal_RankReferenceIdeal := by
  intro m g m' g' hpre hargs
  refine ⟨fun d => Rank.result (Rank.keys m d), ?_, ?_⟩
  · refine (θ_run _ _ _).mono (fun r h c => ?_) (Cert.RankIdeal.Value.run_blocks (F := Ideal) m g)
    exact ⟨(h c).1.trans (Rank.result_eq m c fun w n => Rank.above_least _ w (hpre c) n), (h c).2⟩
  · refine (θ_run _ _ _).mono (fun r h c => ?_) (Cert.RankReferenceIdeal.Value.run (F := Ideal) m' g')
    refine ⟨(h c).1.trans ?_, (h c).2⟩
    rw [hargs c]
    rfl

theorem frame_nmsIdeal : Cert.quiescent_NmsIdeal := fun m ρ _ =>
  (θ_run _ _ _).mono (fun _ h => ⟨fun c => (h.1 c).2, h.2⟩) (Nms.run_main m ρ)

theorem frame_nmsReference : Cert.quiescent_NmsReferenceIdeal := fun m ρ _ =>
  (θ_run _ _ _).mono (fun _ h => ⟨fun c => (h c).2, sem_eq_zero_of_no_sems rfl _⟩) (Cert.NmsReferenceIdeal.Value.run (F := Ideal) m ρ)

theorem equal_nms : Cert.algebraic_NmsIdeal_NmsReferenceIdeal := by
  intro m g m' g' hpre hargs
  refine ⟨fun d => Nms.results (Nms.rows m d) (Nms.cols m d), ?_, ?_⟩
  · exact (θ_run _ _ _).mono (fun r h c => h.1 c) (Nms.run_main m g)
  · refine (θ_run _ _ _).mono (fun r h c => ⟨(h c).1.trans ?_, (h c).2⟩) (Cert.NmsReferenceIdeal.Value.run (F := Ideal) m' g')
    have e : Nms.Ref.given m' c = Nms.rows m c := (hargs c).1
    exact (Nms.Ref.out_eq m' c (Nms.cols m c) (by rw [e]; exact hpre c)).trans (by rw [e])

theorem claim : Cert.Claim := ⟨Cert.Kernel.Gen.facts, Cert.KernelIdeal.Gen.facts, Cert.ReferenceIdeal.Gen.facts, Cert.Sort.Gen.facts,
  Cert.SortIdeal.Gen.facts, Cert.SortReferenceIdeal.Gen.facts, Cert.Select.Gen.facts, Cert.SelectIdeal.Gen.facts,
  Cert.SelectReferenceIdeal.Gen.facts, Cert.Rank.Gen.facts, Cert.RankIdeal.Gen.facts, Cert.RankReferenceIdeal.Gen.facts,
  Cert.NmsIdeal.Gen.facts, Cert.NmsReferenceIdeal.Gen.facts,
  Cert.Pre_pre.Gen.facts, Cert.Pre_pre_sort.Gen.facts, Cert.Pre_pre_select.Gen.facts, Cert.Pre_pre_rank.Gen.facts, Cert.Pre_pre_nms.Gen.facts,
  frame_kernel, frame_kernelIdeal, frame_reference, frame_sort, frame_sortIdeal, frame_sortReference,
  frame_select, frame_selectIdeal, frame_selectReference, frame_rank, frame_rankIdeal, frame_rankReference,
  frame_nmsIdeal, frame_nmsReference,
  trivial, equal, trivial, equal_sort, trivial, equal_select, trivial, equal_rank, equal_nms⟩

end Cert.Proof

end
